-- ==== Defs.lean ====
def Pre_Conv1 (m : (ℓ : Loc Cert.Conv1.nD Cert.Conv1.τ Cert.Conv1.sig) → Buf (Elt Bits) ℓ) : Prop :=
  True

def Pre_Conv1Ideal (m : (ℓ : Loc Cert.Conv1Ideal.nD Cert.Conv1Ideal.τ Cert.Conv1Ideal.sig) → Buf (Elt Ideal) ℓ) : Prop :=
  True

def Pre_Conv1Ideal_conv1_pre [hPre_conv1_pre : Cert.Pre_conv1_pre.Facts] (m : (ℓ : Loc Cert.Conv1Ideal.nD Cert.Conv1Ideal.τ Cert.Conv1Ideal.sig) → Buf (Elt Ideal) ℓ) : Prop :=
  ∀ c : Dev Cert.Conv1Ideal.nD,
    (Cert.Pre_conv1_pre.fn (F := Ideal) (m ((c.tc : Thread Cert.Conv1Ideal.nD Cert.Conv1Ideal.τ).loc Cert.Conv1Ideal.main_arg0)) (m ((c.tc : Thread Cert.Conv1Ideal.nD Cert.Conv1Ideal.τ).loc Cert.Conv1Ideal.main_arg1)) (m ((c.tc : Thread Cert.Conv1Ideal.nD Cert.Conv1Ideal.τ).loc Cert.Conv1Ideal.main_arg2)) (m ((c.tc : Thread Cert.Conv1Ideal.nD Cert.Conv1Ideal.τ).loc Cert.Conv1Ideal.main_arg3)) (m ((c.tc : Thread Cert.Conv1Ideal.nD Cert.Conv1Ideal.τ).loc Cert.Conv1Ideal.main_arg4)) (m ((c.tc : Thread Cert.Conv1Ideal.nD Cert.Conv1Ideal.τ).loc Cert.Conv1Ideal.main_arg5)) (m ((c.tc : Thread Cert.Conv1Ideal.nD Cert.Conv1Ideal.τ).loc Cert.Conv1Ideal.main_arg6))).1 = (fun _ => 1#1)
    ∧ (Cert.Pre_conv1_pre.fn (F := Ideal) (m ((c.tc : Thread Cert.Conv1Ideal.nD Cert.Conv1Ideal.τ).loc Cert.Conv1Ideal.main_arg0)) (m ((c.tc : Thread Cert.Conv1Ideal.nD Cert.Conv1Ideal.τ).loc Cert.Conv1Ideal.main_arg1)) (m ((c.tc : Thread Cert.Conv1Ideal.nD Cert.Conv1Ideal.τ).loc Cert.Conv1Ideal.main_arg2)) (m ((c.tc : Thread Cert.Conv1Ideal.nD Cert.Conv1Ideal.τ).loc Cert.Conv1Ideal.main_arg3)) (m ((c.tc : Thread Cert.Conv1Ideal.nD Cert.Conv1Ideal.τ).loc Cert.Conv1Ideal.main_arg4)) (m ((c.tc : Thread Cert.Conv1Ideal.nD Cert.Conv1Ideal.τ).loc Cert.Conv1Ideal.main_arg5)) (m ((c.tc : Thread Cert.Conv1Ideal.nD Cert.Conv1Ideal.τ).loc Cert.Conv1Ideal.main_arg6))).2.1 = (fun _ => 1#1)
    ∧ (Cert.Pre_conv1_pre.fn (F := Ideal) (m ((c.tc : Thread Cert.Conv1Ideal.nD Cert.Conv1Ideal.τ).loc Cert.Conv1Ideal.main_arg0)) (m ((c.tc : Thread Cert.Conv1Ideal.nD Cert.Conv1Ideal.τ).loc Cert.Conv1Ideal.main_arg1)) (m ((c.tc : Thread Cert.Conv1Ideal.nD Cert.Conv1Ideal.τ).loc Cert.Conv1Ideal.main_arg2)) (m ((c.tc : Thread Cert.Conv1Ideal.nD Cert.Conv1Ideal.τ).loc Cert.Conv1Ideal.main_arg3)) (m ((c.tc : Thread Cert.Conv1Ideal.nD Cert.Conv1Ideal.τ).loc Cert.Conv1Ideal.main_arg4)) (m ((c.tc : Thread Cert.Conv1Ideal.nD Cert.Conv1Ideal.τ).loc Cert.Conv1Ideal.main_arg5)) (m ((c.tc : Thread Cert.Conv1Ideal.nD Cert.Conv1Ideal.τ).loc Cert.Conv1Ideal.main_arg6))).2.2.1 = (fun _ => 1#1)
    ∧ (Cert.Pre_conv1_pre.fn (F := Ideal) (m ((c.tc : Thread Cert.Conv1Ideal.nD Cert.Conv1Ideal.τ).loc Cert.Conv1Ideal.main_arg0)) (m ((c.tc : Thread Cert.Conv1Ideal.nD Cert.Conv1Ideal.τ).loc Cert.Conv1Ideal.main_arg1)) (m ((c.tc : Thread Cert.Conv1Ideal.nD Cert.Conv1Ideal.τ).loc Cert.Conv1Ideal.main_arg2)) (m ((c.tc : Thread Cert.Conv1Ideal.nD Cert.Conv1Ideal.τ).loc Cert.Conv1Ideal.main_arg3)) (m ((c.tc : Thread Cert.Conv1Ideal.nD Cert.Conv1Ideal.τ).loc Cert.Conv1Ideal.main_arg4)) (m ((c.tc : Thread Cert.Conv1Ideal.nD Cert.Conv1Ideal.τ).loc Cert.Conv1Ideal.main_arg5)) (m ((c.tc : Thread Cert.Conv1Ideal.nD Cert.Conv1Ideal.τ).loc Cert.Conv1Ideal.main_arg6))).2.2.2.1 = (fun _ => 1#1)
    ∧ (Cert.Pre_conv1_pre.fn (F := Ideal) (m ((c.tc : Thread Cert.Conv1Ideal.nD Cert.Conv1Ideal.τ).loc Cert.Conv1Ideal.main_arg0)) (m ((c.tc : Thread Cert.Conv1Ideal.nD Cert.Conv1Ideal.τ).loc Cert.Conv1Ideal.main_arg1)) (m ((c.tc : Thread Cert.Conv1Ideal.nD Cert.Conv1Ideal.τ).loc Cert.Conv1Ideal.main_arg2)) (m ((c.tc : Thread Cert.Conv1Ideal.nD Cert.Conv1Ideal.τ).loc Cert.Conv1Ideal.main_arg3)) (m ((c.tc : Thread Cert.Conv1Ideal.nD Cert.Conv1Ideal.τ).loc Cert.Conv1Ideal.main_arg4)) (m ((c.tc : Thread Cert.Conv1Ideal.nD Cert.Conv1Ideal.τ).loc Cert.Conv1Ideal.main_arg5)) (m ((c.tc : Thread Cert.Conv1Ideal.nD Cert.Conv1Ideal.τ).loc Cert.Conv1Ideal.main_arg6))).2.2.2.2.1 = (fun _ => 1#1)
    ∧ (Cert.Pre_conv1_pre.fn (F := Ideal) (m ((c.tc : Thread Cert.Conv1Ideal.nD Cert.Conv1Ideal.τ).loc Cert.Conv1Ideal.main_arg0)) (m ((c.tc : Thread Cert.Conv1Ideal.nD Cert.Conv1Ideal.τ).loc Cert.Conv1Ideal.main_arg1)) (m ((c.tc : Thread Cert.Conv1Ideal.nD Cert.Conv1Ideal.τ).loc Cert.Conv1Ideal.main_arg2)) (m ((c.tc : Thread Cert.Conv1Ideal.nD Cert.Conv1Ideal.τ).loc Cert.Conv1Ideal.main_arg3)) (m ((c.tc : Thread Cert.Conv1Ideal.nD Cert.Conv1Ideal.τ).loc Cert.Conv1Ideal.main_arg4)) (m ((c.tc : Thread Cert.Conv1Ideal.nD Cert.Conv1Ideal.τ).loc Cert.Conv1Ideal.main_arg5)) (m ((c.tc : Thread Cert.Conv1Ideal.nD Cert.Conv1Ideal.τ).loc Cert.Conv1Ideal.main_arg6))).2.2.2.2.2.1 = (fun _ => 1#1)
    ∧ (Cert.Pre_conv1_pre.fn (F := Ideal) (m ((c.tc : Thread Cert.Conv1Ideal.nD Cert.Conv1Ideal.τ).loc Cert.Conv1Ideal.main_arg0)) (m ((c.tc : Thread Cert.Conv1Ideal.nD Cert.Conv1Ideal.τ).loc Cert.Conv1Ideal.main_arg1)) (m ((c.tc : Thread Cert.Conv1Ideal.nD Cert.Conv1Ideal.τ).loc Cert.Conv1Ideal.main_arg2)) (m ((c.tc : Thread Cert.Conv1Ideal.nD Cert.Conv1Ideal.τ).loc Cert.Conv1Ideal.main_arg3)) (m ((c.tc : Thread Cert.Conv1Ideal.nD Cert.Conv1Ideal.τ).loc Cert.Conv1Ideal.main_arg4)) (m ((c.tc : Thread Cert.Conv1Ideal.nD Cert.Conv1Ideal.τ).loc Cert.Conv1Ideal.main_arg5)) (m ((c.tc : Thread Cert.Conv1Ideal.nD Cert.Conv1Ideal.τ).loc Cert.Conv1Ideal.main_arg6))).2.2.2.2.2.2 = (fun _ => 1#1)

def Pre_Conv1RefIdeal (m : (ℓ : Loc Cert.Conv1RefIdeal.nD Cert.Conv1RefIdeal.τ Cert.Conv1RefIdeal.sig) → Buf (Elt Ideal) ℓ) : Prop :=
  True

def Pre_Conv1RefIdeal_conv1_pre [hPre_conv1_pre : Cert.Pre_conv1_pre.Facts] (m : (ℓ : Loc Cert.Conv1RefIdeal.nD Cert.Conv1RefIdeal.τ Cert.Conv1RefIdeal.sig) → Buf (Elt Ideal) ℓ) : Prop :=
  ∀ c : Dev Cert.Conv1RefIdeal.nD,
    (Cert.Pre_conv1_pre.fn (F := Ideal) (m ((c.tc : Thread Cert.Conv1RefIdeal.nD Cert.Conv1RefIdeal.τ).loc Cert.Conv1RefIdeal.main_arg0)) (m ((c.tc : Thread Cert.Conv1RefIdeal.nD Cert.Conv1RefIdeal.τ).loc Cert.Conv1RefIdeal.main_arg1)) (m ((c.tc : Thread Cert.Conv1RefIdeal.nD Cert.Conv1RefIdeal.τ).loc Cert.Conv1RefIdeal.main_arg2)) (m ((c.tc : Thread Cert.Conv1RefIdeal.nD Cert.Conv1RefIdeal.τ).loc Cert.Conv1RefIdeal.main_arg3)) (m ((c.tc : Thread Cert.Conv1RefIdeal.nD Cert.Conv1RefIdeal.τ).loc Cert.Conv1RefIdeal.main_arg4)) (m ((c.tc : Thread Cert.Conv1RefIdeal.nD Cert.Conv1RefIdeal.τ).loc Cert.Conv1RefIdeal.main_arg5)) (m ((c.tc : Thread Cert.Conv1RefIdeal.nD Cert.Conv1RefIdeal.τ).loc Cert.Conv1RefIdeal.main_arg6))).1 = (fun _ => 1#1)
    ∧ (Cert.Pre_conv1_pre.fn (F := Ideal) (m ((c.tc : Thread Cert.Conv1RefIdeal.nD Cert.Conv1RefIdeal.τ).loc Cert.Conv1RefIdeal.main_arg0)) (m ((c.tc : Thread Cert.Conv1RefIdeal.nD Cert.Conv1RefIdeal.τ).loc Cert.Conv1RefIdeal.main_arg1)) (m ((c.tc : Thread Cert.Conv1RefIdeal.nD Cert.Conv1RefIdeal.τ).loc Cert.Conv1RefIdeal.main_arg2)) (m ((c.tc : Thread Cert.Conv1RefIdeal.nD Cert.Conv1RefIdeal.τ).loc Cert.Conv1RefIdeal.main_arg3)) (m ((c.tc : Thread Cert.Conv1RefIdeal.nD Cert.Conv1RefIdeal.τ).loc Cert.Conv1RefIdeal.main_arg4)) (m ((c.tc : Thread Cert.Conv1RefIdeal.nD Cert.Conv1RefIdeal.τ).loc Cert.Conv1RefIdeal.main_arg5)) (m ((c.tc : Thread Cert.Conv1RefIdeal.nD Cert.Conv1RefIdeal.τ).loc Cert.Conv1RefIdeal.main_arg6))).2.1 = (fun _ => 1#1)
    ∧ (Cert.Pre_conv1_pre.fn (F := Ideal) (m ((c.tc : Thread Cert.Conv1RefIdeal.nD Cert.Conv1RefIdeal.τ).loc Cert.Conv1RefIdeal.main_arg0)) (m ((c.tc : Thread Cert.Conv1RefIdeal.nD Cert.Conv1RefIdeal.τ).loc Cert.Conv1RefIdeal.main_arg1)) (m ((c.tc : Thread Cert.Conv1RefIdeal.nD Cert.Conv1RefIdeal.τ).loc Cert.Conv1RefIdeal.main_arg2)) (m ((c.tc : Thread Cert.Conv1RefIdeal.nD Cert.Conv1RefIdeal.τ).loc Cert.Conv1RefIdeal.main_arg3)) (m ((c.tc : Thread Cert.Conv1RefIdeal.nD Cert.Conv1RefIdeal.τ).loc Cert.Conv1RefIdeal.main_arg4)) (m ((c.tc : Thread Cert.Conv1RefIdeal.nD Cert.Conv1RefIdeal.τ).loc Cert.Conv1RefIdeal.main_arg5)) (m ((c.tc : Thread Cert.Conv1RefIdeal.nD Cert.Conv1RefIdeal.τ).loc Cert.Conv1RefIdeal.main_arg6))).2.2.1 = (fun _ => 1#1)
    ∧ (Cert.Pre_conv1_pre.fn (F := Ideal) (m ((c.tc : Thread Cert.Conv1RefIdeal.nD Cert.Conv1RefIdeal.τ).loc Cert.Conv1RefIdeal.main_arg0)) (m ((c.tc : Thread Cert.Conv1RefIdeal.nD Cert.Conv1RefIdeal.τ).loc Cert.Conv1RefIdeal.main_arg1)) (m ((c.tc : Thread Cert.Conv1RefIdeal.nD Cert.Conv1RefIdeal.τ).loc Cert.Conv1RefIdeal.main_arg2)) (m ((c.tc : Thread Cert.Conv1RefIdeal.nD Cert.Conv1RefIdeal.τ).loc Cert.Conv1RefIdeal.main_arg3)) (m ((c.tc : Thread Cert.Conv1RefIdeal.nD Cert.Conv1RefIdeal.τ).loc Cert.Conv1RefIdeal.main_arg4)) (m ((c.tc : Thread Cert.Conv1RefIdeal.nD Cert.Conv1RefIdeal.τ).loc Cert.Conv1RefIdeal.main_arg5)) (m ((c.tc : Thread Cert.Conv1RefIdeal.nD Cert.Conv1RefIdeal.τ).loc Cert.Conv1RefIdeal.main_arg6))).2.2.2.1 = (fun _ => 1#1)
    ∧ (Cert.Pre_conv1_pre.fn (F := Ideal) (m ((c.tc : Thread Cert.Conv1RefIdeal.nD Cert.Conv1RefIdeal.τ).loc Cert.Conv1RefIdeal.main_arg0)) (m ((c.tc : Thread Cert.Conv1RefIdeal.nD Cert.Conv1RefIdeal.τ).loc Cert.Conv1RefIdeal.main_arg1)) (m ((c.tc : Thread Cert.Conv1RefIdeal.nD Cert.Conv1RefIdeal.τ).loc Cert.Conv1RefIdeal.main_arg2)) (m ((c.tc : Thread Cert.Conv1RefIdeal.nD Cert.Conv1RefIdeal.τ).loc Cert.Conv1RefIdeal.main_arg3)) (m ((c.tc : Thread Cert.Conv1RefIdeal.nD Cert.Conv1RefIdeal.τ).loc Cert.Conv1RefIdeal.main_arg4)) (m ((c.tc : Thread Cert.Conv1RefIdeal.nD Cert.Conv1RefIdeal.τ).loc Cert.Conv1RefIdeal.main_arg5)) (m ((c.tc : Thread Cert.Conv1RefIdeal.nD Cert.Conv1RefIdeal.τ).loc Cert.Conv1RefIdeal.main_arg6))).2.2.2.2.1 = (fun _ => 1#1)
    ∧ (Cert.Pre_conv1_pre.fn (F := Ideal) (m ((c.tc : Thread Cert.Conv1RefIdeal.nD Cert.Conv1RefIdeal.τ).loc Cert.Conv1RefIdeal.main_arg0)) (m ((c.tc : Thread Cert.Conv1RefIdeal.nD Cert.Conv1RefIdeal.τ).loc Cert.Conv1RefIdeal.main_arg1)) (m ((c.tc : Thread Cert.Conv1RefIdeal.nD Cert.Conv1RefIdeal.τ).loc Cert.Conv1RefIdeal.main_arg2)) (m ((c.tc : Thread Cert.Conv1RefIdeal.nD Cert.Conv1RefIdeal.τ).loc Cert.Conv1RefIdeal.main_arg3)) (m ((c.tc : Thread Cert.Conv1RefIdeal.nD Cert.Conv1RefIdeal.τ).loc Cert.Conv1RefIdeal.main_arg4)) (m ((c.tc : Thread Cert.Conv1RefIdeal.nD Cert.Conv1RefIdeal.τ).loc Cert.Conv1RefIdeal.main_arg5)) (m ((c.tc : Thread Cert.Conv1RefIdeal.nD Cert.Conv1RefIdeal.τ).loc Cert.Conv1RefIdeal.main_arg6))).2.2.2.2.2.1 = (fun _ => 1#1)
    ∧ (Cert.Pre_conv1_pre.fn (F := Ideal) (m ((c.tc : Thread Cert.Conv1RefIdeal.nD Cert.Conv1RefIdeal.τ).loc Cert.Conv1RefIdeal.main_arg0)) (m ((c.tc : Thread Cert.Conv1RefIdeal.nD Cert.Conv1RefIdeal.τ).loc Cert.Conv1RefIdeal.main_arg1)) (m ((c.tc : Thread Cert.Conv1RefIdeal.nD Cert.Conv1RefIdeal.τ).loc Cert.Conv1RefIdeal.main_arg2)) (m ((c.tc : Thread Cert.Conv1RefIdeal.nD Cert.Conv1RefIdeal.τ).loc Cert.Conv1RefIdeal.main_arg3)) (m ((c.tc : Thread Cert.Conv1RefIdeal.nD Cert.Conv1RefIdeal.τ).loc Cert.Conv1RefIdeal.main_arg4)) (m ((c.tc : Thread Cert.Conv1RefIdeal.nD Cert.Conv1RefIdeal.τ).loc Cert.Conv1RefIdeal.main_arg5)) (m ((c.tc : Thread Cert.Conv1RefIdeal.nD Cert.Conv1RefIdeal.τ).loc Cert.Conv1RefIdeal.main_arg6))).2.2.2.2.2.2 = (fun _ => 1#1)

def Pre_Conv2 (m : (ℓ : Loc Cert.Conv2.nD Cert.Conv2.τ Cert.Conv2.sig) → Buf (Elt Bits) ℓ) : Prop :=
  True

def Pre_Conv2Ideal (m : (ℓ : Loc Cert.Conv2Ideal.nD Cert.Conv2Ideal.τ Cert.Conv2Ideal.sig) → Buf (Elt Ideal) ℓ) : Prop :=
  True

def Pre_Conv2Ideal_conv2_pre [hPre_conv2_pre : Cert.Pre_conv2_pre.Facts] (m : (ℓ : Loc Cert.Conv2Ideal.nD Cert.Conv2Ideal.τ Cert.Conv2Ideal.sig) → Buf (Elt Ideal) ℓ) : Prop :=
  ∀ c : Dev Cert.Conv2Ideal.nD,
    (Cert.Pre_conv2_pre.fn (F := Ideal) (m ((c.tc : Thread Cert.Conv2Ideal.nD Cert.Conv2Ideal.τ).loc Cert.Conv2Ideal.main_arg0)) (m ((c.tc : Thread Cert.Conv2Ideal.nD Cert.Conv2Ideal.τ).loc Cert.Conv2Ideal.main_arg1)) (m ((c.tc : Thread Cert.Conv2Ideal.nD Cert.Conv2Ideal.τ).loc Cert.Conv2Ideal.main_arg2)) (m ((c.tc : Thread Cert.Conv2Ideal.nD Cert.Conv2Ideal.τ).loc Cert.Conv2Ideal.main_arg3)) (m ((c.tc : Thread Cert.Conv2Ideal.nD Cert.Conv2Ideal.τ).loc Cert.Conv2Ideal.main_arg4)) (m ((c.tc : Thread Cert.Conv2Ideal.nD Cert.Conv2Ideal.τ).loc Cert.Conv2Ideal.main_arg5))).1 = (fun _ => 1#1)
    ∧ (Cert.Pre_conv2_pre.fn (F := Ideal) (m ((c.tc : Thread Cert.Conv2Ideal.nD Cert.Conv2Ideal.τ).loc Cert.Conv2Ideal.main_arg0)) (m ((c.tc : Thread Cert.Conv2Ideal.nD Cert.Conv2Ideal.τ).loc Cert.Conv2Ideal.main_arg1)) (m ((c.tc : Thread Cert.Conv2Ideal.nD Cert.Conv2Ideal.τ).loc Cert.Conv2Ideal.main_arg2)) (m ((c.tc : Thread Cert.Conv2Ideal.nD Cert.Conv2Ideal.τ).loc Cert.Conv2Ideal.main_arg3)) (m ((c.tc : Thread Cert.Conv2Ideal.nD Cert.Conv2Ideal.τ).loc Cert.Conv2Ideal.main_arg4)) (m ((c.tc : Thread Cert.Conv2Ideal.nD Cert.Conv2Ideal.τ).loc Cert.Conv2Ideal.main_arg5))).2.1 = (fun _ => 1#1)
    ∧ (Cert.Pre_conv2_pre.fn (F := Ideal) (m ((c.tc : Thread Cert.Conv2Ideal.nD Cert.Conv2Ideal.τ).loc Cert.Conv2Ideal.main_arg0)) (m ((c.tc : Thread Cert.Conv2Ideal.nD Cert.Conv2Ideal.τ).loc Cert.Conv2Ideal.main_arg1)) (m ((c.tc : Thread Cert.Conv2Ideal.nD Cert.Conv2Ideal.τ).loc Cert.Conv2Ideal.main_arg2)) (m ((c.tc : Thread Cert.Conv2Ideal.nD Cert.Conv2Ideal.τ).loc Cert.Conv2Ideal.main_arg3)) (m ((c.tc : Thread Cert.Conv2Ideal.nD Cert.Conv2Ideal.τ).loc Cert.Conv2Ideal.main_arg4)) (m ((c.tc : Thread Cert.Conv2Ideal.nD Cert.Conv2Ideal.τ).loc Cert.Conv2Ideal.main_arg5))).2.2.1 = (fun _ => 1#1)
    ∧ (Cert.Pre_conv2_pre.fn (F := Ideal) (m ((c.tc : Thread Cert.Conv2Ideal.nD Cert.Conv2Ideal.τ).loc Cert.Conv2Ideal.main_arg0)) (m ((c.tc : Thread Cert.Conv2Ideal.nD Cert.Conv2Ideal.τ).loc Cert.Conv2Ideal.main_arg1)) (m ((c.tc : Thread Cert.Conv2Ideal.nD Cert.Conv2Ideal.τ).loc Cert.Conv2Ideal.main_arg2)) (m ((c.tc : Thread Cert.Conv2Ideal.nD Cert.Conv2Ideal.τ).loc Cert.Conv2Ideal.main_arg3)) (m ((c.tc : Thread Cert.Conv2Ideal.nD Cert.Conv2Ideal.τ).loc Cert.Conv2Ideal.main_arg4)) (m ((c.tc : Thread Cert.Conv2Ideal.nD Cert.Conv2Ideal.τ).loc Cert.Conv2Ideal.main_arg5))).2.2.2.1 = (fun _ => 1#1)
    ∧ (Cert.Pre_conv2_pre.fn (F := Ideal) (m ((c.tc : Thread Cert.Conv2Ideal.nD Cert.Conv2Ideal.τ).loc Cert.Conv2Ideal.main_arg0)) (m ((c.tc : Thread Cert.Conv2Ideal.nD Cert.Conv2Ideal.τ).loc Cert.Conv2Ideal.main_arg1)) (m ((c.tc : Thread Cert.Conv2Ideal.nD Cert.Conv2Ideal.τ).loc Cert.Conv2Ideal.main_arg2)) (m ((c.tc : Thread Cert.Conv2Ideal.nD Cert.Conv2Ideal.τ).loc Cert.Conv2Ideal.main_arg3)) (m ((c.tc : Thread Cert.Conv2Ideal.nD Cert.Conv2Ideal.τ).loc Cert.Conv2Ideal.main_arg4)) (m ((c.tc : Thread Cert.Conv2Ideal.nD Cert.Conv2Ideal.τ).loc Cert.Conv2Ideal.main_arg5))).2.2.2.2.1 = (fun _ => 1#1)
    ∧ (Cert.Pre_conv2_pre.fn (F := Ideal) (m ((c.tc : Thread Cert.Conv2Ideal.nD Cert.Conv2Ideal.τ).loc Cert.Conv2Ideal.main_arg0)) (m ((c.tc : Thread Cert.Conv2Ideal.nD Cert.Conv2Ideal.τ).loc Cert.Conv2Ideal.main_arg1)) (m ((c.tc : Thread Cert.Conv2Ideal.nD Cert.Conv2Ideal.τ).loc Cert.Conv2Ideal.main_arg2)) (m ((c.tc : Thread Cert.Conv2Ideal.nD Cert.Conv2Ideal.τ).loc Cert.Conv2Ideal.main_arg3)) (m ((c.tc : Thread Cert.Conv2Ideal.nD Cert.Conv2Ideal.τ).loc Cert.Conv2Ideal.main_arg4)) (m ((c.tc : Thread Cert.Conv2Ideal.nD Cert.Conv2Ideal.τ).loc Cert.Conv2Ideal.main_arg5))).2.2.2.2.2 = (fun _ => 1#1)

def Pre_Conv2RefIdeal (m : (ℓ : Loc Cert.Conv2RefIdeal.nD Cert.Conv2RefIdeal.τ Cert.Conv2RefIdeal.sig) → Buf (Elt Ideal) ℓ) : Prop :=
  True

def Pre_Conv2RefIdeal_conv2_pre [hPre_conv2_pre : Cert.Pre_conv2_pre.Facts] (m : (ℓ : Loc Cert.Conv2RefIdeal.nD Cert.Conv2RefIdeal.τ Cert.Conv2RefIdeal.sig) → Buf (Elt Ideal) ℓ) : Prop :=
  ∀ c : Dev Cert.Conv2RefIdeal.nD,
    (Cert.Pre_conv2_pre.fn (F := Ideal) (m ((c.tc : Thread Cert.Conv2RefIdeal.nD Cert.Conv2RefIdeal.τ).loc Cert.Conv2RefIdeal.main_arg0)) (m ((c.tc : Thread Cert.Conv2RefIdeal.nD Cert.Conv2RefIdeal.τ).loc Cert.Conv2RefIdeal.main_arg1)) (m ((c.tc : Thread Cert.Conv2RefIdeal.nD Cert.Conv2RefIdeal.τ).loc Cert.Conv2RefIdeal.main_arg2)) (m ((c.tc : Thread Cert.Conv2RefIdeal.nD Cert.Conv2RefIdeal.τ).loc Cert.Conv2RefIdeal.main_arg3)) (m ((c.tc : Thread Cert.Conv2RefIdeal.nD Cert.Conv2RefIdeal.τ).loc Cert.Conv2RefIdeal.main_arg4)) (m ((c.tc : Thread Cert.Conv2RefIdeal.nD Cert.Conv2RefIdeal.τ).loc Cert.Conv2RefIdeal.main_arg5))).1 = (fun _ => 1#1)
    ∧ (Cert.Pre_conv2_pre.fn (F := Ideal) (m ((c.tc : Thread Cert.Conv2RefIdeal.nD Cert.Conv2RefIdeal.τ).loc Cert.Conv2RefIdeal.main_arg0)) (m ((c.tc : Thread Cert.Conv2RefIdeal.nD Cert.Conv2RefIdeal.τ).loc Cert.Conv2RefIdeal.main_arg1)) (m ((c.tc : Thread Cert.Conv2RefIdeal.nD Cert.Conv2RefIdeal.τ).loc Cert.Conv2RefIdeal.main_arg2)) (m ((c.tc : Thread Cert.Conv2RefIdeal.nD Cert.Conv2RefIdeal.τ).loc Cert.Conv2RefIdeal.main_arg3)) (m ((c.tc : Thread Cert.Conv2RefIdeal.nD Cert.Conv2RefIdeal.τ).loc Cert.Conv2RefIdeal.main_arg4)) (m ((c.tc : Thread Cert.Conv2RefIdeal.nD Cert.Conv2RefIdeal.τ).loc Cert.Conv2RefIdeal.main_arg5))).2.1 = (fun _ => 1#1)
    ∧ (Cert.Pre_conv2_pre.fn (F := Ideal) (m ((c.tc : Thread Cert.Conv2RefIdeal.nD Cert.Conv2RefIdeal.τ).loc Cert.Conv2RefIdeal.main_arg0)) (m ((c.tc : Thread Cert.Conv2RefIdeal.nD Cert.Conv2RefIdeal.τ).loc Cert.Conv2RefIdeal.main_arg1)) (m ((c.tc : Thread Cert.Conv2RefIdeal.nD Cert.Conv2RefIdeal.τ).loc Cert.Conv2RefIdeal.main_arg2)) (m ((c.tc : Thread Cert.Conv2RefIdeal.nD Cert.Conv2RefIdeal.τ).loc Cert.Conv2RefIdeal.main_arg3)) (m ((c.tc : Thread Cert.Conv2RefIdeal.nD Cert.Conv2RefIdeal.τ).loc Cert.Conv2RefIdeal.main_arg4)) (m ((c.tc : Thread Cert.Conv2RefIdeal.nD Cert.Conv2RefIdeal.τ).loc Cert.Conv2RefIdeal.main_arg5))).2.2.1 = (fun _ => 1#1)
    ∧ (Cert.Pre_conv2_pre.fn (F := Ideal) (m ((c.tc : Thread Cert.Conv2RefIdeal.nD Cert.Conv2RefIdeal.τ).loc Cert.Conv2RefIdeal.main_arg0)) (m ((c.tc : Thread Cert.Conv2RefIdeal.nD Cert.Conv2RefIdeal.τ).loc Cert.Conv2RefIdeal.main_arg1)) (m ((c.tc : Thread Cert.Conv2RefIdeal.nD Cert.Conv2RefIdeal.τ).loc Cert.Conv2RefIdeal.main_arg2)) (m ((c.tc : Thread Cert.Conv2RefIdeal.nD Cert.Conv2RefIdeal.τ).loc Cert.Conv2RefIdeal.main_arg3)) (m ((c.tc : Thread Cert.Conv2RefIdeal.nD Cert.Conv2RefIdeal.τ).loc Cert.Conv2RefIdeal.main_arg4)) (m ((c.tc : Thread Cert.Conv2RefIdeal.nD Cert.Conv2RefIdeal.τ).loc Cert.Conv2RefIdeal.main_arg5))).2.2.2.1 = (fun _ => 1#1)
    ∧ (Cert.Pre_conv2_pre.fn (F := Ideal) (m ((c.tc : Thread Cert.Conv2RefIdeal.nD Cert.Conv2RefIdeal.τ).loc Cert.Conv2RefIdeal.main_arg0)) (m ((c.tc : Thread Cert.Conv2RefIdeal.nD Cert.Conv2RefIdeal.τ).loc Cert.Conv2RefIdeal.main_arg1)) (m ((c.tc : Thread Cert.Conv2RefIdeal.nD Cert.Conv2RefIdeal.τ).loc Cert.Conv2RefIdeal.main_arg2)) (m ((c.tc : Thread Cert.Conv2RefIdeal.nD Cert.Conv2RefIdeal.τ).loc Cert.Conv2RefIdeal.main_arg3)) (m ((c.tc : Thread Cert.Conv2RefIdeal.nD Cert.Conv2RefIdeal.τ).loc Cert.Conv2RefIdeal.main_arg4)) (m ((c.tc : Thread Cert.Conv2RefIdeal.nD Cert.Conv2RefIdeal.τ).loc Cert.Conv2RefIdeal.main_arg5))).2.2.2.2.1 = (fun _ => 1#1)
    ∧ (Cert.Pre_conv2_pre.fn (F := Ideal) (m ((c.tc : Thread Cert.Conv2RefIdeal.nD Cert.Conv2RefIdeal.τ).loc Cert.Conv2RefIdeal.main_arg0)) (m ((c.tc : Thread Cert.Conv2RefIdeal.nD Cert.Conv2RefIdeal.τ).loc Cert.Conv2RefIdeal.main_arg1)) (m ((c.tc : Thread Cert.Conv2RefIdeal.nD Cert.Conv2RefIdeal.τ).loc Cert.Conv2RefIdeal.main_arg2)) (m ((c.tc : Thread Cert.Conv2RefIdeal.nD Cert.Conv2RefIdeal.τ).loc Cert.Conv2RefIdeal.main_arg3)) (m ((c.tc : Thread Cert.Conv2RefIdeal.nD Cert.Conv2RefIdeal.τ).loc Cert.Conv2RefIdeal.main_arg4)) (m ((c.tc : Thread Cert.Conv2RefIdeal.nD Cert.Conv2RefIdeal.τ).loc Cert.Conv2RefIdeal.main_arg5))).2.2.2.2.2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_pre [hPre_head_pre : Cert.Pre_head_pre.Facts] (m : (ℓ : Loc Cert.HeadIdeal.nD Cert.HeadIdeal.τ Cert.HeadIdeal.sig) → Buf (Elt Ideal) ℓ) : Prop :=
  ∀ c : Dev Cert.HeadIdeal.nD,
    (Cert.Pre_head_pre.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).1 = (fun _ => 1#1)
    ∧ (Cert.Pre_head_pre.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.1 = (fun _ => 1#1)
    ∧ (Cert.Pre_head_pre.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.2.1 = (fun _ => 1#1)
    ∧ (Cert.Pre_head_pre.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5))).2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_pre [hPre_head_pre : Cert.Pre_head_pre.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_pre.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).1 = (fun _ => 1#1)
    ∧ (Cert.Pre_head_pre.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.1 = (fun _ => 1#1)
    ∧ (Cert.Pre_head_pre.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.2.1 = (fun _ => 1#1)
    ∧ (Cert.Pre_head_pre.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5))).2.2.2 = (fun _ => 1#1)

def quiescent_Conv1 [hConv1 : Cert.Conv1.Facts] : Prop :=
  ∀ (m : (ℓ : Loc Cert.Conv1.nD Cert.Conv1.τ Cert.Conv1.sig) → Buf (Elt Bits) ℓ) (g : Dev Cert.Conv1.nD → PrngReg), Pre_Conv1 m →
    θ_run (Cert.Conv1.defs (F := Bits)) (onTc (τ := Cert.Conv1.τ) (Cert.Conv1.main (F := Bits))) ⟨m, fun _ => 0, g⟩ (fun r => (∀ c : Dev Cert.Conv1.nD,
      r.2.mem ((c.tc : Thread Cert.Conv1.nD Cert.Conv1.τ).loc Cert.Conv1.main_arg0) = m ((c.tc : Thread Cert.Conv1.nD Cert.Conv1.τ).loc Cert.Conv1.main_arg0)
      ∧ r.2.mem ((c.tc : Thread Cert.Conv1.nD Cert.Conv1.τ).loc Cert.Conv1.main_arg1) = m ((c.tc : Thread Cert.Conv1.nD Cert.Conv1.τ).loc Cert.Conv1.main_arg1)
      ∧ r.2.mem ((c.tc : Thread Cert.Conv1.nD Cert.Conv1.τ).loc Cert.Conv1.main_arg2) = m ((c.tc : Thread Cert.Conv1.nD Cert.Conv1.τ).loc Cert.Conv1.main_arg2)
      ∧ r.2.mem ((c.tc : Thread Cert.Conv1.nD Cert.Conv1.τ).loc Cert.Conv1.main_arg3) = m ((c.tc : Thread Cert.Conv1.nD Cert.Conv1.τ).loc Cert.Conv1.main_arg3)
      ∧ r.2.mem ((c.tc : Thread Cert.Conv1.nD Cert.Conv1.τ).loc Cert.Conv1.main_arg4) = m ((c.tc : Thread Cert.Conv1.nD Cert.Conv1.τ).loc Cert.Conv1.main_arg4)
      ∧ r.2.mem ((c.tc : Thread Cert.Conv1.nD Cert.Conv1.τ).loc Cert.Conv1.main_arg5) = m ((c.tc : Thread Cert.Conv1.nD Cert.Conv1.τ).loc Cert.Conv1.main_arg5)
      ∧ r.2.mem ((c.tc : Thread Cert.Conv1.nD Cert.Conv1.τ).loc Cert.Conv1.main_arg6) = m ((c.tc : Thread Cert.Conv1.nD Cert.Conv1.τ).loc Cert.Conv1.main_arg6))
      ∧ r.2.sem = fun _ => 0)

def quiescent_Conv1Ideal [hConv1Ideal : Cert.Conv1Ideal.Facts] : Prop :=
  ∀ (m : (ℓ : Loc Cert.Conv1Ideal.nD Cert.Conv1Ideal.τ Cert.Conv1Ideal.sig) → Buf (Elt Ideal) ℓ) (g : Dev Cert.Conv1Ideal.nD → PrngReg), Pre_Conv1Ideal m →
    θ_run (Cert.Conv1Ideal.defs (F := Ideal)) (onTc (τ := Cert.Conv1Ideal.τ) (Cert.Conv1Ideal.main (F := Ideal))) ⟨m, fun _ => 0, g⟩ (fun r => (∀ c : Dev Cert.Conv1Ideal.nD,
      r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
      ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1)
      ∧ r.2.mem ((c.tc : Thread Cert.Conv1Ideal.nD Cert.Conv1Ideal.τ).loc Cert.Conv1Ideal.main_arg2) = m ((c.tc : Thread Cert.Conv1Ideal.nD Cert.Conv1Ideal.τ).loc Cert.Conv1Ideal.main_arg2)
      ∧ r.2.mem ((c.tc : Thread Cert.Conv1Ideal.nD Cert.Conv1Ideal.τ).loc Cert.Conv1Ideal.main_arg3) = m ((c.tc : Thread Cert.Conv1Ideal.nD Cert.Conv1Ideal.τ).loc Cert.Conv1Ideal.main_arg3)
      ∧ r.2.mem ((c.tc : Thread Cert.Conv1Ideal.nD Cert.Conv1Ideal.τ).loc Cert.Conv1Ideal.main_arg4) = m ((c.tc : Thread Cert.Conv1Ideal.nD Cert.Conv1Ideal.τ).loc Cert.Conv1Ideal.main_arg4)
      ∧ r.2.mem ((c.tc : Thread Cert.Conv1Ideal.nD Cert.Conv1Ideal.τ).loc Cert.Conv1Ideal.main_arg5) = m ((c.tc : Thread Cert.Conv1Ideal.nD Cert.Conv1Ideal.τ).loc Cert.Conv1Ideal.main_arg5)
      ∧ r.2.mem ((c.tc : Thread Cert.Conv1Ideal.nD Cert.Conv1Ideal.τ).loc Cert.Conv1Ideal.main_arg6) = m ((c.tc : Thread Cert.Conv1Ideal.nD Cert.Conv1Ideal.τ).loc Cert.Conv1Ideal.main_arg6))
      ∧ r.2.sem = fun _ => 0)

def quiescent_Conv1Ideal_pre_conv1_pre [hConv1Ideal : Cert.Conv1Ideal.Facts] [hPre_conv1_pre : Cert.Pre_conv1_pre.Facts] : Prop :=
  ∀ (m : (ℓ : Loc Cert.Conv1Ideal.nD Cert.Conv1Ideal.τ Cert.Conv1Ideal.sig) → Buf (Elt Ideal) ℓ) (g : Dev Cert.Conv1Ideal.nD → PrngReg), Pre_Conv1Ideal_conv1_pre m →
    θ_run (Cert.Conv1Ideal.defs (F := Ideal)) (onTc (τ := Cert.Conv1Ideal.τ) (Cert.Conv1Ideal.main (F := Ideal))) ⟨m, fun _ => 0, g⟩ (fun r => (∀ c : Dev Cert.Conv1Ideal.nD,
      r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
      ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1)
      ∧ r.2.mem ((c.tc : Thread Cert.Conv1Ideal.nD Cert.Conv1Ideal.τ).loc Cert.Conv1Ideal.main_arg2) = m ((c.tc : Thread Cert.Conv1Ideal.nD Cert.Conv1Ideal.τ).loc Cert.Conv1Ideal.main_arg2)
      ∧ r.2.mem ((c.tc : Thread Cert.Conv1Ideal.nD Cert.Conv1Ideal.τ).loc Cert.Conv1Ideal.main_arg3) = m ((c.tc : Thread Cert.Conv1Ideal.nD Cert.Conv1Ideal.τ).loc Cert.Conv1Ideal.main_arg3)
      ∧ r.2.mem ((c.tc : Thread Cert.Conv1Ideal.nD Cert.Conv1Ideal.τ).loc Cert.Conv1Ideal.main_arg4) = m ((c.tc : Thread Cert.Conv1Ideal.nD Cert.Conv1Ideal.τ).loc Cert.Conv1Ideal.main_arg4)
      ∧ r.2.mem ((c.tc : Thread Cert.Conv1Ideal.nD Cert.Conv1Ideal.τ).loc Cert.Conv1Ideal.main_arg5) = m ((c.tc : Thread Cert.Conv1Ideal.nD Cert.Conv1Ideal.τ).loc Cert.Conv1Ideal.main_arg5)
      ∧ r.2.mem ((c.tc : Thread Cert.Conv1Ideal.nD Cert.Conv1Ideal.τ).loc Cert.Conv1Ideal.main_arg6) = m ((c.tc : Thread Cert.Conv1Ideal.nD Cert.Conv1Ideal.τ).loc Cert.Conv1Ideal.main_arg6))
      ∧ r.2.sem = fun _ => 0)

def quiescent_Conv1RefIdeal [hConv1RefIdeal : Cert.Conv1RefIdeal.Facts] : Prop :=
  ∀ (m : (ℓ : Loc Cert.Conv1RefIdeal.nD Cert.Conv1RefIdeal.τ Cert.Conv1RefIdeal.sig) → Buf (Elt Ideal) ℓ) (g : Dev Cert.Conv1RefIdeal.nD → PrngReg), Pre_Conv1RefIdeal m →
    θ_run (Cert.Conv1RefIdeal.defs (F := Ideal)) (onTc (τ := Cert.Conv1RefIdeal.τ) (Cert.Conv1RefIdeal.main (F := Ideal))) ⟨m, fun _ => 0, g⟩ (fun r => (∀ c : Dev Cert.Conv1RefIdeal.nD,
      r.2.mem ((c.tc : Thread Cert.Conv1RefIdeal.nD Cert.Conv1RefIdeal.τ).loc Cert.Conv1RefIdeal.main_arg0) = m ((c.tc : Thread Cert.Conv1RefIdeal.nD Cert.Conv1RefIdeal.τ).loc Cert.Conv1RefIdeal.main_arg0)
      ∧ r.2.mem ((c.tc : Thread Cert.Conv1RefIdeal.nD Cert.Conv1RefIdeal.τ).loc Cert.Conv1RefIdeal.main_arg1) = m ((c.tc : Thread Cert.Conv1RefIdeal.nD Cert.Conv1RefIdeal.τ).loc Cert.Conv1RefIdeal.main_arg1)
      ∧ r.2.mem ((c.tc : Thread Cert.Conv1RefIdeal.nD Cert.Conv1RefIdeal.τ).loc Cert.Conv1RefIdeal.main_arg2) = m ((c.tc : Thread Cert.Conv1RefIdeal.nD Cert.Conv1RefIdeal.τ).loc Cert.Conv1RefIdeal.main_arg2)
      ∧ r.2.mem ((c.tc : Thread Cert.Conv1RefIdeal.nD Cert.Conv1RefIdeal.τ).loc Cert.Conv1RefIdeal.main_arg3) = m ((c.tc : Thread Cert.Conv1RefIdeal.nD Cert.Conv1RefIdeal.τ).loc Cert.Conv1RefIdeal.main_arg3)
      ∧ r.2.mem ((c.tc : Thread Cert.Conv1RefIdeal.nD Cert.Conv1RefIdeal.τ).loc Cert.Conv1RefIdeal.main_arg4) = m ((c.tc : Thread Cert.Conv1RefIdeal.nD Cert.Conv1RefIdeal.τ).loc Cert.Conv1RefIdeal.main_arg4)
      ∧ r.2.mem ((c.tc : Thread Cert.Conv1RefIdeal.nD Cert.Conv1RefIdeal.τ).loc Cert.Conv1RefIdeal.main_arg5) = m ((c.tc : Thread Cert.Conv1RefIdeal.nD Cert.Conv1RefIdeal.τ).loc Cert.Conv1RefIdeal.main_arg5)
      ∧ r.2.mem ((c.tc : Thread Cert.Conv1RefIdeal.nD Cert.Conv1RefIdeal.τ).loc Cert.Conv1RefIdeal.main_arg6) = m ((c.tc : Thread Cert.Conv1RefIdeal.nD Cert.Conv1RefIdeal.τ).loc Cert.Conv1RefIdeal.main_arg6))
      ∧ r.2.sem = fun _ => 0)

def quiescent_Conv1RefIdeal_pre_conv1_pre [hConv1RefIdeal : Cert.Conv1RefIdeal.Facts] [hPre_conv1_pre : Cert.Pre_conv1_pre.Facts] : Prop :=
  ∀ (m : (ℓ : Loc Cert.Conv1RefIdeal.nD Cert.Conv1RefIdeal.τ Cert.Conv1RefIdeal.sig) → Buf (Elt Ideal) ℓ) (g : Dev Cert.Conv1RefIdeal.nD → PrngReg), Pre_Conv1RefIdeal_conv1_pre m →
    θ_run (Cert.Conv1RefIdeal.defs (F := Ideal)) (onTc (τ := Cert.Conv1RefIdeal.τ) (Cert.Conv1RefIdeal.main (F := Ideal))) ⟨m, fun _ => 0, g⟩ (fun r => (∀ c : Dev Cert.Conv1RefIdeal.nD,
      r.2.mem ((c.tc : Thread Cert.Conv1RefIdeal.nD Cert.Conv1RefIdeal.τ).loc Cert.Conv1RefIdeal.main_arg0) = m ((c.tc : Thread Cert.Conv1RefIdeal.nD Cert.Conv1RefIdeal.τ).loc Cert.Conv1RefIdeal.main_arg0)
      ∧ r.2.mem ((c.tc : Thread Cert.Conv1RefIdeal.nD Cert.Conv1RefIdeal.τ).loc Cert.Conv1RefIdeal.main_arg1) = m ((c.tc : Thread Cert.Conv1RefIdeal.nD Cert.Conv1RefIdeal.τ).loc Cert.Conv1RefIdeal.main_arg1)
      ∧ r.2.mem ((c.tc : Thread Cert.Conv1RefIdeal.nD Cert.Conv1RefIdeal.τ).loc Cert.Conv1RefIdeal.main_arg2) = m ((c.tc : Thread Cert.Conv1RefIdeal.nD Cert.Conv1RefIdeal.τ).loc Cert.Conv1RefIdeal.main_arg2)
      ∧ r.2.mem ((c.tc : Thread Cert.Conv1RefIdeal.nD Cert.Conv1RefIdeal.τ).loc Cert.Conv1RefIdeal.main_arg3) = m ((c.tc : Thread Cert.Conv1RefIdeal.nD Cert.Conv1RefIdeal.τ).loc Cert.Conv1RefIdeal.main_arg3)
      ∧ r.2.mem ((c.tc : Thread Cert.Conv1RefIdeal.nD Cert.Conv1RefIdeal.τ).loc Cert.Conv1RefIdeal.main_arg4) = m ((c.tc : Thread Cert.Conv1RefIdeal.nD Cert.Conv1RefIdeal.τ).loc Cert.Conv1RefIdeal.main_arg4)
      ∧ r.2.mem ((c.tc : Thread Cert.Conv1RefIdeal.nD Cert.Conv1RefIdeal.τ).loc Cert.Conv1RefIdeal.main_arg5) = m ((c.tc : Thread Cert.Conv1RefIdeal.nD Cert.Conv1RefIdeal.τ).loc Cert.Conv1RefIdeal.main_arg5)
      ∧ r.2.mem ((c.tc : Thread Cert.Conv1RefIdeal.nD Cert.Conv1RefIdeal.τ).loc Cert.Conv1RefIdeal.main_arg6) = m ((c.tc : Thread Cert.Conv1RefIdeal.nD Cert.Conv1RefIdeal.τ).loc Cert.Conv1RefIdeal.main_arg6))
      ∧ r.2.sem = fun _ => 0)

def quiescent_Conv2 [hConv2 : Cert.Conv2.Facts] : Prop :=
  ∀ (m : (ℓ : Loc Cert.Conv2.nD Cert.Conv2.τ Cert.Conv2.sig) → Buf (Elt Bits) ℓ) (g : Dev Cert.Conv2.nD → PrngReg), Pre_Conv2 m →
    θ_run (Cert.Conv2.defs (F := Bits)) (onTc (τ := Cert.Conv2.τ) (Cert.Conv2.main (F := Bits))) ⟨m, fun _ => 0, g⟩ (fun r => (∀ c : Dev Cert.Conv2.nD,
      r.2.mem ((c.tc : Thread Cert.Conv2.nD Cert.Conv2.τ).loc Cert.Conv2.main_arg0) = m ((c.tc : Thread Cert.Conv2.nD Cert.Conv2.τ).loc Cert.Conv2.main_arg0)
      ∧ r.2.mem ((c.tc : Thread Cert.Conv2.nD Cert.Conv2.τ).loc Cert.Conv2.main_arg1) = m ((c.tc : Thread Cert.Conv2.nD Cert.Conv2.τ).loc Cert.Conv2.main_arg1)
      ∧ r.2.mem ((c.tc : Thread Cert.Conv2.nD Cert.Conv2.τ).loc Cert.Conv2.main_arg2) = m ((c.tc : Thread Cert.Conv2.nD Cert.Conv2.τ).loc Cert.Conv2.main_arg2)
      ∧ r.2.mem ((c.tc : Thread Cert.Conv2.nD Cert.Conv2.τ).loc Cert.Conv2.main_arg3) = m ((c.tc : Thread Cert.Conv2.nD Cert.Conv2.τ).loc Cert.Conv2.main_arg3)
      ∧ r.2.mem ((c.tc : Thread Cert.Conv2.nD Cert.Conv2.τ).loc Cert.Conv2.main_arg4) = m ((c.tc : Thread Cert.Conv2.nD Cert.Conv2.τ).loc Cert.Conv2.main_arg4)
      ∧ r.2.mem ((c.tc : Thread Cert.Conv2.nD Cert.Conv2.τ).loc Cert.Conv2.main_arg5) = m ((c.tc : Thread Cert.Conv2.nD Cert.Conv2.τ).loc Cert.Conv2.main_arg5))
      ∧ r.2.sem = fun _ => 0)

def quiescent_Conv2Ideal [hConv2Ideal : Cert.Conv2Ideal.Facts] : Prop :=
  ∀ (m : (ℓ : Loc Cert.Conv2Ideal.nD Cert.Conv2Ideal.τ Cert.Conv2Ideal.sig) → Buf (Elt Ideal) ℓ) (g : Dev Cert.Conv2Ideal.nD → PrngReg), Pre_Conv2Ideal m →
    θ_run (Cert.Conv2Ideal.defs (F := Ideal)) (onTc (τ := Cert.Conv2Ideal.τ) (Cert.Conv2Ideal.main (F := Ideal))) ⟨m, fun _ => 0, g⟩ (fun r => (∀ c : Dev Cert.Conv2Ideal.nD,
      r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
      ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
      ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2)
      ∧ r.2.mem ((c.tc : Thread Cert.Conv2Ideal.nD Cert.Conv2Ideal.τ).loc Cert.Conv2Ideal.main_arg3) = m ((c.tc : Thread Cert.Conv2Ideal.nD Cert.Conv2Ideal.τ).loc Cert.Conv2Ideal.main_arg3)
      ∧ r.2.mem ((c.tc : Thread Cert.Conv2Ideal.nD Cert.Conv2Ideal.τ).loc Cert.Conv2Ideal.main_arg4) = m ((c.tc : Thread Cert.Conv2Ideal.nD Cert.Conv2Ideal.τ).loc Cert.Conv2Ideal.main_arg4)
      ∧ r.2.mem ((c.tc : Thread Cert.Conv2Ideal.nD Cert.Conv2Ideal.τ).loc Cert.Conv2Ideal.main_arg5) = m ((c.tc : Thread Cert.Conv2Ideal.nD Cert.Conv2Ideal.τ).loc Cert.Conv2Ideal.main_arg5))
      ∧ r.2.sem = fun _ => 0)

def quiescent_Conv2Ideal_pre_conv2_pre [hConv2Ideal : Cert.Conv2Ideal.Facts] [hPre_conv2_pre : Cert.Pre_conv2_pre.Facts] : Prop :=
  ∀ (m : (ℓ : Loc Cert.Conv2Ideal.nD Cert.Conv2Ideal.τ Cert.Conv2Ideal.sig) → Buf (Elt Ideal) ℓ) (g : Dev Cert.Conv2Ideal.nD → PrngReg), Pre_Conv2Ideal_conv2_pre m →
    θ_run (Cert.Conv2Ideal.defs (F := Ideal)) (onTc (τ := Cert.Conv2Ideal.τ) (Cert.Conv2Ideal.main (F := Ideal))) ⟨m, fun _ => 0, g⟩ (fun r => (∀ c : Dev Cert.Conv2Ideal.nD,
      r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
      ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
      ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2)
      ∧ r.2.mem ((c.tc : Thread Cert.Conv2Ideal.nD Cert.Conv2Ideal.τ).loc Cert.Conv2Ideal.main_arg3) = m ((c.tc : Thread Cert.Conv2Ideal.nD Cert.Conv2Ideal.τ).loc Cert.Conv2Ideal.main_arg3)
      ∧ r.2.mem ((c.tc : Thread Cert.Conv2Ideal.nD Cert.Conv2Ideal.τ).loc Cert.Conv2Ideal.main_arg4) = m ((c.tc : Thread Cert.Conv2Ideal.nD Cert.Conv2Ideal.τ).loc Cert.Conv2Ideal.main_arg4)
      ∧ r.2.mem ((c.tc : Thread Cert.Conv2Ideal.nD Cert.Conv2Ideal.τ).loc Cert.Conv2Ideal.main_arg5) = m ((c.tc : Thread Cert.Conv2Ideal.nD Cert.Conv2Ideal.τ).loc Cert.Conv2Ideal.main_arg5))
      ∧ r.2.sem = fun _ => 0)

def quiescent_Conv2RefIdeal [hConv2RefIdeal : Cert.Conv2RefIdeal.Facts] : Prop :=
  ∀ (m : (ℓ : Loc Cert.Conv2RefIdeal.nD Cert.Conv2RefIdeal.τ Cert.Conv2RefIdeal.sig) → Buf (Elt Ideal) ℓ) (g : Dev Cert.Conv2RefIdeal.nD → PrngReg), Pre_Conv2RefIdeal m →
    θ_run (Cert.Conv2RefIdeal.defs (F := Ideal)) (onTc (τ := Cert.Conv2RefIdeal.τ) (Cert.Conv2RefIdeal.main (F := Ideal))) ⟨m, fun _ => 0, g⟩ (fun r => (∀ c : Dev Cert.Conv2RefIdeal.nD,
      r.2.mem ((c.tc : Thread Cert.Conv2RefIdeal.nD Cert.Conv2RefIdeal.τ).loc Cert.Conv2RefIdeal.main_arg0) = m ((c.tc : Thread Cert.Conv2RefIdeal.nD Cert.Conv2RefIdeal.τ).loc Cert.Conv2RefIdeal.main_arg0)
      ∧ r.2.mem ((c.tc : Thread Cert.Conv2RefIdeal.nD Cert.Conv2RefIdeal.τ).loc Cert.Conv2RefIdeal.main_arg1) = m ((c.tc : Thread Cert.Conv2RefIdeal.nD Cert.Conv2RefIdeal.τ).loc Cert.Conv2RefIdeal.main_arg1)
      ∧ r.2.mem ((c.tc : Thread Cert.Conv2RefIdeal.nD Cert.Conv2RefIdeal.τ).loc Cert.Conv2RefIdeal.main_arg2) = m ((c.tc : Thread Cert.Conv2RefIdeal.nD Cert.Conv2RefIdeal.τ).loc Cert.Conv2RefIdeal.main_arg2)
      ∧ r.2.mem ((c.tc : Thread Cert.Conv2RefIdeal.nD Cert.Conv2RefIdeal.τ).loc Cert.Conv2RefIdeal.main_arg3) = m ((c.tc : Thread Cert.Conv2RefIdeal.nD Cert.Conv2RefIdeal.τ).loc Cert.Conv2RefIdeal.main_arg3)
      ∧ r.2.mem ((c.tc : Thread Cert.Conv2RefIdeal.nD Cert.Conv2RefIdeal.τ).loc Cert.Conv2RefIdeal.main_arg4) = m ((c.tc : Thread Cert.Conv2RefIdeal.nD Cert.Conv2RefIdeal.τ).loc Cert.Conv2RefIdeal.main_arg4)
      ∧ r.2.mem ((c.tc : Thread Cert.Conv2RefIdeal.nD Cert.Conv2RefIdeal.τ).loc Cert.Conv2RefIdeal.main_arg5) = m ((c.tc : Thread Cert.Conv2RefIdeal.nD Cert.Conv2RefIdeal.τ).loc Cert.Conv2RefIdeal.main_arg5))
      ∧ r.2.sem = fun _ => 0)

def quiescent_Conv2RefIdeal_pre_conv2_pre [hConv2RefIdeal : Cert.Conv2RefIdeal.Facts] [hPre_conv2_pre : Cert.Pre_conv2_pre.Facts] : Prop :=
  ∀ (m : (ℓ : Loc Cert.Conv2RefIdeal.nD Cert.Conv2RefIdeal.τ Cert.Conv2RefIdeal.sig) → Buf (Elt Ideal) ℓ) (g : Dev Cert.Conv2RefIdeal.nD → PrngReg), Pre_Conv2RefIdeal_conv2_pre m →
    θ_run (Cert.Conv2RefIdeal.defs (F := Ideal)) (onTc (τ := Cert.Conv2RefIdeal.τ) (Cert.Conv2RefIdeal.main (F := Ideal))) ⟨m, fun _ => 0, g⟩ (fun r => (∀ c : Dev Cert.Conv2RefIdeal.nD,
      r.2.mem ((c.tc : Thread Cert.Conv2RefIdeal.nD Cert.Conv2RefIdeal.τ).loc Cert.Conv2RefIdeal.main_arg0) = m ((c.tc : Thread Cert.Conv2RefIdeal.nD Cert.Conv2RefIdeal.τ).loc Cert.Conv2RefIdeal.main_arg0)
      ∧ r.2.mem ((c.tc : Thread Cert.Conv2RefIdeal.nD Cert.Conv2RefIdeal.τ).loc Cert.Conv2RefIdeal.main_arg1) = m ((c.tc : Thread Cert.Conv2RefIdeal.nD Cert.Conv2RefIdeal.τ).loc Cert.Conv2RefIdeal.main_arg1)
      ∧ r.2.mem ((c.tc : Thread Cert.Conv2RefIdeal.nD Cert.Conv2RefIdeal.τ).loc Cert.Conv2RefIdeal.main_arg2) = m ((c.tc : Thread Cert.Conv2RefIdeal.nD Cert.Conv2RefIdeal.τ).loc Cert.Conv2RefIdeal.main_arg2)
      ∧ r.2.mem ((c.tc : Thread Cert.Conv2RefIdeal.nD Cert.Conv2RefIdeal.τ).loc Cert.Conv2RefIdeal.main_arg3) = m ((c.tc : Thread Cert.Conv2RefIdeal.nD Cert.Conv2RefIdeal.τ).loc Cert.Conv2RefIdeal.main_arg3)
      ∧ r.2.mem ((c.tc : Thread Cert.Conv2RefIdeal.nD Cert.Conv2RefIdeal.τ).loc Cert.Conv2RefIdeal.main_arg4) = m ((c.tc : Thread Cert.Conv2RefIdeal.nD Cert.Conv2RefIdeal.τ).loc Cert.Conv2RefIdeal.main_arg4)
      ∧ r.2.mem ((c.tc : Thread Cert.Conv2RefIdeal.nD Cert.Conv2RefIdeal.τ).loc Cert.Conv2RefIdeal.main_arg5) = m ((c.tc : Thread Cert.Conv2RefIdeal.nD Cert.Conv2RefIdeal.τ).loc Cert.Conv2RefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadIdeal_pre_head_pre [hHeadIdeal : Cert.HeadIdeal.Facts] [hPre_head_pre : Cert.Pre_head_pre.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_pre m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_HeadRefIdeal_pre_head_pre [hHeadRefIdeal : Cert.HeadRefIdeal.Facts] [hPre_head_pre : Cert.Pre_head_pre.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_pre m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def preserves_Conv1_Conv1Ideal : Prop :=
  True

def algebraic_Conv1Ideal_Conv1RefIdeal_pre_conv1_pre [hConv1Ideal : Cert.Conv1Ideal.Facts] [hConv1RefIdeal : Cert.Conv1RefIdeal.Facts] [hPre_conv1_pre : Cert.Pre_conv1_pre.Facts] : Prop :=
  ∀ (m : (ℓ : Loc Cert.Conv1Ideal.nD Cert.Conv1Ideal.τ Cert.Conv1Ideal.sig) → Buf (Elt Ideal) ℓ) (g : Dev Cert.Conv1Ideal.nD → PrngReg)
    (m' : (ℓ : Loc Cert.Conv1RefIdeal.nD Cert.Conv1RefIdeal.τ Cert.Conv1RefIdeal.sig) → Buf (Elt Ideal) ℓ) (g' : Dev Cert.Conv1RefIdeal.nD → PrngReg), Pre_Conv1Ideal_conv1_pre m →
    (∀ c : Dev Cert.Conv1Ideal.nD,
      m' ((c.tc : Thread Cert.Conv1RefIdeal.nD Cert.Conv1RefIdeal.τ).loc Cert.Conv1RefIdeal.main_arg0) = m ((c.tc : Thread Cert.Conv1Ideal.nD Cert.Conv1Ideal.τ).loc Cert.Conv1Ideal.main_arg0)
      ∧ m' ((c.tc : Thread Cert.Conv1RefIdeal.nD Cert.Conv1RefIdeal.τ).loc Cert.Conv1RefIdeal.main_arg1) = m ((c.tc : Thread Cert.Conv1Ideal.nD Cert.Conv1Ideal.τ).loc Cert.Conv1Ideal.main_arg1)
      ∧ m' ((c.tc : Thread Cert.Conv1RefIdeal.nD Cert.Conv1RefIdeal.τ).loc Cert.Conv1RefIdeal.main_arg2) = m ((c.tc : Thread Cert.Conv1Ideal.nD Cert.Conv1Ideal.τ).loc Cert.Conv1Ideal.main_arg2)
      ∧ m' ((c.tc : Thread Cert.Conv1RefIdeal.nD Cert.Conv1RefIdeal.τ).loc Cert.Conv1RefIdeal.main_arg3) = m ((c.tc : Thread Cert.Conv1Ideal.nD Cert.Conv1Ideal.τ).loc Cert.Conv1Ideal.main_arg3)
      ∧ m' ((c.tc : Thread Cert.Conv1RefIdeal.nD Cert.Conv1RefIdeal.τ).loc Cert.Conv1RefIdeal.main_arg4) = m ((c.tc : Thread Cert.Conv1Ideal.nD Cert.Conv1Ideal.τ).loc Cert.Conv1Ideal.main_arg4)
      ∧ m' ((c.tc : Thread Cert.Conv1RefIdeal.nD Cert.Conv1RefIdeal.τ).loc Cert.Conv1RefIdeal.main_arg5) = m ((c.tc : Thread Cert.Conv1Ideal.nD Cert.Conv1Ideal.τ).loc Cert.Conv1Ideal.main_arg5)
      ∧ m' ((c.tc : Thread Cert.Conv1RefIdeal.nD Cert.Conv1RefIdeal.τ).loc Cert.Conv1RefIdeal.main_arg6) = m ((c.tc : Thread Cert.Conv1Ideal.nD Cert.Conv1Ideal.τ).loc Cert.Conv1Ideal.main_arg6)) →
    ∃ (v0 : (c : Dev Cert.Conv1Ideal.nD) → Buf (Elt Ideal) ((c.tc : Thread Cert.Conv1Ideal.nD Cert.Conv1Ideal.τ).loc Cert.Conv1Ideal.main_v81)),
      θ_run (Cert.Conv1Ideal.defs (F := Ideal)) (onTc (τ := Cert.Conv1Ideal.τ) (Cert.Conv1Ideal.main (F := Ideal))) ⟨m, fun _ => 0, g⟩ (fun r => ∀ c : Dev Cert.Conv1Ideal.nD,
          r.2.mem ((c.tc : Thread Cert.Conv1Ideal.nD Cert.Conv1Ideal.τ).loc Cert.Conv1Ideal.main_v81) = v0 c
          ∧ r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
          ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1)
          ∧ r.2.mem ((c.tc : Thread Cert.Conv1Ideal.nD Cert.Conv1Ideal.τ).loc Cert.Conv1Ideal.main_arg2) = m ((c.tc : Thread Cert.Conv1Ideal.nD Cert.Conv1Ideal.τ).loc Cert.Conv1Ideal.main_arg2)
          ∧ r.2.mem ((c.tc : Thread Cert.Conv1Ideal.nD Cert.Conv1Ideal.τ).loc Cert.Conv1Ideal.main_arg3) = m ((c.tc : Thread Cert.Conv1Ideal.nD Cert.Conv1Ideal.τ).loc Cert.Conv1Ideal.main_arg3)
          ∧ r.2.mem ((c.tc : Thread Cert.Conv1Ideal.nD Cert.Conv1Ideal.τ).loc Cert.Conv1Ideal.main_arg4) = m ((c.tc : Thread Cert.Conv1Ideal.nD Cert.Conv1Ideal.τ).loc Cert.Conv1Ideal.main_arg4)
          ∧ r.2.mem ((c.tc : Thread Cert.Conv1Ideal.nD Cert.Conv1Ideal.τ).loc Cert.Conv1Ideal.main_arg5) = m ((c.tc : Thread Cert.Conv1Ideal.nD Cert.Conv1Ideal.τ).loc Cert.Conv1Ideal.main_arg5)
          ∧ r.2.mem ((c.tc : Thread Cert.Conv1Ideal.nD Cert.Conv1Ideal.τ).loc Cert.Conv1Ideal.main_arg6) = m ((c.tc : Thread Cert.Conv1Ideal.nD Cert.Conv1Ideal.τ).loc Cert.Conv1Ideal.main_arg6))
      ∧ θ_run (Cert.Conv1RefIdeal.defs (F := Ideal)) (onTc (τ := Cert.Conv1RefIdeal.τ) (Cert.Conv1RefIdeal.main (F := Ideal))) ⟨m', fun _ => 0, g'⟩ (fun r => ∀ c : Dev Cert.Conv1RefIdeal.nD,
          r.2.mem ((c.tc : Thread Cert.Conv1RefIdeal.nD Cert.Conv1RefIdeal.τ).loc Cert.Conv1RefIdeal.main_v49) = v0 c
          ∧ r.2.mem ((c.tc : Thread Cert.Conv1RefIdeal.nD Cert.Conv1RefIdeal.τ).loc Cert.Conv1RefIdeal.main_arg0) = m' ((c.tc : Thread Cert.Conv1RefIdeal.nD Cert.Conv1RefIdeal.τ).loc Cert.Conv1RefIdeal.main_arg0)
          ∧ r.2.mem ((c.tc : Thread Cert.Conv1RefIdeal.nD Cert.Conv1RefIdeal.τ).loc Cert.Conv1RefIdeal.main_arg1) = m' ((c.tc : Thread Cert.Conv1RefIdeal.nD Cert.Conv1RefIdeal.τ).loc Cert.Conv1RefIdeal.main_arg1)
          ∧ r.2.mem ((c.tc : Thread Cert.Conv1RefIdeal.nD Cert.Conv1RefIdeal.τ).loc Cert.Conv1RefIdeal.main_arg2) = m' ((c.tc : Thread Cert.Conv1RefIdeal.nD Cert.Conv1RefIdeal.τ).loc Cert.Conv1RefIdeal.main_arg2)
          ∧ r.2.mem ((c.tc : Thread Cert.Conv1RefIdeal.nD Cert.Conv1RefIdeal.τ).loc Cert.Conv1RefIdeal.main_arg3) = m' ((c.tc : Thread Cert.Conv1RefIdeal.nD Cert.Conv1RefIdeal.τ).loc Cert.Conv1RefIdeal.main_arg3)
          ∧ r.2.mem ((c.tc : Thread Cert.Conv1RefIdeal.nD Cert.Conv1RefIdeal.τ).loc Cert.Conv1RefIdeal.main_arg4) = m' ((c.tc : Thread Cert.Conv1RefIdeal.nD Cert.Conv1RefIdeal.τ).loc Cert.Conv1RefIdeal.main_arg4)
          ∧ r.2.mem ((c.tc : Thread Cert.Conv1RefIdeal.nD Cert.Conv1RefIdeal.τ).loc Cert.Conv1RefIdeal.main_arg5) = m' ((c.tc : Thread Cert.Conv1RefIdeal.nD Cert.Conv1RefIdeal.τ).loc Cert.Conv1RefIdeal.main_arg5)
          ∧ r.2.mem ((c.tc : Thread Cert.Conv1RefIdeal.nD Cert.Conv1RefIdeal.τ).loc Cert.Conv1RefIdeal.main_arg6) = m' ((c.tc : Thread Cert.Conv1RefIdeal.nD Cert.Conv1RefIdeal.τ).loc Cert.Conv1RefIdeal.main_arg6))

def preserves_Conv2_Conv2Ideal : Prop :=
  True

def algebraic_Conv2Ideal_Conv2RefIdeal_pre_conv2_pre [hConv2Ideal : Cert.Conv2Ideal.Facts] [hConv2RefIdeal : Cert.Conv2RefIdeal.Facts] [hPre_conv2_pre : Cert.Pre_conv2_pre.Facts] : Prop :=
  ∀ (m : (ℓ : Loc Cert.Conv2Ideal.nD Cert.Conv2Ideal.τ Cert.Conv2Ideal.sig) → Buf (Elt Ideal) ℓ) (g : Dev Cert.Conv2Ideal.nD → PrngReg)
    (m' : (ℓ : Loc Cert.Conv2RefIdeal.nD Cert.Conv2RefIdeal.τ Cert.Conv2RefIdeal.sig) → Buf (Elt Ideal) ℓ) (g' : Dev Cert.Conv2RefIdeal.nD → PrngReg), Pre_Conv2Ideal_conv2_pre m →
    (∀ c : Dev Cert.Conv2Ideal.nD,
      m' ((c.tc : Thread Cert.Conv2RefIdeal.nD Cert.Conv2RefIdeal.τ).loc Cert.Conv2RefIdeal.main_arg0) = m ((c.tc : Thread Cert.Conv2Ideal.nD Cert.Conv2Ideal.τ).loc Cert.Conv2Ideal.main_arg0)
      ∧ m' ((c.tc : Thread Cert.Conv2RefIdeal.nD Cert.Conv2RefIdeal.τ).loc Cert.Conv2RefIdeal.main_arg1) = m ((c.tc : Thread Cert.Conv2Ideal.nD Cert.Conv2Ideal.τ).loc Cert.Conv2Ideal.main_arg1)
      ∧ m' ((c.tc : Thread Cert.Conv2RefIdeal.nD Cert.Conv2RefIdeal.τ).loc Cert.Conv2RefIdeal.main_arg2) = m ((c.tc : Thread Cert.Conv2Ideal.nD Cert.Conv2Ideal.τ).loc Cert.Conv2Ideal.main_arg2)
      ∧ m' ((c.tc : Thread Cert.Conv2RefIdeal.nD Cert.Conv2RefIdeal.τ).loc Cert.Conv2RefIdeal.main_arg3) = m ((c.tc : Thread Cert.Conv2Ideal.nD Cert.Conv2Ideal.τ).loc Cert.Conv2Ideal.main_arg3)
      ∧ m' ((c.tc : Thread Cert.Conv2RefIdeal.nD Cert.Conv2RefIdeal.τ).loc Cert.Conv2RefIdeal.main_arg4) = m ((c.tc : Thread Cert.Conv2Ideal.nD Cert.Conv2Ideal.τ).loc Cert.Conv2Ideal.main_arg4)
      ∧ m' ((c.tc : Thread Cert.Conv2RefIdeal.nD Cert.Conv2RefIdeal.τ).loc Cert.Conv2RefIdeal.main_arg5) = m ((c.tc : Thread Cert.Conv2Ideal.nD Cert.Conv2Ideal.τ).loc Cert.Conv2Ideal.main_arg5)) →
    ∃ (v0 : (c : Dev Cert.Conv2Ideal.nD) → Buf (Elt Ideal) ((c.tc : Thread Cert.Conv2Ideal.nD Cert.Conv2Ideal.τ).loc Cert.Conv2Ideal.main_v81)),
      θ_run (Cert.Conv2Ideal.defs (F := Ideal)) (onTc (τ := Cert.Conv2Ideal.τ) (Cert.Conv2Ideal.main (F := Ideal))) ⟨m, fun _ => 0, g⟩ (fun r => ∀ c : Dev Cert.Conv2Ideal.nD,
          r.2.mem ((c.tc : Thread Cert.Conv2Ideal.nD Cert.Conv2Ideal.τ).loc Cert.Conv2Ideal.main_v81) = v0 c
          ∧ r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
          ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
          ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2)
          ∧ r.2.mem ((c.tc : Thread Cert.Conv2Ideal.nD Cert.Conv2Ideal.τ).loc Cert.Conv2Ideal.main_arg3) = m ((c.tc : Thread Cert.Conv2Ideal.nD Cert.Conv2Ideal.τ).loc Cert.Conv2Ideal.main_arg3)
          ∧ r.2.mem ((c.tc : Thread Cert.Conv2Ideal.nD Cert.Conv2Ideal.τ).loc Cert.Conv2Ideal.main_arg4) = m ((c.tc : Thread Cert.Conv2Ideal.nD Cert.Conv2Ideal.τ).loc Cert.Conv2Ideal.main_arg4)
          ∧ r.2.mem ((c.tc : Thread Cert.Conv2Ideal.nD Cert.Conv2Ideal.τ).loc Cert.Conv2Ideal.main_arg5) = m ((c.tc : Thread Cert.Conv2Ideal.nD Cert.Conv2Ideal.τ).loc Cert.Conv2Ideal.main_arg5))
      ∧ θ_run (Cert.Conv2RefIdeal.defs (F := Ideal)) (onTc (τ := Cert.Conv2RefIdeal.τ) (Cert.Conv2RefIdeal.main (F := Ideal))) ⟨m', fun _ => 0, g'⟩ (fun r => ∀ c : Dev Cert.Conv2RefIdeal.nD,
          r.2.mem ((c.tc : Thread Cert.Conv2RefIdeal.nD Cert.Conv2RefIdeal.τ).loc Cert.Conv2RefIdeal.main_v48) = v0 c
          ∧ r.2.mem ((c.tc : Thread Cert.Conv2RefIdeal.nD Cert.Conv2RefIdeal.τ).loc Cert.Conv2RefIdeal.main_arg0) = m' ((c.tc : Thread Cert.Conv2RefIdeal.nD Cert.Conv2RefIdeal.τ).loc Cert.Conv2RefIdeal.main_arg0)
          ∧ r.2.mem ((c.tc : Thread Cert.Conv2RefIdeal.nD Cert.Conv2RefIdeal.τ).loc Cert.Conv2RefIdeal.main_arg1) = m' ((c.tc : Thread Cert.Conv2RefIdeal.nD Cert.Conv2RefIdeal.τ).loc Cert.Conv2RefIdeal.main_arg1)
          ∧ r.2.mem ((c.tc : Thread Cert.Conv2RefIdeal.nD Cert.Conv2RefIdeal.τ).loc Cert.Conv2RefIdeal.main_arg2) = m' ((c.tc : Thread Cert.Conv2RefIdeal.nD Cert.Conv2RefIdeal.τ).loc Cert.Conv2RefIdeal.main_arg2)
          ∧ r.2.mem ((c.tc : Thread Cert.Conv2RefIdeal.nD Cert.Conv2RefIdeal.τ).loc Cert.Conv2RefIdeal.main_arg3) = m' ((c.tc : Thread Cert.Conv2RefIdeal.nD Cert.Conv2RefIdeal.τ).loc Cert.Conv2RefIdeal.main_arg3)
          ∧ r.2.mem ((c.tc : Thread Cert.Conv2RefIdeal.nD Cert.Conv2RefIdeal.τ).loc Cert.Conv2RefIdeal.main_arg4) = m' ((c.tc : Thread Cert.Conv2RefIdeal.nD Cert.Conv2RefIdeal.τ).loc Cert.Conv2RefIdeal.main_arg4)
          ∧ r.2.mem ((c.tc : Thread Cert.Conv2RefIdeal.nD Cert.Conv2RefIdeal.τ).loc Cert.Conv2RefIdeal.main_arg5) = m' ((c.tc : Thread Cert.Conv2RefIdeal.nD Cert.Conv2RefIdeal.τ).loc Cert.Conv2RefIdeal.main_arg5))

def preserves_Head_HeadIdeal : Prop :=
  True

def algebraic_HeadIdeal_HeadRefIdeal_pre_head_pre [hHeadIdeal : Cert.HeadIdeal.Facts] [hHeadRefIdeal : Cert.HeadRefIdeal.Facts] [hPre_head_pre : Cert.Pre_head_pre.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_pre m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)) →
    ∃ (v0 : (c : Dev Cert.HeadIdeal.nD) → Buf (Elt Ideal) ((c.tc : Thread Cert.HeadIdeal.nD Cert.HeadIdeal.τ).loc Cert.HeadIdeal.main_v5)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v5) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v31) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5))

def Claim : Prop :=
  ∃ (hConv1 : Cert.Conv1.Facts) (hConv1Ideal : Cert.Conv1Ideal.Facts) (hConv1RefIdeal : Cert.Conv1RefIdeal.Facts) (hConv2 : Cert.Conv2.Facts) (hConv2Ideal : Cert.Conv2Ideal.Facts) (hConv2RefIdeal : Cert.Conv2RefIdeal.Facts) (hHead : Cert.Head.Facts) (hHeadIdeal : Cert.HeadIdeal.Facts) (hHeadRefIdeal : Cert.HeadRefIdeal.Facts) (hPre_conv1_pre : Cert.Pre_conv1_pre.Facts) (hPre_conv2_pre : Cert.Pre_conv2_pre.Facts) (hPre_head_pre : Cert.Pre_head_pre.Facts),
    quiescent_Conv1 (hConv1 := hConv1)
    ∧ quiescent_Conv1Ideal (hConv1Ideal := hConv1Ideal)
    ∧ quiescent_Conv1Ideal_pre_conv1_pre (hConv1Ideal := hConv1Ideal) (hPre_conv1_pre := hPre_conv1_pre)
    ∧ quiescent_Conv1RefIdeal (hConv1RefIdeal := hConv1RefIdeal)
    ∧ quiescent_Conv1RefIdeal_pre_conv1_pre (hConv1RefIdeal := hConv1RefIdeal) (hPre_conv1_pre := hPre_conv1_pre)
    ∧ quiescent_Conv2 (hConv2 := hConv2)
    ∧ quiescent_Conv2Ideal (hConv2Ideal := hConv2Ideal)
    ∧ quiescent_Conv2Ideal_pre_conv2_pre (hConv2Ideal := hConv2Ideal) (hPre_conv2_pre := hPre_conv2_pre)
    ∧ quiescent_Conv2RefIdeal (hConv2RefIdeal := hConv2RefIdeal)
    ∧ quiescent_Conv2RefIdeal_pre_conv2_pre (hConv2RefIdeal := hConv2RefIdeal) (hPre_conv2_pre := hPre_conv2_pre)
    ∧ quiescent_Head (hHead := hHead)
    ∧ quiescent_HeadIdeal (hHeadIdeal := hHeadIdeal)
    ∧ quiescent_HeadIdeal_pre_head_pre (hHeadIdeal := hHeadIdeal) (hPre_head_pre := hPre_head_pre)
    ∧ quiescent_HeadRefIdeal (hHeadRefIdeal := hHeadRefIdeal)
    ∧ quiescent_HeadRefIdeal_pre_head_pre (hHeadRefIdeal := hHeadRefIdeal) (hPre_head_pre := hPre_head_pre)
    ∧ preserves_Conv1_Conv1Ideal
    ∧ algebraic_Conv1Ideal_Conv1RefIdeal_pre_conv1_pre (hConv1Ideal := hConv1Ideal) (hConv1RefIdeal := hConv1RefIdeal) (hPre_conv1_pre := hPre_conv1_pre)
    ∧ preserves_Conv2_Conv2Ideal
    ∧ algebraic_Conv2Ideal_Conv2RefIdeal_pre_conv2_pre (hConv2Ideal := hConv2Ideal) (hConv2RefIdeal := hConv2RefIdeal) (hPre_conv2_pre := hPre_conv2_pre)
    ∧ preserves_Head_HeadIdeal
    ∧ algebraic_HeadIdeal_HeadRefIdeal_pre_head_pre (hHeadIdeal := hHeadIdeal) (hHeadRefIdeal := hHeadRefIdeal) (hPre_head_pre := hPre_head_pre)
-- ==== Pre_conv1_pre.lean ====
abbrev S8x1x128x128 : Shape := ⟨4, ![8, 1, 128, 128]⟩
abbrev S16384 : Shape := ⟨1, ![16384]⟩
abbrev S129540 : Shape := ⟨1, ![129540]⟩
abbrev S25x32 : Shape := ⟨2, ![25, 32]⟩
abbrev S4 : Shape := ⟨1, ![4]⟩
abbrev S128x128 : Shape := ⟨2, ![128, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S127x127 : Shape := ⟨2, ![127, 127]⟩
abbrev S16129 : Shape := ⟨1, ![16129]⟩
abbrev S127x128 : Shape := ⟨2, ![127, 128]⟩
abbrev S16256 : Shape := ⟨1, ![16256]⟩
abbrev S128x127 : Shape := ⟨2, ![128, 127]⟩

class Facts : Prop where
  shapeCasts_S16384_S128x128 : S16384.ShapeCasts S128x128
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  slices_S128x128_S127x127_1_1 : S128x128.Slices ![1, 1] S127x127
  shapeCasts_S127x127_S16129 : S127x127.ShapeCasts S16129
  slices_S128x128_S127x127_0_0 : S128x128.Slices ![0, 0] S127x127
  slices_S128x128_S127x128_1_0 : S128x128.Slices ![1, 0] S127x128
  shapeCasts_S127x128_S16256 : S127x128.ShapeCasts S16256
  slices_S128x128_S127x128_0_0 : S128x128.Slices ![0, 0] S127x128
  slices_S128x128_S127x127_1_0 : S128x128.Slices ![1, 0] S127x127
  slices_S128x128_S127x127_0_1 : S128x128.Slices ![0, 1] S127x127
  slices_S128x128_S128x127_0_1 : S128x128.Slices ![0, 1] S128x127
  shapeCasts_S128x127_S16256 : S128x127.ShapeCasts S16256
  slices_S128x128_S128x127_0_0 : S128x128.Slices ![0, 0] S128x127
  concatenates_S16129_S16256_S16129_S16256_S16256_S16129_S16256_S16129_S129540_d0 : Shape.Concatenates [S16129, S16256, S16129, S16256, S16256, S16129, S16256, S16129] S129540 0
  bcast_S_S129540 : S_.BroadcastsInDim S129540 (![] : Fin 0 → Fin S129540.rank)
  bcast_S_S8x1x128x128 : S_.BroadcastsInDim S8x1x128x128 (![] : Fin 0 → Fin S8x1x128x128.rank)
  bcast_S_S16384 : S_.BroadcastsInDim S16384 (![] : Fin 0 → Fin S16384.rank)
  bcast_S_S25x32 : S_.BroadcastsInDim S25x32 (![] : Fin 0 → Fin S25x32.rank)
  bcast_S_S4 : S_.BroadcastsInDim S4 (![] : Fin 0 → Fin S4.rank)

variable [Facts]

def fn_where {F : FTy → Type} [FloatOps F] (arg0 : IVec S128 1) (arg1 : FVec F S_ .f32) (arg2 : FVec F S_ .f32) : FVec F S128 .f32 :=
  let v0 : FVec F S128 .f32 := broadcastInDim S128 ![] bcast_S_S128 arg1
  let v1 : FVec F S128 .f32 := broadcastInDim S128 ![] bcast_S_S128 arg2
  let v2 : FVec F S128 .f32 := select arg0 v0 v1
  v2

def fn_part4 {F : FTy → Type} [FloatOps F] (main_arg1 : IVec S16384 32) (main_arg2 : IVec S129540 32) (main_arg3 : IVec S129540 32) (main_arg4 : FVec F S129540 .f32) (main_arg5 : FVec F S25x32 .f32) (main_arg6 : FVec F S4 .f32) (main_v85 : FVec F S129540 .f32) (main_v86 : IVec S129540 32) (main_v87 : IVec S129540 32) (main_v88 : FVec F S8x1x128x128 .f32) (main_cst_4 : FVec F S_ .f32) : IVec S8x1x128x128 1 × IVec S16384 1 × IVec S129540 1 × IVec S129540 1 × IVec S129540 1 × IVec S25x32 1 × IVec S4 1 :=
  let main_v89 : FVec F S8x1x128x128 .f32 := broadcastInDim S8x1x128x128 ![] bcast_S_S8x1x128x128 main_cst_4
  let main_v90 : IVec S8x1x128x128 1 := cmpf .olt main_v88 main_v89
  let main_c_5 : IVec S_ 32 := constantI S_ 32 0#32
  let main_v91 : IVec S16384 32 := broadcastInDim S16384 ![] bcast_S_S16384 main_c_5
  let main_v92 : IVec S16384 1 := cmpi .sge main_arg1 main_v91
  let main_c_6 : IVec S_ 32 := constantI S_ 32 16384#32
  let main_v93 : IVec S16384 32 := broadcastInDim S16384 ![] bcast_S_S16384 main_c_6
  let main_v94 : IVec S16384 1 := cmpi .slt main_arg1 main_v93
  let main_v95 : IVec S16384 1 := andi main_v92 main_v94
  let main_v96 : IVec S129540 1 := cmpi .eq main_arg2 main_v86
  let main_v97 : IVec S129540 1 := cmpi .eq main_arg3 main_v87
  let main_v98 : FVec F S129540 .f32 := id main_v85
  let main_v99 : IVec S129540 1 := cmpf .oeq main_arg4 main_v98
  let main_v100 : FVec F S25x32 .f32 := Host.absf main_arg5
  let main_cst_7 : FVec F S_ .f32 := constant S_ .f32 0x7F800000#32
  let main_v101 : FVec F S25x32 .f32 := broadcastInDim S25x32 ![] bcast_S_S25x32 main_cst_7
  let main_v102 : IVec S25x32 1 := cmpf .olt main_v100 main_v101
  let main_v103 : FVec F S4 .f32 := Host.absf main_arg6
  let main_cst_8 : FVec F S_ .f32 := constant S_ .f32 0x7F800000#32
  let main_v104 : FVec F S4 .f32 := broadcastInDim S4 ![] bcast_S_S4 main_cst_8
  let main_v105 : IVec S4 1 := cmpf .olt main_v103 main_v104
  (main_v90, main_v95, main_v96, main_v97, main_v99, main_v102, main_v105)

def fn_part3 {F : FTy → Type} [FloatOps F] (main_arg0 : FVec F S8x1x128x128 .f32) (main_arg1 : IVec S16384 32) (main_arg2 : IVec S129540 32) (main_arg3 : IVec S129540 32) (main_arg4 : FVec F S129540 .f32) (main_arg5 : FVec F S25x32 .f32) (main_arg6 : FVec F S4 .f32) (main_v1 : IVec S128x128 32) (main_v15 : FVec F S128x128 .f32) (main_v17 : IVec S16129 32) (main_v19 : IVec S16129 32) (main_v21 : FVec F S16129 .f32) (main_v23 : FVec F S16129 .f32) (main_v25 : IVec S16256 32) (main_v27 : IVec S16256 32) (main_v29 : FVec F S16256 .f32) (main_v31 : FVec F S16256 .f32) (main_v33 : IVec S16129 32) (main_v35 : IVec S16129 32) (main_v37 : FVec F S16129 .f32) (main_v39 : FVec F S16129 .f32) (main_v41 : IVec S16256 32) (main_v43 : IVec S16256 32) (main_v45 : FVec F S16256 .f32) (main_v47 : FVec F S16256 .f32) (main_v49 : IVec S16256 32) (main_v51 : IVec S16256 32) (main_v53 : FVec F S16256 .f32) (main_v55 : FVec F S16256 .f32) (main_v57 : IVec S16129 32) (main_v59 : IVec S16129 32) (main_v61 : FVec F S16129 .f32) (main_v63 : FVec F S16129 .f32) (main_v65 : IVec S16256 32) (main_v66 : IVec S127x128 32) : IVec S8x1x128x128 1 × IVec S16384 1 × IVec S129540 1 × IVec S129540 1 × IVec S129540 1 × IVec S25x32 1 × IVec S4 1 :=
  let main_v67 : IVec S16256 32 := shapeCast S16256 main_v66 shapeCasts_S127x128_S16256
  let main_v68 : FVec F S127x128 .f32 := (extractStridedSlice S127x128 ![0, 0] · slices_S128x128_S127x128_0_0) main_v15
  let main_v69 : FVec F S16256 .f32 := shapeCast S16256 main_v68 shapeCasts_S127x128_S16256
  let main_v70 : FVec F S127x128 .f32 := (extractStridedSlice S127x128 ![1, 0] · slices_S128x128_S127x128_1_0) main_v15
  let main_v71 : FVec F S16256 .f32 := shapeCast S16256 main_v70 shapeCasts_S127x128_S16256
  let main_v72 : IVec S127x127 32 := (extractStridedSlice S127x127 ![0, 0] · slices_S128x128_S127x127_0_0) main_v1
  let main_v73 : IVec S16129 32 := shapeCast S16129 main_v72 shapeCasts_S127x127_S16129
  let main_v74 : IVec S127x127 32 := (extractStridedSlice S127x127 ![1, 1] · slices_S128x128_S127x127_1_1) main_v1
  let main_v75 : IVec S16129 32 := shapeCast S16129 main_v74 shapeCasts_S127x127_S16129
  let main_v76 : FVec F S127x127 .f32 := (extractStridedSlice S127x127 ![0, 0] · slices_S128x128_S127x127_0_0) main_v15
  let main_v77 : FVec F S16129 .f32 := shapeCast S16129 main_v76 shapeCasts_S127x127_S16129
  let main_v78 : FVec F S127x127 .f32 := (extractStridedSlice S127x127 ![1, 1] · slices_S128x128_S127x127_1_1) main_v15
  let main_v79 : FVec F S16129 .f32 := shapeCast S16129 main_v78 shapeCasts_S127x127_S16129
  let main_v80 : FVec F S129540 .f32 := concatenate S129540 0 [⟨S16129, main_v21⟩, ⟨S16256, main_v29⟩, ⟨S16129, main_v37⟩, ⟨S16256, main_v45⟩, ⟨S16256, main_v53⟩, ⟨S16129, main_v61⟩, ⟨S16256, main_v69⟩, ⟨S16129, main_v77⟩] concatenates_S16129_S16256_S16129_S16256_S16256_S16129_S16256_S16129_S129540_d0
  let main_v81 : FVec F S129540 .f32 := concatenate S129540 0 [⟨S16129, main_v23⟩, ⟨S16256, main_v31⟩, ⟨S16129, main_v39⟩, ⟨S16256, main_v47⟩, ⟨S16256, main_v55⟩, ⟨S16129, main_v63⟩, ⟨S16256, main_v71⟩, ⟨S16129, main_v79⟩] concatenates_S16129_S16256_S16129_S16256_S16256_S16129_S16256_S16129_S129540_d0
  let main_v82 : FVec F S129540 .f32 := mulf main_v80 main_v81
  let main_v83 : FVec F S129540 .f32 := Host.sqrt main_v82
  let main_cst_3 : FVec F S_ .f32 := constant S_ .f32 0xBF800000#32
  let main_v84 : FVec F S129540 .f32 := broadcastInDim S129540 ![] bcast_S_S129540 main_cst_3
  let main_v85 : FVec F S129540 .f32 := Host.divf main_v84 main_v83
  let main_v86 : IVec S129540 32 := concatenate S129540 0 [⟨S16129, main_v17⟩, ⟨S16256, main_v25⟩, ⟨S16129, main_v33⟩, ⟨S16256, main_v41⟩, ⟨S16256, main_v49⟩, ⟨S16129, main_v57⟩, ⟨S16256, main_v65⟩, ⟨S16129, main_v73⟩] concatenates_S16129_S16256_S16129_S16256_S16256_S16129_S16256_S16129_S129540_d0
  let main_v87 : IVec S129540 32 := concatenate S129540 0 [⟨S16129, main_v19⟩, ⟨S16256, main_v27⟩, ⟨S16129, main_v35⟩, ⟨S16256, main_v43⟩, ⟨S16256, main_v51⟩, ⟨S16129, main_v59⟩, ⟨S16256, main_v67⟩, ⟨S16129, main_v75⟩] concatenates_S16129_S16256_S16129_S16256_S16256_S16129_S16256_S16129_S129540_d0
  let main_v88 : FVec F S8x1x128x128 .f32 := Host.absf main_arg0
  let main_cst_4 : FVec F S_ .f32 := constant S_ .f32 0x7F800000#32
  fn_part4 (F := F) main_arg1 main_arg2 main_arg3 main_arg4 main_arg5 main_arg6 main_v85 main_v86 main_v87 main_v88 main_cst_4

def fn_part2 {F : FTy → Type} [FloatOps F] (main_arg0 : FVec F S8x1x128x128 .f32) (main_arg1 : IVec S16384 32) (main_arg2 : IVec S129540 32) (main_arg3 : IVec S129540 32) (main_arg4 : FVec F S129540 .f32) (main_arg5 : FVec F S25x32 .f32) (main_arg6 : FVec F S4 .f32) (main_v1 : IVec S128x128 32) (main_v15 : FVec F S128x128 .f32) (main_v17 : IVec S16129 32) (main_v19 : IVec S16129 32) (main_v21 : FVec F S16129 .f32) (main_v23 : FVec F S16129 .f32) (main_v25 : IVec S16256 32) (main_v27 : IVec S16256 32) (main_v29 : FVec F S16256 .f32) (main_v31 : FVec F S16256 .f32) (main_v33 : IVec S16129 32) (main_v35 : IVec S16129 32) (main_v37 : FVec F S16129 .f32) (main_v39 : FVec F S16129 .f32) (main_v41 : IVec S16256 32) (main_v42 : IVec S128x127 32) : IVec S8x1x128x128 1 × IVec S16384 1 × IVec S129540 1 × IVec S129540 1 × IVec S129540 1 × IVec S25x32 1 × IVec S4 1 :=
  let main_v43 : IVec S16256 32 := shapeCast S16256 main_v42 shapeCasts_S128x127_S16256
  let main_v44 : FVec F S128x127 .f32 := (extractStridedSlice S128x127 ![0, 1] · slices_S128x128_S128x127_0_1) main_v15
  let main_v45 : FVec F S16256 .f32 := shapeCast S16256 main_v44 shapeCasts_S128x127_S16256
  let main_v46 : FVec F S128x127 .f32 := (extractStridedSlice S128x127 ![0, 0] · slices_S128x128_S128x127_0_0) main_v15
  let main_v47 : FVec F S16256 .f32 := shapeCast S16256 main_v46 shapeCasts_S128x127_S16256
  let main_v48 : IVec S128x127 32 := (extractStridedSlice S128x127 ![0, 0] · slices_S128x128_S128x127_0_0) main_v1
  let main_v49 : IVec S16256 32 := shapeCast S16256 main_v48 shapeCasts_S128x127_S16256
  let main_v50 : IVec S128x127 32 := (extractStridedSlice S128x127 ![0, 1] · slices_S128x128_S128x127_0_1) main_v1
  let main_v51 : IVec S16256 32 := shapeCast S16256 main_v50 shapeCasts_S128x127_S16256
  let main_v52 : FVec F S128x127 .f32 := (extractStridedSlice S128x127 ![0, 0] · slices_S128x128_S128x127_0_0) main_v15
  let main_v53 : FVec F S16256 .f32 := shapeCast S16256 main_v52 shapeCasts_S128x127_S16256
  let main_v54 : FVec F S128x127 .f32 := (extractStridedSlice S128x127 ![0, 1] · slices_S128x128_S128x127_0_1) main_v15
  let main_v55 : FVec F S16256 .f32 := shapeCast S16256 main_v54 shapeCasts_S128x127_S16256
  let main_v56 : IVec S127x127 32 := (extractStridedSlice S127x127 ![0, 1] · slices_S128x128_S127x127_0_1) main_v1
  let main_v57 : IVec S16129 32 := shapeCast S16129 main_v56 shapeCasts_S127x127_S16129
  let main_v58 : IVec S127x127 32 := (extractStridedSlice S127x127 ![1, 0] · slices_S128x128_S127x127_1_0) main_v1
  let main_v59 : IVec S16129 32 := shapeCast S16129 main_v58 shapeCasts_S127x127_S16129
  let main_v60 : FVec F S127x127 .f32 := (extractStridedSlice S127x127 ![0, 1] · slices_S128x128_S127x127_0_1) main_v15
  let main_v61 : FVec F S16129 .f32 := shapeCast S16129 main_v60 shapeCasts_S127x127_S16129
  let main_v62 : FVec F S127x127 .f32 := (extractStridedSlice S127x127 ![1, 0] · slices_S128x128_S127x127_1_0) main_v15
  let main_v63 : FVec F S16129 .f32 := shapeCast S16129 main_v62 shapeCasts_S127x127_S16129
  let main_v64 : IVec S127x128 32 := (extractStridedSlice S127x128 ![0, 0] · slices_S128x128_S127x128_0_0) main_v1
  let main_v65 : IVec S16256 32 := shapeCast S16256 main_v64 shapeCasts_S127x128_S16256
  let main_v66 : IVec S127x128 32 := (extractStridedSlice S127x128 ![1, 0] · slices_S128x128_S127x128_1_0) main_v1
  fn_part3 (F := F) main_arg0 main_arg1 main_arg2 main_arg3 main_arg4 main_arg5 main_arg6 main_v1 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v66

def fn_part1 {F : FTy → Type} [FloatOps F] (main_arg0 : FVec F S8x1x128x128 .f32) (main_arg1 : IVec S16384 32) (main_arg2 : IVec S129540 32) (main_arg3 : IVec S129540 32) (main_arg4 : FVec F S129540 .f32) (main_arg5 : FVec F S25x32 .f32) (main_arg6 : FVec F S4 .f32) (main_v1 : IVec S128x128 32) (main_v15 : FVec F S128x128 .f32) (main_v17 : IVec S16129 32) (main_v18 : IVec S127x127 32) : IVec S8x1x128x128 1 × IVec S16384 1 × IVec S129540 1 × IVec S129540 1 × IVec S129540 1 × IVec S25x32 1 × IVec S4 1 :=
  let main_v19 : IVec S16129 32 := shapeCast S16129 main_v18 shapeCasts_S127x127_S16129
  let main_v20 : FVec F S127x127 .f32 := (extractStridedSlice S127x127 ![1, 1] · slices_S128x128_S127x127_1_1) main_v15
  let main_v21 : FVec F S16129 .f32 := shapeCast S16129 main_v20 shapeCasts_S127x127_S16129
  let main_v22 : FVec F S127x127 .f32 := (extractStridedSlice S127x127 ![0, 0] · slices_S128x128_S127x127_0_0) main_v15
  let main_v23 : FVec F S16129 .f32 := shapeCast S16129 main_v22 shapeCasts_S127x127_S16129
  let main_v24 : IVec S127x128 32 := (extractStridedSlice S127x128 ![1, 0] · slices_S128x128_S127x128_1_0) main_v1
  let main_v25 : IVec S16256 32 := shapeCast S16256 main_v24 shapeCasts_S127x128_S16256
  let main_v26 : IVec S127x128 32 := (extractStridedSlice S127x128 ![0, 0] · slices_S128x128_S127x128_0_0) main_v1
  let main_v27 : IVec S16256 32 := shapeCast S16256 main_v26 shapeCasts_S127x128_S16256
  let main_v28 : FVec F S127x128 .f32 := (extractStridedSlice S127x128 ![1, 0] · slices_S128x128_S127x128_1_0) main_v15
  let main_v29 : FVec F S16256 .f32 := shapeCast S16256 main_v28 shapeCasts_S127x128_S16256
  let main_v30 : FVec F S127x128 .f32 := (extractStridedSlice S127x128 ![0, 0] · slices_S128x128_S127x128_0_0) main_v15
  let main_v31 : FVec F S16256 .f32 := shapeCast S16256 main_v30 shapeCasts_S127x128_S16256
  let main_v32 : IVec S127x127 32 := (extractStridedSlice S127x127 ![1, 0] · slices_S128x128_S127x127_1_0) main_v1
  let main_v33 : IVec S16129 32 := shapeCast S16129 main_v32 shapeCasts_S127x127_S16129
  let main_v34 : IVec S127x127 32 := (extractStridedSlice S127x127 ![0, 1] · slices_S128x128_S127x127_0_1) main_v1
  let main_v35 : IVec S16129 32 := shapeCast S16129 main_v34 shapeCasts_S127x127_S16129
  let main_v36 : FVec F S127x127 .f32 := (extractStridedSlice S127x127 ![1, 0] · slices_S128x128_S127x127_1_0) main_v15
  let main_v37 : FVec F S16129 .f32 := shapeCast S16129 main_v36 shapeCasts_S127x127_S16129
  let main_v38 : FVec F S127x127 .f32 := (extractStridedSlice S127x127 ![0, 1] · slices_S128x128_S127x127_0_1) main_v15
  let main_v39 : FVec F S16129 .f32 := shapeCast S16129 main_v38 shapeCasts_S127x127_S16129
  let main_v40 : IVec S128x127 32 := (extractStridedSlice S128x127 ![0, 1] · slices_S128x128_S128x127_0_1) main_v1
  let main_v41 : IVec S16256 32 := shapeCast S16256 main_v40 shapeCasts_S128x127_S16256
  let main_v42 : IVec S128x127 32 := (extractStridedSlice S128x127 ![0, 0] · slices_S128x128_S128x127_0_0) main_v1
  fn_part2 (F := F) main_arg0 main_arg1 main_arg2 main_arg3 main_arg4 main_arg5 main_arg6 main_v1 main_v15 main_v17 main_v19 main_v21 main_v23 main_v25 main_v27 main_v29 main_v31 main_v33 main_v35 main_v37 main_v39 main_v41 main_v42

def fn {F : FTy → Type} [FloatOps F] (main_arg0 : FVec F S8x1x128x128 .f32) (main_arg1 : IVec S16384 32) (main_arg2 : IVec S129540 32) (main_arg3 : IVec S129540 32) (main_arg4 : FVec F S129540 .f32) (main_arg5 : FVec F S25x32 .f32) (main_arg6 : FVec F S4 .f32) : IVec S8x1x128x128 1 × IVec S16384 1 × IVec S129540 1 × IVec S129540 1 × IVec S129540 1 × IVec S25x32 1 × IVec S4 1 :=
  let main_v0 : IVec S16384 32 := iotaInDim S16384 32 0
  let main_v1 : IVec S128x128 32 := shapeCast S128x128 main_v0 shapeCasts_S16384_S128x128
  let main_v2 : IVec S128 32 := iotaInDim S128 32 0
  let main_c : IVec S_ 32 := constantI S_ 32 0#32
  let main_v3 : IVec S128 32 := broadcastInDim S128 ![] bcast_S_S128 main_c
  let main_v4 : IVec S128 1 := cmpi .eq main_v2 main_v3
  let main_c_0 : IVec S_ 32 := constantI S_ 32 127#32
  let main_v5 : IVec S128 32 := broadcastInDim S128 ![] bcast_S_S128 main_c_0
  let main_v6 : IVec S128 1 := cmpi .eq main_v2 main_v5
  let main_v7 : IVec S128 1 := ori main_v4 main_v6
  let main_cst : FVec F S_ .f32 := constant S_ .f32 0x40000000#32
  let main_cst_1 : FVec F S_ .f32 := constant S_ .f32 0x40400000#32
  let main_v8 : FVec F S128 .f32 := fn_where (F := F) main_v7 main_cst main_cst_1
  let main_v9 : FVec F S128x1 .f32 := broadcastInDim S128x1 ![0] bcast_S128_S128x1_0 main_v8
  let main_v10 : FVec F S1x128 .f32 := broadcastInDim S1x128 ![1] bcast_S128_S1x128_1 main_v8
  let main_v11 : FVec F S128x128 .f32 := broadcastInDim S128x128 ![0, 1] bcast_S128x1_S128x128_0_1 main_v9
  let main_v12 : FVec F S128x128 .f32 := broadcastInDim S128x128 ![0, 1] bcast_S1x128_S128x128_0_1 main_v10
  let main_v13 : FVec F S128x128 .f32 := mulf main_v11 main_v12
  let main_cst_2 : FVec F S_ .f32 := constant S_ .f32 0x3F800000#32
  let main_v14 : FVec F S128x128 .f32 := broadcastInDim S128x128 ![] bcast_S_S128x128 main_cst_2
  let main_v15 : FVec F S128x128 .f32 := subf main_v13 main_v14
  let main_v16 : IVec S127x127 32 := (extractStridedSlice S127x127 ![1, 1] · slices_S128x128_S127x127_1_1) main_v1
  let main_v17 : IVec S16129 32 := shapeCast S16129 main_v16 shapeCasts_S127x127_S16129
  let main_v18 : IVec S127x127 32 := (extractStridedSlice S127x127 ![0, 0] · slices_S128x128_S127x127_0_0) main_v1
  fn_part1 (F := F) main_arg0 main_arg1 main_arg2 main_arg3 main_arg4 main_arg5 main_arg6 main_v1 main_v15 main_v17 main_v18
-- ==== Pre_conv2_pre.lean ====
abbrev S256x4096 : Shape := ⟨2, ![256, 4096]⟩
abbrev S32004 : Shape := ⟨1, ![32004]⟩
abbrev S800x64 : Shape := ⟨2, ![800, 64]⟩
abbrev S4 : Shape := ⟨1, ![4]⟩
abbrev S4096 : Shape := ⟨1, ![4096]⟩
abbrev S64x64 : Shape := ⟨2, ![64, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S63x63 : Shape := ⟨2, ![63, 63]⟩
abbrev S3969 : Shape := ⟨1, ![3969]⟩
abbrev S63x64 : Shape := ⟨2, ![63, 64]⟩
abbrev S4032 : Shape := ⟨1, ![4032]⟩
abbrev S64x63 : Shape := ⟨2, ![64, 63]⟩

class Facts : Prop where
  shapeCasts_S4096_S64x64 : S4096.ShapeCasts S64x64
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  slices_S64x64_S63x63_1_1 : S64x64.Slices ![1, 1] S63x63
  shapeCasts_S63x63_S3969 : S63x63.ShapeCasts S3969
  slices_S64x64_S63x63_0_0 : S64x64.Slices ![0, 0] S63x63
  slices_S64x64_S63x64_1_0 : S64x64.Slices ![1, 0] S63x64
  shapeCasts_S63x64_S4032 : S63x64.ShapeCasts S4032
  slices_S64x64_S63x64_0_0 : S64x64.Slices ![0, 0] S63x64
  slices_S64x64_S63x63_1_0 : S64x64.Slices ![1, 0] S63x63
  slices_S64x64_S63x63_0_1 : S64x64.Slices ![0, 1] S63x63
  slices_S64x64_S64x63_0_1 : S64x64.Slices ![0, 1] S64x63
  shapeCasts_S64x63_S4032 : S64x63.ShapeCasts S4032
  slices_S64x64_S64x63_0_0 : S64x64.Slices ![0, 0] S64x63
  concatenates_S3969_S4032_S3969_S4032_S4032_S3969_S4032_S3969_S32004_d0 : Shape.Concatenates [S3969, S4032, S3969, S4032, S4032, S3969, S4032, S3969] S32004 0
  bcast_S_S32004 : S_.BroadcastsInDim S32004 (![] : Fin 0 → Fin S32004.rank)
  bcast_S_S256x4096 : S_.BroadcastsInDim S256x4096 (![] : Fin 0 → Fin S256x4096.rank)
  bcast_S_S800x64 : S_.BroadcastsInDim S800x64 (![] : Fin 0 → Fin S800x64.rank)
  bcast_S_S4 : S_.BroadcastsInDim S4 (![] : Fin 0 → Fin S4.rank)

variable [Facts]

def fn_where {F : FTy → Type} [FloatOps F] (arg0 : IVec S64 1) (arg1 : FVec F S_ .f32) (arg2 : FVec F S_ .f32) : FVec F S64 .f32 :=
  let v0 : FVec F S64 .f32 := broadcastInDim S64 ![] bcast_S_S64 arg1
  let v1 : FVec F S64 .f32 := broadcastInDim S64 ![] bcast_S_S64 arg2
  let v2 : FVec F S64 .f32 := select arg0 v0 v1
  v2

def fn_part4 {F : FTy → Type} [FloatOps F] (main_arg1 : IVec S32004 32) (main_arg2 : IVec S32004 32) (main_arg3 : FVec F S32004 .f32) (main_arg4 : FVec F S800x64 .f32) (main_arg5 : FVec F S4 .f32) (main_v85 : FVec F S32004 .f32) (main_v86 : IVec S32004 32) (main_v87 : IVec S32004 32) (main_v88 : FVec F S256x4096 .f32) (main_cst_4 : FVec F S_ .f32) : IVec S256x4096 1 × IVec S32004 1 × IVec S32004 1 × IVec S32004 1 × IVec S800x64 1 × IVec S4 1 :=
  let main_v89 : FVec F S256x4096 .f32 := broadcastInDim S256x4096 ![] bcast_S_S256x4096 main_cst_4
  let main_v90 : IVec S256x4096 1 := cmpf .olt main_v88 main_v89
  let main_v91 : IVec S32004 1 := cmpi .eq main_arg1 main_v86
  let main_v92 : IVec S32004 1 := cmpi .eq main_arg2 main_v87
  let main_v93 : FVec F S32004 .f32 := id main_v85
  let main_v94 : IVec S32004 1 := cmpf .oeq main_arg3 main_v93
  let main_v95 : FVec F S800x64 .f32 := Host.absf main_arg4
  let main_cst_5 : FVec F S_ .f32 := constant S_ .f32 0x7F800000#32
  let main_v96 : FVec F S800x64 .f32 := broadcastInDim S800x64 ![] bcast_S_S800x64 main_cst_5
  let main_v97 : IVec S800x64 1 := cmpf .olt main_v95 main_v96
  let main_v98 : FVec F S4 .f32 := Host.absf main_arg5
  let main_cst_6 : FVec F S_ .f32 := constant S_ .f32 0x7F800000#32
  let main_v99 : FVec F S4 .f32 := broadcastInDim S4 ![] bcast_S_S4 main_cst_6
  let main_v100 : IVec S4 1 := cmpf .olt main_v98 main_v99
  (main_v90, main_v91, main_v92, main_v94, main_v97, main_v100)

def fn_part3 {F : FTy → Type} [FloatOps F] (main_arg0 : FVec F S256x4096 .f32) (main_arg1 : IVec S32004 32) (main_arg2 : IVec S32004 32) (main_arg3 : FVec F S32004 .f32) (main_arg4 : FVec F S800x64 .f32) (main_arg5 : FVec F S4 .f32) (main_v1 : IVec S64x64 32) (main_v15 : FVec F S64x64 .f32) (main_v17 : IVec S3969 32) (main_v19 : IVec S3969 32) (main_v21 : FVec F S3969 .f32) (main_v23 : FVec F S3969 .f32) (main_v25 : IVec S4032 32) (main_v27 : IVec S4032 32) (main_v29 : FVec F S4032 .f32) (main_v31 : FVec F S4032 .f32) (main_v33 : IVec S3969 32) (main_v35 : IVec S3969 32) (main_v37 : FVec F S3969 .f32) (main_v39 : FVec F S3969 .f32) (main_v41 : IVec S4032 32) (main_v43 : IVec S4032 32) (main_v45 : FVec F S4032 .f32) (main_v47 : FVec F S4032 .f32) (main_v49 : IVec S4032 32) (main_v51 : IVec S4032 32) (main_v53 : FVec F S4032 .f32) (main_v55 : FVec F S4032 .f32) (main_v57 : IVec S3969 32) (main_v59 : IVec S3969 32) (main_v61 : FVec F S3969 .f32) (main_v63 : FVec F S3969 .f32) (main_v65 : IVec S4032 32) (main_v66 : IVec S63x64 32) : IVec S256x4096 1 × IVec S32004 1 × IVec S32004 1 × IVec S32004 1 × IVec S800x64 1 × IVec S4 1 :=
  let main_v67 : IVec S4032 32 := shapeCast S4032 main_v66 shapeCasts_S63x64_S4032
  let main_v68 : FVec F S63x64 .f32 := (extractStridedSlice S63x64 ![0, 0] · slices_S64x64_S63x64_0_0) main_v15
  let main_v69 : FVec F S4032 .f32 := shapeCast S4032 main_v68 shapeCasts_S63x64_S4032
  let main_v70 : FVec F S63x64 .f32 := (extractStridedSlice S63x64 ![1, 0] · slices_S64x64_S63x64_1_0) main_v15
  let main_v71 : FVec F S4032 .f32 := shapeCast S4032 main_v70 shapeCasts_S63x64_S4032
  let main_v72 : IVec S63x63 32 := (extractStridedSlice S63x63 ![0, 0] · slices_S64x64_S63x63_0_0) main_v1
  let main_v73 : IVec S3969 32 := shapeCast S3969 main_v72 shapeCasts_S63x63_S3969
  let main_v74 : IVec S63x63 32 := (extractStridedSlice S63x63 ![1, 1] · slices_S64x64_S63x63_1_1) main_v1
  let main_v75 : IVec S3969 32 := shapeCast S3969 main_v74 shapeCasts_S63x63_S3969
  let main_v76 : FVec F S63x63 .f32 := (extractStridedSlice S63x63 ![0, 0] · slices_S64x64_S63x63_0_0) main_v15
  let main_v77 : FVec F S3969 .f32 := shapeCast S3969 main_v76 shapeCasts_S63x63_S3969
  let main_v78 : FVec F S63x63 .f32 := (extractStridedSlice S63x63 ![1, 1] · slices_S64x64_S63x63_1_1) main_v15
  let main_v79 : FVec F S3969 .f32 := shapeCast S3969 main_v78 shapeCasts_S63x63_S3969
  let main_v80 : FVec F S32004 .f32 := concatenate S32004 0 [⟨S3969, main_v21⟩, ⟨S4032, main_v29⟩, ⟨S3969, main_v37⟩, ⟨S4032, main_v45⟩, ⟨S4032, main_v53⟩, ⟨S3969, main_v61⟩, ⟨S4032, main_v69⟩, ⟨S3969, main_v77⟩] concatenates_S3969_S4032_S3969_S4032_S4032_S3969_S4032_S3969_S32004_d0
  let main_v81 : FVec F S32004 .f32 := concatenate S32004 0 [⟨S3969, main_v23⟩, ⟨S4032, main_v31⟩, ⟨S3969, main_v39⟩, ⟨S4032, main_v47⟩, ⟨S4032, main_v55⟩, ⟨S3969, main_v63⟩, ⟨S4032, main_v71⟩, ⟨S3969, main_v79⟩] concatenates_S3969_S4032_S3969_S4032_S4032_S3969_S4032_S3969_S32004_d0
  let main_v82 : FVec F S32004 .f32 := mulf main_v80 main_v81
  let main_v83 : FVec F S32004 .f32 := Host.sqrt main_v82
  let main_cst_3 : FVec F S_ .f32 := constant S_ .f32 0xBF800000#32
  let main_v84 : FVec F S32004 .f32 := broadcastInDim S32004 ![] bcast_S_S32004 main_cst_3
  let main_v85 : FVec F S32004 .f32 := Host.divf main_v84 main_v83
  let main_v86 : IVec S32004 32 := concatenate S32004 0 [⟨S3969, main_v17⟩, ⟨S4032, main_v25⟩, ⟨S3969, main_v33⟩, ⟨S4032, main_v41⟩, ⟨S4032, main_v49⟩, ⟨S3969, main_v57⟩, ⟨S4032, main_v65⟩, ⟨S3969, main_v73⟩] concatenates_S3969_S4032_S3969_S4032_S4032_S3969_S4032_S3969_S32004_d0
  let main_v87 : IVec S32004 32 := concatenate S32004 0 [⟨S3969, main_v19⟩, ⟨S4032, main_v27⟩, ⟨S3969, main_v35⟩, ⟨S4032, main_v43⟩, ⟨S4032, main_v51⟩, ⟨S3969, main_v59⟩, ⟨S4032, main_v67⟩, ⟨S3969, main_v75⟩] concatenates_S3969_S4032_S3969_S4032_S4032_S3969_S4032_S3969_S32004_d0
  let main_v88 : FVec F S256x4096 .f32 := Host.absf main_arg0
  let main_cst_4 : FVec F S_ .f32 := constant S_ .f32 0x7F800000#32
  fn_part4 (F := F) main_arg1 main_arg2 main_arg3 main_arg4 main_arg5 main_v85 main_v86 main_v87 main_v88 main_cst_4

def fn_part2 {F : FTy → Type} [FloatOps F] (main_arg0 : FVec F S256x4096 .f32) (main_arg1 : IVec S32004 32) (main_arg2 : IVec S32004 32) (main_arg3 : FVec F S32004 .f32) (main_arg4 : FVec F S800x64 .f32) (main_arg5 : FVec F S4 .f32) (main_v1 : IVec S64x64 32) (main_v15 : FVec F S64x64 .f32) (main_v17 : IVec S3969 32) (main_v19 : IVec S3969 32) (main_v21 : FVec F S3969 .f32) (main_v23 : FVec F S3969 .f32) (main_v25 : IVec S4032 32) (main_v27 : IVec S4032 32) (main_v29 : FVec F S4032 .f32) (main_v31 : FVec F S4032 .f32) (main_v33 : IVec S3969 32) (main_v35 : IVec S3969 32) (main_v37 : FVec F S3969 .f32) (main_v39 : FVec F S3969 .f32) (main_v41 : IVec S4032 32) (main_v42 : IVec S64x63 32) : IVec S256x4096 1 × IVec S32004 1 × IVec S32004 1 × IVec S32004 1 × IVec S800x64 1 × IVec S4 1 :=
  let main_v43 : IVec S4032 32 := shapeCast S4032 main_v42 shapeCasts_S64x63_S4032
  let main_v44 : FVec F S64x63 .f32 := (extractStridedSlice S64x63 ![0, 1] · slices_S64x64_S64x63_0_1) main_v15
  let main_v45 : FVec F S4032 .f32 := shapeCast S4032 main_v44 shapeCasts_S64x63_S4032
  let main_v46 : FVec F S64x63 .f32 := (extractStridedSlice S64x63 ![0, 0] · slices_S64x64_S64x63_0_0) main_v15
  let main_v47 : FVec F S4032 .f32 := shapeCast S4032 main_v46 shapeCasts_S64x63_S4032
  let main_v48 : IVec S64x63 32 := (extractStridedSlice S64x63 ![0, 0] · slices_S64x64_S64x63_0_0) main_v1
  let main_v49 : IVec S4032 32 := shapeCast S4032 main_v48 shapeCasts_S64x63_S4032
  let main_v50 : IVec S64x63 32 := (extractStridedSlice S64x63 ![0, 1] · slices_S64x64_S64x63_0_1) main_v1
  let main_v51 : IVec S4032 32 := shapeCast S4032 main_v50 shapeCasts_S64x63_S4032
  let main_v52 : FVec F S64x63 .f32 := (extractStridedSlice S64x63 ![0, 0] · slices_S64x64_S64x63_0_0) main_v15
  let main_v53 : FVec F S4032 .f32 := shapeCast S4032 main_v52 shapeCasts_S64x63_S4032
  let main_v54 : FVec F S64x63 .f32 := (extractStridedSlice S64x63 ![0, 1] · slices_S64x64_S64x63_0_1) main_v15
  let main_v55 : FVec F S4032 .f32 := shapeCast S4032 main_v54 shapeCasts_S64x63_S4032
  let main_v56 : IVec S63x63 32 := (extractStridedSlice S63x63 ![0, 1] · slices_S64x64_S63x63_0_1) main_v1
  let main_v57 : IVec S3969 32 := shapeCast S3969 main_v56 shapeCasts_S63x63_S3969
  let main_v58 : IVec S63x63 32 := (extractStridedSlice S63x63 ![1, 0] · slices_S64x64_S63x63_1_0) main_v1
  let main_v59 : IVec S3969 32 := shapeCast S3969 main_v58 shapeCasts_S63x63_S3969
  let main_v60 : FVec F S63x63 .f32 := (extractStridedSlice S63x63 ![0, 1] · slices_S64x64_S63x63_0_1) main_v15
  let main_v61 : FVec F S3969 .f32 := shapeCast S3969 main_v60 shapeCasts_S63x63_S3969
  let main_v62 : FVec F S63x63 .f32 := (extractStridedSlice S63x63 ![1, 0] · slices_S64x64_S63x63_1_0) main_v15
  let main_v63 : FVec F S3969 .f32 := shapeCast S3969 main_v62 shapeCasts_S63x63_S3969
  let main_v64 : IVec S63x64 32 := (extractStridedSlice S63x64 ![0, 0] · slices_S64x64_S63x64_0_0) main_v1
  let main_v65 : IVec S4032 32 := shapeCast S4032 main_v64 shapeCasts_S63x64_S4032
  let main_v66 : IVec S63x64 32 := (extractStridedSlice S63x64 ![1, 0] · slices_S64x64_S63x64_1_0) main_v1
  fn_part3 (F := F) main_arg0 main_arg1 main_arg2 main_arg3 main_arg4 main_arg5 main_v1 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v66

def fn_part1 {F : FTy → Type} [FloatOps F] (main_arg0 : FVec F S256x4096 .f32) (main_arg1 : IVec S32004 32) (main_arg2 : IVec S32004 32) (main_arg3 : FVec F S32004 .f32) (main_arg4 : FVec F S800x64 .f32) (main_arg5 : FVec F S4 .f32) (main_v1 : IVec S64x64 32) (main_v15 : FVec F S64x64 .f32) (main_v17 : IVec S3969 32) (main_v18 : IVec S63x63 32) : IVec S256x4096 1 × IVec S32004 1 × IVec S32004 1 × IVec S32004 1 × IVec S800x64 1 × IVec S4 1 :=
  let main_v19 : IVec S3969 32 := shapeCast S3969 main_v18 shapeCasts_S63x63_S3969
  let main_v20 : FVec F S63x63 .f32 := (extractStridedSlice S63x63 ![1, 1] · slices_S64x64_S63x63_1_1) main_v15
  let main_v21 : FVec F S3969 .f32 := shapeCast S3969 main_v20 shapeCasts_S63x63_S3969
  let main_v22 : FVec F S63x63 .f32 := (extractStridedSlice S63x63 ![0, 0] · slices_S64x64_S63x63_0_0) main_v15
  let main_v23 : FVec F S3969 .f32 := shapeCast S3969 main_v22 shapeCasts_S63x63_S3969
  let main_v24 : IVec S63x64 32 := (extractStridedSlice S63x64 ![1, 0] · slices_S64x64_S63x64_1_0) main_v1
  let main_v25 : IVec S4032 32 := shapeCast S4032 main_v24 shapeCasts_S63x64_S4032
  let main_v26 : IVec S63x64 32 := (extractStridedSlice S63x64 ![0, 0] · slices_S64x64_S63x64_0_0) main_v1
  let main_v27 : IVec S4032 32 := shapeCast S4032 main_v26 shapeCasts_S63x64_S4032
  let main_v28 : FVec F S63x64 .f32 := (extractStridedSlice S63x64 ![1, 0] · slices_S64x64_S63x64_1_0) main_v15
  let main_v29 : FVec F S4032 .f32 := shapeCast S4032 main_v28 shapeCasts_S63x64_S4032
  let main_v30 : FVec F S63x64 .f32 := (extractStridedSlice S63x64 ![0, 0] · slices_S64x64_S63x64_0_0) main_v15
  let main_v31 : FVec F S4032 .f32 := shapeCast S4032 main_v30 shapeCasts_S63x64_S4032
  let main_v32 : IVec S63x63 32 := (extractStridedSlice S63x63 ![1, 0] · slices_S64x64_S63x63_1_0) main_v1
  let main_v33 : IVec S3969 32 := shapeCast S3969 main_v32 shapeCasts_S63x63_S3969
  let main_v34 : IVec S63x63 32 := (extractStridedSlice S63x63 ![0, 1] · slices_S64x64_S63x63_0_1) main_v1
  let main_v35 : IVec S3969 32 := shapeCast S3969 main_v34 shapeCasts_S63x63_S3969
  let main_v36 : FVec F S63x63 .f32 := (extractStridedSlice S63x63 ![1, 0] · slices_S64x64_S63x63_1_0) main_v15
  let main_v37 : FVec F S3969 .f32 := shapeCast S3969 main_v36 shapeCasts_S63x63_S3969
  let main_v38 : FVec F S63x63 .f32 := (extractStridedSlice S63x63 ![0, 1] · slices_S64x64_S63x63_0_1) main_v15
  let main_v39 : FVec F S3969 .f32 := shapeCast S3969 main_v38 shapeCasts_S63x63_S3969
  let main_v40 : IVec S64x63 32 := (extractStridedSlice S64x63 ![0, 1] · slices_S64x64_S64x63_0_1) main_v1
  let main_v41 : IVec S4032 32 := shapeCast S4032 main_v40 shapeCasts_S64x63_S4032
  let main_v42 : IVec S64x63 32 := (extractStridedSlice S64x63 ![0, 0] · slices_S64x64_S64x63_0_0) main_v1
  fn_part2 (F := F) main_arg0 main_arg1 main_arg2 main_arg3 main_arg4 main_arg5 main_v1 main_v15 main_v17 main_v19 main_v21 main_v23 main_v25 main_v27 main_v29 main_v31 main_v33 main_v35 main_v37 main_v39 main_v41 main_v42

def fn {F : FTy → Type} [FloatOps F] (main_arg0 : FVec F S256x4096 .f32) (main_arg1 : IVec S32004 32) (main_arg2 : IVec S32004 32) (main_arg3 : FVec F S32004 .f32) (main_arg4 : FVec F S800x64 .f32) (main_arg5 : FVec F S4 .f32) : IVec S256x4096 1 × IVec S32004 1 × IVec S32004 1 × IVec S32004 1 × IVec S800x64 1 × IVec S4 1 :=
  let main_v0 : IVec S4096 32 := iotaInDim S4096 32 0
  let main_v1 : IVec S64x64 32 := shapeCast S64x64 main_v0 shapeCasts_S4096_S64x64
  let main_v2 : IVec S64 32 := iotaInDim S64 32 0
  let main_c : IVec S_ 32 := constantI S_ 32 0#32
  let main_v3 : IVec S64 32 := broadcastInDim S64 ![] bcast_S_S64 main_c
  let main_v4 : IVec S64 1 := cmpi .eq main_v2 main_v3
  let main_c_0 : IVec S_ 32 := constantI S_ 32 63#32
  let main_v5 : IVec S64 32 := broadcastInDim S64 ![] bcast_S_S64 main_c_0
  let main_v6 : IVec S64 1 := cmpi .eq main_v2 main_v5
  let main_v7 : IVec S64 1 := ori main_v4 main_v6
  let main_cst : FVec F S_ .f32 := constant S_ .f32 0x40000000#32
  let main_cst_1 : FVec F S_ .f32 := constant S_ .f32 0x40400000#32
  let main_v8 : FVec F S64 .f32 := fn_where (F := F) main_v7 main_cst main_cst_1
  let main_v9 : FVec F S64x1 .f32 := broadcastInDim S64x1 ![0] bcast_S64_S64x1_0 main_v8
  let main_v10 : FVec F S1x64 .f32 := broadcastInDim S1x64 ![1] bcast_S64_S1x64_1 main_v8
  let main_v11 : FVec F S64x64 .f32 := broadcastInDim S64x64 ![0, 1] bcast_S64x1_S64x64_0_1 main_v9
  let main_v12 : FVec F S64x64 .f32 := broadcastInDim S64x64 ![0, 1] bcast_S1x64_S64x64_0_1 main_v10
  let main_v13 : FVec F S64x64 .f32 := mulf main_v11 main_v12
  let main_cst_2 : FVec F S_ .f32 := constant S_ .f32 0x3F800000#32
  let main_v14 : FVec F S64x64 .f32 := broadcastInDim S64x64 ![] bcast_S_S64x64 main_cst_2
  let main_v15 : FVec F S64x64 .f32 := subf main_v13 main_v14
  let main_v16 : IVec S63x63 32 := (extractStridedSlice S63x63 ![1, 1] · slices_S64x64_S63x63_1_1) main_v1
  let main_v17 : IVec S3969 32 := shapeCast S3969 main_v16 shapeCasts_S63x63_S3969
  let main_v18 : IVec S63x63 32 := (extractStridedSlice S63x63 ![0, 0] · slices_S64x64_S63x63_0_0) main_v1
  fn_part1 (F := F) main_arg0 main_arg1 main_arg2 main_arg3 main_arg4 main_arg5 main_v1 main_v15 main_v17 main_v18
-- ==== Pre_head_pre.lean ====
abbrev S512x1024 : Shape := ⟨2, ![512, 1024]⟩
abbrev S65536x512 : Shape := ⟨2, ![65536, 512]⟩
abbrev S512 : Shape := ⟨1, ![512]⟩
abbrev S512x10 : Shape := ⟨2, ![512, 10]⟩
abbrev S10 : Shape := ⟨1, ![10]⟩
abbrev S4 : Shape := ⟨1, ![4]⟩
abbrev S_ : Shape := ⟨0, ![]⟩

class Facts : Prop where
  bcast_S_S512x1024 : S_.BroadcastsInDim S512x1024 (![] : Fin 0 → Fin S512x1024.rank)
  bcast_S_S65536x512 : S_.BroadcastsInDim S65536x512 (![] : Fin 0 → Fin S65536x512.rank)
  bcast_S_S512 : S_.BroadcastsInDim S512 (![] : Fin 0 → Fin S512.rank)
  bcast_S_S4 : S_.BroadcastsInDim S4 (![] : Fin 0 → Fin S4.rank)

variable [Facts]

def fn {F : FTy → Type} [FloatOps F] (main_arg0 : FVec F S512x1024 .f32) (main_arg1 : FVec F S65536x512 .f32) (main_arg2 : FVec F S512 .f32) (main_arg3 : FVec F S512x10 .f32) (main_arg4 : FVec F S10 .f32) (main_arg5 : FVec F S4 .f32) : IVec S512x1024 1 × IVec S65536x512 1 × IVec S512 1 × IVec S4 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S65536x512 .f32 := Host.absf main_arg1
  let main_cst_0 : FVec F S_ .f32 := constant S_ .f32 0x7F800000#32
  let main_v4 : FVec F S65536x512 .f32 := broadcastInDim S65536x512 ![] bcast_S_S65536x512 main_cst_0
  let main_v5 : IVec S65536x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S4 .f32 := Host.absf main_arg5
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  (main_v2, main_v5, main_v8, main_v11)
-- ==== Conv1.lean ====
abbrev S8x1x128x128 : Shape := ⟨4, ![8, 1, 128, 128]⟩
abbrev S16384 : Shape := ⟨1, ![16384]⟩
abbrev S129540 : Shape := ⟨1, ![129540]⟩
abbrev S25x32 : Shape := ⟨2, ![25, 32]⟩
abbrev S4 : Shape := ⟨1, ![4]⟩
abbrev S8x8 : Shape := ⟨2, ![8, 8]⟩
abbrev S_ : Shape := ⟨0, ![]⟩
abbrev S8x16384 : Shape := ⟨2, ![8, 16384]⟩
abbrev S16384x1 : Shape := ⟨2, ![16384, 1]⟩
abbrev S1 : Shape := ⟨1, ![1]⟩
abbrev S1x1 : Shape := ⟨2, ![1, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x16384 : Shape := ⟨2, ![1, 16384]⟩
abbrev S32x25 : Shape := ⟨2, ![32, 25]⟩
abbrev S32x1x25x1 : Shape := ⟨4, ![32, 1, 25, 1]⟩
abbrev S1x8x1x8 : Shape := ⟨4, ![1, 8, 1, 8]⟩
abbrev S32x8x25x8 : Shape := ⟨4, ![32, 8, 25, 8]⟩
abbrev S256x200 : Shape := ⟨2, ![256, 200]⟩
abbrev S128x4x128 : Shape := ⟨3, ![128, 4, 128]⟩
abbrev S512x128 : Shape := ⟨2, ![512, 128]⟩
abbrev S256x4096 : Shape := ⟨2, ![256, 4096]⟩
abbrev S200x16384 : Shape := ⟨2, ![200, 16384]⟩
abbrev S8x16383 : Shape := ⟨2, ![8, 16383]⟩
abbrev S8x1 : Shape := ⟨2, ![8, 1]⟩
abbrev S8x16256 : Shape := ⟨2, ![8, 16256]⟩
abbrev S8x128 : Shape := ⟨2, ![8, 128]⟩
abbrev S200x4096 : Shape := ⟨2, ![200, 4096]⟩
abbrev S256x512 : Shape := ⟨2, ![256, 512]⟩
abbrev S256x128 : Shape := ⟨2, ![256, 128]⟩
abbrev S256x1024 : Shape := ⟨2, ![256, 1024]⟩

abbrev nBuf : Space → Nat
  | .hbm => 128
  | .vmem => 6
  | .smem => 1
  | _ => 0

abbrev bufTy : (tb : Table) → Fin (tcTables nBuf tb) → BufTy
  | .hbm, ⟨0, _⟩ => ⟨S8x1x128x128, .f32⟩
  | .hbm, ⟨1, _⟩ => ⟨S16384, .i32⟩
  | .hbm, ⟨2, _⟩ => ⟨S129540, .i32⟩
  | .hbm, ⟨3, _⟩ => ⟨S129540, .i32⟩
  | .hbm, ⟨4, _⟩ => ⟨S129540, .f32⟩
  | .hbm, ⟨5, _⟩ => ⟨S25x32, .f32⟩
  | .hbm, ⟨6, _⟩ => ⟨S4, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S8x16384, .f32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S1, .i32⟩
  | .hbm, ⟨24, _⟩ => ⟨S_, .i32⟩
  | .hbm, ⟨25, _⟩ => ⟨S16384x1, .i32⟩
  | .hbm, ⟨26, _⟩ => ⟨S16384x1, .i1⟩
  | .hbm, ⟨27, _⟩ => ⟨S1x1, .i32⟩
  | .hbm, ⟨28, _⟩ => ⟨S16384x1, .i32⟩
  | .hbm, ⟨29, _⟩ => ⟨S16384x1, .i1⟩
  | .hbm, ⟨30, _⟩ => ⟨S16384x1, .i1⟩
  | .hbm, ⟨31, _⟩ => ⟨S_, .i1⟩
  | .hbm, ⟨32, _⟩ => ⟨S16384, .i1⟩
  | .hbm, ⟨33, _⟩ => ⟨S8x16384, .f32⟩
  | .hbm, ⟨34, _⟩ => ⟨S8x16384, .i1⟩
  | .hbm, ⟨35, _⟩ => ⟨S_, .f32⟩
  | .hbm, ⟨36, _⟩ => ⟨S8x16384, .f32⟩
  | .hbm, ⟨37, _⟩ => ⟨S8x16384, .f32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S128, .i1⟩
  | .hbm, ⟨46, _⟩ => ⟨S_, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128x1, .f32⟩
  | .hbm, ⟨52, _⟩ => ⟨S1x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S16384, .f32⟩
  | .hbm, ⟨64, _⟩ => ⟨S16384, .f32⟩
  | .hbm, ⟨65, _⟩ => ⟨S128, .i32⟩
  | .hbm, ⟨66, _⟩ => ⟨S128, .i32⟩
  | .hbm, ⟨67, _⟩ => ⟨S128x128, .i32⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S128x128, .f32⟩
  | .hbm, ⟨73, _⟩ => ⟨S16384, .f32⟩
  | .hbm, ⟨74, _⟩ => ⟨S_, .i32⟩
  | .hbm, ⟨75, _⟩ => ⟨S128x128, .i32⟩
  | .hbm, ⟨76, _⟩ => ⟨S128x128, .i1⟩
  | .hbm, ⟨77, _⟩ => ⟨S128x128, .f32⟩
  | .hbm, ⟨78, _⟩ => ⟨S16384, .f32⟩
  | .hbm, ⟨79, _⟩ => ⟨S_, .i32⟩
  | .hbm, ⟨80, _⟩ => ⟨S128x128, .i32⟩
  | .hbm, ⟨81, _⟩ => ⟨S128x128, .i1⟩
  | .hbm, ⟨82, _⟩ => ⟨S128x128, .f32⟩
  | .hbm, ⟨83, _⟩ => ⟨S16384, .f32⟩
  | .hbm, ⟨84, _⟩ => ⟨S_, .i32⟩
  | .hbm, ⟨85, _⟩ => ⟨S128x128, .i32⟩
  | .hbm, ⟨86, _⟩ => ⟨S128x128, .i1⟩
  | .hbm, ⟨87, _⟩ => ⟨S128x128, .f32⟩
  | .hbm, ⟨88, _⟩ => ⟨S16384, .f32⟩
  | .hbm, ⟨89, _⟩ => ⟨S_, .f32⟩
  | .hbm, ⟨90, _⟩ => ⟨S16384, .f32⟩
  | .hbm, ⟨91, _⟩ => ⟨S16384, .f32⟩
  | .hbm, ⟨92, _⟩ => ⟨S_, .f32⟩
  | .hbm, ⟨93, _⟩ => ⟨S16384, .f32⟩
  | .hbm, ⟨94, _⟩ => ⟨S16384, .f32⟩
  | .hbm, ⟨95, _⟩ => ⟨S16384, .f32⟩
  | .hbm, ⟨96, _⟩ => ⟨S16384, .f32⟩
  | .hbm, ⟨97, _⟩ => ⟨S16384, .f32⟩
  | .hbm, ⟨98, _⟩ => ⟨S16384, .f32⟩
  | .hbm, ⟨99, _⟩ => ⟨S1x16384, .f32⟩
  | .hbm, ⟨100, _⟩ => ⟨S1x16384, .f32⟩
  | .hbm, ⟨101, _⟩ => ⟨S1x16384, .f32⟩
  | .hbm, ⟨102, _⟩ => ⟨S1x16384, .f32⟩
  | .hbm, ⟨103, _⟩ => ⟨S1x16384, .f32⟩
  | .hbm, ⟨104, _⟩ => ⟨S1x16384, .f32⟩
  | .hbm, ⟨105, _⟩ => ⟨S1x16384, .f32⟩
  | .hbm, ⟨106, _⟩ => ⟨S1x16384, .f32⟩
  | .hbm, ⟨107, _⟩ => ⟨S8x16384, .f32⟩
  | .hbm, ⟨108, _⟩ => ⟨S32x25, .f32⟩
  | .hbm, ⟨109, _⟩ => ⟨S32x1x25x1, .f32⟩
  | .hbm, ⟨110, _⟩ => ⟨S1x8x1x8, .f32⟩
  | .hbm, ⟨111, _⟩ => ⟨S32x8x25x8, .f32⟩
  | .hbm, ⟨112, _⟩ => ⟨S32x8x25x8, .f32⟩
  | .hbm, ⟨113, _⟩ => ⟨S32x8x25x8, .f32⟩
  | .hbm, ⟨114, _⟩ => ⟨S256x200, .f32⟩
  | .hbm, ⟨115, _⟩ => ⟨S128x128, .i32⟩
  | .hbm, ⟨116, _⟩ => ⟨S128x128, .i32⟩
  | .hbm, ⟨117, _⟩ => ⟨S_, .i32⟩
  | .hbm, ⟨118, _⟩ => ⟨S128x128, .i32⟩
  | .hbm, ⟨119, _⟩ => ⟨S128x128, .i32⟩
  | .hbm, ⟨120, _⟩ => ⟨S128x128, .i1⟩
  | .hbm, ⟨121, _⟩ => ⟨S128x128, .f32⟩
  | .hbm, ⟨122, _⟩ => ⟨S128x4x128, .f32⟩
  | .hbm, ⟨123, _⟩ => ⟨S512x128, .f32⟩
  | .hbm, ⟨124, _⟩ => ⟨S_, .f32⟩
  | .hbm, ⟨125, _⟩ => ⟨S512x128, .f32⟩
  | .hbm, ⟨126, _⟩ => ⟨S512x128, .f32⟩
  | .hbm, ⟨127, _⟩ => ⟨S256x4096, .f32⟩
  | .local _ .vmem, ⟨0, _⟩ => ⟨S8x16384, .f32⟩
  | .local _ .vmem, ⟨1, _⟩ => ⟨S8x16384, .f32⟩
  | .local _ .vmem, ⟨2, _⟩ => ⟨S256x200, .f32⟩
  | .local _ .vmem, ⟨3, _⟩ => ⟨S512x128, .f32⟩
  | .local _ .vmem, ⟨4, _⟩ => ⟨S256x4096, .f32⟩
  | .local _ .vmem, ⟨5, _⟩ => ⟨S200x16384, .f32⟩
  | .local _ .smem, ⟨0, _⟩ => ⟨S4, .f32⟩
  | _, _ => ⟨S8x1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v7 : Ref sig .tc := ⟨.hbm, 37, rfl⟩
abbrev main_v8 : Ref sig .tc := ⟨.hbm, 38, rfl⟩
abbrev main_c_0 : Ref sig .tc := ⟨.hbm, 39, rfl⟩
abbrev main_v9 : Ref sig .tc := ⟨.hbm, 40, rfl⟩
abbrev main_v10 : Ref sig .tc := ⟨.hbm, 41, rfl⟩
abbrev main_c_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst : Ref sig .tc := ⟨.hbm, 46, rfl⟩
abbrev main_cst_2 : Ref sig .tc := ⟨.hbm, 47, rfl⟩
abbrev main_call1_v0 : Ref sig .tc := ⟨.hbm, 48, rfl⟩
abbrev main_call1_v1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_4 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_5 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_6 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_7 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_8 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_9 : Ref sig .tc := ⟨.hbm, 89, rfl⟩
abbrev main_v47 : Ref sig .tc := ⟨.hbm, 90, rfl⟩
abbrev main_v48 : Ref sig .tc := ⟨.hbm, 91, rfl⟩
abbrev main_cst_10 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_11 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_12 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c2_i32 : BitVec 32 := 2#32
  let c23_i32 : BitVec 32 := 23#32
  let v53 : BitVec 32 := Scalar.addi c2_i32 c23_i32
  let c1_i32 : BitVec 32 := 1#32
  ⟨c2_i32, v53, c1_i32⟩
def k0_off1 (k0_t1 : Fin k0_t1_loop.trips) : Fin 2 → Nat :=
  let c2_i32 : BitVec 32 := 2#32
  let c1_i32 : BitVec 32 := 1#32
  let arg7 : BitVec 32 := Scf.iv c2_i32 c1_i32 k0_t1
  let c8_i32 : BitVec 32 := 8#32
  let v247 : BitVec 32 := Scalar.muli arg7 c8_i32
  let v248 : Index := Scalar.indexCast v247
  let c0_97 : Index := 0#32
  ![v248.toNat, 0]
abbrev stage0_0 : Fin 1 → Memref sig .tc .vmem S8x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Conv1RefIdeal.lean ====
abbrev S8x1x128x128 : Shape := ⟨4, ![8, 1, 128, 128]⟩
abbrev S16384 : Shape := ⟨1, ![16384]⟩
abbrev S129540 : Shape := ⟨1, ![129540]⟩
abbrev S25x32 : Shape := ⟨2, ![25, 32]⟩
abbrev S4 : Shape := ⟨1, ![4]⟩
abbrev S8x16384 : Shape := ⟨2, ![8, 16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S8x16384x1 : Shape := ⟨3, ![8, 16384, 1]⟩
abbrev S16384x1x8 : Shape := ⟨3, ![16384, 1, 8]⟩
abbrev S16384x8 : Shape := ⟨2, ![16384, 8]⟩
abbrev S129540x1 : Shape := ⟨2, ![129540, 1]⟩
abbrev S129540x8 : Shape := ⟨2, ![129540, 8]⟩
abbrev S25x16384x8 : Shape := ⟨3, ![25, 16384, 8]⟩
abbrev S1x16384x8 : Shape := ⟨3, ![1, 16384, 8]⟩
abbrev S25x16384x1x8 : Shape := ⟨4, ![25, 16384, 1, 8]⟩
abbrev S8x16384x1x25 : Shape := ⟨4, ![8, 16384, 1, 25]⟩
abbrev S131072x25 : Shape := ⟨2, ![131072, 25]⟩
abbrev S131072x32 : Shape := ⟨2, ![131072, 32]⟩
abbrev S8x16384x32 : Shape := ⟨3, ![8, 16384, 32]⟩
abbrev S8x4096x4x32 : Shape := ⟨4, ![8, 4096, 4, 32]⟩
abbrev S8x4096x32 : Shape := ⟨3, ![8, 4096, 32]⟩
abbrev S32x8x4096 : Shape := ⟨3, ![32, 8, 4096]⟩
abbrev S256x4096 : Shape := ⟨2, ![256, 4096]⟩

abbrev nBuf : Space → Nat
  | .hbm => 188
  | .vmem => 0
  | .smem => 0
  | _ => 0

abbrev hbmTy0_0 (i : Nat) : BufTy := match i % 128 with
  | 0 => ⟨S8x1x128x128, .f32⟩
  | 1 => ⟨S16384, .i32⟩
  | 2 => ⟨S129540, .i32⟩
  | 3 => ⟨S129540, .i32⟩
  | 4 => ⟨S129540, .f32⟩
  | 5 => ⟨S25x32, .f32⟩
  | 6 => ⟨S4, .f32⟩
  | 7 => ⟨S8x16384, .f32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S1, .i32⟩
  | 17 => ⟨S_, .i32⟩
  | 18 => ⟨S16384x1, .i32⟩
  | 19 => ⟨S16384x1, .i1⟩
  | 20 => ⟨S1x1, .i32⟩
  | 21 => ⟨S16384x1, .i32⟩
  | 22 => ⟨S16384x1, .i1⟩
  | 23 => ⟨S16384x1, .i1⟩
  | 24 => ⟨S_, .i1⟩
  | 25 => ⟨S16384, .i1⟩
  | 26 => ⟨S8x16384, .f32⟩
  | 27 => ⟨S8x16384, .i1⟩
  | 28 => ⟨S_, .f32⟩
  | 29 => ⟨S8x16384, .f32⟩
  | 30 => ⟨S8x16384, .f32⟩
  | 31 => ⟨S8x16384x1, .f32⟩
  | 32 => ⟨S16384x1x8, .f32⟩
  | 33 => ⟨S16384x8, .f32⟩
  | 34 => ⟨S129540x1, .f32⟩
  | 35 => ⟨S_, .i32⟩
  | 36 => ⟨S129540, .i32⟩
  | 37 => ⟨S129540, .i1⟩
  | 38 => ⟨S_, .i32⟩
  | 39 => ⟨S129540, .i32⟩
  | 40 => ⟨S129540, .i32⟩
  | 41 => ⟨S129540, .i32⟩
  | 42 => ⟨S129540x1, .i32⟩
  | 43 => ⟨S1, .i32⟩
  | 44 => ⟨S_, .i32⟩
  | 45 => ⟨S129540x1, .i32⟩
  | 46 => ⟨S129540x1, .i1⟩
  | 47 => ⟨S1x1, .i32⟩
  | 48 => ⟨S129540x1, .i32⟩
  | 49 => ⟨S129540x1, .i1⟩
  | 50 => ⟨S129540x1, .i1⟩
  | 51 => ⟨S_, .i1⟩
  | 52 => ⟨S129540, .i1⟩
  | 53 => ⟨S129540x8, .f32⟩
  | 54 => ⟨S129540x8, .i1⟩
  | 55 => ⟨S_, .f32⟩
  | 56 => ⟨S129540x8, .f32⟩
  | 57 => ⟨S129540x8, .f32⟩
  | 58 => ⟨S129540x8, .f32⟩
  | 59 => ⟨S129540x8, .f32⟩
  | 60 => ⟨S_, .f32⟩
  | 61 => ⟨S16384x8, .f32⟩
  | 62 => ⟨S129540x1, .i32⟩
  | 63 => ⟨S16384x8, .f32⟩
  | 64 => ⟨S_, .f32⟩
  | 65 => ⟨S25x16384x8, .f32⟩
  | 66 => ⟨S_, .i32⟩
  | 67 => ⟨S1, .i32⟩
  | 68 => ⟨S25x16384x8, .f32⟩
  | 69 => ⟨S_, .i32⟩
  | 70 => ⟨S1, .i32⟩
  | 71 => ⟨S25x16384x8, .f32⟩
  | 72 => ⟨S_, .i32⟩
  | 73 => ⟨S_, .i32⟩
  | 74 => ⟨S129540, .f32⟩
  | 75 => ⟨S129540, .i32⟩
  | 76 => ⟨S129540, .i32⟩
  | 77 => ⟨S_, .i32⟩
  | 78 => ⟨S_, .i32⟩
  | 79 => ⟨S25x16384x8, .f32⟩
  | 80 => ⟨S_, .i32⟩
  | 81 => ⟨S_, .i1⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S1x16384x8, .f32⟩
  | 93 => ⟨S16384x8, .f32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S1x16384x8, .f32⟩
  | 105 => ⟨S16384x8, .f32⟩
  | 106 => ⟨S129540x1, .f32⟩
  | 107 => ⟨S_, .i32⟩
  | 108 => ⟨S129540, .i32⟩
  | 109 => ⟨S129540, .i1⟩
  | 110 => ⟨S_, .i32⟩
  | 111 => ⟨S129540, .i32⟩
  | 112 => ⟨S129540, .i32⟩
  | 113 => ⟨S129540, .i32⟩
  | 114 => ⟨S129540x1, .i32⟩
  | 115 => ⟨S1, .i32⟩
  | 116 => ⟨S_, .i32⟩
  | 117 => ⟨S129540x1, .i32⟩
  | 118 => ⟨S129540x1, .i1⟩
  | 119 => ⟨S1x1, .i32⟩
  | 120 => ⟨S129540x1, .i32⟩
  | 121 => ⟨S129540x1, .i1⟩
  | 122 => ⟨S129540x1, .i1⟩
  | 123 => ⟨S_, .i1⟩
  | 124 => ⟨S129540, .i1⟩
  | 125 => ⟨S129540x8, .f32⟩
  | 126 => ⟨S129540x8, .i1⟩
  | 127 => ⟨S_, .f32⟩
  | _ => ⟨S8x1x128x128, .f32⟩

abbrev hbmTy0_1 (i : Nat) : BufTy := match i % 128 with
  | 0 => ⟨S129540x8, .f32⟩
  | 1 => ⟨S129540x8, .f32⟩
  | 2 => ⟨S129540x8, .f32⟩
  | 3 => ⟨S129540x8, .f32⟩
  | 4 => ⟨S_, .f32⟩
  | 5 => ⟨S16384x8, .f32⟩
  | 6 => ⟨S129540x1, .i32⟩
  | 7 => ⟨S16384x8, .f32⟩
  | 8 => ⟨S_, .f32⟩
  | 9 => ⟨S16384x8, .f32⟩
  | 10 => ⟨S16384x8, .f32⟩
  | 11 => ⟨S16384x8, .f32⟩
  | 12 => ⟨S_, .i32⟩
  | 13 => ⟨S_, .i32⟩
  | 14 => ⟨S1x16384x8, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S25x16384x8, .f32⟩
  | 24 => ⟨S_, .i32⟩
  | 25 => ⟨S_, .i32⟩
  | 26 => ⟨S25x16384x1x8, .f32⟩
  | 27 => ⟨S8x16384x1x25, .f32⟩
  | 28 => ⟨S131072x25, .f32⟩
  | 29 => ⟨S131072x32, .f32⟩
  | 30 => ⟨S8x16384x32, .f32⟩
  | 31 => ⟨S1, .f32⟩
  | 32 => ⟨S_, .f32⟩
  | 33 => ⟨S1, .f32⟩
  | 34 => ⟨S_, .f32⟩
  | 35 => ⟨S8x16384x32, .f32⟩
  | 36 => ⟨S8x16384x32, .f32⟩
  | 37 => ⟨S8x16384x32, .f32⟩
  | 38 => ⟨S8x16384x32, .f32⟩
  | 39 => ⟨S1, .f32⟩
  | 40 => ⟨S_, .f32⟩
  | 41 => ⟨S8x16384x32, .f32⟩
  | 42 => ⟨S8x16384x32, .f32⟩
  | 43 => ⟨S8x16384x32, .f32⟩
  | 44 => ⟨S8x16384x32, .f32⟩
  | 45 => ⟨S1, .f32⟩
  | 46 => ⟨S_, .f32⟩
  | 47 => ⟨S8x16384x32, .f32⟩
  | 48 => ⟨S8x16384x32, .f32⟩
  | 49 => ⟨S8x16384x32, .f32⟩
  | 50 => ⟨S8x16384x32, .f32⟩
  | 51 => ⟨S8x16384x32, .f32⟩
  | 52 => ⟨S8x4096x4x32, .f32⟩
  | 53 => ⟨S_, .f32⟩
  | 54 => ⟨S8x4096x32, .f32⟩
  | 55 => ⟨S_, .f32⟩
  | 56 => ⟨S8x4096x32, .f32⟩
  | 57 => ⟨S8x4096x32, .f32⟩
  | 58 => ⟨S32x8x4096, .f32⟩
  | 59 => ⟨S256x4096, .f32⟩
  | _ => ⟨S8x1x128x128, .f32⟩

abbrev hbmTy (i : Nat) : BufTy := match i / 128 with
  | 0 => hbmTy0_0 i
  | 1 => hbmTy0_1 i
  | _ => ⟨S8x1x128x128, .f32⟩

abbrev bufTy : (tb : Table) → Fin (tcTables nBuf tb) → BufTy
  | .hbm, ⟨i, _⟩ => hbmTy i
  | _, _ => ⟨S8x1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_cst : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_cst_0 : Ref sig .tc := ⟨.hbm, 64, rfl⟩
abbrev main_v12 : Ref sig .tc := ⟨.hbm, 65, rfl⟩
abbrev main_c : Ref sig .tc := ⟨.hbm, 66, rfl⟩
abbrev main_v13 : Ref sig .tc := ⟨.hbm, 67, rfl⟩
abbrev main_v14 : Ref sig .tc := ⟨.hbm, 68, rfl⟩
abbrev main_c_1 : Ref sig .tc := ⟨.hbm, 69, rfl⟩
abbrev main_v15 : Ref sig .tc := ⟨.hbm, 70, rfl⟩
abbrev main_v16 : Ref sig .tc := ⟨.hbm, 71, rfl⟩
abbrev main_c_2 : Ref sig .tc := ⟨.hbm, 72, rfl⟩
abbrev main_c_3 : Ref sig .tc := ⟨.hbm, 73, rfl⟩
abbrev main_v17_0 : Ref sig .tc := ⟨.hbm, 74, rfl⟩
abbrev main_v17_1 : Ref sig .tc := ⟨.hbm, 75, rfl⟩
abbrev main_v17_2 : Ref sig .tc := ⟨.hbm, 76, rfl⟩
abbrev main_v17_3 : Ref sig .tc := ⟨.hbm, 77, rfl⟩
abbrev main_v17_4 : Ref sig .tc := ⟨.hbm, 78, rfl⟩
abbrev main_v17_5 : Ref sig .tc := ⟨.hbm, 79, rfl⟩
abbrev main_while0c_c_11 : Ref sig .tc := ⟨.hbm, 80, rfl⟩
abbrev main_while0c_v50 : Ref sig .tc := ⟨.hbm, 81, rfl⟩
abbrev main_while0b_c_11 : Ref sig .tc := ⟨.hbm, 82, rfl⟩
abbrev main_while0b_v50 : Ref sig .tc := ⟨.hbm, 83, rfl⟩
abbrev main_while0b_call2_c : Ref sig .tc := ⟨.hbm, 84, rfl⟩
abbrev main_while0b_call2_v0 : Ref sig .tc := ⟨.hbm, 85, rfl⟩
abbrev main_while0b_call2_v1 : Ref sig .tc := ⟨.hbm, 86, rfl⟩
abbrev main_while0b_call2_c_0 : Ref sig .tc := ⟨.hbm, 87, rfl⟩
abbrev main_while0b_call2_v2 : Ref sig .tc := ⟨.hbm, 88, rfl⟩
abbrev main_while0b_call2_v3 : Ref sig .tc := ⟨.hbm, 89, rfl⟩
abbrev main_while0b_call2_c_1 : Ref sig .tc := ⟨.hbm, 90, rfl⟩
abbrev main_while0b_call2_c_2 : Ref sig .tc := ⟨.hbm, 91, rfl⟩
abbrev main_while0b_call2_v4 : Ref sig .tc := ⟨.hbm, 92, rfl⟩
abbrev main_while0b_v51 : Ref sig .tc := ⟨.hbm, 93, rfl⟩
abbrev main_while0b_c_12 : Ref sig .tc := ⟨.hbm, 94, rfl⟩
abbrev main_while0b_v52 : Ref sig .tc := ⟨.hbm, 95, rfl⟩
abbrev main_while0b_call3_c : Ref sig .tc := ⟨.hbm, 96, rfl⟩
abbrev main_while0b_call3_v0 : Ref sig .tc := ⟨.hbm, 97, rfl⟩
abbrev main_while0b_call3_v1 : Ref sig .tc := ⟨.hbm, 98, rfl⟩
abbrev main_while0b_call3_c_0 : Ref sig .tc := ⟨.hbm, 99, rfl⟩
abbrev main_while0b_call3_v2 : Ref sig .tc := ⟨.hbm, 100, rfl⟩
abbrev main_while0b_call3_v3 : Ref sig .tc := ⟨.hbm, 101, rfl⟩
abbrev main_while0b_call3_c_1 : Ref sig .tc := ⟨.hbm, 102, rfl⟩
abbrev main_while0b_call3_c_2 : Ref sig .tc := ⟨.hbm, 103, rfl⟩
abbrev main_while0b_call3_v4 : Ref sig .tc := ⟨.hbm, 104, rfl⟩
abbrev main_while0b_v53 : Ref sig .tc := ⟨.hbm, 105, rfl⟩
abbrev main_while0b_v54 : Ref sig .tc := ⟨.hbm, 106, rfl⟩
abbrev main_while0b_call4_c : Ref sig .tc := ⟨.hbm, 107, rfl⟩
abbrev main_while0b_call4_v0 : Ref sig .tc := ⟨.hbm, 108, rfl⟩
abbrev main_while0b_call4_v1 : Ref sig .tc := ⟨.hbm, 109, rfl⟩
abbrev main_while0b_call4_c_0 : Ref sig .tc := ⟨.hbm, 110, rfl⟩
abbrev main_while0b_call4_v2 : Ref sig .tc := ⟨.hbm, 111, rfl⟩
abbrev main_while0b_call4_v3 : Ref sig .tc := ⟨.hbm, 112, rfl⟩
abbrev main_while0b_call4_v4 : Ref sig .tc := ⟨.hbm, 113, rfl⟩
abbrev main_while0b_call4_v5 : Ref sig .tc := ⟨.hbm, 114, rfl⟩
abbrev main_while0b_call4_c_1 : Ref sig .tc := ⟨.hbm, 115, rfl⟩
abbrev main_while0b_call4_c_2 : Ref sig .tc := ⟨.hbm, 116, rfl⟩
abbrev main_while0b_call4_v6 : Ref sig .tc := ⟨.hbm, 117, rfl⟩
abbrev main_while0b_call4_v7 : Ref sig .tc := ⟨.hbm, 118, rfl⟩
abbrev main_while0b_call4_v8 : Ref sig .tc := ⟨.hbm, 119, rfl⟩
abbrev main_while0b_call4_v9 : Ref sig .tc := ⟨.hbm, 120, rfl⟩
abbrev main_while0b_call4_v10 : Ref sig .tc := ⟨.hbm, 121, rfl⟩
abbrev main_while0b_call4_v11 : Ref sig .tc := ⟨.hbm, 122, rfl⟩
abbrev main_while0b_call4_c_3 : Ref sig .tc := ⟨.hbm, 123, rfl⟩
abbrev main_while0b_call4_v12 : Ref sig .tc := ⟨.hbm, 124, rfl⟩
abbrev main_while0b_call4_v13 : Ref sig .tc := ⟨.hbm, 125, rfl⟩
abbrev main_while0b_call4_v14 : Ref sig .tc := ⟨.hbm, 126, rfl⟩
abbrev main_while0b_call4_cst : Ref sig .tc := ⟨.hbm, 127, rfl⟩
abbrev main_while0b_call4_v15 : Ref sig .tc := ⟨.hbm, 128, rfl⟩
abbrev main_while0b_v55 : Ref sig .tc := ⟨.hbm, 129, rfl⟩
abbrev main_while0b_v56 : Ref sig .tc := ⟨.hbm, 130, rfl⟩
abbrev main_while0b_v57 : Ref sig .tc := ⟨.hbm, 131, rfl⟩
abbrev main_while0b_cst_13 : Ref sig .tc := ⟨.hbm, 132, rfl⟩
abbrev main_while0b_v58 : Ref sig .tc := ⟨.hbm, 133, rfl⟩
abbrev main_while0b_v59 : Ref sig .tc := ⟨.hbm, 134, rfl⟩
abbrev main_while0b_v60 : Ref sig .tc := ⟨.hbm, 135, rfl⟩
abbrev main_while0b_cst_14 : Ref sig .tc := ⟨.hbm, 136, rfl⟩
abbrev main_while0b_v61 : Ref sig .tc := ⟨.hbm, 137, rfl⟩
abbrev main_while0b_v62 : Ref sig .tc := ⟨.hbm, 138, rfl⟩
abbrev main_while0b_v63 : Ref sig .tc := ⟨.hbm, 139, rfl⟩
abbrev main_while0b_c_15 : Ref sig .tc := ⟨.hbm, 140, rfl⟩
abbrev main_while0b_v64 : Ref sig .tc := ⟨.hbm, 141, rfl⟩
abbrev main_while0b_call5_v0 : Ref sig .tc := ⟨.hbm, 142, rfl⟩
abbrev main_while0b_call5_c : Ref sig .tc := ⟨.hbm, 143, rfl⟩
abbrev main_while0b_call5_v1 : Ref sig .tc := ⟨.hbm, 144, rfl⟩
abbrev main_while0b_call5_v2 : Ref sig .tc := ⟨.hbm, 145, rfl⟩
abbrev main_while0b_call5_c_0 : Ref sig .tc := ⟨.hbm, 146, rfl⟩
abbrev main_while0b_call5_v3 : Ref sig .tc := ⟨.hbm, 147, rfl⟩
abbrev main_while0b_call5_v4 : Ref sig .tc := ⟨.hbm, 148, rfl⟩
abbrev main_while0b_call5_c_1 : Ref sig .tc := ⟨.hbm, 149, rfl⟩
abbrev main_while0b_call5_c_2 : Ref sig .tc := ⟨.hbm, 150, rfl⟩
abbrev main_while0b_v65 : Ref sig .tc := ⟨.hbm, 151, rfl⟩
abbrev main_while0b_c_16 : Ref sig .tc := ⟨.hbm, 152, rfl⟩
abbrev main_while0b_v66 : Ref sig .tc := ⟨.hbm, 153, rfl⟩
abbrev main_v18 : Ref sig .tc := ⟨.hbm, 154, rfl⟩
abbrev main_v19 : Ref sig .tc := ⟨.hbm, 155, rfl⟩
abbrev main_v20 : Ref sig .tc := ⟨.hbm, 156, rfl⟩
abbrev main_v21 : Ref sig .tc := ⟨.hbm, 157, rfl⟩
abbrev main_v22 : Ref sig .tc := ⟨.hbm, 158, rfl⟩
abbrev main_v23 : Ref sig .tc := ⟨.hbm, 159, rfl⟩
abbrev main_v24 : Ref sig .tc := ⟨.hbm, 160, rfl⟩
abbrev main_v25 : Ref sig .tc := ⟨.hbm, 161, rfl⟩
abbrev main_v26 : Ref sig .tc := ⟨.hbm, 162, rfl⟩
abbrev main_v27 : Ref sig .tc := ⟨.hbm, 163, rfl⟩
abbrev main_v28 : Ref sig .tc := ⟨.hbm, 164, rfl⟩
abbrev main_v29 : Ref sig .tc := ⟨.hbm, 165, rfl⟩
abbrev main_v30 : Ref sig .tc := ⟨.hbm, 166, rfl⟩
abbrev main_v31 : Ref sig .tc := ⟨.hbm, 167, rfl⟩
abbrev main_v32 : Ref sig .tc := ⟨.hbm, 168, rfl⟩
abbrev main_v33 : Ref sig .tc := ⟨.hbm, 169, rfl⟩
abbrev main_v34 : Ref sig .tc := ⟨.hbm, 170, rfl⟩
abbrev main_v35 : Ref sig .tc := ⟨.hbm, 171, rfl⟩
abbrev main_v36 : Ref sig .tc := ⟨.hbm, 172, rfl⟩
abbrev main_v37 : Ref sig .tc := ⟨.hbm, 173, rfl⟩
abbrev main_v38 : Ref sig .tc := ⟨.hbm, 174, rfl⟩
abbrev main_v39 : Ref sig .tc := ⟨.hbm, 175, rfl⟩
abbrev main_v40 : Ref sig .tc := ⟨.hbm, 176, rfl⟩
abbrev main_v41 : Ref sig .tc := ⟨.hbm, 177, rfl⟩
abbrev main_v42 : Ref sig .tc := ⟨.hbm, 178, rfl⟩
abbrev main_v43 : Ref sig .tc := ⟨.hbm, 179, rfl⟩
abbrev main_v44 : Ref sig .tc := ⟨.hbm, 180, rfl⟩
abbrev main_cst_4 : Ref sig .tc := ⟨.hbm, 181, rfl⟩
abbrev main_v45 : Ref sig .tc := ⟨.hbm, 182, rfl⟩
abbrev main_cst_5 : Ref sig .tc := ⟨.hbm, 183, rfl⟩
abbrev main_v46 : Ref sig .tc := ⟨.hbm, 184, rfl⟩
abbrev main_v47 : Ref sig .tc := ⟨.hbm, 185, rfl⟩
abbrev main_v48 : Ref sig .tc := ⟨.hbm, 186, rfl⟩
abbrev main_v49 : Ref sig .tc := ⟨.hbm, 187, rfl⟩

abbrev nD : Nat := 1
abbrev τ : Topo := Topo.v7x

variable {F : FTy → Type} [FloatOps F]

abbrev main_while0_count : Scf.Loop 32 := ⟨0#32, 23#32, 1#32⟩
-- ==== Conv2.lean ====
abbrev S256x4096 : Shape := ⟨2, ![256, 4096]⟩
abbrev S32004 : Shape := ⟨1, ![32004]⟩
abbrev S800x64 : Shape := ⟨2, ![800, 64]⟩
abbrev S4 : Shape := ⟨1, ![4]⟩
abbrev S8x8 : Shape := ⟨2, ![8, 8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4096 : Shape := ⟨1, ![4096]⟩
abbrev S1x4096 : Shape := ⟨2, ![1, 4096]⟩
abbrev S8x4096 : Shape := ⟨2, ![8, 4096]⟩
abbrev S32x25x64 : Shape := ⟨3, ![32, 25, 64]⟩
abbrev S25x64x32 : Shape := ⟨3, ![25, 64, 32]⟩
abbrev S25x64x1x32x1 : Shape := ⟨5, ![25, 64, 1, 32, 1]⟩
abbrev S1x1x8x1x8 : Shape := ⟨5, ![1, 1, 8, 1, 8]⟩
abbrev S25x64x8x32x8 : Shape := ⟨5, ![25, 64, 8, 32, 8]⟩
abbrev S25x512x256 : Shape := ⟨3, ![25, 512, 256]⟩
abbrev S128x128 : Shape := ⟨2, ![128, 128]⟩
abbrev S128x4x128 : Shape := ⟨3, ![128, 4, 128]⟩
abbrev S512x128 : Shape := ⟨2, ![512, 128]⟩
abbrev S512x1024 : Shape := ⟨2, ![512, 1024]⟩
abbrev S1x512x256 : Shape := ⟨3, ![1, 512, 256]⟩
abbrev S512x4096 : Shape := ⟨2, ![512, 4096]⟩
abbrev S256x4095 : Shape := ⟨2, ![256, 4095]⟩
abbrev S256x1 : Shape := ⟨2, ![256, 1]⟩
abbrev S256x4032 : Shape := ⟨2, ![256, 4032]⟩
abbrev S256x64 : Shape := ⟨2, ![256, 64]⟩
abbrev S512x256 : Shape := ⟨2, ![512, 256]⟩
abbrev S1 : Shape := ⟨1, ![1]⟩
abbrev S512x512 : Shape := ⟨2, ![512, 512]⟩

abbrev nBuf : Space → Nat
  | .hbm => 105
  | .vmem => 9
  | .smem => 1
  | _ => 0

abbrev bufTy : (tb : Table) → Fin (tcTables nBuf tb) → BufTy
  | .hbm, ⟨0, _⟩ => ⟨S256x4096, .f32⟩
  | .hbm, ⟨1, _⟩ => ⟨S32004, .i32⟩
  | .hbm, ⟨2, _⟩ => ⟨S32004, .i32⟩
  | .hbm, ⟨3, _⟩ => ⟨S32004, .f32⟩
  | .hbm, ⟨4, _⟩ => ⟨S800x64, .f32⟩
  | .hbm, ⟨5, _⟩ => ⟨S4, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S64, .i1⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64x1, .f32⟩
  | .hbm, ⟨27, _⟩ => ⟨S1x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S4096, .f32⟩
  | .hbm, ⟨39, _⟩ => ⟨S4096, .f32⟩
  | .hbm, ⟨40, _⟩ => ⟨S64, .i32⟩
  | .hbm, ⟨41, _⟩ => ⟨S64, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i1⟩
  | .hbm, ⟨47, _⟩ => ⟨S64x64, .f32⟩
  | .hbm, ⟨48, _⟩ => ⟨S4096, .f32⟩
  | .hbm, ⟨49, _⟩ => ⟨S_, .i32⟩
  | .hbm, ⟨50, _⟩ => ⟨S64x64, .i32⟩
  | .hbm, ⟨51, _⟩ => ⟨S64x64, .i1⟩
  | .hbm, ⟨52, _⟩ => ⟨S64x64, .f32⟩
  | .hbm, ⟨53, _⟩ => ⟨S4096, .f32⟩
  | .hbm, ⟨54, _⟩ => ⟨S_, .i32⟩
  | .hbm, ⟨55, _⟩ => ⟨S64x64, .i32⟩
  | .hbm, ⟨56, _⟩ => ⟨S64x64, .i1⟩
  | .hbm, ⟨57, _⟩ => ⟨S64x64, .f32⟩
  | .hbm, ⟨58, _⟩ => ⟨S4096, .f32⟩
  | .hbm, ⟨59, _⟩ => ⟨S_, .i32⟩
  | .hbm, ⟨60, _⟩ => ⟨S64x64, .i32⟩
  | .hbm, ⟨61, _⟩ => ⟨S64x64, .i1⟩
  | .hbm, ⟨62, _⟩ => ⟨S64x64, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S1x4096, .f32⟩
  | .hbm, ⟨75, _⟩ => ⟨S1x4096, .f32⟩
  | .hbm, ⟨76, _⟩ => ⟨S1x4096, .f32⟩
  | .hbm, ⟨77, _⟩ => ⟨S1x4096, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S1x4096, .f32⟩
  | .hbm, ⟨82, _⟩ => ⟨S8x4096, .f32⟩
  | .hbm, ⟨83, _⟩ => ⟨S32x25x64, .f32⟩
  | .hbm, ⟨84, _⟩ => ⟨S25x64x32, .f32⟩
  | .hbm, ⟨85, _⟩ => ⟨S25x64x1x32x1, .f32⟩
  | .hbm, ⟨86, _⟩ => ⟨S1x1x8x1x8, .f32⟩
  | .hbm, ⟨87, _⟩ => ⟨S25x64x8x32x8, .f32⟩
  | .hbm, ⟨88, _⟩ => ⟨S25x64x8x32x8, .f32⟩
  | .hbm, ⟨89, _⟩ => ⟨S25x64x8x32x8, .f32⟩
  | .hbm, ⟨90, _⟩ => ⟨S25x512x256, .f32⟩
  | .hbm, ⟨91, _⟩ => ⟨S128x128, .i32⟩
  | .hbm, ⟨92, _⟩ => ⟨S128x128, .i32⟩
  | .hbm, ⟨93, _⟩ => ⟨S_, .i32⟩
  | .hbm, ⟨94, _⟩ => ⟨S128x128, .i32⟩
  | .hbm, ⟨95, _⟩ => ⟨S128x128, .i32⟩
  | .hbm, ⟨96, _⟩ => ⟨S128x128, .i1⟩
  | .hbm, ⟨97, _⟩ => ⟨S128x128, .f32⟩
  | .hbm, ⟨98, _⟩ => ⟨S128x4x128, .f32⟩
  | .hbm, ⟨99, _⟩ => ⟨S512x128, .f32⟩
  | .hbm, ⟨100, _⟩ => ⟨S_, .f32⟩
  | .hbm, ⟨101, _⟩ => ⟨S512x128, .f32⟩
  | .hbm, ⟨102, _⟩ => ⟨S512x128, .f32⟩
  | .hbm, ⟨103, _⟩ => ⟨S25x512x256, .bf16⟩
  | .hbm, ⟨104, _⟩ => ⟨S512x1024, .f32⟩
  | .local _ .vmem, ⟨0, _⟩ => ⟨S256x4096, .f32⟩
  | .local _ .vmem, ⟨1, _⟩ => ⟨S8x4096, .f32⟩
  | .local _ .vmem, ⟨2, _⟩ => ⟨S1x512x256, .bf16⟩
  | .local _ .vmem, ⟨3, _⟩ => ⟨S1x512x256, .bf16⟩
  | .local _ .vmem, ⟨4, _⟩ => ⟨S512x128, .f32⟩
  | .local _ .vmem, ⟨5, _⟩ => ⟨S512x1024, .f32⟩
  | .local _ .vmem, ⟨6, _⟩ => ⟨S512x4096, .f32⟩
  | .local _ .vmem, ⟨7, _⟩ => ⟨S256x4096, .f32⟩
  | .local _ .vmem, ⟨8, _⟩ => ⟨S256x4096, .f32⟩
  | .local _ .smem, ⟨0, _⟩ => ⟨S4, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_12 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![25], ![false]⟩

def k0_cond8 (i : grid0.Coords) : BitVec 1 :=
  let arg0 : BitVec 32 := BitVec.ofNat 32 (i 0).val
  let c24_i32 : BitVec 32 := 24#32
  let v35 : BitVec 1 := Scalar.cmpi .eq arg0 c24_i32
  let v36 : BitVec 32 := Scalar.extui v35
  let c0_i32_17 : BitVec 32 := 0#32
  let v37 : BitVec 1 := Scalar.cmpi .ne v36 c0_i32_17
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Conv2RefIdeal.lean ====
abbrev S256x4096 : Shape := ⟨2, ![256, 4096]⟩
abbrev S32004 : Shape := ⟨1, ![32004]⟩
abbrev S800x64 : Shape := ⟨2, ![800, 64]⟩
abbrev S4 : Shape := ⟨1, ![4]⟩
abbrev S32x8x4096 : Shape := ⟨3, ![32, 8, 4096]⟩
abbrev S8x4096x32 : Shape := ⟨3, ![8, 4096, 32]⟩
abbrev S4096x32x8 : Shape := ⟨3, ![4096, 32, 8]⟩
abbrev S4096x256 : Shape := ⟨2, ![4096, 256]⟩
abbrev S32004x1 : Shape := ⟨2, ![32004, 1]⟩
abbrev S_ : Shape := ⟨0, ![]⟩
abbrev S1 : Shape := ⟨1, ![1]⟩
abbrev S1x1 : Shape := ⟨2, ![1, 1]⟩
abbrev S32004x256 : Shape := ⟨2, ![32004, 256]⟩
abbrev S25x4096x256 : Shape := ⟨3, ![25, 4096, 256]⟩
abbrev S1x4096x256 : Shape := ⟨3, ![1, 4096, 256]⟩
abbrev S25x4096x32x8 : Shape := ⟨4, ![25, 4096, 32, 8]⟩
abbrev S8x4096x32x25 : Shape := ⟨4, ![8, 4096, 32, 25]⟩
abbrev S32768x800 : Shape := ⟨2, ![32768, 800]⟩
abbrev S32768x64 : Shape := ⟨2, ![32768, 64]⟩
abbrev S8x4096x64 : Shape := ⟨3, ![8, 4096, 64]⟩
abbrev S8x1024x4x64 : Shape := ⟨4, ![8, 1024, 4, 64]⟩
abbrev S8x1024x64 : Shape := ⟨3, ![8, 1024, 64]⟩
abbrev S64x8x1024 : Shape := ⟨3, ![64, 8, 1024]⟩
abbrev S512x1024 : Shape := ⟨2, ![512, 1024]⟩

abbrev nBuf : Space → Nat
  | .hbm => 164
  | .vmem => 0
  | .smem => 0
  | _ => 0

abbrev hbmTy0_0 (i : Nat) : BufTy := match i % 128 with
  | 0 => ⟨S256x4096, .f32⟩
  | 1 => ⟨S32004, .i32⟩
  | 2 => ⟨S32004, .i32⟩
  | 3 => ⟨S32004, .f32⟩
  | 4 => ⟨S800x64, .f32⟩
  | 5 => ⟨S4, .f32⟩
  | 6 => ⟨S32x8x4096, .f32⟩
  | 7 => ⟨S8x4096x32, .f32⟩
  | 8 => ⟨S4096x32x8, .f32⟩
  | 9 => ⟨S4096x256, .f32⟩
  | 10 => ⟨S32004x1, .f32⟩
  | 11 => ⟨S_, .i32⟩
  | 12 => ⟨S32004, .i32⟩
  | 13 => ⟨S32004, .i1⟩
  | 14 => ⟨S_, .i32⟩
  | 15 => ⟨S32004, .i32⟩
  | 16 => ⟨S32004, .i32⟩
  | 17 => ⟨S32004, .i32⟩
  | 18 => ⟨S32004x1, .i32⟩
  | 19 => ⟨S1, .i32⟩
  | 20 => ⟨S_, .i32⟩
  | 21 => ⟨S32004x1, .i32⟩
  | 22 => ⟨S32004x1, .i1⟩
  | 23 => ⟨S1x1, .i32⟩
  | 24 => ⟨S32004x1, .i32⟩
  | 25 => ⟨S32004x1, .i1⟩
  | 26 => ⟨S32004x1, .i1⟩
  | 27 => ⟨S_, .i1⟩
  | 28 => ⟨S32004, .i1⟩
  | 29 => ⟨S32004x256, .f32⟩
  | 30 => ⟨S32004x256, .i1⟩
  | 31 => ⟨S_, .f32⟩
  | 32 => ⟨S32004x256, .f32⟩
  | 33 => ⟨S32004x256, .f32⟩
  | 34 => ⟨S32004x256, .f32⟩
  | 35 => ⟨S32004x256, .f32⟩
  | 36 => ⟨S_, .f32⟩
  | 37 => ⟨S4096x256, .f32⟩
  | 38 => ⟨S32004x1, .i32⟩
  | 39 => ⟨S4096x256, .f32⟩
  | 40 => ⟨S_, .f32⟩
  | 41 => ⟨S25x4096x256, .f32⟩
  | 42 => ⟨S_, .i32⟩
  | 43 => ⟨S1, .i32⟩
  | 44 => ⟨S25x4096x256, .f32⟩
  | 45 => ⟨S_, .i32⟩
  | 46 => ⟨S1, .i32⟩
  | 47 => ⟨S25x4096x256, .f32⟩
  | 48 => ⟨S_, .i32⟩
  | 49 => ⟨S_, .i32⟩
  | 50 => ⟨S32004, .f32⟩
  | 51 => ⟨S32004, .i32⟩
  | 52 => ⟨S32004, .i32⟩
  | 53 => ⟨S_, .i32⟩
  | 54 => ⟨S_, .i32⟩
  | 55 => ⟨S25x4096x256, .f32⟩
  | 56 => ⟨S_, .i32⟩
  | 57 => ⟨S_, .i1⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S1x4096x256, .f32⟩
  | 69 => ⟨S4096x256, .f32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S1x4096x256, .f32⟩
  | 81 => ⟨S4096x256, .f32⟩
  | 82 => ⟨S32004x1, .f32⟩
  | 83 => ⟨S_, .i32⟩
  | 84 => ⟨S32004, .i32⟩
  | 85 => ⟨S32004, .i1⟩
  | 86 => ⟨S_, .i32⟩
  | 87 => ⟨S32004, .i32⟩
  | 88 => ⟨S32004, .i32⟩
  | 89 => ⟨S32004, .i32⟩
  | 90 => ⟨S32004x1, .i32⟩
  | 91 => ⟨S1, .i32⟩
  | 92 => ⟨S_, .i32⟩
  | 93 => ⟨S32004x1, .i32⟩
  | 94 => ⟨S32004x1, .i1⟩
  | 95 => ⟨S1x1, .i32⟩
  | 96 => ⟨S32004x1, .i32⟩
  | 97 => ⟨S32004x1, .i1⟩
  | 98 => ⟨S32004x1, .i1⟩
  | 99 => ⟨S_, .i1⟩
  | 100 => ⟨S32004, .i1⟩
  | 101 => ⟨S32004x256, .f32⟩
  | 102 => ⟨S32004x256, .i1⟩
  | 103 => ⟨S_, .f32⟩
  | 104 => ⟨S32004x256, .f32⟩
  | 105 => ⟨S32004x256, .f32⟩
  | 106 => ⟨S32004x256, .f32⟩
  | 107 => ⟨S32004x256, .f32⟩
  | 108 => ⟨S_, .f32⟩
  | 109 => ⟨S4096x256, .f32⟩
  | 110 => ⟨S32004x1, .i32⟩
  | 111 => ⟨S4096x256, .f32⟩
  | 112 => ⟨S_, .f32⟩
  | 113 => ⟨S4096x256, .f32⟩
  | 114 => ⟨S4096x256, .f32⟩
  | 115 => ⟨S4096x256, .f32⟩
  | 116 => ⟨S_, .i32⟩
  | 117 => ⟨S_, .i32⟩
  | 118 => ⟨S1x4096x256, .f32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S25x4096x256, .f32⟩
  | _ => ⟨S256x4096, .f32⟩

abbrev hbmTy0_1 (i : Nat) : BufTy := match i % 128 with
  | 0 => ⟨S_, .i32⟩
  | 1 => ⟨S_, .i32⟩
  | 2 => ⟨S25x4096x32x8, .f32⟩
  | 3 => ⟨S8x4096x32x25, .f32⟩
  | 4 => ⟨S32768x800, .f32⟩
  | 5 => ⟨S32768x64, .f32⟩
  | 6 => ⟨S8x4096x64, .f32⟩
  | 7 => ⟨S1, .f32⟩
  | 8 => ⟨S_, .f32⟩
  | 9 => ⟨S1, .f32⟩
  | 10 => ⟨S_, .f32⟩
  | 11 => ⟨S8x4096x64, .f32⟩
  | 12 => ⟨S8x4096x64, .f32⟩
  | 13 => ⟨S8x4096x64, .f32⟩
  | 14 => ⟨S8x4096x64, .f32⟩
  | 15 => ⟨S1, .f32⟩
  | 16 => ⟨S_, .f32⟩
  | 17 => ⟨S8x4096x64, .f32⟩
  | 18 => ⟨S8x4096x64, .f32⟩
  | 19 => ⟨S8x4096x64, .f32⟩
  | 20 => ⟨S8x4096x64, .f32⟩
  | 21 => ⟨S1, .f32⟩
  | 22 => ⟨S_, .f32⟩
  | 23 => ⟨S8x4096x64, .f32⟩
  | 24 => ⟨S8x4096x64, .f32⟩
  | 25 => ⟨S8x4096x64, .f32⟩
  | 26 => ⟨S8x4096x64, .f32⟩
  | 27 => ⟨S8x4096x64, .f32⟩
  | 28 => ⟨S8x1024x4x64, .f32⟩
  | 29 => ⟨S_, .f32⟩
  | 30 => ⟨S8x1024x64, .f32⟩
  | 31 => ⟨S_, .f32⟩
  | 32 => ⟨S8x1024x64, .f32⟩
  | 33 => ⟨S8x1024x64, .f32⟩
  | 34 => ⟨S64x8x1024, .f32⟩
  | 35 => ⟨S512x1024, .f32⟩
  | _ => ⟨S256x4096, .f32⟩

abbrev hbmTy (i : Nat) : BufTy := match i / 128 with
  | 0 => hbmTy0_0 i
  | 1 => hbmTy0_1 i
  | _ => ⟨S256x4096, .f32⟩

abbrev bufTy : (tb : Table) → Fin (tcTables nBuf tb) → BufTy
  | .hbm, ⟨i, _⟩ => hbmTy i
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_c : Ref sig .tc := ⟨.hbm, 42, rfl⟩
abbrev main_v12 : Ref sig .tc := ⟨.hbm, 43, rfl⟩
abbrev main_v13 : Ref sig .tc := ⟨.hbm, 44, rfl⟩
abbrev main_c_1 : Ref sig .tc := ⟨.hbm, 45, rfl⟩
abbrev main_v14 : Ref sig .tc := ⟨.hbm, 46, rfl⟩
abbrev main_v15 : Ref sig .tc := ⟨.hbm, 47, rfl⟩
abbrev main_c_2 : Ref sig .tc := ⟨.hbm, 48, rfl⟩
abbrev main_c_3 : Ref sig .tc := ⟨.hbm, 49, rfl⟩
abbrev main_v16_0 : Ref sig .tc := ⟨.hbm, 50, rfl⟩
abbrev main_v16_1 : Ref sig .tc := ⟨.hbm, 51, rfl⟩
abbrev main_v16_2 : Ref sig .tc := ⟨.hbm, 52, rfl⟩
abbrev main_v16_3 : Ref sig .tc := ⟨.hbm, 53, rfl⟩
abbrev main_v16_4 : Ref sig .tc := ⟨.hbm, 54, rfl⟩
abbrev main_v16_5 : Ref sig .tc := ⟨.hbm, 55, rfl⟩
abbrev main_while0c_c_11 : Ref sig .tc := ⟨.hbm, 56, rfl⟩
abbrev main_while0c_v49 : Ref sig .tc := ⟨.hbm, 57, rfl⟩
abbrev main_while0b_c_11 : Ref sig .tc := ⟨.hbm, 58, rfl⟩
abbrev main_while0b_v49 : Ref sig .tc := ⟨.hbm, 59, rfl⟩
abbrev main_while0b_call1_c : Ref sig .tc := ⟨.hbm, 60, rfl⟩
abbrev main_while0b_call1_v0 : Ref sig .tc := ⟨.hbm, 61, rfl⟩
abbrev main_while0b_call1_v1 : Ref sig .tc := ⟨.hbm, 62, rfl⟩
abbrev main_while0b_call1_c_0 : Ref sig .tc := ⟨.hbm, 63, rfl⟩
abbrev main_while0b_call1_v2 : Ref sig .tc := ⟨.hbm, 64, rfl⟩
abbrev main_while0b_call1_v3 : Ref sig .tc := ⟨.hbm, 65, rfl⟩
abbrev main_while0b_call1_c_1 : Ref sig .tc := ⟨.hbm, 66, rfl⟩
abbrev main_while0b_call1_c_2 : Ref sig .tc := ⟨.hbm, 67, rfl⟩
abbrev main_while0b_call1_v4 : Ref sig .tc := ⟨.hbm, 68, rfl⟩
abbrev main_while0b_v50 : Ref sig .tc := ⟨.hbm, 69, rfl⟩
abbrev main_while0b_c_12 : Ref sig .tc := ⟨.hbm, 70, rfl⟩
abbrev main_while0b_v51 : Ref sig .tc := ⟨.hbm, 71, rfl⟩
abbrev main_while0b_call2_c : Ref sig .tc := ⟨.hbm, 72, rfl⟩
abbrev main_while0b_call2_v0 : Ref sig .tc := ⟨.hbm, 73, rfl⟩
abbrev main_while0b_call2_v1 : Ref sig .tc := ⟨.hbm, 74, rfl⟩
abbrev main_while0b_call2_c_0 : Ref sig .tc := ⟨.hbm, 75, rfl⟩
abbrev main_while0b_call2_v2 : Ref sig .tc := ⟨.hbm, 76, rfl⟩
abbrev main_while0b_call2_v3 : Ref sig .tc := ⟨.hbm, 77, rfl⟩
abbrev main_while0b_call2_c_1 : Ref sig .tc := ⟨.hbm, 78, rfl⟩
abbrev main_while0b_call2_c_2 : Ref sig .tc := ⟨.hbm, 79, rfl⟩
abbrev main_while0b_call2_v4 : Ref sig .tc := ⟨.hbm, 80, rfl⟩
abbrev main_while0b_v52 : Ref sig .tc := ⟨.hbm, 81, rfl⟩
abbrev main_while0b_v53 : Ref sig .tc := ⟨.hbm, 82, rfl⟩
abbrev main_while0b_call3_c : Ref sig .tc := ⟨.hbm, 83, rfl⟩
abbrev main_while0b_call3_v0 : Ref sig .tc := ⟨.hbm, 84, rfl⟩
abbrev main_while0b_call3_v1 : Ref sig .tc := ⟨.hbm, 85, rfl⟩
abbrev main_while0b_call3_c_0 : Ref sig .tc := ⟨.hbm, 86, rfl⟩
abbrev main_while0b_call3_v2 : Ref sig .tc := ⟨.hbm, 87, rfl⟩
abbrev main_while0b_call3_v3 : Ref sig .tc := ⟨.hbm, 88, rfl⟩
abbrev main_while0b_call3_v4 : Ref sig .tc := ⟨.hbm, 89, rfl⟩
abbrev main_while0b_call3_v5 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v6 : Ref sig .tc := ⟨.hbm, 93, rfl⟩
abbrev main_while0b_call3_v7 : Ref sig .tc := ⟨.hbm, 94, rfl⟩
abbrev main_while0b_call3_v8 : Ref sig .tc := ⟨.hbm, 95, rfl⟩
abbrev main_while0b_call3_v9 : Ref sig .tc := ⟨.hbm, 96, rfl⟩
abbrev main_while0b_call3_v10 : Ref sig .tc := ⟨.hbm, 97, rfl⟩
abbrev main_while0b_call3_v11 : Ref sig .tc := ⟨.hbm, 98, rfl⟩
abbrev main_while0b_call3_c_3 : Ref sig .tc := ⟨.hbm, 99, rfl⟩
abbrev main_while0b_call3_v12 : Ref sig .tc := ⟨.hbm, 100, rfl⟩
abbrev main_while0b_call3_v13 : Ref sig .tc := ⟨.hbm, 101, rfl⟩
abbrev main_while0b_call3_v14 : Ref sig .tc := ⟨.hbm, 102, rfl⟩
abbrev main_while0b_call3_cst : Ref sig .tc := ⟨.hbm, 103, rfl⟩
abbrev main_while0b_call3_v15 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_cst_13 : Ref sig .tc := ⟨.hbm, 108, rfl⟩
abbrev main_while0b_v57 : Ref sig .tc := ⟨.hbm, 109, rfl⟩
abbrev main_while0b_v58 : Ref sig .tc := ⟨.hbm, 110, rfl⟩
abbrev main_while0b_v59 : Ref sig .tc := ⟨.hbm, 111, rfl⟩
abbrev main_while0b_cst_14 : Ref sig .tc := ⟨.hbm, 112, rfl⟩
abbrev main_while0b_v60 : Ref sig .tc := ⟨.hbm, 113, rfl⟩
abbrev main_while0b_v61 : Ref sig .tc := ⟨.hbm, 114, rfl⟩
abbrev main_while0b_v62 : Ref sig .tc := ⟨.hbm, 115, rfl⟩
abbrev main_while0b_c_15 : Ref sig .tc := ⟨.hbm, 116, rfl⟩
abbrev main_while0b_v63 : Ref sig .tc := ⟨.hbm, 117, rfl⟩
abbrev main_while0b_call4_v0 : Ref sig .tc := ⟨.hbm, 118, rfl⟩
abbrev main_while0b_call4_c : Ref sig .tc := ⟨.hbm, 119, rfl⟩
abbrev main_while0b_call4_v1 : Ref sig .tc := ⟨.hbm, 120, rfl⟩
abbrev main_while0b_call4_v2 : Ref sig .tc := ⟨.hbm, 121, rfl⟩
abbrev main_while0b_call4_c_0 : Ref sig .tc := ⟨.hbm, 122, rfl⟩
abbrev main_while0b_call4_v3 : Ref sig .tc := ⟨.hbm, 123, rfl⟩
abbrev main_while0b_call4_v4 : Ref sig .tc := ⟨.hbm, 124, rfl⟩
abbrev main_while0b_call4_c_1 : Ref sig .tc := ⟨.hbm, 125, rfl⟩
abbrev main_while0b_call4_c_2 : Ref sig .tc := ⟨.hbm, 126, rfl⟩
abbrev main_while0b_v64 : Ref sig .tc := ⟨.hbm, 127, rfl⟩
abbrev main_while0b_c_16 : Ref sig .tc := ⟨.hbm, 128, rfl⟩
abbrev main_while0b_v65 : Ref sig .tc := ⟨.hbm, 129, rfl⟩
abbrev main_v17 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_cst_4 : Ref sig .tc := ⟨.hbm, 157, rfl⟩
abbrev main_v44 : Ref sig .tc := ⟨.hbm, 158, rfl⟩
abbrev main_cst_5 : Ref sig .tc := ⟨.hbm, 159, rfl⟩
abbrev main_v45 : Ref sig .tc := ⟨.hbm, 160, rfl⟩
abbrev main_v46 : Ref sig .tc := ⟨.hbm, 161, rfl⟩
abbrev main_v47 : Ref sig .tc := ⟨.hbm, 162, rfl⟩
abbrev main_v48 : Ref sig .tc := ⟨.hbm, 163, rfl⟩

abbrev nD : Nat := 1
abbrev τ : Topo := Topo.v7x

variable {F : FTy → Type} [FloatOps F]

abbrev main_while0_count : Scf.Loop 32 := ⟨0#32, 23#32, 1#32⟩
-- ==== Head.lean ====
abbrev S512x1024 : Shape := ⟨2, ![512, 1024]⟩
abbrev S65536x512 : Shape := ⟨2, ![65536, 512]⟩
abbrev S512 : Shape := ⟨1, ![512]⟩
abbrev S512x10 : Shape := ⟨2, ![512, 10]⟩
abbrev S10 : Shape := ⟨1, ![10]⟩
abbrev S4 : Shape := ⟨1, ![4]⟩
abbrev S64x8x1024 : Shape := ⟨3, ![64, 8, 1024]⟩
abbrev S1024x64x8 : Shape := ⟨3, ![1024, 64, 8]⟩
abbrev S65536x8 : Shape := ⟨2, ![65536, 8]⟩
abbrev S1x512 : Shape := ⟨2, ![1, 512]⟩
abbrev S1x10 : Shape := ⟨2, ![1, 10]⟩
abbrev S8x10 : Shape := ⟨2, ![8, 10]⟩
abbrev S8192x8 : Shape := ⟨2, ![8192, 8]⟩
abbrev S8192x512 : Shape := ⟨2, ![8192, 512]⟩
abbrev S8x512 : Shape := ⟨2, ![8, 512]⟩
abbrev S1 : Shape := ⟨1, ![1]⟩

abbrev nBuf : Space → Nat
  | .hbm => 12
  | .vmem => 9
  | .smem => 1
  | _ => 0

abbrev bufTy : (tb : Table) → Fin (tcTables nBuf tb) → BufTy
  | .hbm, ⟨0, _⟩ => ⟨S512x1024, .f32⟩
  | .hbm, ⟨1, _⟩ => ⟨S65536x512, .f32⟩
  | .hbm, ⟨2, _⟩ => ⟨S512, .f32⟩
  | .hbm, ⟨3, _⟩ => ⟨S512x10, .f32⟩
  | .hbm, ⟨4, _⟩ => ⟨S10, .f32⟩
  | .hbm, ⟨5, _⟩ => ⟨S4, .f32⟩
  | .hbm, ⟨6, _⟩ => ⟨S64x8x1024, .f32⟩
  | .hbm, ⟨7, _⟩ => ⟨S1024x64x8, .f32⟩
  | .hbm, ⟨8, _⟩ => ⟨S65536x8, .f32⟩
  | .hbm, ⟨9, _⟩ => ⟨S1x512, .f32⟩
  | .hbm, ⟨10, _⟩ => ⟨S1x10, .f32⟩
  | .hbm, ⟨11, _⟩ => ⟨S8x10, .f32⟩
  | .local _ .vmem, ⟨0, _⟩ => ⟨S8192x8, .f32⟩
  | .local _ .vmem, ⟨1, _⟩ => ⟨S8192x8, .f32⟩
  | .local _ .vmem, ⟨2, _⟩ => ⟨S8192x512, .f32⟩
  | .local _ .vmem, ⟨3, _⟩ => ⟨S8192x512, .f32⟩
  | .local _ .vmem, ⟨4, _⟩ => ⟨S1x512, .f32⟩
  | .local _ .vmem, ⟨5, _⟩ => ⟨S512x10, .f32⟩
  | .local _ .vmem, ⟨6, _⟩ => ⟨S1x10, .f32⟩
  | .local _ .vmem, ⟨7, _⟩ => ⟨S8x10, .f32⟩
  | .local _ .vmem, ⟨8, _⟩ => ⟨S8x512, .f32⟩
  | .local _ .smem, ⟨0, _⟩ => ⟨S4, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== HeadRefIdeal.lean ====
abbrev S512x1024 : Shape := ⟨2, ![512, 1024]⟩
abbrev S65536x512 : Shape := ⟨2, ![65536, 512]⟩
abbrev S512 : Shape := ⟨1, ![512]⟩
abbrev S512x10 : Shape := ⟨2, ![512, 10]⟩
abbrev S10 : Shape := ⟨1, ![10]⟩
abbrev S4 : Shape := ⟨1, ![4]⟩
abbrev S64x8x1024 : Shape := ⟨3, ![64, 8, 1024]⟩
abbrev S8x1024x64 : Shape := ⟨3, ![8, 1024, 64]⟩
abbrev S8x65536 : Shape := ⟨2, ![8, 65536]⟩
abbrev S8x512 : Shape := ⟨2, ![8, 512]⟩
abbrev S1x512 : Shape := ⟨2, ![1, 512]⟩
abbrev S1 : Shape := ⟨1, ![1]⟩
abbrev S_ : Shape := ⟨0, ![]⟩
abbrev S8x10 : Shape := ⟨2, ![8, 10]⟩
abbrev S1x10 : Shape := ⟨2, ![1, 10]⟩

abbrev nBuf : Space → Nat
  | .hbm => 38
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S65536x512, .f32⟩
  | .hbm, ⟨2, _⟩ => ⟨S512, .f32⟩
  | .hbm, ⟨3, _⟩ => ⟨S512x10, .f32⟩
  | .hbm, ⟨4, _⟩ => ⟨S10, .f32⟩
  | .hbm, ⟨5, _⟩ => ⟨S4, .f32⟩
  | .hbm, ⟨6, _⟩ => ⟨S64x8x1024, .f32⟩
  | .hbm, ⟨7, _⟩ => ⟨S8x1024x64, .f32⟩
  | .hbm, ⟨8, _⟩ => ⟨S8x65536, .f32⟩
  | .hbm, ⟨9, _⟩ => ⟨S8x512, .f32⟩
  | .hbm, ⟨10, _⟩ => ⟨S1x512, .f32⟩
  | .hbm, ⟨11, _⟩ => ⟨S8x512, .f32⟩
  | .hbm, ⟨12, _⟩ => ⟨S8x512, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S8x512, .f32⟩
  | .hbm, ⟨18, _⟩ => ⟨S8x512, .f32⟩
  | .hbm, ⟨19, _⟩ => ⟨S8x512, .f32⟩
  | .hbm, ⟨20, _⟩ => ⟨S8x512, .f32⟩
  | .hbm, ⟨21, _⟩ => ⟨S1, .f32⟩
  | .hbm, ⟨22, _⟩ => ⟨S_, .f32⟩
  | .hbm, ⟨23, _⟩ => ⟨S8x512, .f32⟩
  | .hbm, ⟨24, _⟩ => ⟨S8x512, .f32⟩
  | .hbm, ⟨25, _⟩ => ⟨S8x512, .f32⟩
  | .hbm, ⟨26, _⟩ => ⟨S8x512, .f32⟩
  | .hbm, ⟨27, _⟩ => ⟨S1, .f32⟩
  | .hbm, ⟨28, _⟩ => ⟨S_, .f32⟩
  | .hbm, ⟨29, _⟩ => ⟨S8x512, .f32⟩
  | .hbm, ⟨30, _⟩ => ⟨S8x512, .f32⟩
  | .hbm, ⟨31, _⟩ => ⟨S8x512, .f32⟩
  | .hbm, ⟨32, _⟩ => ⟨S8x512, .f32⟩
  | .hbm, ⟨33, _⟩ => ⟨S8x512, .f32⟩
  | .hbm, ⟨34, _⟩ => ⟨S8x10, .f32⟩
  | .hbm, ⟨35, _⟩ => ⟨S1x10, .f32⟩
  | .hbm, ⟨36, _⟩ => ⟨S8x10, .f32⟩
  | .hbm, ⟨37, _⟩ => ⟨S8x10, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Proof.Conv2Body.lean ====
/- The body of `Conv2Ideal`'s kernel, run once per kind of grid point: which buffers it changes and what it leaves in them.
   Everything is stated for any float values `F`. -/
module

public import proofs.«01_k».proof.Proof.Gen.Conv2Ideal.Launch
public import proofs.«01_k».proof.Proof.Gen.Conv2Ideal.Skeleton
public import proofs.«01_k».proof.Proof.Gen.Conv2Ideal.Points
public import proofs.«01_k».proof.Proof.Gen.Conv2Ideal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Conv2Ideal.Hand

open Cert.Conv2Ideal Cert.Conv2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A buffer whose last store wrote it whole reads as what that store wrote. -/
theorem read_whole {Val : EltTy → Type} [∀ e, Nonempty (Val e)] {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ (fun y => ⟨_, List.mem_cons_self, by
    subst h; rw [Rect.mem_set_unit]; intro a; exact ⟨Nat.zero_le _, by simpa using (y a).isLt⟩⟩), View.canon_cons_unit_zero h]

/-! ## The body's conditions, as the program computes them from the grid coordinate -/

/-- The grid coordinate as a word. -/
abbrev wk (i : grid0.Coords) : BitVec 32 := BitVec.ofNat 32 (i 0).val
/-- The divisor two, as the program writes it. -/
abbrev w2 : BitVec 32 := Scalar.select (Scalar.cmpi .eq 2#32 0#32) 1#32 2#32
/-- The remainder of the coordinate by two, with the sign of the divisor. -/
abbrev wm (i : grid0.Coords) : BitVec 32 :=
  Scalar.select (Scalar.andi (Scalar.xori (Scalar.cmpi .slt (Scalar.remsi (wk i) w2) 0#32) (Scalar.cmpi .slt w2 0#32)) (Scalar.cmpi .ne (Scalar.remsi (wk i) w2) 0#32))
    (Scalar.addi (Scalar.remsi (wk i) w2) w2) (Scalar.remsi (wk i) w2)
/-- The coordinate is even; is odd. -/
abbrev wEven (i : grid0.Coords) : BitVec 1 := Scalar.cmpi .eq (wm i) 0#32
abbrev wOdd (i : grid0.Coords) : BitVec 1 := Scalar.xori (wEven i) 1#1
abbrev c0 (i : grid0.Coords) : Prop := Scalar.cmpi .ne (Scalar.extui (Scalar.cmpi .eq (wk i) 0#32)) 0#32 = 1#1
abbrev c1 (i : grid0.Coords) : Prop := Scalar.cmpi .ne (Scalar.extui (Scalar.cmpi .eq (wk i) 1#32)) 0#32 = 1#1
abbrev cE (i : grid0.Coords) : Prop := Scalar.cmpi .ne (Scalar.extui (Scalar.andi (Scalar.cmpi .sge (wk i) 2#32) (wEven i))) 0#32 = 1#1
abbrev cO (i : grid0.Coords) : Prop := Scalar.cmpi .ne (Scalar.extui (Scalar.andi (Scalar.cmpi .sge (wk i) 2#32) (wOdd i))) 0#32 = 1#1
abbrev cP (i : grid0.Coords) : Prop := Scalar.cmpi .ne (Scalar.extui (wOdd i)) 0#32 = 1#1
abbrev cL (i : grid0.Coords) : Prop := k0_cond8 i = 1#1

theorem hc0 : ∀ t : Fin cfg0.N, c0 (grid0.coords t) ↔ t.val = 0 := (by decide +kernel : ∀ t : Fin grid0.N, _)
theorem hc1 : ∀ t : Fin cfg0.N, c1 (grid0.coords t) ↔ t.val = 1 := (by decide +kernel : ∀ t : Fin grid0.N, _)
theorem hcE : ∀ t : Fin cfg0.N, cE (grid0.coords t) ↔ 2 ≤ t.val ∧ t.val % 2 = 0 := (by decide +kernel : ∀ t : Fin grid0.N, _)
theorem hcO : ∀ t : Fin cfg0.N, cO (grid0.coords t) ↔ 2 ≤ t.val ∧ t.val % 2 = 1 := (by decide +kernel : ∀ t : Fin grid0.N, _)
theorem hcP : ∀ t : Fin cfg0.N, cP (grid0.coords t) ↔ t.val % 2 = 1 := (by decide +kernel : ∀ t : Fin grid0.N, _)
theorem hcL : ∀ t : Fin cfg0.N, cL (grid0.coords t) ↔ t.val = 24 := (by decide +kernel : ∀ t : Fin grid0.N, _)

/-! ## What the body computes -/

/-- Row `k` of the eight static rows. -/
abbrev row (p : Vec F S8x4096 .f32) (k : ℕ) (h : ∀ a, (![k, 0] : Fin 2 → Nat) a + S1x4096.size a ≤ S8x4096.size a) : Vec F S1x4096 .f32 :=
  View.ld p (Rect.unit (s := S8x4096) ![k, 0] S1x4096.size h)

/-- The operator applied to `x`, as the body computes it at the second point. -/
def lap (p : Vec F S8x4096 .f32) (x : Vec F S256x4096 .f32) : Vec F S256x4096 .f32 :=
  k0_pay13 (k0_pay3 x (row p 0 inb_S8x4096_S1x4096_0_0) (row p 4 inb_S8x4096_S1x4096_4_0) (row p 5 inb_S8x4096_S1x4096_5_0) (row p 6 inb_S8x4096_S1x4096_6_0) (row p 7 inb_S8x4096_S1x4096_7_0))
    (k0_pay4 x (row p 1 inb_S8x4096_S1x4096_1_0)) (k0_pay5 (row p 0 inb_S8x4096_S1x4096_0_0))

/-- Twice the operator applied to `x`, less `y`, as the body computes it at the even points from the third on. -/
def stepE (p : Vec F S8x4096 .f32) (x y : Vec F S256x4096 .f32) : Vec F S256x4096 .f32 :=
  k0_pay14 (k0_pay6 x (row p 0 inb_S8x4096_S1x4096_0_0) (row p 4 inb_S8x4096_S1x4096_4_0) (row p 5 inb_S8x4096_S1x4096_5_0) (row p 6 inb_S8x4096_S1x4096_6_0) (row p 7 inb_S8x4096_S1x4096_7_0))
    (k0_pay7 x (row p 3 inb_S8x4096_S1x4096_3_0)) (k0_pay8 (row p 2 inb_S8x4096_S1x4096_2_0)) y

/-- The same at the odd points. -/
def stepO (p : Vec F S8x4096 .f32) (x y : Vec F S256x4096 .f32) : Vec F S256x4096 .f32 :=
  k0_pay15 (k0_pay9 x (row p 0 inb_S8x4096_S1x4096_0_0) (row p 4 inb_S8x4096_S1x4096_4_0) (row p 5 inb_S8x4096_S1x4096_5_0) (row p 6 inb_S8x4096_S1x4096_6_0) (row p 7 inb_S8x4096_S1x4096_7_0))
    (k0_pay10 x (row p 3 inb_S8x4096_S1x4096_3_0)) (k0_pay11 (row p 2 inb_S8x4096_S1x4096_2_0)) y

/-- Entry `k` of the four coefficients. -/
abbrev coef (a : Vec F S4 .f32) (k : ℕ) (h : ∀ d, (![k] : Fin 1 → Nat) d + S1.size d ≤ S4.size d) : Elt F .f32 :=
  View.ld a (Rect.unit (s := S4) ![k] S1.size h) (Shape.Idx.first (show 0 < S1.numel by decide))

/-- What the last point leaves in the result block: the sums through the polynomial and the product with the pooling matrix. -/
def fin (acc : Vec F S512x4096 .f32) (a : Vec F S4 .f32) (q : Vec F S512x128 .f32) : Vec F S512x1024 .f32 :=
  k0_pay2 acc (coef a 0 inb_S4_S1_0) (coef a 1 inb_S4_S1_1) (coef a 2 inb_S4_S1_2) (coef a 3 inb_S4_S1_3) q

set_option maxHeartbeats 4000000 in
/-- The first point: the input is carried, and its product with the first weights starts the sums. -/
theorem run0 (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S1x512x256 .bf16) (harg3 : arg3.IsWhole) (arg4 : Memref sig .tc .smem S4 .f32) (harg4 : arg4.IsWhole) (arg5 : Memref sig .tc .vmem S512x128 .f32) (harg5 : arg5.IsWhole) (arg6 : Memref sig .tc .vmem S512x1024 .f32) (harg6 : arg6.IsWhole) (arg7 : Memref sig .tc .vmem S512x4096 .f32) (harg7 : arg7.IsWhole) (arg8 : Memref sig .tc .vmem S256x4096 .f32) (harg8 : arg8.IsWhole) (arg9 : Memref sig .tc .vmem S256x4096 .f32) (harg9 : arg9.IsWhole)
    (h0 : c0 i) (h1 : ¬c1 i) (hE : ¬cE i) (hO : ¬cO i) (hP : ¬cP i) (hL : ¬cL i)
    (x : Vec F S256x4096 .f32) (p : Vec F S8x4096 .f32) (q : Vec F S1x512x256 .bf16) (a : Vec F S4 .f32) (r : Vec F S512x128 .f32) (d6 : Vec F S512x1024 .f32) (E : Set ℕ) (K : PUnit → sProp 𝕄) :
    iprop(owns (c : Thread nD τ) arg1 fullShare x ∗ owns (c : Thread nD τ) arg2 fullShare p ∗ owns (c : Thread nD τ) arg3 fullShare q ∗ owns (c : Thread nD τ) arg4 fullShare a ∗ owns (c : Thread nD τ) arg5 fullShare r ∗ owns (c : Thread nD τ) arg6 fullShare d6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x ∗ owns (c : Thread nD τ) arg2 fullShare p ∗ owns (c : Thread nD τ) arg3 fullShare q ∗ owns (c : Thread nD τ) arg4 fullShare a ∗ owns (c : Thread nD τ) arg5 fullShare r ∗ owns (c : Thread nD τ) arg6 fullShare d6 ∗ owns (c : Thread nD τ) arg7 fullShare (k0_pay16 (k0_pay12 x) q) ∗ (∃ d, owns (c : Thread nD τ) arg8 fullShare d) ∗ owns (c : Thread nD τ) arg9 fullShare (k0_pay12 x)) -∗ K ⟨⟩))
      ⊢ wp frame (wpE (defs₀ (F := F)) Variants.none c none) E (cc0__k2_body i arg1 harg1 arg2 harg2 arg3 harg3 arg4 harg4 arg5 harg5 arg6 harg6 arg7 harg7 arg8 harg8 arg9 harg9) K := by
  simp only [cc0__k2_body_eq_skeleton]; unfold cc0__k2_body_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact h0 | sl_exact h1 | sl_exact hE | sl_exact hO | sl_exact hP | sl_exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; sl_unfold_words; rw [read_whole _ _ hz2]
    simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
    try rfl
  isplitl [H8]
  · iexists _; iexists _; isplitr
    swap; · iexact H8
    ipureintro; rfl
  iexists _; isplitr
  swap; · iexact H9
  ipureintro; sl_unfold_words; rw [read_whole _ _ hz2]
  simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
  try rfl

set_option maxHeartbeats 4000000 in
/-- The second point: the operator applied to the input is carried too, and its product is added. -/
theorem run1 (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S1x512x256 .bf16) (harg3 : arg3.IsWhole) (arg4 : Memref sig .tc .smem S4 .f32) (harg4 : arg4.IsWhole) (arg5 : Memref sig .tc .vmem S512x128 .f32) (harg5 : arg5.IsWhole) (arg6 : Memref sig .tc .vmem S512x1024 .f32) (harg6 : arg6.IsWhole) (arg7 : Memref sig .tc .vmem S512x4096 .f32) (harg7 : arg7.IsWhole) (arg8 : Memref sig .tc .vmem S256x4096 .f32) (harg8 : arg8.IsWhole) (arg9 : Memref sig .tc .vmem S256x4096 .f32) (harg9 : arg9.IsWhole)
    (h0 : ¬c0 i) (h1 : c1 i) (hE : ¬cE i) (hO : ¬cO i) (hP : cP i) (hL : ¬cL i)
    (x : Vec F S256x4096 .f32) (p : Vec F S8x4096 .f32) (q : Vec F S1x512x256 .bf16) (a : Vec F S4 .f32) (r : Vec F S512x128 .f32) (d6 : Vec F S512x1024 .f32) (acc : Vec F S512x4096 .f32) (xc : Vec F S256x4096 .f32) (E : Set ℕ) (K : PUnit → sProp 𝕄) :
    iprop(owns (c : Thread nD τ) arg1 fullShare x ∗ owns (c : Thread nD τ) arg2 fullShare p ∗ owns (c : Thread nD τ) arg3 fullShare q ∗ owns (c : Thread nD τ) arg4 fullShare a ∗ owns (c : Thread nD τ) arg5 fullShare r ∗ owns (c : Thread nD τ) arg6 fullShare d6 ∗ owns (c : Thread nD τ) arg7 fullShare acc ∗ (∃ d, owns (c : Thread nD τ) arg8 fullShare d) ∗ owns (c : Thread nD τ) arg9 fullShare xc
        ∗ (iprop(owns (c : Thread nD τ) arg1 fullShare x ∗ owns (c : Thread nD τ) arg2 fullShare p ∗ owns (c : Thread nD τ) arg3 fullShare q ∗ owns (c : Thread nD τ) arg4 fullShare a ∗ owns (c : Thread nD τ) arg5 fullShare r ∗ owns (c : Thread nD τ) arg6 fullShare d6 ∗ owns (c : Thread nD τ) arg7 fullShare (k0_pay1 acc (lap p xc) q) ∗ owns (c : Thread nD τ) arg8 fullShare (lap p xc) ∗ owns (c : Thread nD τ) arg9 fullShare xc) -∗ K ⟨⟩))
      ⊢ wp frame (wpE (defs₀ (F := F)) Variants.none c none) E (cc0__k2_body i arg1 harg1 arg2 harg2 arg3 harg3 arg4 harg4 arg5 harg5 arg6 harg6 arg7 harg7 arg8 harg8 arg9 harg9) K := by
  simp only [cc0__k2_body_eq_skeleton]; unfold cc0__k2_body_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9
  sl_exec (disch := first | sl_exact h0 | sl_exact h1 | sl_exact hE | sl_exact hO | sl_exact hP | sl_exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; sl_unfold_words; rw [read_whole _ _ hz2]
    simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
    try rfl
  isplitl [H8]
  · iexists _; isplitr
    swap; · iexact H8
    ipureintro; sl_unfold_words; rw [read_whole _ _ hz2]
    simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
    try rfl
  iexists _; isplitr; · ipureintro; exact harg9.read_unread _
  iexact H9

set_option maxHeartbeats 4000000 in
/-- An even point from the third on, not the last: the next block of the recurrence replaces the older one, and its product is added. -/
theorem runE (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S1x512x256 .bf16) (harg3 : arg3.IsWhole) (arg4 : Memref sig .tc .smem S4 .f32) (harg4 : arg4.IsWhole) (arg5 : Memref sig .tc .vmem S512x128 .f32) (harg5 : arg5.IsWhole) (arg6 : Memref sig .tc .vmem S512x1024 .f32) (harg6 : arg6.IsWhole) (arg7 : Memref sig .tc .vmem S512x4096 .f32) (harg7 : arg7.IsWhole) (arg8 : Memref sig .tc .vmem S256x4096 .f32) (harg8 : arg8.IsWhole) (arg9 : Memref sig .tc .vmem S256x4096 .f32) (harg9 : arg9.IsWhole)
    (h0 : ¬c0 i) (h1 : ¬c1 i) (hE : cE i) (hO : ¬cO i) (hP : ¬cP i) (hL : ¬cL i)
    (x : Vec F S256x4096 .f32) (p : Vec F S8x4096 .f32) (q : Vec F S1x512x256 .bf16) (a : Vec F S4 .f32) (r : Vec F S512x128 .f32) (d6 : Vec F S512x1024 .f32) (acc : Vec F S512x4096 .f32) (xp xc : Vec F S256x4096 .f32) (E : Set ℕ) (K : PUnit → sProp 𝕄) :
    iprop(owns (c : Thread nD τ) arg1 fullShare x ∗ owns (c : Thread nD τ) arg2 fullShare p ∗ owns (c : Thread nD τ) arg3 fullShare q ∗ owns (c : Thread nD τ) arg4 fullShare a ∗ owns (c : Thread nD τ) arg5 fullShare r ∗ owns (c : Thread nD τ) arg6 fullShare d6 ∗ owns (c : Thread nD τ) arg7 fullShare acc ∗ owns (c : Thread nD τ) arg8 fullShare xp ∗ owns (c : Thread nD τ) arg9 fullShare xc
        ∗ (iprop(owns (c : Thread nD τ) arg1 fullShare x ∗ owns (c : Thread nD τ) arg2 fullShare p ∗ owns (c : Thread nD τ) arg3 fullShare q ∗ owns (c : Thread nD τ) arg4 fullShare a ∗ owns (c : Thread nD τ) arg5 fullShare r ∗ owns (c : Thread nD τ) arg6 fullShare d6 ∗ owns (c : Thread nD τ) arg7 fullShare (k0_pay17 acc (stepE p xp xc) q) ∗ owns (c : Thread nD τ) arg8 fullShare xp ∗ owns (c : Thread nD τ) arg9 fullShare (stepE p xp xc)) -∗ K ⟨⟩))
      ⊢ wp frame (wpE (defs₀ (F := F)) Variants.none c none) E (cc0__k2_body i arg1 harg1 arg2 harg2 arg3 harg3 arg4 harg4 arg5 harg5 arg6 harg6 arg7 harg7 arg8 harg8 arg9 harg9) K := by
  simp only [cc0__k2_body_eq_skeleton]; unfold cc0__k2_body_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact h0 | sl_exact h1 | sl_exact hE | sl_exact hO | sl_exact hP | sl_exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; sl_unfold_words; rw [read_whole _ _ hz2]
    simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
    try rfl
  isplitl [H8]
  · iexists _; isplitr; · ipureintro; exact harg8.read_unread _
    iexact H8
  iexists _; isplitr
  swap; · iexact H9
  ipureintro; sl_unfold_words; rw [read_whole _ _ hz2]
  simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
  try rfl

set_option maxHeartbeats 4000000 in
/-- An odd point from the fourth on: the same with the two carried blocks exchanged. -/
theorem runO (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S1x512x256 .bf16) (harg3 : arg3.IsWhole) (arg4 : Memref sig .tc .smem S4 .f32) (harg4 : arg4.IsWhole) (arg5 : Memref sig .tc .vmem S512x128 .f32) (harg5 : arg5.IsWhole) (arg6 : Memref sig .tc .vmem S512x1024 .f32) (harg6 : arg6.IsWhole) (arg7 : Memref sig .tc .vmem S512x4096 .f32) (harg7 : arg7.IsWhole) (arg8 : Memref sig .tc .vmem S256x4096 .f32) (harg8 : arg8.IsWhole) (arg9 : Memref sig .tc .vmem S256x4096 .f32) (harg9 : arg9.IsWhole)
    (h0 : ¬c0 i) (h1 : ¬c1 i) (hE : ¬cE i) (hO : cO i) (hP : cP i) (hL : ¬cL i)
    (x : Vec F S256x4096 .f32) (p : Vec F S8x4096 .f32) (q : Vec F S1x512x256 .bf16) (a : Vec F S4 .f32) (r : Vec F S512x128 .f32) (d6 : Vec F S512x1024 .f32) (acc : Vec F S512x4096 .f32) (xp xc : Vec F S256x4096 .f32) (E : Set ℕ) (K : PUnit → sProp 𝕄) :
    iprop(owns (c : Thread nD τ) arg1 fullShare x ∗ owns (c : Thread nD τ) arg2 fullShare p ∗ owns (c : Thread nD τ) arg3 fullShare q ∗ owns (c : Thread nD τ) arg4 fullShare a ∗ owns (c : Thread nD τ) arg5 fullShare r ∗ owns (c : Thread nD τ) arg6 fullShare d6 ∗ owns (c : Thread nD τ) arg7 fullShare acc ∗ owns (c : Thread nD τ) arg8 fullShare xp ∗ owns (c : Thread nD τ) arg9 fullShare xc
        ∗ (iprop(owns (c : Thread nD τ) arg1 fullShare x ∗ owns (c : Thread nD τ) arg2 fullShare p ∗ owns (c : Thread nD τ) arg3 fullShare q ∗ owns (c : Thread nD τ) arg4 fullShare a ∗ owns (c : Thread nD τ) arg5 fullShare r ∗ owns (c : Thread nD τ) arg6 fullShare d6 ∗ owns (c : Thread nD τ) arg7 fullShare (k0_pay1 acc (stepO p xc xp) q) ∗ owns (c : Thread nD τ) arg8 fullShare (stepO p xc xp) ∗ owns (c : Thread nD τ) arg9 fullShare xc) -∗ K ⟨⟩))
      ⊢ wp frame (wpE (defs₀ (F := F)) Variants.none c none) E (cc0__k2_body i arg1 harg1 arg2 harg2 arg3 harg3 arg4 harg4 arg5 harg5 arg6 harg6 arg7 harg7 arg8 harg8 arg9 harg9) K := by
  simp only [cc0__k2_body_eq_skeleton]; unfold cc0__k2_body_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact h0 | sl_exact h1 | sl_exact hE | sl_exact hO | sl_exact hP | sl_exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro; sl_unfold_words; rw [read_whole _ _ hz2]
    simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
    try rfl
  isplitl [H8]
  · iexists _; isplitr
    swap; · iexact H8
    ipureintro; sl_unfold_words; rw [read_whole _ _ hz2]
    simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
    try rfl
  iexists _; isplitr; · ipureintro; exact harg9.read_unread _
  iexact H9

set_option maxHeartbeats 4000000 in
/-- The last point: an even point, after which the result block is written. -/
theorem runL (c : Dev nD) (i : grid0.Coords) (arg1 : Memref sig .tc .vmem S256x4096 .f32) (harg1 : arg1.IsWhole) (arg2 : Memref sig .tc .vmem S8x4096 .f32) (harg2 : arg2.IsWhole) (arg3 : Memref sig .tc .vmem S1x512x256 .bf16) (harg3 : arg3.IsWhole) (arg4 : Memref sig .tc .smem S4 .f32) (harg4 : arg4.IsWhole) (arg5 : Memref sig .tc .vmem S512x128 .f32) (harg5 : arg5.IsWhole) (arg6 : Memref sig .tc .vmem S512x1024 .f32) (harg6 : arg6.IsWhole) (arg7 : Memref sig .tc .vmem S512x4096 .f32) (harg7 : arg7.IsWhole) (arg8 : Memref sig .tc .vmem S256x4096 .f32) (harg8 : arg8.IsWhole) (arg9 : Memref sig .tc .vmem S256x4096 .f32) (harg9 : arg9.IsWhole)
    (h0 : ¬c0 i) (h1 : ¬c1 i) (hE : cE i) (hO : ¬cO i) (hP : ¬cP i) (hL : cL i)
    (x : Vec F S256x4096 .f32) (p : Vec F S8x4096 .f32) (q : Vec F S1x512x256 .bf16) (a : Vec F S4 .f32) (r : Vec F S512x128 .f32) (acc : Vec F S512x4096 .f32) (xp xc : Vec F S256x4096 .f32) (E : Set ℕ) (K : PUnit → sProp 𝕄) :
    iprop(owns (c : Thread nD τ) arg1 fullShare x ∗ owns (c : Thread nD τ) arg2 fullShare p ∗ owns (c : Thread nD τ) arg3 fullShare q ∗ owns (c : Thread nD τ) arg4 fullShare a ∗ owns (c : Thread nD τ) arg5 fullShare r ∗ (∃ d, owns (c : Thread nD τ) arg6 fullShare d) ∗ owns (c : Thread nD τ) arg7 fullShare acc ∗ owns (c : Thread nD τ) arg8 fullShare xp ∗ owns (c : Thread nD τ) arg9 fullShare xc
        ∗ (iprop(owns (c : Thread nD τ) arg1 fullShare x ∗ owns (c : Thread nD τ) arg2 fullShare p ∗ owns (c : Thread nD τ) arg3 fullShare q ∗ owns (c : Thread nD τ) arg4 fullShare a ∗ owns (c : Thread nD τ) arg5 fullShare r ∗ owns (c : Thread nD τ) arg6 fullShare (fin (k0_pay17 acc (stepE p xp xc) q) a r) ∗ owns (c : Thread nD τ) arg7 fullShare (k0_pay17 acc (stepE p xp xc) q) ∗ owns (c : Thread nD τ) arg8 fullShare xp ∗ owns (c : Thread nD τ) arg9 fullShare (stepE p xp xc)) -∗ K ⟨⟩))
      ⊢ wp frame (wpE (defs₀ (F := F)) Variants.none c none) E (cc0__k2_body i arg1 harg1 arg2 harg2 arg3 harg3 arg4 harg4 arg5 harg5 arg6 harg6 arg7 harg7 arg8 harg8 arg9 harg9) K := by
  simp only [cc0__k2_body_eq_skeleton]; unfold cc0__k2_body_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9
  sl_exec (disch := first | sl_exact h0 | sl_exact h1 | sl_exact hE | sl_exact hO | sl_exact hP | sl_exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_words; rw [read_whole _ _ hz2]
    simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
    try rfl
  isplitl [H7]
  · iexists _; isplitr
    swap; · iexact H7
    ipureintro; sl_unfold_words; rw [read_whole _ _ hz2]
    simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
    try rfl
  isplitl [H8]
  · iexists _; isplitr; · ipureintro; exact harg8.read_unread _
    iexact H8
  iexists _; isplitr
  swap; · iexact H9
  ipureintro; sl_unfold_words; rw [read_whole _ _ hz2]
  simp only [View.readAt_eq_ld, harg1.read_unread, harg2.read_unread, harg3.read_unread, harg4.read_unread, harg5.read_unread, harg7.read_unread, harg8.read_unread, harg9.read_unread, View.ld_unit_zero (S := S256x4096) hz2, View.ld_unit_zero (S := S512x4096) hz2, View.ld_unit_zero (S := S1x512x256) hz3, View.ld_unit_zero (S := S512x128) hz2, View.readCov_unit_zero (S := S256x4096) _ hz2, View.readCov_unit_zero (S := S512x4096) _ hz2]
  try rfl

end Cert.Conv2Ideal.Hand

end
-- ==== Proof.Conv1Body.lean ====
/- The body of `Conv1Ideal`'s kernel: the loop that fills the carried buffer, and the whole run, with what it leaves in the result.
   Everything is stated for any float values `F`. -/
module

public import proofs.«01_k».proof.Proof.Gen.Conv1Ideal.Launch
public import proofs.«01_k».proof.Proof.Gen.Conv1Ideal.Skeleton
public import proofs.«01_k».proof.Proof.Gen.Conv1Ideal.Loops
public import proofs.«01_k».proof.Proof.Conv2Body
public import proofs.«01_k».proof.Proof.Gen.Conv1Ideal.Points
public import proofs.«01_k».proof.Proof.Gen.Conv1Ideal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim
public import Idealize.ShloMosaic.Lib.Pointwise
public import Idealize.ShloMosaic.Lib.WritesUnit
public import Idealize.ShloMosaic.Lib.Affine

@[expose] public section

set_option maxRecDepth 16384

noncomputable section

namespace Cert.Conv1Ideal.Hand

open Cert.Conv1Ideal Cert.Conv1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Conv2Ideal.Hand (hz2 read_whole)

/-! ## What the body computes -/

/-- Row `k` of the eight static rows. -/
abbrev row (p : Vec F S8x16384 .f32) (k : ℕ) (h : ∀ a, (![k, 0] : Fin 2 → Nat) a + S1x16384.size a ≤ S8x16384.size a) : Vec F S1x16384 .f32 :=
  View.ld p (Rect.unit (s := S8x16384) ![k, 0] S1x16384.size h)

/-- The operator applied to the input `x`. -/
def lap (p : Vec F S8x16384 .f32) (x : Vec F S8x16384 .f32) : Vec F S8x16384 .f32 :=
  k0_pay7 (k0_pay3 x) (k0_pay5 x (row p 0 inb_S8x16384_S1x16384_0_0) (row p 4 inb_S8x16384_S1x16384_4_0) (row p 5 inb_S8x16384_S1x16384_5_0) (row p 6 inb_S8x16384_S1x16384_6_0) (row p 7 inb_S8x16384_S1x16384_7_0))
    (k0_pay6 (row p 1 inb_S8x16384_S1x16384_1_0)) (row p 0 inb_S8x16384_S1x16384_0_0)

/-- Twice the operator applied to `x`, before the older block is taken off. -/
def twice (p : Vec F S8x16384 .f32) (x : Vec F S8x16384 .f32) : Vec F S8x16384 .f32 :=
  k0_pay2 x (row p 0 inb_S8x16384_S1x16384_0_0) (row p 4 inb_S8x16384_S1x16384_4_0) (row p 5 inb_S8x16384_S1x16384_5_0) (row p 6 inb_S8x16384_S1x16384_6_0) (row p 7 inb_S8x16384_S1x16384_7_0)
    (row p 3 inb_S8x16384_S1x16384_3_0) (row p 2 inb_S8x16384_S1x16384_2_0)

/-- The two blocks the loop carries before trip `k`, from those it starts with. -/
@[reducible] def chain (p : Vec F S8x16384 .f32) (init : Vec F S8x16384 .f32 × Vec F S8x16384 .f32) (k : ℕ) : Vec F S8x16384 .f32 × Vec F S8x16384 .f32 :=
  Nat.rec (motive := fun _ => Vec F S8x16384 .f32 × Vec F S8x16384 .f32) init (fun _ s => (s.2, k0_pay9 s.1 (twice p s.2))) k

/-- What trip `k` stores: the block it carries on, at its eight rows. -/
def trip (p : Vec F S8x16384 .f32) (init : Vec F S8x16384 .f32 × Vec F S8x16384 .f32) (k : Fin k0_t1_loop.trips) : View.Piece (Elt F) S200x16384 .f32 :=
  ⟨Rect.unit (s := S200x16384) (k0_off1 k) S8x16384.size (k0_off1_inb k), k0_pay10 (chain p init k.val).1 (twice p (chain p init k.val).2)⟩

/-- The blocks stored into the carried buffer before trip `k`, last first. -/
@[reducible] def pieces (p : Vec F S8x16384 .f32) (init : Vec F S8x16384 .f32 × Vec F S8x16384 .f32) (k : ℕ) : List (View.Piece (Elt F) S200x16384 .f32) :=
  Nat.rec (motive := fun _ => List (View.Piece (Elt F) S200x16384 .f32)) [] (fun k L => if h : k < k0_t1_loop.trips then trip p init ⟨k, h⟩ :: L else L) k

theorem pieces_succ (p : Vec F S8x16384 .f32) (init : Vec F S8x16384 .f32 × Vec F S8x16384 .f32) (k : Fin k0_t1_loop.trips) :
    pieces p init (k.val + 1) = trip p init k :: pieces p init k.val := dif_pos k.isLt

set_option maxHeartbeats 4000000 in
/-- One trip: the block stored and the blocks carried on. -/
theorem run_trip (𝒱 : Variants) (c : Dev nD) (bd : Option 𝒱.V) (E : Set ℕ) (arg0 : Memref sig .tc .vmem S8x16384 .f32) (harg0 : arg0.IsWhole) (arg1 : Memref sig .tc .vmem S8x16384 .f32) (harg1 : arg1.IsWhole) (arg2 : Memref sig .tc .vmem S256x200 .f32) (harg2 : arg2.IsWhole) (arg3 : Memref sig .tc .smem S4 .f32) (harg3 : arg3.IsWhole) (arg4 : Memref sig .tc .vmem S512x128 .f32) (harg4 : arg4.IsWhole) (arg5 : Memref sig .tc .vmem S256x4096 .f32) (harg5 : arg5.IsWhole) (arg6 : Memref sig .tc .vmem S200x16384 .f32) (harg6 : arg6.IsWhole)
    (v1 : FVec F S8x16384 .f32) (v40 : FVec F S8x16384 .f32) (v42 : FVec F S1x16384 .f32) (p : Vec F S8x16384 .f32) (init : Vec F S8x16384 .f32 × Vec F S8x16384 .f32)
    (f : BufTy.Contents (Elt F) arg6.view.ty) (k : Fin k0_t1_loop.trips) :
    (iprop((arg1.view.loc (c : Thread nD τ) ↦[arg1.view.set]{fullShare} harg1.unread p) ∗ (arg6.view.loc (c : Thread nD τ) ↦[arg6.view.set]{fullShare} f)) : sProp 𝕄)
      ⊢ wp frame (wpE (defs₀ (F := F)) 𝒱 (c : Thread nD τ) bd) E (k0_t1_body (F := F) arg0 harg0 arg1 harg1 arg2 harg2 arg3 harg3 arg4 harg4 arg5 harg5 arg6 harg6 v1 v40 v42 k (chain p init k.val))
          (fun y => iprop((arg1.view.loc (c : Thread nD τ) ↦[arg1.view.set]{fullShare} harg1.unread p) ∗ (arg6.view.loc (c : Thread nD τ) ↦[arg6.view.set]{fullShare} arg6.view.writes (Elt F) f [trip p init k])
            ∗ ⌜y = chain p init (k.val + 1)⌝)) := by
  have hk : k.val < 23 := Nat.lt_of_lt_of_le k.isLt k0_t1_abs.2.1
  unfold k0_t1_body
  iintro ⟨H1, H6⟩
  sl_exec
  sl_step
  isplitl [H1]; · iexact H1
  sl_unfold_words
  simp only [View.readAt_eq_ld, harg1.read_unread]
  isplitl [H6]; · iexact H6
  ipureintro; rfl

set_option warn.classDefReducibility false in
/-- The loop's invariant: the static rows untouched, the carried buffer filled by the trips so far, the two blocks of the chain. -/
@[sl_loop] def loopInv (𝒱 : Variants) (c : Dev nD) (bd : Option 𝒱.V) (E : Set ℕ) (arg0 : Memref sig .tc .vmem S8x16384 .f32) (harg0 : arg0.IsWhole) (arg1 : Memref sig .tc .vmem S8x16384 .f32) (harg1 : arg1.IsWhole) (arg2 : Memref sig .tc .vmem S256x200 .f32) (harg2 : arg2.IsWhole) (arg3 : Memref sig .tc .smem S4 .f32) (harg3 : arg3.IsWhole) (arg4 : Memref sig .tc .vmem S512x128 .f32) (harg4 : arg4.IsWhole) (arg5 : Memref sig .tc .vmem S256x4096 .f32) (harg5 : arg5.IsWhole) (arg6 : Memref sig .tc .vmem S200x16384 .f32) (harg6 : arg6.IsWhole)
    (v1 : FVec F S8x16384 .f32) (v40 : FVec F S8x16384 .f32) (v42 : FVec F S1x16384 .f32) (p : Vec F S8x16384 .f32)
    (G : BufTy.Contents (Elt F) arg6.view.ty) (init : Vec F S8x16384 .f32 × Vec F S8x16384 .f32) :
    LoopInvTy_k0_t1 (F := F) Unit ℕ (UR sig nD τ) ℕ 𝒱 c bd E arg0 harg0 arg1 harg1 arg2 harg2 arg3 harg3 arg4 harg4 arg5 harg5 arg6 harg6 v1 v40 v42 init where
  inv k acc := iprop((arg1.view.loc (c : Thread nD τ) ↦[arg1.view.set]{fullShare} harg1.unread p)
    ∗ (∃ f, (arg6.view.loc (c : Thread nD τ) ↦[arg6.view.set]{fullShare} f) ∗ ⌜f = arg6.view.writes (Elt F) G (pieces p init k)⌝) ∗ ⌜acc = chain p init k⌝)
  step k acc := by
    iintro ⟨H1, ⟨%f, H6, %hf⟩, %hacc⟩
    subst hacc
    iapply (wp_wand_r Idealize.ShloMosaic.frame (wpE (defs₀ (F := F)) 𝒱 (c : Thread nD τ) bd) E)
    isplitl [H1 H6]
    · iapply (run_trip 𝒱 c bd E arg0 harg0 arg1 harg1 arg2 harg2 arg3 harg3 arg4 harg4 arg5 harg5 arg6 harg6 v1 v40 v42 p init f k)
      isplitl [H1]; · iexact H1
      iexact H6
    · iintro %y ⟨H1, H6, %hy⟩
      isplitl [H1]; · iexact H1
      isplitl [H6]
      · iexists _; isplitl [H6]; · iexact H6
        ipureintro; rw [hf, pieces_succ]; rfl
      ipureintro; exact hy

/-- Entry `k` of the four coefficients. -/
abbrev coef (a : Vec F S4 .f32) (k : ℕ) (h : ∀ d, (![k] : Fin 1 → Nat) d + S1.size d ≤ S4.size d) : Elt F .f32 :=
  View.ld a (Rect.unit (s := S4) ![k] S1.size h) (Shape.Idx.first (show 0 < S1.numel by decide))

/-- A quarter of the result from a quarter of the carried buffer: the product with the weights through the polynomial, times the
    pooling matrix eight columns of blocks at a time. -/
def chunk (w : Vec F S256x200 .f32) (s : Vec F S200x4096 .f32) (a : Vec F S4 .f32) (r : Vec F S512x128 .f32) : Vec F S256x1024 .f32 :=
  k0_pay17 (k0_pay12 w s (coef a 0 inb_S4_S1_0) (coef a 1 inb_S4_S1_1) (coef a 2 inb_S4_S1_2) (coef a 3 inb_S4_S1_3)) (k0_pay13 r)
    (k0_pay14 w s (coef a 0 inb_S4_S1_0) (coef a 1 inb_S4_S1_1) (coef a 2 inb_S4_S1_2) (coef a 3 inb_S4_S1_3) r)
    (k0_pay15 w s (coef a 0 inb_S4_S1_0) (coef a 1 inb_S4_S1_1) (coef a 2 inb_S4_S1_2) (coef a 3 inb_S4_S1_3) r)
    (k0_pay16 w s (coef a 0 inb_S4_S1_0) (coef a 1 inb_S4_S1_1) (coef a 2 inb_S4_S1_2) (coef a 3 inb_S4_S1_3)) (constant S256x128 .f32 0x00000000#32)

/-- The carried buffer after the loop: block `k` of eight rows is the chain's block `k`. -/
def stack (p : Vec F S8x16384 .f32) (x : Vec F S8x16384 .f32) : Vec F S200x16384 .f32 := fun y =>
  (if (y 0).val < 8 then k0_pay4 x else (chain p (k0_pay3 x, lap p x) ((y 0).val / 8 - 1)).2) (ix2 ⟨(y 0).val % 8, Nat.mod_lt _ (by decide)⟩ (y 1))

/-- A quarter of the stacked blocks' columns. -/
def quarter (p : Vec F S8x16384 .f32) (x : Vec F S8x16384 .f32) (ci : Fin 4) : Vec F S200x4096 .f32 := fun z =>
  stack p x (ix2 (z 0) ⟨4096 * ci.val + (z 1).val, by have h2 : (z 1).val < 4096 := (z 1).isLt; have := ci.isLt; show _ < 16384; omega⟩)

/-- The result: its four quarters. -/
def out (p : Vec F S8x16384 .f32) (x : Vec F S8x16384 .f32) (w : Vec F S256x200 .f32) (a : Vec F S4 .f32) (r : Vec F S512x128 .f32) : Vec F S256x4096 .f32 := fun y =>
  chunk w (quarter p x ⟨(y 1).val / 1024, by have h1 : (y 1).val < 4096 := (y 1).isLt; omega⟩) a r
    (ix2 (y 0) ⟨(y 1).val % 1024, Nat.mod_lt _ (by decide)⟩)

/-- An entry of quarter `ci` of the result. -/
theorem out_at (p : Vec F S8x16384 .f32) (x : Vec F S8x16384 .f32) (w : Vec F S256x200 .f32) (a : Vec F S4 .f32) (r : Vec F S512x128 .f32)
    (ci : Fin 4) (z : S256x1024.Idx) (y : S256x4096.Idx) (h0 : (y 0).val = (z 0).val) (h1 : (y 1).val = 1024 * ci.val + (z 1).val) :
    out p x w a r y = chunk w (quarter p x ci) a r z := by
  have hz : (z 1).val < 1024 := (z 1).isLt
  have hc : (⟨(y 1).val / 1024, by have h1 : (y 1).val < 4096 := (y 1).isLt; omega⟩ : Fin 4) = ci := Fin.ext (by show (y 1).val / 1024 = ci.val; omega)
  have hi : (ix2 (y 0) ⟨(y 1).val % 1024, Nat.mod_lt _ (by decide)⟩ : S256x1024.Idx) = z := by
    funext d; fin_cases d
    · exact Fin.ext h0
    · exact Fin.ext (by show (y 1).val % 1024 = (z 1).val; omega)
  unfold out; rw [hc, hi]

theorem trips_eq : k0_t1_loop.trips = 23 := by decide

theorem off1_eq : ∀ k : Fin k0_t1_loop.trips, k0_off1 k = ![8 * (k.val + 2), 0] := by decide

/-- The blocks stored into the carried buffer are those of the trips. -/
theorem mem_pieces (p : Vec F S8x16384 .f32) (init : Vec F S8x16384 .f32 × Vec F S8x16384 .f32) (q : View.Piece (Elt F) S200x16384 .f32) :
    ∀ n, n ≤ k0_t1_loop.trips → (q ∈ pieces p init n ↔ ∃ k : Fin k0_t1_loop.trips, k.val < n ∧ q = trip p init k)
  | 0, _ => ⟨fun h => absurd h List.not_mem_nil, fun ⟨_, h, _⟩ => absurd h (by omega)⟩
  | n + 1, hn => by
    have ih := mem_pieces p init q n (by omega)
    rw [pieces_succ p init ⟨n, hn⟩, List.mem_cons, ih]
    constructor
    · rintro (h | ⟨k, hk, h⟩)
      · exact ⟨⟨n, hn⟩, Nat.lt_succ_self n, h⟩
      · exact ⟨k, by omega, h⟩
    · rintro ⟨k, hk, h⟩
      by_cases e : k.val = n
      · left; rw [h]; exact congrArg _ (Fin.ext e)
      · right; exact ⟨k, by omega, h⟩

/-- All the blocks stored into the carried buffer, last first. -/
def all (p : Vec F S8x16384 .f32) (x : Vec F S8x16384 .f32) : List (View.Piece (Elt F) S200x16384 .f32) :=
  pieces p (k0_pay3 x, lap p x) k0_t1_loop.trips ++
    [⟨Rect.unit (s := S200x16384) ![8, 0] S8x16384.size inb_S200x16384_S8x16384_8_0,
        k0_pay8 (k0_pay3 x) (k0_pay5 x (row p 0 inb_S8x16384_S1x16384_0_0) (row p 4 inb_S8x16384_S1x16384_4_0) (row p 5 inb_S8x16384_S1x16384_5_0) (row p 6 inb_S8x16384_S1x16384_6_0) (row p 7 inb_S8x16384_S1x16384_7_0))
          (k0_pay6 (row p 1 inb_S8x16384_S1x16384_1_0)) (row p 0 inb_S8x16384_S1x16384_0_0)⟩,
      ⟨Rect.unit (s := S200x16384) ![0, 0] S8x16384.size inb_S200x16384_S8x16384_0_0, k0_pay4 x⟩]

/-- An entry of the stacked blocks in one of the first eight rows. -/
theorem stack_first (p : Vec F S8x16384 .f32) (x : Vec F S8x16384 .f32) (z : S8x16384.Idx) (y : S200x16384.Idx) (h0 : (y 0).val = (z 0).val) (h1 : (y 1).val = (z 1).val) :
    stack p x y = k0_pay4 x z := by
  have hz : (z 0).val < 8 := (z 0).isLt
  have hi : (ix2 ⟨(y 0).val % 8, Nat.mod_lt _ (by decide)⟩ (y 1) : S8x16384.Idx) = z := by
    funext d; fin_cases d
    · exact Fin.ext (by show (y 0).val % 8 = (z 0).val; omega)
    · exact Fin.ext h1
  unfold stack; rw [hi, if_pos (by omega)]

/-- An entry of the stacked blocks in the rows of the chain's block `k`. -/
theorem stack_later (p : Vec F S8x16384 .f32) (x : Vec F S8x16384 .f32) (k : ℕ) (z : S8x16384.Idx) (y : S200x16384.Idx) (h0 : (y 0).val = 8 * (k + 1) + (z 0).val) (h1 : (y 1).val = (z 1).val) :
    stack p x y = (chain p (k0_pay3 x, lap p x) k).2 z := by
  have hz : (z 0).val < 8 := (z 0).isLt
  have hi : (ix2 ⟨(y 0).val % 8, Nat.mod_lt _ (by decide)⟩ (y 1) : S8x16384.Idx) = z := by
    funext d; fin_cases d
    · exact Fin.ext (by show (y 0).val % 8 = (z 0).val; omega)
    · exact Fin.ext h1
  have hk : (y 0).val / 8 - 1 = k := by omega
  unfold stack; rw [hi, if_neg (by omega), hk]

/-- The carried buffer read after the loop is the stacked blocks. -/
theorem read_all (arg6 : Memref sig .tc .vmem S200x16384 .f32) (f : BufTy.Contents (Elt F) arg6.view.ty) (p : Vec F S8x16384 .f32) (x : Vec F S8x16384 .f32) :
    arg6.view.read (Elt F) (arg6.view.writes (Elt F) f (all p x)) = stack p x := by
  funext y
  have hy : (y 0).val < 200 := (y 0).isLt
  have hy1 : (y 1).val < 16384 := (y 1).isLt
  refine View.read_writes_apply_of_pieces _ _ (stack p x) _ ?_ y ?_
  · intro q hq z
    rcases List.mem_append.1 hq with hq | hq
    · obtain ⟨k, -, rfl⟩ := (mem_pieces p _ q _ le_rfl).1 hq
      have e := off1_eq k
      refine Eq.trans ?_ (stack_later p x (k.val + 1) z _ ?_ ?_).symm
      · show k0_pay10 _ _ z = k0_pay9 _ _ z
        unfold k0_pay10; rw [shapeCast_id]
      · show k0_off1 k 0 + 1 * (z 0).val = _
        rw [e]; show 8 * (k.val + 2) + 1 * (z 0).val = _; omega
      · show k0_off1 k 1 + 1 * (z 1).val = _
        rw [e]; show 0 + 1 * (z 1).val = _; omega
    · rcases List.mem_cons.1 hq with rfl | hq
      · refine Eq.trans ?_ (stack_later p x 0 z _ ?_ ?_).symm
        · show k0_pay8 _ _ _ _ z = k0_pay7 _ _ _ _ z
          unfold k0_pay8; rw [shapeCast_id]
        · show 8 + 1 * (z 0).val = _; omega
        · show 0 + 1 * (z 1).val = _; omega
      · obtain rfl := List.mem_singleton.1 hq
        refine (stack_first p x z _ ?_ ?_).symm
        · show 0 + 1 * (z 0).val = _; omega
        · show 0 + 1 * (z 1).val = _; omega
  · by_cases h0 : (y 0).val < 8
    · refine ⟨_, List.mem_append_right _ (List.mem_cons_of_mem _ (List.mem_singleton.2 rfl)), ?_⟩
      rw [Rect.mem_set_unit]; intro d; fin_cases d
      · exact ⟨Nat.zero_le _, by show (y 0).val < 0 + 8; omega⟩
      · exact ⟨Nat.zero_le _, by show (y 1).val < 0 + 16384; omega⟩
    by_cases h1 : (y 0).val < 16
    · refine ⟨_, List.mem_append_right _ List.mem_cons_self, ?_⟩
      rw [Rect.mem_set_unit]; intro d; fin_cases d
      · exact ⟨by show 8 ≤ (y 0).val; omega, by show (y 0).val < 8 + 8; omega⟩
      · exact ⟨Nat.zero_le _, by show (y 1).val < 0 + 16384; omega⟩
    have hk : (y 0).val / 8 - 2 < k0_t1_loop.trips := by rw [trips_eq]; omega
    refine ⟨trip p _ ⟨_, hk⟩, List.mem_append_left _ ((mem_pieces p _ _ _ le_rfl).2 ⟨_, hk, rfl⟩), ?_⟩
    have e := off1_eq ⟨_, hk⟩
    unfold trip
    rw [Rect.mem_set_unit]; intro d; rw [e]; fin_cases d
    · exact ⟨by show 8 * ((y 0).val / 8 - 2 + 2) ≤ (y 0).val; omega, by show (y 0).val < 8 * ((y 0).val / 8 - 2 + 2) + 8; omega⟩
    · exact ⟨Nat.zero_le _, by show (y 1).val < 0 + 16384; omega⟩

/-- A quarter of the carried buffer's columns, loaded after the loop. -/
theorem read_quarter (arg6 : Memref sig .tc .vmem S200x16384 .f32) (p : Vec F S8x16384 .f32) (x : Vec F S8x16384 .f32) (ci : Fin 4) (o : ℕ) (ho : o = 4096 * ci.val)
    (h : ∀ d, (![0, o] : Fin 2 → Nat) d + S200x4096.size d ≤ S200x16384.size d) :
    arg6.view.readCov (all p x) (Rect.unit (s := S200x16384) ![0, o] S200x4096.size h).toLoadRect = quarter p x ci := by
  unfold View.readCov
  rw [View.readAt_eq_ld, read_all]
  subst ho
  funext z
  refine congrArg (stack p x) (funext fun d => Fin.ext ?_)
  fin_cases d
  · show 0 + 1 * (z 0).val = (z 0).val; omega
  · show 4096 * ci.val + 1 * (z 1).val = 4096 * ci.val + (z 1).val; omega

/-- The result's four stores, read back. -/
theorem read_out (arg5 : Memref sig .tc .vmem S256x4096 .f32) (f : BufTy.Contents (Elt F) arg5.view.ty) (p : Vec F S8x16384 .f32) (x : Vec F S8x16384 .f32)
    (w : Vec F S256x200 .f32) (a : Vec F S4 .f32) (r : Vec F S512x128 .f32) (c0 c1 c2 c3 : Vec F S256x1024 .f32)
    (h0 : c0 = chunk w (quarter p x 0) a r) (h1 : c1 = chunk w (quarter p x 1) a r) (h2 : c2 = chunk w (quarter p x 2) a r) (h3 : c3 = chunk w (quarter p x 3) a r) :
    arg5.view.read (Elt F) (arg5.view.writes (Elt F) f
      [⟨Rect.unit (s := S256x4096) ![0, 3072] S256x1024.size inb_S256x4096_S256x1024_0_3072, c3⟩, ⟨Rect.unit (s := S256x4096) ![0, 2048] S256x1024.size inb_S256x4096_S256x1024_0_2048, c2⟩,
       ⟨Rect.unit (s := S256x4096) ![0, 1024] S256x1024.size inb_S256x4096_S256x1024_0_1024, c1⟩, ⟨Rect.unit (s := S256x4096) ![0, 0] S256x1024.size inb_S256x4096_S256x1024_0_0, c0⟩])
      = out p x w a r := by
  subst h0 h1 h2 h3
  funext y
  have hy : (y 0).val < 256 := (y 0).isLt
  have hy1 : (y 1).val < 4096 := (y 1).isLt
  refine View.read_writes_apply_of_pieces _ _ (out p x w a r) _ ?_ y ?_
  · intro q hq z
    simp only [List.mem_cons, List.not_mem_nil, or_false] at hq
    rcases hq with rfl | rfl | rfl | rfl
    · exact (out_at p x w a r 3 z _ (by show 0 + 1 * (z 0).val = _; omega) (by show 3072 + 1 * (z 1).val = 1024 * 3 + (z 1).val; omega)).symm
    · exact (out_at p x w a r 2 z _ (by show 0 + 1 * (z 0).val = _; omega) (by show 2048 + 1 * (z 1).val = 1024 * 2 + (z 1).val; omega)).symm
    · exact (out_at p x w a r 1 z _ (by show 0 + 1 * (z 0).val = _; omega) (by show 1024 + 1 * (z 1).val = 1024 * 1 + (z 1).val; omega)).symm
    · exact (out_at p x w a r 0 z _ (by show 0 + 1 * (z 0).val = _; omega) (by show 0 + 1 * (z 1).val = 1024 * 0 + (z 1).val; omega)).symm
  · have hin : ∀ (o : ℕ) (h : ∀ d, (![0, o] : Fin 2 → Nat) d + S256x1024.size d ≤ S256x4096.size d), o ≤ (y 1).val → (y 1).val < o + 1024 →
        y ∈ (Rect.unit (s := S256x4096) ![0, o] S256x1024.size h).set := fun o h ha hb => by
      rw [Rect.mem_set_unit]; intro d; fin_cases d
      · exact ⟨Nat.zero_le _, by show (y 0).val < 0 + 256; omega⟩
      · exact ⟨ha, hb⟩
    by_cases a3 : 3072 ≤ (y 1).val
    · exact ⟨_, List.mem_cons_self, hin _ inb_S256x4096_S256x1024_0_3072 a3 (by omega)⟩
    by_cases a2 : 2048 ≤ (y 1).val
    · exact ⟨_, List.mem_cons_of_mem _ List.mem_cons_self, hin _ inb_S256x4096_S256x1024_0_2048 a2 (by omega)⟩
    by_cases a1 : 1024 ≤ (y 1).val
    · exact ⟨_, List.mem_cons_of_mem _ (List.mem_cons_of_mem _ List.mem_cons_self), hin _ inb_S256x4096_S256x1024_0_1024 a1 (by omega)⟩
    · exact ⟨_, List.mem_cons_of_mem _ (List.mem_cons_of_mem _ (List.mem_cons_of_mem _ List.mem_cons_self)), hin _ inb_S256x4096_S256x1024_0_0 (by omega) (by omega)⟩

set_option maxHeartbeats 8000000 in
/-- The whole run. -/
theorem run (c : Dev nD) (arg0 : Memref sig .tc .vmem S8x16384 .f32) (harg0 : arg0.IsWhole) (arg1 : Memref sig .tc .vmem S8x16384 .f32) (harg1 : arg1.IsWhole) (arg2 : Memref sig .tc .vmem S256x200 .f32) (harg2 : arg2.IsWhole) (arg3 : Memref sig .tc .smem S4 .f32) (harg3 : arg3.IsWhole) (arg4 : Memref sig .tc .vmem S512x128 .f32) (harg4 : arg4.IsWhole) (arg5 : Memref sig .tc .vmem S256x4096 .f32) (harg5 : arg5.IsWhole) (arg6 : Memref sig .tc .vmem S200x16384 .f32) (harg6 : arg6.IsWhole)
    (x : Vec F S8x16384 .f32) (p : Vec F S8x16384 .f32) (w : Vec F S256x200 .f32) (a : Vec F S4 .f32) (r : Vec F S512x128 .f32) (E : Set ℕ) (K : PUnit → sProp 𝕄) :
    iprop(owns (c : Thread nD τ) arg0 fullShare x ∗ owns (c : Thread nD τ) arg1 fullShare p ∗ owns (c : Thread nD τ) arg2 fullShare w ∗ owns (c : Thread nD τ) arg3 fullShare a ∗ owns (c : Thread nD τ) arg4 fullShare r ∗ (∃ d, owns (c : Thread nD τ) arg5 fullShare d) ∗ (∃ d, owns (c : Thread nD τ) arg6 fullShare d)
        ∗ (iprop(owns (c : Thread nD τ) arg0 fullShare x ∗ owns (c : Thread nD τ) arg1 fullShare p ∗ owns (c : Thread nD τ) arg2 fullShare w ∗ owns (c : Thread nD τ) arg3 fullShare a ∗ owns (c : Thread nD τ) arg4 fullShare r ∗ owns (c : Thread nD τ) arg5 fullShare (out p x w a r) ∗ (∃ d, owns (c : Thread nD τ) arg6 fullShare d)) -∗ K ⟨⟩))
      ⊢ wp frame (wpE (defs₀ (F := F)) Variants.none c none) E (cc0__k1_body arg0 harg0 arg1 harg1 arg2 harg2 arg3 harg3 arg4 harg4 arg5 harg5 arg6 harg6) K := by
  simp only [cc0__k1_body_eq_skeleton]; unfold cc0__k1_body_skel
  simp only [k0_part2_eq_skeleton, k0_part3_eq_skeleton, k0_part4_eq_skeleton, k0_part5_eq_skeleton, k0_part6_eq_skeleton]
  unfold k0_part2_skel k0_part3_skel k0_part4_skel k0_part5_skel k0_part6_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg0.eq_unread hf0; obtain rfl := harg1.eq_unread hf1; obtain rfl := harg2.eq_unread hf2; obtain rfl := harg3.eq_unread hf3; obtain rfl := harg4.eq_unread hf4
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro; sl_unfold_words
    simp only [View.readAt_eq_ld, harg0.read_unread, harg1.read_unread, harg2.read_unread, harg3.read_unread, harg4.read_unread, View.ld_unit_zero (S := S8x16384) hz2, View.ld_unit_zero (S := S256x200) hz2, View.ld_unit_zero (S := S512x128) hz2]
    refine read_out arg5 _ p x w a r _ _ _ _ ?_ ?_ ?_ ?_
    · rw [← read_quarter arg6 p x 0 0 rfl inb_S200x16384_S200x4096_0_0]; rfl
    · rw [← read_quarter arg6 p x 1 4096 rfl inb_S200x16384_S200x4096_0_4096]; rfl
    · rw [← read_quarter arg6 p x 2 8192 rfl inb_S200x16384_S200x4096_0_8192]; rfl
    · rw [← read_quarter arg6 p x 3 12288 rfl inb_S200x16384_S200x4096_0_12288]; rfl
  iexists _; iexists _; isplitr
  swap; · iexact H6
  ipureintro; rfl

end Cert.Conv1Ideal.Hand

end
-- ==== Proof.Conv1Frame.lean ====
/- The frame of `Conv1Ideal`: the body's obligation at its one point, and the run: @main terminates, its arguments end unchanged,
   the result array holds what the body wrote. -/
module

public import proofs.«01_k».proof.Proof.Conv1Body
public import proofs.«01_k».proof.Proof.Gen.Conv1Ideal.Launch
public import proofs.«01_k».proof.Proof.Gen.Conv1Ideal.Skeleton
public import proofs.«01_k».proof.Proof.Gen.Conv1Ideal.Points
public import proofs.«01_k».proof.Proof.Gen.Conv1Ideal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Conv1Ideal.Hand

open Cert.Conv1Ideal Cert.Conv1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first Chebyshev block, the static rows, the weights, the coefficients, the pooling matrix: the blocks the point reads. -/
abbrev bX (c : Dev nD) (t : Fin cfg0.N) : Vec F S8x16384 .f32 := iblk m c 0 t
abbrev bP (c : Dev nD) (t : Fin cfg0.N) : Vec F S8x16384 .f32 := iblk m c 1 t
abbrev bW (c : Dev nD) (t : Fin cfg0.N) : Vec F S256x200 .f32 := iblk m c 2 t
abbrev bA (c : Dev nD) (t : Fin cfg0.N) : Vec F S4 .f32 := iblk m c 3 t
abbrev bR (c : Dev nD) (t : Fin cfg0.N) : Vec F S512x128 .f32 := iblk m c 4 t

/-- The carried buffer, whole. -/
abbrev scM0 : Memref sig .tc .vmem S200x16384 .f32 := Memref.whole cc0_scratch0

/-- The carried buffer at some contents: what the launch gives the region and takes back. -/
theorem PhiA0_eq (c : Dev nD) :
    (Pipeline.ΦA spec0 c : sProp 𝕄) = iprop((∃ d, owns (c : Thread nD τ) scM0 fullShare d) ∗ (∃ r, prngReg c r)) := by
  unfold Pipeline.ΦA; rw [scopedRest0_eq]; simp only [scM0, owns_whole]; try rfl

/-! ## The pipeline's proof data -/

/-- The arrays as the region finds them; after the point each input's buffer at its block, the output's at what the body writes;
    nothing known of the carried buffer; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (bP m c t) (bX m c t) (bW m c t) (bA m c t) (bR m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out (bP m c t) (bX m c t) (bW m c t) (bA m c t) (bR m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

abbrev ms0_0 (t : Fin cfg0.N) : Memref sig .tc .vmem S8x16384 .f32 := win0_0.stage (cfg0.slots t 0)
abbrev hs0_0 (t : Fin cfg0.N) : (ms0_0 t).IsWhole := hstage0_0 0
abbrev ms0_1 (t : Fin cfg0.N) : Memref sig .tc .vmem S8x16384 .f32 := win0_1.stage (cfg0.slots t 1)
abbrev hs0_1 (t : Fin cfg0.N) : (ms0_1 t).IsWhole := hstage0_1 0
abbrev ms0_2 (t : Fin cfg0.N) : Memref sig .tc .vmem S256x200 .f32 := win0_2.stage (cfg0.slots t 2)
abbrev hs0_2 (t : Fin cfg0.N) : (ms0_2 t).IsWhole := hstage0_2 0
abbrev ms0_3 (t : Fin cfg0.N) : Memref sig .tc .smem S4 .f32 := win0_3.stage (cfg0.slots t 3)
abbrev hs0_3 (t : Fin cfg0.N) : (ms0_3 t).IsWhole := hstage0_3 0
abbrev ms0_4 (t : Fin cfg0.N) : Memref sig .tc .vmem S512x128 .f32 := win0_4.stage (cfg0.slots t 4)
abbrev hs0_4 (t : Fin cfg0.N) : (ms0_4 t).IsWhole := hstage0_4 0
abbrev ms0_5 (t : Fin cfg0.N) : Memref sig .tc .vmem S256x4096 .f32 := win0_5.stage (cfg0.slots t 5)
abbrev hs0_5 (t : Fin cfg0.N) : (ms0_5 t).IsWhole := hstage0_5 0

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare (iblk m c 0 t) from by
    unfold Dat.leavesExact; rw [show cfg0.idle 0 (grid0.coords t) = false from rfl, after0_0]]
  rw [show (dats m 0 c).leavesExact 1 t = owns (c : Thread nD τ) (ms0_1 t) fullShare (iblk m c 1 t) from by
    unfold Dat.leavesExact; rw [show cfg0.idle 1 (grid0.coords t) = false from rfl, after0_1]]
  rw [show (dats m 0 c).leavesExact 2 t = owns (c : Thread nD τ) (ms0_2 t) fullShare (iblk m c 2 t) from by
    unfold Dat.leavesExact; rw [show cfg0.idle 2 (grid0.coords t) = false from rfl, after0_2]]
  rw [show (dats m 0 c).leavesExact 3 t = owns (c : Thread nD τ) (ms0_3 t) fullShare (iblk m c 3 t) from by
    unfold Dat.leavesExact; rw [show cfg0.idle 3 (grid0.coords t) = false from rfl, after0_3]]
  rw [show (dats m 0 c).leavesExact 4 t = owns (c : Thread nD τ) (ms0_4 t) fullShare (iblk m c 4 t) from by
    unfold Dat.leavesExact; rw [show cfg0.idle 4 (grid0.coords t) = false from rfl, after0_4]]
  rw [show (dats m 0 c).leavesExact 5 t = owns (c : Thread nD τ) (ms0_5 t) fullShare (out (bP m c t) (bX m c t) (bW m c t) (bA m c t) (bR m c t)) from by
    unfold Dat.leavesExact; rw [show cfg0.idle 5 (grid0.coords t) = false from rfl, after0_5]]
  iintro ⟨⟨HS0, Hg⟩, Ho, ⟨%d0, H0⟩, ⟨%d1, H1⟩, ⟨%d2, H2⟩, ⟨%d3, H3⟩, ⟨%d4, H4⟩, ⟨%d5, H5⟩⟩
  iapply (run c _ _ _ _ _ _ _ _ _ _ _ _ _ _ (bX m c t) (bP m c t) (bW m c t) (bA m c t) (bR m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, H5, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

/-! ## The run -/

-- the library's theorem has implicit arguments found by unifying its conclusion with this one
set_option backward.isDefEq.respectTransparency.types false in
/-- Every execution of @main terminates with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: @main terminates, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Conv1Ideal.Hand

end
-- ==== Proof.Conv1Same.lean ====
/- `Conv1` and `Conv1Ideal` are the same program over any scalars, so the frame proved of the second is the frame of the first. -/
module

public import proofs.«01_k».proof.Proof.Conv1Frame
public import proofs.«01_k».proof.Proof.Gen.Conv1
public import proofs.«01_k».proof.Defs
public import Idealize.ShloMosaic.Lib.Pipeline.Regions

@[expose] public section

set_option maxRecDepth 65536

noncomputable section

namespace Cert.Conv1Same

open Idealize.ShloMosaic Idealize.ShloMosaic.TcCoe Idealize.SL.Sem

variable {F : FTy → Type} [FloatOps F]

/-- The frames of the two programs are one statement. -/
theorem same : Cert.quiescent_Conv1 = (∀ m ρ, Cert.Pre_Conv1 m → θ_run (Cert.Conv1Ideal.defs (F := Bits)) (onTc (τ := Cert.Conv1Ideal.τ) (Cert.Conv1Ideal.main (F := Bits))) ⟨m, fun _ => 0, ρ⟩ (fun r => (∀ c : Dev Cert.Conv1Ideal.nD,
      r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
      ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1)
      ∧ r.2.mem ((c.tc : Thread Cert.Conv1Ideal.nD Cert.Conv1Ideal.τ).loc Cert.Conv1Ideal.main_arg2) = m ((c.tc : Thread Cert.Conv1Ideal.nD Cert.Conv1Ideal.τ).loc Cert.Conv1Ideal.main_arg2)
      ∧ r.2.mem ((c.tc : Thread Cert.Conv1Ideal.nD Cert.Conv1Ideal.τ).loc Cert.Conv1Ideal.main_arg3) = m ((c.tc : Thread Cert.Conv1Ideal.nD Cert.Conv1Ideal.τ).loc Cert.Conv1Ideal.main_arg3)
      ∧ r.2.mem ((c.tc : Thread Cert.Conv1Ideal.nD Cert.Conv1Ideal.τ).loc Cert.Conv1Ideal.main_arg4) = m ((c.tc : Thread Cert.Conv1Ideal.nD Cert.Conv1Ideal.τ).loc Cert.Conv1Ideal.main_arg4)
      ∧ r.2.mem ((c.tc : Thread Cert.Conv1Ideal.nD Cert.Conv1Ideal.τ).loc Cert.Conv1Ideal.main_arg5) = m ((c.tc : Thread Cert.Conv1Ideal.nD Cert.Conv1Ideal.τ).loc Cert.Conv1Ideal.main_arg5)
      ∧ r.2.mem ((c.tc : Thread Cert.Conv1Ideal.nD Cert.Conv1Ideal.τ).loc Cert.Conv1Ideal.main_arg6) = m ((c.tc : Thread Cert.Conv1Ideal.nD Cert.Conv1Ideal.τ).loc Cert.Conv1Ideal.main_arg6))
      ∧ r.2.sem = fun _ => 0)) := by chain_rfl

/-- The frame of `Conv1`. -/
theorem frame : Cert.quiescent_Conv1 := same.mpr fun m ρ _ => Cert.Conv1Ideal.Hand.frame (F := Bits) m ρ

end Cert.Conv1Same

end
-- ==== Proof.Conv1RefFrame.lean ====
/- The frame of the first layer's reference: every execution ends, the arguments keep their contents, every counter is zero. -/
module

public import proofs.«01_k».proof.Defs
public import proofs.«01_k».proof.Proof.Gen.Conv1RefIdeal.Run
public import Idealize.ShloMosaic.Lib.Quiescent

@[expose] public section

noncomputable section

open Idealize.ShloMosaic Idealize.ShloMosaic.TcCoe Idealize.SL.Sem Idealize.ShloMosaic.StableHlo

namespace Cert.Conv1RefFrame

section Conv1

open Cert.Conv1RefIdeal Cert.Conv1RefIdeal.Gen Cert.Conv1RefIdeal.Value

variable (m : (ℓ : Loc nD τ sig) → Buf (Elt Ideal) ℓ)

/-- What a trip's condition writes. -/
theorem cond_writes : (condOps : List (HloOp τ sig (Elt Ideal))).map HloOp.writes
    = [main_while0c_c_11, main_while0c_v50].map fun w => {Proc.devRef (τ := τ) .tc w} := rfl

/-- A buffer that one trip writes nowhere. -/
abbrev Unwritten (b : Ref sig .tc) : Prop :=
  b ∉ [main_while0c_c_11, main_while0c_v50] ∧ b ∉ while0Ops0_W ∧ b ∉ while0Ops0_1_W ∧ b ∉ while0Ops0_2_W
    ∧ b ∉ while0Ops0_3_W ∧ b ∉ while0Ops0_4_W ∧ b ∉ while0Ops0_5_W ∧ b ∉ while0Ops0_6_W ∧ b ∉ while0Ops0_7_W
    ∧ b ∉ while0Ops0_8_W

/-- A buffer that a trip writes nowhere keeps its contents through every trip. -/
theorem atK_kept (c : Dev nD) (b : Ref sig .tc) (h : Unwritten b) : ∀ k,
    atK m k c (Proc.devRef .tc b) = entryContents preI m c (Proc.devRef .tc b)
  | 0 => rfl
  | k + 1 => by
    obtain ⟨hc, h0, h1, h2, h3, h4, h5, h6, h7, h8⟩ := h
    rw [show atK m (k + 1) c = afterL bodyI (after condOps (atK m k c)) from rfl]
    simp only [afterL_cons, afterL_nil]
    rw [after_of_writes_sub _ _ while0Ops0_8_writes h8, after_of_writes_sub _ _ while0Ops0_7_writes h7,
      after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_unwritten _ cond_writes hc,
      atK_kept c b ⟨hc, h0, h1, h2, h3, h4, h5, h6, h7, h8⟩ k]
    rfl

/-- What the operations after the loop write. -/
abbrev postW : List (Ref sig .tc) := [main_v18, main_v19, main_v20, main_v21, main_v22, main_v23, main_v24, main_v25, main_v26, main_v27, main_v28,
  main_v29, main_v30, main_v31, main_v32, main_v33, main_v34, main_v35, main_v36, main_v37, main_v38,
  main_v39, main_v40, main_v41, main_v42, main_v43, main_v44, main_cst_4, main_v45, main_cst_5, main_v46,
  main_v47, main_v48, main_v49]

theorem post_writes : (hostOps0_5 : List (HloOp τ sig (Elt Ideal))).map HloOp.writes
    = postW.map fun w => {Proc.devRef (τ := τ) .tc w} := rfl

/-- A buffer no operation of the reference writes ends as it began. -/
theorem final_kept (c : Dev nD) (b : Ref sig .tc) (h : Unwritten b) (h0 : b ∉ hostOps0_W) (h1 : b ∉ hostOps0_1_W)
    (h2 : b ∉ hostOps0_2_W) (h3 : b ∉ hostOps0_3_W) (h4 : b ∉ hostOps0_4_W) (h5 : b ∉ postW) :
    finalContents condOps preI bodyI postI 23 m c (Proc.devRef .tc b) = m ((c.tc : Thread nD τ).loc b) := by
  have e := atK_kept m c b h 23
  simp only [finalContents, afterL_cons, afterL_nil]
  rw [after_unwritten _ post_writes h5, after_unwritten _ cond_writes h.1]
  refine e.trans ?_
  simp only [entryContents, afterL_cons, afterL_nil]
  rw [after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- The first layer's reference leaves its arguments as they were, and no counter is left raised. -/
theorem conv1 : Cert.quiescent_Conv1RefIdeal := fun m ρ _ =>
  (θ_run Cert.Conv1RefIdeal.defs _ _).mono (fun r h => ⟨fun c => ⟨
      (h c main_arg0 rfl).trans (final_kept m c main_arg0 (by decide) (by decide) (by decide) (by decide) (by decide)
        (by decide) (by decide)),
      (h c main_arg1 rfl).trans (final_kept m c main_arg1 (by decide) (by decide) (by decide) (by decide) (by decide)
        (by decide) (by decide)),
      (h c main_arg2 rfl).trans (final_kept m c main_arg2 (by decide) (by decide) (by decide) (by decide) (by decide)
        (by decide) (by decide)),
      (h c main_arg3 rfl).trans (final_kept m c main_arg3 (by decide) (by decide) (by decide) (by decide) (by decide)
        (by decide) (by decide)),
      (h c main_arg4 rfl).trans (final_kept m c main_arg4 (by decide) (by decide) (by decide) (by decide) (by decide)
        (by decide) (by decide)),
      (h c main_arg5 rfl).trans (final_kept m c main_arg5 (by decide) (by decide) (by decide) (by decide) (by decide)
        (by decide) (by decide)),
      (h c main_arg6 rfl).trans (final_kept m c main_arg6 (by decide) (by decide) (by decide) (by decide) (by decide)
        (by decide) (by decide))⟩,
      Idealize.ShloMosaic.sem_eq_zero_of_no_sems (by decide) r.2⟩)
    (Cert.Conv1RefIdeal.Value.run_fold (F := Ideal) m ρ)

end Conv1

end Cert.Conv1RefFrame

end
-- ==== Proof.HeadBody.lean ====
/- What the body of `HeadIdeal`'s kernel leaves at a grid point, as terms of the blocks it loads. -/
module

public import proofs.«01_k».proof.Proof.Gen.HeadIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.ShloMosaic.Tactic Idealize.SL.Sem
open Idealize.ShloMosaic.Pipeline (Dat)

namespace Cert.HeadIdeal.Body

open Cert.HeadIdeal Cert.HeadIdeal.Gen Cert.HeadIdeal.Value

variable {F : FTy → Type} [FloatOps F]
variable (m : (ℓ : Loc nD τ sig) → Buf (Elt F) ℓ)

theorem hz : (![0, 0] : Fin 2 → Nat) = fun _ => 0 := funext fun a => by fin_cases a <;> rfl

/-- Entry `k` of the four coefficients. -/
abbrev coef (a : Vec F S4 .f32) (k : ℕ) (h : ∀ d, (![k] : Fin 1 → Nat) d + S1.size d ≤ S4.size d) : Elt F .f32 :=
  View.ld a (Rect.unit (s := S4) ![k] S1.size h) (Shape.Idx.first (show 0 < S1.numel by decide))

/-- The scratch after the first point: the zero block plus the product of the two blocks. -/
theorem sout_A (c : Dev nD) (i : grid0.Coords) (a1 h1 a2 h2 a3 h3 a4 h4 a5 h5 a6 h6 a7 h7 a8 h8) (hc0 hc1)
    (x0 : Vec F S8192x8 .f32) (x1 : Vec F S8192x512 .f32) (x2 : Vec F S1x512 .f32) (x3 : Vec F S512x10 .f32) (x4 : Vec F S1x10 .f32) (x5 : Vec F S4 .f32) :
    sout0_A_0 c i a1 h1 a2 h2 a3 h3 a4 h4 a5 h5 a6 h6 a7 h7 a8 h8 hc0 hc1 x0 x1 x2 x3 x4 x5 = k0_pay2 k0_pay1 x0 x1 := by
  unfold sout0_A_0
  rw [View.read_writes_eq_canon _ _ _ (scover0_A_0 c i a1 h1 a2 h2 a3 h3 a4 h4 a5 h5 a6 h6 a7 h7 a8 h8 hc0 hc1 x0 x1 x2 x3 x4 x5)]
  unfold kernelRun0_A
  dsimp only
  sl_unfold_words
  rw [View.canon_cons_unit_zero (S := S8x512) hz, View.readCov_unit_zero (S := S8x512) _ hz]
  simp only [View.readAt_eq_ld, h1.read_unread, h2.read_unread, View.ld_unit_zero (S := S8192x8) hz, View.ld_unit_zero (S := S8192x512) hz]

/-- The scratch after an inner point: what it held plus the product of the two blocks. -/
theorem sout_B (c : Dev nD) (i : grid0.Coords) (a1 h1 a2 h2 a3 h3 a4 h4 a5 h5 a6 h6 a7 h7 a8 h8) (hc0 hc1)
    (x0 : Vec F S8192x8 .f32) (x1 : Vec F S8192x512 .f32) (x2 : Vec F S1x512 .f32) (x3 : Vec F S512x10 .f32) (x4 : Vec F S1x10 .f32) (x5 : Vec F S4 .f32) (xs : Vec F S8x512 .f32) :
    sout0_B_0 c i a1 h1 a2 h2 a3 h3 a4 h4 a5 h5 a6 h6 a7 h7 a8 h8 hc0 hc1 x0 x1 x2 x3 x4 x5 xs = k0_pay2 xs x0 x1 := by
  unfold sout0_B_0
  rw [View.read_writes_eq_canon _ _ _ (scover0_B_0 c i a1 h1 a2 h2 a3 h3 a4 h4 a5 h5 a6 h6 a7 h7 a8 h8 hc0 hc1 x0 x1 x2 x3 x4 x5 xs)]
  unfold kernelRun0_B
  dsimp only
  rw [View.canon_unit_zero hz]
  simp only [View.readAt_eq_ld, h1.read_unread, h2.read_unread, h8.read_unread, View.ld_unit_zero (S := S8192x8) hz, View.ld_unit_zero (S := S8192x512) hz, View.ld_unit_zero (S := S8x512) hz]

/-- The result block after the last point: the last partial sum through the bias, the polynomial and the second product. -/
theorem out_C (c : Dev nD) (i : grid0.Coords) (a1 h1 a2 h2 a3 h3 a4 h4 a5 h5 a6 h6 a7 h7 a8 h8) (hc0 hc1)
    (x0 : Vec F S8192x8 .f32) (x1 : Vec F S8192x512 .f32) (x2 : Vec F S1x512 .f32) (x3 : Vec F S512x10 .f32) (x4 : Vec F S1x10 .f32) (x5 : Vec F S4 .f32) (xs : Vec F S8x512 .f32) :
    out0_C_6 c i a1 h1 a2 h2 a3 h3 a4 h4 a5 h5 a6 h6 a7 h7 a8 h8 hc0 hc1 x0 x1 x2 x3 x4 x5 xs
      = k0_pay3 (k0_pay2 xs x0 x1) x2 (coef x5 0 inb_S4_S1_0) (coef x5 1 inb_S4_S1_1) (coef x5 2 inb_S4_S1_2) (coef x5 3 inb_S4_S1_3) x3 x4 := by
  unfold out0_C_6
  rw [View.read_writes_eq_canon _ _ _ (cover0_C_6 c i a1 h1 a2 h2 a3 h3 a4 h4 a5 h5 a6 h6 a7 h7 a8 h8 hc0 hc1 x0 x1 x2 x3 x4 x5 xs)]
  unfold kernelRun0_C
  dsimp only
  sl_unfold_words
  rw [View.canon_unit_zero hz, View.readCov_unit_zero (S := S8x512) _ hz]
  simp only [View.readAt_eq_ld, h1.read_unread, h2.read_unread, h3.read_unread, h4.read_unread, h5.read_unread, h6.read_unread, h8.read_unread, View.ld_unit_zero (S := S8192x8) hz, View.ld_unit_zero (S := S8192x512) hz, View.ld_unit_zero (S := S8x512) hz, View.ld_unit_zero (S := S1x512) hz, View.ld_unit_zero (S := S512x10) hz, View.ld_unit_zero (S := S1x10) hz]

end Cert.HeadIdeal.Body

end
-- ==== Proof.Reals.lean ====
/- Finite extended reals: closed under sums and products, and the cubic's two forms agree on them. -/
module

public import Idealize.ShloMosaic.Lib.Pointwise

@[expose] public section

namespace Cert.Reals

open Idealize.ShloMosaic Idealize.SL.Sem

/-- `x` is a real number. -/
def Fn (x : EReal) : Prop := ∃ r : ℝ, x = (r : EReal)

theorem Fn.coe (r : ℝ) : Fn (r : EReal) := ⟨r, rfl⟩
theorem Fn.zero : Fn 0 := ⟨0, rfl⟩
theorem Fn.one : Fn 1 := ⟨1, rfl⟩
theorem Fn.add {x y : EReal} (hx : Fn x) (hy : Fn y) : Fn (x + y) := by
  obtain ⟨a, rfl⟩ := hx; obtain ⟨b, rfl⟩ := hy; exact ⟨a + b, (EReal.coe_add a b).symm⟩
theorem Fn.mul {x y : EReal} (hx : Fn x) (hy : Fn y) : Fn (x * y) := by
  obtain ⟨a, rfl⟩ := hx; obtain ⟨b, rfl⟩ := hy; exact ⟨a * b, (EReal.coe_mul a b).symm⟩
theorem Fn.sub {x y : EReal} (hx : Fn x) (hy : Fn y) : Fn (x - y) := by
  obtain ⟨a, rfl⟩ := hx; obtain ⟨b, rfl⟩ := hy; exact ⟨a - b, (EReal.coe_sub a b).symm⟩
theorem Fn.sum {ι : Type} (s : Finset ι) (f : ι → EReal) (h : ∀ i ∈ s, Fn (f i)) : Fn (∑ i ∈ s, f i) :=
  Finset.sum_induction f Fn (fun _ _ => Fn.add) Fn.zero h

/-- The test `|x| < ∞` holds of real numbers only. -/
theorem fn_of_lt (x : EReal) (h : Ideal.cmp .olt (max x (-x)) (Ideal.ofBits .f32 0x7F800000#32) = 1#1) : Fn x := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- The cubic by Horner's rule is the sum of its four terms, on real numbers. -/
theorem horner {c0 c1 c2 c3 z : EReal} (h0 : Fn c0) (h1 : Fn c1) (h2 : Fn c2) (h3 : Fn c3) (hz : Fn z) :
    ((c3 * z + c2) * z + c1) * z + c0 = c0 + c1 * z + c2 * (z * z) + c3 * (z * z * z) := by
  obtain ⟨c0, rfl⟩ := h0; obtain ⟨c1, rfl⟩ := h1; obtain ⟨c2, rfl⟩ := h2; obtain ⟨c3, rfl⟩ := h3; obtain ⟨z, rfl⟩ := hz
  simp only [← EReal.coe_add, ← EReal.coe_mul]
  congr 1; ring

end Cert.Reals
-- ==== Proof.HeadValue.lean ====
/- What `HeadIdeal`'s @main leaves is what the reference leaves: the blocked product is one product over 65536 terms, and the
   polynomial by Horner's rule is the sum of its terms. -/
module

public import proofs.«01_k».proof.Defs
public import proofs.«01_k».proof.Proof.HeadBody
public import proofs.«01_k».proof.Proof.Reals
public import proofs.«01_k».proof.Proof.Gen.HeadRefIdeal.Run
public import proofs.«01_k».proof.Proof.Gen.Pre_head_pre
public import Idealize.ShloMosaic.Lib.Pointwise
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.HeadIdeal.Body

open Cert.HeadIdeal Cert.HeadIdeal.Gen Cert.HeadIdeal.Value Cert.Reals

section Chain

variable {F : FTy → Type} [FloatOps F]
variable (m : (ℓ : Loc nD τ sig) → Buf (Elt F) ℓ)

/-- The partial sums after point `n`: the zero block, then one product of blocks more per point. -/
def acc (c : Dev nD) : (n : ℕ) → n < cfg0.N → Vec F S8x512 .f32
  | 0, h => k0_pay2 k0_pay1 (iblk m c 0 ⟨0, h⟩) (iblk m c 1 ⟨0, h⟩)
  | n + 1, h => k0_pay2 (acc c n (Nat.lt_of_succ_lt h)) (iblk m c 0 ⟨n + 1, h⟩) (iblk m c 1 ⟨n + 1, h⟩)

/-- The scratch after point `n` holds the partial sums. -/
theorem outs_acc (c : Dev nD) : ∀ (n : ℕ) (h : n < cfg0.N), n < 7 → (outsAt0 m c n h).2 = acc m c n h
  | 0, h, _ => by
    rw [outsAt0_zero m c h, stAt0_A m c ⟨0, h⟩ _ (by dsimp only) (by dsimp only; omega)]
    dsimp only; exact sout_A ..
  | n + 1, h, h7 => by
    rw [outsAt0_succ m c n h, stAt0_B m c ⟨n + 1, h⟩ _ (by dsimp only; omega) (by dsimp only; omega)]
    dsimp only; refine (sout_B ..).trans ?_
    rw [outs_acc c n _ (by omega)]; rfl

/-- The result: the last partial sum through the bias, the polynomial and the second product. -/
theorem G6_eq (c : Dev nD) (h6 : 6 < cfg0.N) (h7 : 7 < cfg0.N) :
    G6 m c = k0_pay3 (acc m c 7 h7) (iblk m c 2 ⟨7, h7⟩)
      (coef (iblk m c 5 ⟨7, h7⟩) 0 inb_S4_S1_0) (coef (iblk m c 5 ⟨7, h7⟩) 1 inb_S4_S1_1)
      (coef (iblk m c 5 ⟨7, h7⟩) 2 inb_S4_S1_2) (coef (iblk m c 5 ⟨7, h7⟩) 3 inb_S4_S1_3) (iblk m c 3 ⟨7, h7⟩) (iblk m c 4 ⟨7, h7⟩) := by
  rw [G6_last, ← outsAt0_sweep m c 7 h7, outsAt0_succ m c 6 h7, stAt0_C m c ⟨7, h7⟩ _ (by dsimp only; omega) (by dsimp only)]
  dsimp only; refine (out_C ..).trans ?_
  rw [outs_acc m c 6 _ (by decide)]; rfl

/-! ## The blocks -/

theorem V_v2 (c : Dev nD) : V m c main_v2 = shapeCast S65536x8 (transpose S1024x64x8 [2, 0, 1] (shapeCast S64x8x1024 (m ((c : Thread nD τ).loc main_arg0)) shapeCasts_S512x1024_S64x8x1024) transposes_S64x8x1024_S1024x64x8_2_0_1) shapeCasts_S1024x64x8_S65536x8 := by
  unfold V; after_results_simp <;> rfl
theorem V_v3 (c : Dev nD) : V m c main_v3 = shapeCast S1x512 (m ((c : Thread nD τ).loc main_arg2)) shapeCasts_S512_S1x512 := by
  unfold V; after_results_simp <;> rfl
theorem V_v4 (c : Dev nD) : V m c main_v4 = shapeCast S1x10 (m ((c : Thread nD τ).loc main_arg4)) shapeCasts_S10_S1x10 := by
  unfold V; after_results_simp <;> rfl

/-- Point `t` reads rows `8192 t …` of the input and of the first weights; the other blocks are whole arrays. -/
theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel

theorem blk0 (c : Dev nD) (t : Fin cfg0.N) (k : Fin 8192) (a : Fin 8) (h : 8192 * t.val + k.val < 65536) :
    (iblk m c 0 t : Vec F S8192x8 .f32) (ix2 k a) = (V m c main_v2 : Vec F S65536x8 .f32) (ix2 ⟨8192 * t.val + k.val, h⟩ a) := by
  unfold iblk
  rw [View.read_apply]
  show V m c main_v2 _ = V m c main_v2 _
  congr 1; funext d; apply Fin.ext
  match d with
  | ⟨0, _⟩ => show win0_0.index t 0 * 8192 + 1 * k.val = 8192 * t.val + k.val; rw [(idx0 t).1]; omega
  | ⟨1, _⟩ => show win0_0.index t 1 * 8 + 1 * a.val = a.val; rw [(idx0 t).2]; omega
theorem blk1 (c : Dev nD) (t : Fin cfg0.N) (k : Fin 8192) (b : Fin 512) (h : 8192 * t.val + k.val < 65536) :
    (iblk m c 1 t : Vec F S8192x512 .f32) (ix2 k b) = (m ((c : Thread nD τ).loc main_arg1) : Vec F S65536x512 .f32) (ix2 ⟨8192 * t.val + k.val, h⟩ b) := by
  unfold iblk
  rw [View.read_apply]
  show V m c main_arg1 _ = _
  rw [V_main_arg1]
  congr 1; funext d; apply Fin.ext
  match d with
  | ⟨0, _⟩ => show win0_1.index t 0 * 8192 + 1 * k.val = 8192 * t.val + k.val; rw [(idx1 t).1]; omega
  | ⟨1, _⟩ => show win0_1.index t 1 * 512 + 1 * b.val = b.val; rw [(idx1 t).2]; omega
theorem blk2 (c : Dev nD) (t : Fin cfg0.N) : (iblk m c 2 t : Vec F S1x512 .f32) = V m c main_v3 := by
  have hi : ∀ t : Fin cfg0.N, win0_2.index t 0 = 0 ∧ win0_2.index t 1 = 0 := by decide +kernel
  funext j; unfold iblk; rw [View.read_apply]
  show V m c main_v3 _ = V m c main_v3 _
  congr 1; funext d; apply Fin.ext
  match d with
  | ⟨0, _⟩ => show win0_2.index t 0 * 1 + 1 * (j 0).val = (j 0).val; rw [(hi t).1]; omega
  | ⟨1, _⟩ => show win0_2.index t 1 * 512 + 1 * (j 1).val = (j 1).val; rw [(hi t).2]; omega
theorem blk3 (c : Dev nD) (t : Fin cfg0.N) : (iblk m c 3 t : Vec F S512x10 .f32) = m ((c : Thread nD τ).loc main_arg3) := by
  have hi : ∀ t : Fin cfg0.N, win0_3.index t 0 = 0 ∧ win0_3.index t 1 = 0 := by decide +kernel
  funext j; unfold iblk; rw [View.read_apply]
  show V m c main_arg3 _ = _
  rw [V_main_arg3]
  congr 1; funext d; apply Fin.ext
  match d with
  | ⟨0, _⟩ => show win0_3.index t 0 * 512 + 1 * (j 0).val = (j 0).val; rw [(hi t).1]; omega
  | ⟨1, _⟩ => show win0_3.index t 1 * 10 + 1 * (j 1).val = (j 1).val; rw [(hi t).2]; omega
theorem blk4 (c : Dev nD) (t : Fin cfg0.N) : (iblk m c 4 t : Vec F S1x10 .f32) = V m c main_v4 := by
  have hi : ∀ t : Fin cfg0.N, win0_4.index t 0 = 0 ∧ win0_4.index t 1 = 0 := by decide +kernel
  funext j; unfold iblk; rw [View.read_apply]
  show V m c main_v4 _ = V m c main_v4 _
  congr 1; funext d; apply Fin.ext
  match d with
  | ⟨0, _⟩ => show win0_4.index t 0 * 1 + 1 * (j 0).val = (j 0).val; rw [(hi t).1]; omega
  | ⟨1, _⟩ => show win0_4.index t 1 * 10 + 1 * (j 1).val = (j 1).val; rw [(hi t).2]; omega
theorem blk5 (c : Dev nD) (t : Fin cfg0.N) : (iblk m c 5 t : Vec F S4 .f32) = m ((c : Thread nD τ).loc main_arg5) := by
  have hi : ∀ t : Fin cfg0.N, win0_5.index t 0 = 0 := by decide +kernel
  funext j; unfold iblk; rw [View.read_apply]
  show V m c main_arg5 _ = _
  rw [V_main_arg5]
  congr 1; funext d; apply Fin.ext
  match d with
  | ⟨0, _⟩ => show win0_5.index t 0 * 4 + 1 * (j 0).val = (j 0).val; rw [hi t]; omega

end Chain

/-! ## The sums over the reals -/

variable (m : (ℓ : Loc nD τ sig) → Buf (Elt Ideal) ℓ)

theorem pay1_apply (a : Fin 8) (b : Fin 512) : k0_pay1 (F := Ideal) (ix2 a b) = 0 := by
  pointwise [k0_pay1]
theorem pay2_apply (v : Vec Ideal S8x512 .f32) (x : Vec Ideal S8192x8 .f32) (w : Vec Ideal S8192x512 .f32) (a : Fin 8) (b : Fin 512) :
    k0_pay2 v x w (ix2 a b) = v (ix2 a b) + ∑ k : Fin 8192, x (ix2 k a) * w (ix2 k b) := by
  pointwise [k0_pay2]

/-- The input and the first weights, whole and the blocks a point reads. -/
abbrev hX (c : Dev nD) : Vec Ideal S65536x8 .f32 := V m c main_v2
abbrev hW (c : Dev nD) : Vec Ideal S65536x512 .f32 := m ((c : Thread nD τ).loc main_arg1)
abbrev bX (c : Dev nD) (t : Fin cfg0.N) : Vec Ideal S8192x8 .f32 := iblk m c 0 t
abbrev bW (c : Dev nD) (t : Fin cfg0.N) : Vec Ideal S8192x512 .f32 := iblk m c 1 t

/-- Term `k` of the first product at `(a, b)`. -/
def term (c : Dev nD) (a : Fin 8) (b : Fin 512) (k : ℕ) : EReal :=
  if h : k < 65536 then hX m c (ix2 ⟨k, h⟩ a) * hW m c (ix2 ⟨k, h⟩ b) else 0

theorem block_sum (c : Dev nD) (t : Fin cfg0.N) (a : Fin 8) (b : Fin 512) :
    (∑ k : Fin 8192, bX m c t (ix2 k a) * bW m c t (ix2 k b))
      = ∑ k ∈ Finset.range 8192, term m c a b (8192 * t.val + k) := by
  have hN : t.val < 8 := lt_of_lt_of_eq t.isLt N_0
  rw [Finset.sum_range]
  refine Finset.sum_congr rfl fun k _ => ?_
  have h : 8192 * t.val + k.val < 65536 := by have := k.isLt; omega
  rw [show bX m c t (ix2 k a) = _ from blk0 m c t k a h, show bW m c t (ix2 k b) = _ from blk1 m c t k b h]
  unfold term; rw [dif_pos h]

/-- The partial sums after point `n` are the first `8192 (n + 1)` terms. -/
theorem acc_apply (c : Dev nD) (a : Fin 8) (b : Fin 512) : ∀ (n : ℕ) (h : n < cfg0.N),
    acc m c n h (ix2 a b) = ∑ k ∈ Finset.range (8192 * (n + 1)), term m c a b k
  | 0, h => by
    unfold acc
    rw [pay2_apply, pay1_apply, zero_add]; refine (block_sum m c ⟨0, h⟩ a b).trans ?_
    simp only [Nat.mul_zero, Nat.zero_add, Nat.mul_one]
  | n + 1, h => by
    unfold acc
    rw [pay2_apply, acc_apply c a b n]; refine (congrArg _ (block_sum m c ⟨n + 1, h⟩ a b)).trans ?_
    rw [show 8192 * (n + 1 + 1) = 8192 * (n + 1) + 8192 from by omega,
      Finset.sum_range_add]

theorem acc_last (c : Dev nD) (a : Fin 8) (b : Fin 512) (h : 7 < cfg0.N) :
    acc m c 7 h (ix2 a b) = ∑ k : Fin 65536, hX m c (ix2 k a) * hW m c (ix2 k b) := by
  rw [acc_apply, Finset.sum_range]
  refine Finset.sum_congr rfl fun k _ => ?_
  unfold term; rw [dif_pos k.isLt]

end Cert.HeadIdeal.Body

end
-- ==== Proof.HeadClaim.lean ====
/- The value claim of `Head`: kernel and reference end with equal results. -/
module

public import proofs.«01_k».proof.Proof.HeadValue
public import Idealize.ShloMosaic.Lib.Tactic.CleanTypes

@[expose] public section

set_option maxRecDepth 16384

noncomputable section

open Idealize.ShloMosaic Idealize.ShloMosaic.TcCoe Idealize.ShloMosaic.Tactic Idealize.SL.Sem
open Idealize.ShloMosaic.Pipeline (Dat)

namespace Cert.HeadIdeal.Body

open Cert.HeadIdeal Cert.HeadIdeal.Gen Cert.HeadIdeal.Value Cert.Reals

/-- The last point's value at `(p, f)`: the polynomial of the biased sums against the second weights, plus the second bias. -/
theorem pay3_apply (v : Vec Ideal S8x512 .f32) (b1 : Vec Ideal S1x512 .f32) (c0 c1 c2 c3 : Elt Ideal .f32) (w : Vec Ideal S512x10 .f32) (b2 : Vec Ideal S1x10 .f32) (p : Fin 8) (f : Fin 10) :
    k0_pay3 v b1 c0 c1 c2 c3 w b2 (ix2 p f)
      = (∑ k : Fin 512, (((c3 * (v (ix2 p k) + b1 (ix2 0 k)) + c2) * (v (ix2 p k) + b1 (ix2 0 k)) + c1) * (v (ix2 p k) + b1 (ix2 0 k)) + c0) * w (ix2 k f)) + b2 (ix2 0 f) := by
  pointwise [k0_pay3]

/-- Coefficient `k` is entry `k`. -/
theorem coef_apply (a : Vec Ideal S4 .f32) (k : Fin 4) (h) : coef a k.val h = a (ix1 k) := by
  show a _ = a _
  congr 1; funext d; apply Fin.ext
  match d with
  | ⟨0, _⟩ => show k.val + 1 * 0 = k.val; omega

/-- An array that passes the test `|x| < ∞` everywhere holds real numbers. -/
theorem fn_arg {S : Shape} (x : Vec Ideal S .f32) (v : IVec S 1) (hv : v = fun _ => 1#1)
    (h : ∀ i, v i = Ideal.cmp .olt (max (x i) (-(x i))) (Ideal.ofBits .f32 0x7F800000#32)) (i : S.Idx) : Fn (x i) :=
  fn_of_lt _ ((h i).symm.trans (congrFun hv i))

/-- The laid-out input at `(r, n)`: column `r / 64` of row `(r % 64) * 8 + n`. -/
theorem x_apply (x : Vec Ideal S512x1024 .f32) (r : Fin 65536) (n : Fin 8) :
    shapeCast S65536x8 (transpose S1024x64x8 [2, 0, 1] (shapeCast S64x8x1024 x shapeCasts_S512x1024_S64x8x1024) transposes_S64x8x1024_S1024x64x8_2_0_1) shapeCasts_S1024x64x8_S65536x8 (ix2 r n)
      = x (ix2 ⟨r.val % 64 * 8 + n.val, by omega⟩ ⟨r.val / 64, by omega⟩) := by
  pointwise

/-- One term of the second product: Horner's rule against the sum of the terms. -/
theorem term_eq (a : Vec Ideal S4 .f32) (S V b w : EReal) (hS : V = S) (ha : ∀ i, Fn (a i)) (hz : Fn (V + b)) (h0 h1 h2 h3) :
    (a (ix1 0) + a (ix1 1) * (S + b) + a (ix1 2) * ((S + b) * (S + b)) + a (ix1 3) * ((S + b) * (S + b) * (S + b))) * w
      = (((coef a 3 h3 * (V + b) + coef a 2 h2) * (V + b) + coef a 1 h1) * (V + b) + coef a 0 h0) * w := by
  subst hS
  rw [show coef a 0 h0 = a (ix1 0) from coef_apply a 0 h0, show coef a 1 h1 = a (ix1 1) from coef_apply a 1 h1,
    show coef a 2 h2 = a (ix1 2) from coef_apply a 2 h2, show coef a 3 h3 = a (ix1 3) from coef_apply a 3 h3]
  exact congrArg (fun s : EReal => s * w) (horner (ha _) (ha _) (ha _) (ha _) hz).symm

set_option maxHeartbeats 400000 in
/-- From finite arguments the kernel and the reference end with equal results. -/
theorem claim : Cert.algebraic_HeadIdeal_HeadRefIdeal_pre_head_pre := by
  intro m g m' g' hpre hargs
  have h7 : 7 < cfg0.N := lt_of_lt_of_eq (by decide) N_0.symm
  refine ⟨fun c => G6 m c, Cert.HeadIdeal.Value.run m g, (θ_run _ _ _).mono (fun r h c => ⟨(h c).1.trans ?_, (h c).2⟩) (Cert.HeadRefIdeal.Value.run m' g')⟩
  obtain ⟨e0, e1, e2, e3, e4, e5⟩ := hargs c
  obtain ⟨p0, p1, p2, p3⟩ := hpre c
  show _ = G6 m c
  rw [e0, e1, e2, e3, e4, e5, G6_eq m c (by omega) h7, blk2, blk3, blk4, blk5, V_v3, V_v4]
  have f0 := fn_arg (S := S512x1024) (m ((c : Thread nD τ).loc main_arg0)) _ p0 (fun _ => rfl)
  have f1 := fn_arg (S := S65536x512) (m ((c : Thread nD τ).loc main_arg1)) _ p1 (fun _ => rfl)
  have f2 := fn_arg (S := S512) (m ((c : Thread nD τ).loc main_arg2)) _ p2 (fun _ => rfl)
  have f3 := fn_arg (S := S4) (m ((c : Thread nD τ).loc main_arg5)) _ p3 (fun _ => rfl)
  clear p0 p1 p2 p3 e0 e1 e2 e3 e4 e5
  have hacc := fun a b => acc_last m c a b h7
  unfold hX hW at hacc
  rw [V_v2] at hacc
  generalize acc m c 7 h7 = v at hacc ⊢
  obtain ⟨x, hx⟩ : ∃ x : Vec Ideal S512x1024 .f32, x = m ((c : Thread nD τ).loc main_arg0) := ⟨_, rfl⟩
  obtain ⟨w1, hw1⟩ : ∃ w1 : Vec Ideal S65536x512 .f32, w1 = m ((c : Thread nD τ).loc main_arg1) := ⟨_, rfl⟩
  obtain ⟨b1, hb1⟩ : ∃ b1 : Vec Ideal S512 .f32, b1 = m ((c : Thread nD τ).loc main_arg2) := ⟨_, rfl⟩
  obtain ⟨w2, hw2⟩ : ∃ w2 : Vec Ideal S512x10 .f32, w2 = m ((c : Thread nD τ).loc main_arg3) := ⟨_, rfl⟩
  obtain ⟨b2, hb2⟩ : ∃ b2 : Vec Ideal S10 .f32, b2 = m ((c : Thread nD τ).loc main_arg4) := ⟨_, rfl⟩
  obtain ⟨a, ha⟩ : ∃ a : Vec Ideal S4 .f32, a = m ((c : Thread nD τ).loc main_arg5) := ⟨_, rfl⟩
  rw [← hx, ← hw1] at hacc
  rw [← hx] at f0; rw [← hw1] at f1; rw [← hb1] at f2; rw [← ha] at f3
  rw [← hx, ← hw1, ← hb1, ← hw2, ← hb2, ← ha]
  clear hx hw1 hb1 hw2 hb2 ha
  clear hpre hargs h
  funext j
  idx_vars j
  clean_types
  rw [pay3_apply]
  pointwise
  have hz : ∀ k : Fin 512, Fn (v (ix2 j0 k) + b1 (ix1 k)) := fun k => by
    rw [hacc]; exact (Fn.sum _ _ fun i _ => (f0 _).mul (f1 _)).add (f2 _)
  refine congrArg (fun s : EReal => s + b2 (ix1 j1)) (Finset.sum_congr rfl fun k _ => ?_)
  have e := hacc j0 k
  have z := hz k
  clear hacc hz f0 f1 f2
  generalize v (ix2 j0 k) = V at e z ⊢
  generalize b1 (ix1 k) = b at z ⊢
  generalize w2 (ix2 k j1) = w
  generalize hT : (Finset.sum (M := EReal) (Finset.univ : Finset (Fin 65536)) _) = T
  have e' : V = T := by
    refine e.trans (Eq.trans ?_ hT)
    exact Finset.sum_congr rfl fun r _ => congrArg (fun s : EReal => s * w1 (ix2 r k)) (x_apply x r j0)
  exact term_eq a T V b w e' f3 z _ _ _ _

end Cert.HeadIdeal.Body

end
-- ==== Proof.Grid.lean ====
/- The square grid of `g` by `g` nodes: its edges in the order of the edge list, the operator the edges define on real
   functions of the nodes, and the same operator by sums over the eight neighbours. The first layer's grid has 128 rows, the
   second's 64. -/
module

public import Idealize.ShloMosaic.Lib.Pointwise

@[expose] public section

namespace Cert.Grid

/-- The two grids. -/
def Side (g : ℕ) : Prop := g = 64 ∨ g = 128

/-! ## The edge list -/

/-- Node `e` of a rectangle with `n2` columns whose first node is at row `r0` and column `c0` of the grid. -/
def cell (g r0 c0 n2 e : ℕ) : ℕ := (r0 + e / n2) * g + (c0 + e % n2)

/-- The edges to a diagonal neighbour, and the edges to a neighbour along a row or a column. -/
def dia (g : ℕ) : ℕ := (g - 1) * (g - 1)
def str (g : ℕ) : ℕ := (g - 1) * g
/-- The number of edges. -/
def num (g : ℕ) : ℕ := 4 * dia g + 4 * str g

/-- The node edge `e` starts from. -/
def rowN (g e : ℕ) : ℕ :=
  if e < dia g then cell g 1 1 (g - 1) e else if e < dia g + str g then cell g 1 0 g (e - dia g)
  else if e < 2 * dia g + str g then cell g 1 0 (g - 1) (e - (dia g + str g))
  else if e < 2 * dia g + 2 * str g then cell g 0 1 (g - 1) (e - (2 * dia g + str g))
  else if e < 2 * dia g + 3 * str g then cell g 0 0 (g - 1) (e - (2 * dia g + 2 * str g))
  else if e < 3 * dia g + 3 * str g then cell g 0 1 (g - 1) (e - (2 * dia g + 3 * str g))
  else if e < 3 * dia g + 4 * str g then cell g 0 0 g (e - (3 * dia g + 3 * str g))
  else cell g 0 0 (g - 1) (e - (3 * dia g + 4 * str g))

/-- The node edge `e` leads to. -/
def colN (g e : ℕ) : ℕ :=
  if e < dia g then cell g 0 0 (g - 1) e else if e < dia g + str g then cell g 0 0 g (e - dia g)
  else if e < 2 * dia g + str g then cell g 0 1 (g - 1) (e - (dia g + str g))
  else if e < 2 * dia g + 2 * str g then cell g 0 0 (g - 1) (e - (2 * dia g + str g))
  else if e < 2 * dia g + 3 * str g then cell g 0 1 (g - 1) (e - (2 * dia g + 2 * str g))
  else if e < 3 * dia g + 3 * str g then cell g 1 0 (g - 1) (e - (2 * dia g + 3 * str g))
  else if e < 3 * dia g + 4 * str g then cell g 1 0 g (e - (3 * dia g + 3 * str g))
  else cell g 1 1 (g - 1) (e - (3 * dia g + 4 * str g))

theorem rowN_lt {g : ℕ} (hg : Side g) {e : ℕ} (h : e < num g) : rowN g e < g * g := by
  unfold num dia str at h; unfold rowN cell dia str
  rcases hg with rfl | rfl <;> split_ifs <;> omega
theorem colN_lt {g : ℕ} (hg : Side g) {e : ℕ} (h : e < num g) : colN g e < g * g := by
  unfold num dia str at h; unfold colN cell dia str
  rcases hg with rfl | rfl <;> split_ifs <;> omega

/-- One rectangle's edges out of node `i`: at most one, to the node at the rectangle's offset. -/
theorem piece {g : ℕ} (hg : Side g) (G : ℕ → ℝ) (i off N n1 n2 r0 c0 s0 t0 : ℕ) (hn2 : n2 = g - 1 ∨ n2 = g) (hN : N = n1 * n2) (hc : c0 + n2 ≤ g)
    (hrow : ∀ e < N, rowN g (off + e) = cell g r0 c0 n2 e) (hcol : ∀ e < N, colN g (off + e) = cell g s0 t0 n2 e) :
    (∑ e ∈ Finset.range N, if rowN g (off + e) = i then G (colN g (off + e)) else 0)
      = if r0 ≤ i / g ∧ i / g < r0 + n1 ∧ c0 ≤ i % g ∧ i % g < c0 + n2
        then G (i + s0 * g + t0 - (r0 * g + c0)) else 0 := by
  subst hN
  rw [Finset.sum_congr rfl fun e he => by rw [hrow e (Finset.mem_range.mp he), hcol e (Finset.mem_range.mp he)]]
  unfold cell
  clear hrow hcol
  split_ifs with h
  · have hlt : (i / g - r0) * n2 + (i % g - c0) < n1 * n2 := by
      rcases hg with rfl | rfl <;> rcases hn2 with rfl | rfl <;> omega
    rw [Finset.sum_eq_single ((i / g - r0) * n2 + (i % g - c0))]
    · rw [if_pos (by rcases hg with rfl | rfl <;> rcases hn2 with rfl | rfl <;> omega)]
      congr 1
      rcases hg with rfl | rfl <;> rcases hn2 with rfl | rfl <;> omega
    · intro e he hne
      rw [if_neg]
      intro hi
      apply hne
      rcases hg with rfl | rfl <;> rcases hn2 with rfl | rfl <;> omega
    · intro hne; exact absurd (Finset.mem_range.mpr hlt) hne
  · refine Finset.sum_eq_zero fun e he => ?_
    rw [if_neg]
    intro hi
    apply h
    have := Finset.mem_range.mp he
    rcases hg with rfl | rfl <;> rcases hn2 with rfl | rfl <;> omega

/-- A sum over eight stretches, stretch by stretch. -/
theorem split8 (f : ℕ → ℝ) (a b : ℕ) :
    (∑ e ∈ Finset.range (4 * a + 4 * b), f e)
      = (∑ e ∈ Finset.range a, f (0 + e)) + (∑ e ∈ Finset.range b, f (a + e)) + (∑ e ∈ Finset.range a, f (a + b + e))
        + (∑ e ∈ Finset.range b, f (2 * a + b + e)) + (∑ e ∈ Finset.range b, f (2 * a + 2 * b + e))
        + (∑ e ∈ Finset.range a, f (2 * a + 3 * b + e)) + (∑ e ∈ Finset.range b, f (3 * a + 3 * b + e))
        + (∑ e ∈ Finset.range a, f (3 * a + 4 * b + e)) := by
  rw [show 4 * a + 4 * b = 3 * a + 4 * b + a by omega, Finset.sum_range_add, show 3 * a + 4 * b = 3 * a + 3 * b + b by omega, Finset.sum_range_add,
    show 3 * a + 3 * b = 2 * a + 3 * b + a by omega, Finset.sum_range_add, show 2 * a + 3 * b = 2 * a + 2 * b + b by omega, Finset.sum_range_add,
    show 2 * a + 2 * b = 2 * a + b + b by omega, Finset.sum_range_add, show 2 * a + b = a + b + a by omega, Finset.sum_range_add, Finset.sum_range_add]
  simp only [Nat.zero_add]

theorem add8 {a b c d e f g h a' b' c' d' e' f' g' h' : ℝ} (ha : a = a') (hb : b = b') (hc : c = c') (hd : d = d')
    (he : e = e') (hf : f = f') (hg : g = g') (hh : h = h') :
    a + b + c + d + e + f + g + h = a' + b' + c' + d' + e' + f' + g' + h' := by
  rw [ha, hb, hc, hd, he, hf, hg, hh]

set_option maxHeartbeats 4000000 in
/-- The edges out of node `i`: the nodes one step away, diagonals included. -/
theorem edges {g : ℕ} (hg : Side g) (G : ℕ → ℝ) (i : ℕ) (hi : i < g * g) :
    (∑ e ∈ Finset.range (num g), if rowN g e = i then G (colN g e) else 0)
      = (if 0 < i / g ∧ 0 < i % g then G (i - (g + 1)) else 0) + (if 0 < i / g then G (i - g) else 0)
        + (if 0 < i / g ∧ i % g < g - 1 then G (i - (g - 1)) else 0) + (if 0 < i % g then G (i - 1) else 0)
        + (if i % g < g - 1 then G (i + 1) else 0) + (if i / g < g - 1 ∧ 0 < i % g then G (i + (g - 1)) else 0)
        + (if i / g < g - 1 then G (i + g) else 0) + (if i / g < g - 1 ∧ i % g < g - 1 then G (i + (g + 1)) else 0) := by
  unfold num
  rw [split8 (fun e => if rowN g e = i then G (colN g e) else 0) (dia g) (str g)]
  have p0 := piece hg G i 0 (dia g) (g - 1) (g - 1) 1 1 0 0 (by omega) rfl (by rcases hg with rfl | rfl <;> omega) (fun e he => by unfold rowN; split_ifs <;> first | (exfalso; omega) | simp only [Nat.add_sub_cancel_left, Nat.zero_add])
    (fun e he => by unfold colN; split_ifs <;> first | (exfalso; omega) | simp only [Nat.add_sub_cancel_left, Nat.zero_add])
  have p1 := piece hg G i (dia g) (str g) (g - 1) g 1 0 0 0 (by omega) rfl (by rcases hg with rfl | rfl <;> omega) (fun e he => by unfold rowN; split_ifs <;> first | (exfalso; omega) | simp only [Nat.add_sub_cancel_left, Nat.zero_add])
    (fun e he => by unfold colN; split_ifs <;> first | (exfalso; omega) | simp only [Nat.add_sub_cancel_left, Nat.zero_add])
  have p2 := piece hg G i (dia g + str g) (dia g) (g - 1) (g - 1) 1 0 0 1 (by omega) rfl (by rcases hg with rfl | rfl <;> omega) (fun e he => by unfold rowN; split_ifs <;> first | (exfalso; omega) | simp only [Nat.add_sub_cancel_left, Nat.zero_add])
    (fun e he => by unfold colN; split_ifs <;> first | (exfalso; omega) | simp only [Nat.add_sub_cancel_left, Nat.zero_add])
  have p3 := piece hg G i (2 * dia g + str g) (str g) g (g - 1) 0 1 0 0 (by omega) (Nat.mul_comm _ _) (by rcases hg with rfl | rfl <;> omega) (fun e he => by unfold rowN; split_ifs <;> first | (exfalso; omega) | simp only [Nat.add_sub_cancel_left, Nat.zero_add])
    (fun e he => by unfold colN; split_ifs <;> first | (exfalso; omega) | simp only [Nat.add_sub_cancel_left, Nat.zero_add])
  have p4 := piece hg G i (2 * dia g + 2 * str g) (str g) g (g - 1) 0 0 0 1 (by omega) (Nat.mul_comm _ _) (by rcases hg with rfl | rfl <;> omega) (fun e he => by unfold rowN; split_ifs <;> first | (exfalso; omega) | simp only [Nat.add_sub_cancel_left, Nat.zero_add])
    (fun e he => by unfold colN; split_ifs <;> first | (exfalso; omega) | simp only [Nat.add_sub_cancel_left, Nat.zero_add])
  have p5 := piece hg G i (2 * dia g + 3 * str g) (dia g) (g - 1) (g - 1) 0 1 1 0 (by omega) rfl (by rcases hg with rfl | rfl <;> omega) (fun e he => by unfold rowN; split_ifs <;> first | (exfalso; omega) | simp only [Nat.add_sub_cancel_left, Nat.zero_add])
    (fun e he => by unfold colN; split_ifs <;> first | (exfalso; omega) | simp only [Nat.add_sub_cancel_left, Nat.zero_add])
  have p6 := piece hg G i (3 * dia g + 3 * str g) (str g) (g - 1) g 0 0 1 0 (by omega) rfl (by rcases hg with rfl | rfl <;> omega) (fun e he => by unfold rowN; split_ifs <;> first | (exfalso; omega) | simp only [Nat.add_sub_cancel_left, Nat.zero_add])
    (fun e he => by unfold colN; split_ifs <;> first | (exfalso; omega) | simp only [Nat.add_sub_cancel_left, Nat.zero_add])
  have p7 := piece hg G i (3 * dia g + 4 * str g) (dia g) (g - 1) (g - 1) 0 0 1 1 (by omega) rfl (by rcases hg with rfl | rfl <;> omega) (fun e he => by unfold rowN; split_ifs <;> first | (exfalso; omega) | simp only [Nat.add_sub_cancel_left, Nat.zero_add])
    (fun e he => by unfold colN; split_ifs <;> first | (exfalso; omega) | simp only [Nat.add_sub_cancel_left, Nat.zero_add])
  rw [p0, p1, p2, p3, p4, p5, p6, p7]
  clear p0 p1 p2 p3 p4 p5 p6 p7
  refine add8 ?_ ?_ ?_ ?_ ?_ ?_ ?_ ?_
  all_goals rcases hg with rfl | rfl <;> exact if_congr (by omega) (congrArg G (by omega)) rfl

/-! ## The operator -/

/-- The factor of one axis: two at the ends, three inside. -/
noncomputable def ax (g i : ℕ) : ℝ := if i = 0 ∨ i = g - 1 then 2 else 3
/-- The number of neighbours of a node. -/
noncomputable def deg (g c : ℕ) : ℝ := ax g (c / g) * ax g (c % g) - 1
/-- The reciprocal of its square root. -/
noncomputable def dh (g c : ℕ) : ℝ := 1 / Real.sqrt (deg g c)

theorem deg_pos (g c : ℕ) : 0 < deg g c := by
  unfold deg ax; split_ifs <;> norm_num

/-- Whether a node has a neighbour to the right, to the left, below and above. -/
noncomputable def mR (g c : ℕ) : ℝ := if c % g < g - 1 then 1 else 0
noncomputable def mL (g c : ℕ) : ℝ := if 0 < c % g then 1 else 0
noncomputable def mD (g c : ℕ) : ℝ := if c / g < g - 1 then 1 else 0
noncomputable def mU (g c : ℕ) : ℝ := if 0 < c / g then 1 else 0

/-- A node's value with those of its neighbours along the row. -/
noncomputable def tj (g : ℕ) (y : ℕ → ℝ) (c : ℕ) : ℝ := y c + mR g c * y ((c + 1) % (g * g)) + mL g c * y ((c + (g * g - 1)) % (g * g))
/-- The same over three rows: the node and its eight neighbours. -/
noncomputable def tt (g : ℕ) (y : ℕ → ℝ) (c : ℕ) : ℝ := tj g y c + mD g c * tj g y ((c + g) % (g * g)) + mU g c * tj g y ((c + (g * g - g)) % (g * g))
/-- The operator by sums over the neighbours. -/
noncomputable def lap (g : ℕ) (x : ℕ → ℝ) (c : ℕ) : ℝ := dh g c * dh g c * x c - dh g c * tt g (fun n => dh g n * x n) c

/-- An edge's weight. -/
noncomputable def wt (g i j : ℕ) : ℝ := -1 / Real.sqrt (deg g i * deg g j)

theorem wt_eq (g i j : ℕ) : wt g i j = -(dh g i * dh g j) := by
  unfold wt dh
  rw [Real.sqrt_mul (deg_pos g i).le, neg_div, one_div_mul_one_div]

set_option maxHeartbeats 1000000 in
/-- The sum over the edges is the operator. -/
theorem spmm {g : ℕ} (hg : Side g) (x : ℕ → ℝ) (i : ℕ) (hi : i < g * g) :
    (∑ e ∈ Finset.range (num g), if rowN g e = i then wt g i (colN g e) * x (colN g e) else 0) = lap g x i := by
  rw [edges hg (fun j => wt g i j * x j) i hi]
  simp only [wt_eq]
  unfold lap tt tj mR mL mD mU
  have h1 : (i + g) % (g * g) % g = i % g := by rcases hg with rfl | rfl <;> omega
  have h2 : (i + (g * g - g)) % (g * g) % g = i % g := by rcases hg with rfl | rfl <;> omega
  rw [h1, h2]
  have r1 : i % g < g - 1 → (i + 1) % (g * g) = i + 1 := by rcases hg with rfl | rfl <;> omega
  have r2 : 0 < i % g → (i + (g * g - 1)) % (g * g) = i - 1 := by rcases hg with rfl | rfl <;> omega
  have r3 : i / g < g - 1 → (i + g) % (g * g) = i + g := by rcases hg with rfl | rfl <;> omega
  have r4 : 0 < i / g → (i + (g * g - g)) % (g * g) = i - g := by rcases hg with rfl | rfl <;> omega
  have r5 : i / g < g - 1 → i % g < g - 1 → (i + g + 1) % (g * g) = i + (g + 1) := by rcases hg with rfl | rfl <;> omega
  have r6 : i / g < g - 1 → 0 < i % g → (i + g + (g * g - 1)) % (g * g) = i + (g - 1) := by rcases hg with rfl | rfl <;> omega
  have r7 : 0 < i / g → i % g < g - 1 → (i - g + 1) % (g * g) = i - (g - 1) := by rcases hg with rfl | rfl <;> omega
  have r8 : 0 < i / g → 0 < i % g → (i - g + (g * g - 1)) % (g * g) = i - (g + 1) := by rcases hg with rfl | rfl <;> omega
  by_cases a : 0 < i / g <;> by_cases b : i / g < g - 1 <;> by_cases c : 0 < i % g <;> by_cases d : i % g < g - 1 <;>
    simp only [a, b, c, d, and_self, and_true, true_and, and_false, false_and, if_true, if_false, one_mul, zero_mul, add_zero, zero_add] <;>
    (try rw [r3 b]) <;> (try rw [r4 a]) <;> (try rw [r1 d]) <;> (try rw [r2 c]) <;> (try rw [r5 b d]) <;> (try rw [r6 b c]) <;> (try rw [r7 a d]) <;> (try rw [r8 a c]) <;>
    ring

/-- The Chebyshev recurrence from `x`. -/
noncomputable def cheb (g : ℕ) (x : ℕ → ℝ) : ℕ → ℕ → ℝ
  | 0 => x
  | 1 => lap g x
  | k + 2 => fun c => 2 * lap g (cheb g x (k + 1)) c - cheb g x k c

end Cert.Grid
-- ==== Proof.Conv1Ref.lean ====
/- What `Conv1RefIdeal`'s @main leaves in its result array, entry by entry: the stack of Chebyshev terms that its loop fills, and
   what the operations after the loop make of it. -/
module

public import proofs.«01_k».proof.Proof.Conv1RefFrame
public import proofs.«01_k».proof.Proof.Grid
public import proofs.«01_k».proof.Proof.Reals
public import Idealize.ShloMosaic.Lib.Pointwise
public import Idealize.ShloMosaic.Lib.WordCmp
public import Idealize.ShloMosaic.Lib.Routing.OpsPair
public import Idealize.ShloMosaic.Lib.Routing.OpsSet
public import Idealize.ShloMosaic.Lib.Routing.Ops
public import Idealize.ShloMosaic.Lib.Pipeline.Regions

@[expose] public section

set_option maxRecDepth 16384

noncomputable section

open Idealize.ShloMosaic Idealize.ShloMosaic.TcCoe Idealize.ShloMosaic.Tactic Idealize.SL.Sem Idealize.ShloMosaic.StableHlo

namespace Cert.Conv1RefIdeal.Hand

open Cert.Conv1RefIdeal Cert.Conv1RefIdeal.Gen Cert.Conv1RefIdeal.Value Cert.Reals

/-! ## The program's terms -/

/-- The node of the picture that each node of the graph is, a negative one counted from the end, as a one-column table. -/
def permIx (perm : IVec S16384 32) : IVec S16384x1 32 :=
  broadcastInDim S16384x1 ![0] bcast_S16384_S16384x1_0
    (select (cmpi .slt perm (broadcastInDim S16384 ![] bcast_S_S16384 (constantI S_ 32 0#32))) (addi perm (broadcastInDim S16384 ![] bcast_S_S16384 (constantI S_ 32 16384#32))) perm)

/-- Whether that node lies inside the picture. -/
def permOk (perm : IVec S16384 32) : IVec S16384 1 :=
  Host.reduce IntOp.andi
    (andi (cmpi .sge (permIx perm) (broadcastInDim S16384x1 ![] bcast_S_S16384x1 (constantI S_ 32 0#32)))
      (cmpi .sle (permIx perm) (broadcastInDim S16384x1 ![0, 1] bcast_S1x1_S16384x1_0_1 (broadcastInDim S1x1 ![1] bcast_S1_S1x1_1 (constantI S1 32 16383#32)))))
    (constantI S_ 1 1#1) reducesTo_S16384x1_S16384_d1 h_S_

/-- The pictures' values in the order of the graph's nodes. -/
def permV (x : FVec Ideal S8x16384 .f32) (perm : IVec S16384 32) : FVec Ideal S8x16384 .f32 :=
  select (broadcastInDim S8x16384 ![1] bcast_S16384_S8x16384_1 (permOk perm))
    (Host.gather gather_S8x16384_S16384x1_S8x16384_0_1_n_n_1_1_81 x (permIx perm))
    (broadcastInDim S8x16384 ![] bcast_S_S8x16384 (constant S_ .f32 0x7FC00000#32))

/-- The pictures, one per row. -/
def flatV (X : FVec Ideal S8x1x128x128 .f32) : FVec Ideal S8x16384 .f32 := shapeCast S8x16384 X shapeCasts_S8x1x128x128_S8x16384

/-- The input with nodes along the rows. -/
def x0V (h : FVec Ideal S8x16384 .f32) : FVec Ideal S16384x8 .f32 :=
  shapeCast S16384x8 (transpose S16384x1x8 [1, 2, 0] (broadcastInDim S8x16384x1 ![0, 1] bcast_S8x16384_S8x16384x1_0_1 h) transposes_S8x16384x1_S16384x1x8_1_2_0) shapeCasts_S16384x1x8_S16384x8

/-- The column of an edge, a negative one counted from the end, as a one-column table. -/
def colIx (cols : IVec S129540 32) : IVec S129540x1 32 :=
  broadcastInDim S129540x1 ![0] bcast_S129540_S129540x1_0
    (select (cmpi .slt cols (broadcastInDim S129540 ![] bcast_S_S129540 (constantI S_ 32 0#32))) (addi cols (broadcastInDim S129540 ![] bcast_S_S129540 (constantI S_ 32 16384#32))) cols)

/-- Whether the column lies inside the table. -/
def colOk (cols : IVec S129540 32) : IVec S129540 1 :=
  Host.reduce IntOp.andi
    (andi (cmpi .sge (colIx cols) (broadcastInDim S129540x1 ![] bcast_S_S129540x1 (constantI S_ 32 0#32)))
      (cmpi .sle (colIx cols) (broadcastInDim S129540x1 ![0, 1] bcast_S1x1_S129540x1_0_1 (broadcastInDim S1x1 ![1] bcast_S1_S1x1_1 (constantI S1 32 16383#32)))))
    (constantI S_ 1 1#1) reducesTo_S129540x1_S129540_d1 h_S_

/-- The rows of `x` at the columns of the edges. -/
def takeV (x : FVec Ideal S16384x8 .f32) (cols : IVec S129540 32) : FVec Ideal S129540x8 .f32 :=
  select (broadcastInDim S129540x8 ![0] bcast_S129540_S129540x8_0 (colOk cols))
    (Host.gather gather_S16384x8_S129540x1_S129540x8_1_0_n_n_0_1_18 x (colIx cols))
    (broadcastInDim S129540x8 ![] bcast_S_S129540x8 (constant S_ .f32 0x7FC00000#32))

/-- The operator applied to `x`: weighted rows, added up at the rows of the edges. -/
def spmmV (x : FVec Ideal S16384x8 .f32) (vals : FVec Ideal S129540 .f32) (rows cols : IVec S129540 32) : FVec Ideal S16384x8 .f32 :=
  Host.scatterAdd scatter_S16384x8_S129540x1_S129540x8_1_0_0_1 (broadcastInDim S16384x8 ![] bcast_S_S16384x8 (constant S_ .f32 0x00000000#32))
    (broadcastInDim S129540x1 ![0] bcast_S129540_S129540x1_0 rows)
    (mulf (broadcastInDim S129540x8 ![0, 1] bcast_S129540x1_S129540x8_0_1 (broadcastInDim S129540x1 ![0] bcast_S129540_S129540x1_0 vals)) (takeV x cols))

/-- A plane number, a negative one counted from the end. -/
def wrapV (w : IVec S_ 32) : IVec S_ 32 :=
  select (cmpi .slt w (constantI S_ 32 0#32)) (addi w (constantI S_ 32 25#32)) w

/-- Where plane `w` starts. -/
def planeAt (w : IVec S_ 32) : Fin 3 → Int :=
  fun k => ((![wrapV w, constantI S_ 32 0#32, constantI S_ 32 0#32] : Fin 3 → IVec S_ 32) k (Shape.Idx.first h_S_)).toInt

/-- Plane `w` of the stack. -/
def readK (S : FVec Ideal S25x16384x8 .f32) (w : IVec S_ 32) : FVec Ideal S16384x8 .f32 :=
  shapeCast S16384x8 (Host.dynamicSlice S1x16384x8 S (planeAt w) sliceFits_S25x16384x8_S1x16384x8) shapeCasts_S1x16384x8_S16384x8

/-- The stack with plane `w` replaced. -/
def writeK (S : FVec Ideal S25x16384x8 .f32) (u : FVec Ideal S16384x8 .f32) (w : IVec S_ 32) : FVec Ideal S25x16384x8 .f32 :=
  Host.dynamicUpdateSlice S (broadcastInDim S1x16384x8 ![1, 2] bcast_S16384x8_S1x16384x8_1_2 u) (planeAt w) updateFits_S25x16384x8_S1x16384x8

/-- One trip of the loop on the stack. -/
def tripV (S : FVec Ideal S25x16384x8 .f32) (w : IVec S_ 32) (vals : FVec Ideal S129540 .f32) (rows cols : IVec S129540 32) : FVec Ideal S25x16384x8 .f32 :=
  writeK S (subf (mulf (broadcastInDim S16384x8 ![] bcast_S_S16384x8 (constant S_ .f32 0x40000000#32)) (spmmV (readK S (addi w (constantI S_ 32 1#32))) vals rows cols)) (readK S w))
    (addi w (constantI S_ 32 2#32))

/-- The stack the loop starts from. -/
def stack0 (x : FVec Ideal S16384x8 .f32) (vals : FVec Ideal S129540 .f32) (rows cols : IVec S129540 32) : FVec Ideal S25x16384x8 .f32 :=
  Host.scatter scatter_S25x16384x8_S1_S16384x8_01_0_0_0 (fun _ b => b)
    (Host.scatter scatter_S25x16384x8_S1_S16384x8_01_0_0_0 (fun _ b => b) (broadcastInDim S25x16384x8 ![] bcast_S_S25x16384x8 (constant S_ .f32 0x00000000#32))
      (broadcastInDim S1 ![] bcast_S_S1 (constantI S_ 32 0#32)) x)
    (broadcastInDim S1 ![] bcast_S_S1 (constantI S_ 32 1#32)) (spmmV x vals rows cols)

/-- The sums of the products of terms and weights. -/
def dotV (S : FVec Ideal S25x16384x8 .f32) (w : FVec Ideal S25x32 .f32) : FVec Ideal S8x16384x32 .f32 :=
  shapeCast S8x16384x32 (Host.dotGeneral dot_S131072x25_S25x32_S131072x32_1_0_0_1_n_n none
    (shapeCast S131072x25 (transpose S8x16384x1x25 [3, 1, 2, 0] (shapeCast S25x16384x1x8 S shapeCasts_S25x16384x8_S25x16384x1x8) transposes_S25x16384x1x8_S8x16384x1x25_3_1_2_0) shapeCasts_S8x16384x1x25_S131072x25 : FVec Ideal S131072x25 .f32) w) shapeCasts_S131072x32_S8x16384x32

/-- Coefficient `k`, everywhere. -/
def coefV (a : FVec Ideal S4 .f32) (k : ℕ) (h : S4.Slices ![k] S1) : FVec Ideal S8x16384x32 .f32 :=
  broadcastInDim S8x16384x32 ![] bcast_S_S8x16384x32 (shapeCast S_ (extractStridedSlice S1 ![k] a h) shapeCasts_S1_S_)

/-- The polynomial of a sum. -/
def actV (z : FVec Ideal S8x16384x32 .f32) (a : FVec Ideal S4 .f32) : FVec Ideal S8x16384x32 .f32 :=
  addf (addf (addf (coefV a 0 slices_S4_S1_0) (mulf (coefV a 1 slices_S4_S1_1) z)) (mulf (coefV a 2 slices_S4_S1_2) (mulf z z))) (mulf (coefV a 3 slices_S4_S1_3) (mulf (mulf z z) z))

/-- What is left: the means over groups of four nodes. -/
def outV (y : FVec Ideal S8x16384x32 .f32) : FVec Ideal S256x4096 .f32 :=
  shapeCast S256x4096 (transpose S32x8x4096 [2, 0, 1] (Host.divf (Host.reduceAdd (shapeCast S8x4096x4x32 y shapeCasts_S8x16384x32_S8x4096x4x32) (constant S_ .f32 0x00000000#32) reducesTo_S8x4096x4x32_S8x4096x32_d2 h_S_)
    (broadcastInDim S8x4096x32 ![] bcast_S_S8x4096x32 (constant S_ .f32 0x40800000#32)) : FVec Ideal S8x4096x32 .f32) transposes_S8x4096x32_S32x8x4096_2_0_1) shapeCasts_S32x8x4096_S256x4096

end Cert.Conv1RefIdeal.Hand

end
-- ==== Proof.Conv1RefLap.lean ====
/- The reference's operator on the nodes, entry by entry: with the grid's edge list and weights, weighting the rows at the
   edges' columns and adding them up at the edges' rows is the operator of the grid. -/
module

public import proofs.«01_k».proof.Proof.Conv1Ref
public import Idealize.ShloMosaic.Lib.ReduceAll

@[expose] public section

set_option maxRecDepth 16384

noncomputable section

open Idealize.ShloMosaic Idealize.ShloMosaic.TcCoe Idealize.ShloMosaic.Tactic Idealize.SL.Sem Idealize.ShloMosaic.StableHlo

namespace Cert.Conv1RefIdeal.Hand

open Cert.Conv1RefIdeal Cert.Conv1RefIdeal.Gen Cert.Conv1RefIdeal.Value Cert.Reals

/-- Entry `(c, a)` of the laid-out input is entry `(a, c)` of the input. -/
theorem x0V_apply (h : FVec Ideal S8x16384 .f32) (c : Fin 16384) (a : Fin 8) : x0V h (ix2 c a) = h (ix2 a c) := by
  have := a.isLt
  pointwise [x0V]

section Edges

variable (vals : FVec Ideal S129540 .f32) (rows cols : IVec S129540 32)

/-- A column below the number of nodes is used as it is. -/
theorem colIx_apply (hc : ∀ e : Fin 129540, cols (ix1 e) = BitVec.ofNat 32 (Grid.colN 128 e.val)) (e : Fin 129540) :
    colIx cols (ix2 e 0) = BitVec.ofNat 32 (Grid.colN 128 e.val) := by
  have hb := Grid.colN_lt (.inr rfl) e.isLt
  pointwise [colIx]
  rw [hc]
  exact Routing.wrap_of_lt _ _ (by rw [WordCmp.toNat_ofNat_of_lt (by omega)]; show _ < 2147483648; omega)

/-- Every column lies inside the table. -/
theorem colOk_apply (hc : ∀ e : Fin 129540, cols (ix1 e) = BitVec.ofNat 32 (Grid.colN 128 e.val)) (e : Fin 129540) :
    colOk cols (ix1 e) = 1#1 := by
  unfold colOk
  refine Host.reduce_andi_one _ _ _ _ _ rfl fun i => ?_
  idx_vars i
  obtain rfl : i1 = 0 := Subsingleton.elim _ _
  have hb := Grid.colN_lt (.inr rfl) i0.isLt
  show IntOp.andi (IntOp.cmpi .sge (colIx cols (ix2 i0 0)) 0#32) (IntOp.cmpi .sle (colIx cols (ix2 i0 0)) 16383#32) = 1#1
  rw [colIx_apply cols hc, (WordCmp.cmpi_sge_ofNat_eq_one_iff (w := 32) (a := Grid.colN 128 i0.val) (b := 0) (by omega) (by omega)).mpr (by omega),
    (WordCmp.cmpi_sle_ofNat_eq_one_iff (w := 32) (a := Grid.colN 128 i0.val) (b := 16383) (by omega) (by omega)).mpr (by omega)]
  rfl

/-- Row `e` of what is gathered is the row at the edge's column. -/
theorem takeV_apply (hc : ∀ e : Fin 129540, cols (ix1 e) = BitVec.ofNat 32 (Grid.colN 128 e.val)) (x : FVec Ideal S16384x8 .f32) (e : Fin 129540) (a : Fin 8) :
    takeV x cols (ix2 e a) = x (ix2 ⟨Grid.colN 128 e.val, Grid.colN_lt (.inr rfl) e.isLt⟩ a) := by
  unfold takeV
  pointwise
  rw [colOk_apply cols hc, WordCmp.select_one]
  have := Routing.gather_row gather_S16384x8_S129540x1_S129540x8_1_0_n_n_0_1_18 rfl rfl rfl rfl rfl x (colIx cols) e a ⟨Grid.colN 128 e.val, Grid.colN_lt (.inr rfl) e.isLt⟩
    (by rw [← ix2_eq_valueIdx]; exact colIx_apply cols hc e) (by norm_num)
  rw [← ix2_eq_valueIdx, ← ix2_eq_valueIdx] at this
  exact this

/-- Update `(e, b)` lands at `(i, a)` exactly when edge `e` starts from node `i` and `b` is `a`. -/
theorem lands_row (idx : IVec S129540x1 32) (hr : ∀ e : Fin 129540, idx (ix2 e 0) = BitVec.ofNat 32 (Grid.rowN 128 e.val)) (e : Fin 129540) (b : Fin 8) (i : Fin 16384) (a : Fin 8) :
    scatter_S16384x8_S129540x1_S129540x8_1_0_0_1.resultIdx? (ix2 e b) idx = some (ix2 i a) ↔ Grid.rowN 128 e.val = i.val ∧ b = a := by
  have hb := Grid.rowN_lt (.inr rfl) e.isLt
  have w0 : scatter_S16384x8_S129540x1_S129540x8_1_0_0_1.window (ix2 e b) 0 = 0 := rfl
  have w1 : scatter_S16384x8_S129540x1_S129540x8_1_0_0_1.window (ix2 e b) 1 = b.val := rfl
  have s1 : scatter_S16384x8_S129540x1_S129540x8_1_0_0_1.start (ix2 e b) idx 1 = 0 := rfl
  have hs : scatter_S16384x8_S129540x1_S129540x8_1_0_0_1.start (ix2 e b) idx 0 = (idx (ix2 e 0)).toInt := by
    show (idx _).toInt = _
    congr 2
    funext d; apply Fin.ext
    match d with
    | ⟨0, _⟩ => rfl
    | ⟨1, _⟩ => rfl
  have s0 : scatter_S16384x8_S129540x1_S129540x8_1_0_0_1.start (ix2 e b) idx 0 = (Grid.rowN 128 e.val : Int) := by
    rw [hs, hr, WordCmp.toInt_ofNat_of_lt (by omega)]
  rw [Routing.resultIdx?_eq_some]
  constructor
  · intro h
    have h0 := h 0; have h1 := h 1
    rw [s0, w0] at h0; rw [s1, w1] at h1
    refine ⟨?_, Fin.ext ?_⟩
    · have : ((ix2 i a : S16384x8.Idx) 0).val = i.val := rfl
      omega
    · have : ((ix2 i a : S16384x8.Idx) 1).val = a.val := rfl
      omega
  · rintro ⟨h, rfl⟩ d
    match d with
    | ⟨0, _⟩ => show scatter_S16384x8_S129540x1_S129540x8_1_0_0_1.start (ix2 e b) idx 0 + ((scatter_S16384x8_S129540x1_S129540x8_1_0_0_1.window (ix2 e b) 0 : Nat) : Int) = (i.val : Int)
                rw [s0, w0]; omega
    | ⟨1, _⟩ => show scatter_S16384x8_S129540x1_S129540x8_1_0_0_1.start (ix2 e b) idx 1 + ((scatter_S16384x8_S129540x1_S129540x8_1_0_0_1.window (ix2 e b) 1 : Nat) : Int) = (b.val : Int)
                rw [s1, w1]; omega

/-- The operator's value at node `i` of column `a`. -/
theorem spmmV_apply (hr : ∀ e : Fin 129540, rows (ix1 e) = BitVec.ofNat 32 (Grid.rowN 128 e.val)) (hc : ∀ e : Fin 129540, cols (ix1 e) = BitVec.ofNat 32 (Grid.colN 128 e.val))
    (hv : ∀ e : Fin 129540, vals (ix1 e) = ((Grid.wt 128 (Grid.rowN 128 e.val) (Grid.colN 128 e.val) : ℝ) : EReal))
    (x : FVec Ideal S16384x8 .f32) (a : Fin 8) (ξ : ℕ → ℝ) (hx : ∀ i : Fin 16384, x (ix2 i a) = ((ξ i.val : ℝ) : EReal)) (i : Fin 16384) :
    spmmV x vals rows cols (ix2 i a) = ((Grid.lap 128 ξ i.val : ℝ) : EReal) := by
  have hidx : ∀ e : Fin 129540, broadcastInDim S129540x1 ![0] bcast_S129540_S129540x1_0 rows (ix2 e 0) = BitVec.ofNat 32 (Grid.rowN 128 e.val) := fun e => by
    pointwise; exact hr e
  have hupd : ∀ e : Fin 129540, (mulf (broadcastInDim S129540x8 ![0, 1] bcast_S129540x1_S129540x8_0_1 (broadcastInDim S129540x1 ![0] bcast_S129540_S129540x1_0 vals)) (takeV x cols) : FVec Ideal S129540x8 .f32) (ix2 e a)
      = ((Grid.wt 128 (Grid.rowN 128 e.val) (Grid.colN 128 e.val) * ξ (Grid.colN 128 e.val) : ℝ) : EReal) := fun e => by
    pointwise
    rw [takeV_apply cols hc, hv, hx, EReal.coe_mul]
  unfold spmmV
  generalize (mulf (broadcastInDim S129540x8 ![0, 1] bcast_S129540x1_S129540x8_0_1 (broadcastInDim S129540x1 ![0] bcast_S129540_S129540x1_0 vals)) (takeV x cols) : FVec Ideal S129540x8 .f32) = U at hupd ⊢
  generalize broadcastInDim S129540x1 ![0] bcast_S129540_S129540x1_0 rows = idx at hidx ⊢
  show Ideal.ofBits .f32 0x00000000#32 + ∑ j ∈ Finset.univ.filter (fun j => scatter_S16384x8_S129540x1_S129540x8_1_0_0_1.resultIdx? j idx = some (ix2 i a)), U j = _
  have hz : Ideal.ofBits .f32 0x00000000#32 = 0 := by simp [Ideal.ofBits, Ideal.ieee]
  rw [hz, zero_add, Finset.sum_filter, sum_idx2 (n0 := 129540) (n1 := 8)]
  have inner : ∀ e : Fin 129540, (∑ b : Fin 8, if scatter_S16384x8_S129540x1_S129540x8_1_0_0_1.resultIdx? (ix2 e b) idx = some (ix2 i a) then U (ix2 e b) else 0)
      = (((if Grid.rowN 128 e.val = i.val then Grid.wt 128 i.val (Grid.colN 128 e.val) * ξ (Grid.colN 128 e.val) else 0 : ℝ)) : EReal) := fun e => by
    by_cases h : Grid.rowN 128 e.val = i.val
    · rw [if_pos h, Finset.sum_eq_single a, if_pos ((lands_row idx hidx e a i a).mpr ⟨h, rfl⟩), hupd, h]
      · intro b _ hb
        rw [if_neg fun hl => hb ((lands_row idx hidx e b i a).mp hl).2]
      · intro hn; exact absurd (Finset.mem_univ _) hn
    · rw [if_neg h]
      exact Finset.sum_eq_zero fun b _ => if_neg fun hl => h ((lands_row idx hidx e b i a).mp hl).1
  rw [Finset.sum_congr rfl fun e _ => inner e]
  have key := Grid.spmm (.inr rfl) ξ i.val i.isLt
  rw [show Grid.num 128 = 129540 from rfl] at key
  rw [← key, ← Fin.sum_univ_eq_sum_range (fun e => if Grid.rowN 128 e = i.val then Grid.wt 128 i.val (Grid.colN 128 e) * ξ (Grid.colN 128 e) else 0) 129540]
  exact (map_sum (⟨⟨Real.toEReal, EReal.coe_zero⟩, EReal.coe_add⟩ : ℝ →+ EReal) _ _).symm

end Edges

end Cert.Conv1RefIdeal.Hand

end
-- ==== Proof.Conv1RefRun.lean ====
/- `Conv1RefIdeal`'s run read off its operations: the stack before the loop, what one trip makes of it, and the result. -/
module

public import proofs.«01_k».proof.Proof.Conv1RefFrame
public import proofs.«01_k».proof.Proof.Conv1Ref
public import proofs.«01_k».proof.Proof.Grid
public import proofs.«01_k».proof.Proof.Reals
public import Idealize.ShloMosaic.Lib.Pointwise
public import Idealize.ShloMosaic.Lib.WordCmp
public import Idealize.ShloMosaic.Lib.Routing.OpsPair
public import Idealize.ShloMosaic.Lib.Routing.OpsSet
public import Idealize.ShloMosaic.Lib.Routing.Ops
public import Idealize.ShloMosaic.Lib.Pipeline.Regions
public import Idealize.ShloMosaic.Lib.StableHlo.RunClose

@[expose] public section

set_option maxRecDepth 16384

noncomputable section

open Idealize.ShloMosaic Idealize.ShloMosaic.TcCoe Idealize.ShloMosaic.Tactic Idealize.SL.Sem Idealize.ShloMosaic.StableHlo

namespace Cert.Conv1RefIdeal.Hand

open Cert.Conv1RefIdeal Cert.Conv1RefIdeal.Gen Cert.Conv1RefIdeal.Value Cert.Reals

variable (m : (ℓ : Loc nD τ sig) → Buf (Elt Ideal) ℓ) (V : Valuation τ sig (Elt Ideal))

/-! ## One stretch of operations at a time, from any contents -/

theorem s1 : after while0Ops0_1 V (Proc.devRef .tc main_while0b_v51) = readK (V (Proc.devRef .tc main_v17_5)) (V (Proc.devRef .tc main_v17_4)) := by
  after_results_simp_entrywise
  rfl
theorem s3 : after while0Ops0_3 V (Proc.devRef .tc main_while0b_v53) = readK (V (Proc.devRef .tc main_v17_5)) (V (Proc.devRef .tc main_while0b_v52)) := by
  after_results_simp_entrywise
  rfl
theorem s7 : after while0Ops0_7 V (Proc.devRef .tc main_while0b_v65) = writeK (V (Proc.devRef .tc main_v17_5)) (V (Proc.devRef .tc main_while0b_v63)) (V (Proc.devRef .tc main_while0b_v64)) := by
  after_results_simp_entrywise
  rfl
theorem s6 : after while0Ops0_6 V (Proc.devRef .tc main_while0b_v63)
    = (subf (mulf (broadcastInDim S16384x8 ![] bcast_S_S16384x8 (constant S_ .f32 0x40000000#32))
        (Host.scatterAdd scatter_S16384x8_S129540x1_S129540x8_1_0_0_1 (broadcastInDim S16384x8 ![] bcast_S_S16384x8 (constant S_ .f32 0x00000000#32))
          (broadcastInDim S129540x1 ![0] bcast_S129540_S129540x1_0 (V (Proc.devRef .tc main_v17_2) : IVec S129540 32))
          (mulf (broadcastInDim S129540x8 ![0, 1] bcast_S129540x1_S129540x8_0_1 (V (Proc.devRef .tc main_while0b_v54) : FVec Ideal S129540x1 .f32)) (V (Proc.devRef .tc main_while0b_v55) : FVec Ideal S129540x8 .f32))))
        (V (Proc.devRef .tc main_while0b_v51) : FVec Ideal S16384x8 .f32) : FVec Ideal S16384x8 .f32) := by
  chain_rfl
theorem s6n : after while0Ops0_6 V (Proc.devRef .tc main_while0b_v64) = addi (V (Proc.devRef .tc main_v17_4) : IVec S_ 32) (constantI S_ 32 2#32) := by
  chain_rfl

theorem s0 : after while0Ops0 V (Proc.devRef .tc main_while0b_v50) = addi (V (Proc.devRef .tc main_v17_4) : IVec S_ 32) (constantI S_ 32 1#32) := by
  chain_rfl
theorem s2 : after while0Ops0_2 V (Proc.devRef .tc main_while0b_v52) = addi (V (Proc.devRef .tc main_v17_4) : IVec S_ 32) (constantI S_ 32 1#32) := by
  chain_rfl
theorem s4 : after while0Ops0_4 V (Proc.devRef .tc main_while0b_v54) = broadcastInDim S129540x1 ![0] bcast_S129540_S129540x1_0 (V (Proc.devRef .tc main_v17_0) : FVec Ideal S129540 .f32) := by
  chain_rfl
theorem s5 : after while0Ops0_5 V (Proc.devRef .tc main_while0b_v55) = takeV (V (Proc.devRef .tc main_while0b_v53)) (V (Proc.devRef .tc main_v17_1)) := by
  after_results_simp_entrywise
  simp only [TRef.toBuf, TRef.ofBuf, cast_cast, cast_eq]
  unfold takeV colOk colIx
  with_reducible rfl
theorem s8n : after while0Ops0_8 V (Proc.devRef .tc main_v17_4) = V (Proc.devRef .tc main_while0b_v50) := by
  chain_rfl
theorem s8 : after while0Ops0_8 V (Proc.devRef .tc main_v17_5) = V (Proc.devRef .tc main_while0b_v65) := by
  chain_rfl
theorem h0 : after hostOps0 V (Proc.devRef .tc main_v0) = flatV (V (Proc.devRef .tc main_arg0)) := by
  chain_rfl
theorem h1 : after hostOps0_1 V (Proc.devRef .tc main_v1) = permV (V (Proc.devRef .tc main_v0)) (V (Proc.devRef .tc main_arg1)) := by
  after_results_simp_entrywise
  simp only [TRef.toBuf, TRef.ofBuf, cast_cast, cast_eq]
  unfold permV permOk permIx
  with_reducible rfl
theorem h2 : after hostOps0_2 V (Proc.devRef .tc main_v4) = x0V (V (Proc.devRef .tc main_v1)) := by
  chain_rfl
theorem h2v : after hostOps0_2 V (Proc.devRef .tc main_v5) = broadcastInDim S129540x1 ![0] bcast_S129540_S129540x1_0 (V (Proc.devRef .tc main_arg4) : FVec Ideal S129540 .f32) := by
  chain_rfl
theorem h3 : after hostOps0_3 V (Proc.devRef .tc main_v6) = takeV (V (Proc.devRef .tc main_v4)) (V (Proc.devRef .tc main_arg3)) := by
  after_results_simp_entrywise
  simp only [TRef.toBuf, TRef.ofBuf, cast_cast, cast_eq]
  unfold takeV colOk colIx
  with_reducible rfl
theorem h4 : after hostOps0_4 V (Proc.devRef .tc main_v17_5)
    = Host.scatter scatter_S25x16384x8_S1_S16384x8_01_0_0_0 (fun _ b => b)
      (Host.scatter scatter_S25x16384x8_S1_S16384x8_01_0_0_0 (fun _ b => b) (broadcastInDim S25x16384x8 ![] bcast_S_S25x16384x8 (constant S_ .f32 0x00000000#32 : FVec Ideal S_ .f32))
        (broadcastInDim S1 ![] bcast_S_S1 (constantI S_ 32 0#32)) (V (Proc.devRef .tc main_v4) : FVec Ideal S16384x8 .f32))
      (broadcastInDim S1 ![] bcast_S_S1 (constantI S_ 32 1#32))
      (Host.scatterAdd scatter_S16384x8_S129540x1_S129540x8_1_0_0_1 (broadcastInDim S16384x8 ![] bcast_S_S16384x8 (constant S_ .f32 0x00000000#32))
          (broadcastInDim S129540x1 ![0] bcast_S129540_S129540x1_0 (V (Proc.devRef .tc main_arg2) : IVec S129540 32))
          (mulf (broadcastInDim S129540x8 ![0, 1] bcast_S129540x1_S129540x8_0_1 (V (Proc.devRef .tc main_v5) : FVec Ideal S129540x1 .f32)) (V (Proc.devRef .tc main_v6) : FVec Ideal S129540x8 .f32))) := by
  after_results_simp_entrywise
  rw [id_eq]

/-! ## What a stretch leaves alone -/

theorem k0 (b : Ref sig .tc) (h : b ∉ hostOps0_W) : after hostOps0 V (Proc.devRef .tc b) = V (Proc.devRef .tc b) := after_of_writes_sub _ _ hostOps0_writes h
theorem k1 (b : Ref sig .tc) (h : b ∉ hostOps0_1_W) : after hostOps0_1 V (Proc.devRef .tc b) = V (Proc.devRef .tc b) := after_of_writes_sub _ _ hostOps0_1_writes h
theorem k2 (b : Ref sig .tc) (h : b ∉ hostOps0_2_W) : after hostOps0_2 V (Proc.devRef .tc b) = V (Proc.devRef .tc b) := after_of_writes_sub _ _ hostOps0_2_writes h
theorem k3 (b : Ref sig .tc) (h : b ∉ hostOps0_3_W) : after hostOps0_3 V (Proc.devRef .tc b) = V (Proc.devRef .tc b) := after_of_writes_sub _ _ hostOps0_3_writes h
theorem w0 (b : Ref sig .tc) (h : b ∉ while0Ops0_W) : after while0Ops0 V (Proc.devRef .tc b) = V (Proc.devRef .tc b) := after_of_writes_sub _ _ while0Ops0_writes h
theorem w1 (b : Ref sig .tc) (h : b ∉ while0Ops0_1_W) : after while0Ops0_1 V (Proc.devRef .tc b) = V (Proc.devRef .tc b) := after_of_writes_sub _ _ while0Ops0_1_writes h
theorem w2 (b : Ref sig .tc) (h : b ∉ while0Ops0_2_W) : after while0Ops0_2 V (Proc.devRef .tc b) = V (Proc.devRef .tc b) := after_of_writes_sub _ _ while0Ops0_2_writes h
theorem w3 (b : Ref sig .tc) (h : b ∉ while0Ops0_3_W) : after while0Ops0_3 V (Proc.devRef .tc b) = V (Proc.devRef .tc b) := after_of_writes_sub _ _ while0Ops0_3_writes h
theorem w4 (b : Ref sig .tc) (h : b ∉ while0Ops0_4_W) : after while0Ops0_4 V (Proc.devRef .tc b) = V (Proc.devRef .tc b) := after_of_writes_sub _ _ while0Ops0_4_writes h
theorem w5 (b : Ref sig .tc) (h : b ∉ while0Ops0_5_W) : after while0Ops0_5 V (Proc.devRef .tc b) = V (Proc.devRef .tc b) := after_of_writes_sub _ _ while0Ops0_5_writes h
theorem w6 (b : Ref sig .tc) (h : b ∉ while0Ops0_6_W) : after while0Ops0_6 V (Proc.devRef .tc b) = V (Proc.devRef .tc b) := after_of_writes_sub _ _ while0Ops0_6_writes h
theorem w7 (b : Ref sig .tc) (h : b ∉ while0Ops0_7_W) : after while0Ops0_7 V (Proc.devRef .tc b) = V (Proc.devRef .tc b) := after_of_writes_sub _ _ while0Ops0_7_writes h
theorem wc (b : Ref sig .tc) (h : b ∉ [main_while0c_c_11, main_while0c_v50]) : after condOps V (Proc.devRef .tc b) = V (Proc.devRef .tc b) := after_unwritten _ Conv1RefFrame.cond_writes h V

/-! ## One trip, and the operations before and after the loop -/

theorem trip_num : afterL bodyI (after condOps V) (Proc.devRef .tc main_v17_4)
    = addi (V (Proc.devRef .tc main_v17_4) : IVec S_ 32) (constantI S_ 32 1#32) := by
  simp only [afterL_cons, afterL_nil]
  rw [s8n, w7 _ _ (by decide), w6 _ _ (by decide), w5 _ _ (by decide), w4 _ _ (by decide), w3 _ _ (by decide), w2 _ _ (by decide), w1 _ _ (by decide), s0, wc _ _ (by decide)]

/-- What the stretches before the last two leave in a buffer. -/
theorem upto6 (b : Ref sig .tc) (hc : b ∉ [main_while0c_c_11, main_while0c_v50]) (h0 : b ∉ while0Ops0_W) (h1 : b ∉ while0Ops0_1_W) (h2 : b ∉ while0Ops0_2_W) (h3 : b ∉ while0Ops0_3_W)
    (h4 : b ∉ while0Ops0_4_W) (h5 : b ∉ while0Ops0_5_W) :
    after while0Ops0_5 (after while0Ops0_4 (after while0Ops0_3 (after while0Ops0_2 (after while0Ops0_1 (after while0Ops0 (after condOps V)))))) (Proc.devRef .tc b) = V (Proc.devRef .tc b) := by
  rw [w5 _ _ h5, w4 _ _ h4, w3 _ _ h3, w2 _ _ h2, w1 _ _ h1, w0 _ _ h0, wc _ _ hc]

theorem trip_stack : afterL bodyI (after condOps V) (Proc.devRef .tc main_v17_5)
    = tripV (V (Proc.devRef .tc main_v17_5)) (V (Proc.devRef .tc main_v17_4)) (V (Proc.devRef .tc main_v17_0)) (V (Proc.devRef .tc main_v17_2)) (V (Proc.devRef .tc main_v17_1)) := by
  simp only [afterL_cons, afterL_nil]
  rw [s8, s7, w6 _ main_v17_5 (by decide), upto6 V main_v17_5 (by decide) (by decide) (by decide) (by decide) (by decide) (by decide) (by decide), s6, s6n,
    upto6 V main_v17_4 (by decide) (by decide) (by decide) (by decide) (by decide) (by decide) (by decide),
    upto6 V main_v17_2 (by decide) (by decide) (by decide) (by decide) (by decide) (by decide) (by decide), s5,
    w5 _ main_while0b_v54 (by decide), s4, w3 _ main_v17_0 (by decide), w2 _ main_v17_0 (by decide), w1 _ main_v17_0 (by decide), w0 _ main_v17_0 (by decide), wc _ main_v17_0 (by decide),
    w4 _ main_while0b_v53 (by decide), s3, w2 _ main_v17_5 (by decide), w1 _ main_v17_5 (by decide), w0 _ main_v17_5 (by decide), wc _ main_v17_5 (by decide),
    s2, w1 _ main_v17_4 (by decide), w0 _ main_v17_4 (by decide), wc _ main_v17_4 (by decide),
    w4 _ main_v17_1 (by decide), w3 _ main_v17_1 (by decide), w2 _ main_v17_1 (by decide), w1 _ main_v17_1 (by decide), w0 _ main_v17_1 (by decide), wc _ main_v17_1 (by decide),
    w5 _ main_while0b_v51 (by decide), w4 _ main_while0b_v51 (by decide), w3 _ main_while0b_v51 (by decide), w2 _ main_while0b_v51 (by decide), s1,
    w0 _ main_v17_5 (by decide), wc _ main_v17_5 (by decide), w0 _ main_v17_4 (by decide), wc _ main_v17_4 (by decide)]
  rfl

theorem entry_stack (c : Dev nD) : entryContents preI m c (Proc.devRef .tc main_v17_5)
    = stack0 (x0V (permV (flatV (m ((c.tc : Thread nD τ).loc main_arg0))) (m ((c.tc : Thread nD τ).loc main_arg1)))) (m ((c.tc : Thread nD τ).loc main_arg4)) (m ((c.tc : Thread nD τ).loc main_arg2)) (m ((c.tc : Thread nD τ).loc main_arg3)) := by
  simp only [entryContents, afterL_cons, afterL_nil]
  rw [h4, k3 _ main_v4 (by decide), k3 _ main_v5 (by decide), k3 _ main_arg2 (by decide), h3, h2, h2v, k2 _ main_arg2 (by decide), k2 _ main_arg3 (by decide), h1,
    k1 _ main_arg2 (by decide), k1 _ main_arg3 (by decide), k1 _ main_arg4 (by decide), h0, k0 _ main_arg1 (by decide), k0 _ main_arg2 (by decide), k0 _ main_arg3 (by decide), k0 _ main_arg4 (by decide)]
  rfl
theorem entry_vals (c : Dev nD) : entryContents preI m c (Proc.devRef .tc main_v17_0) = m ((c.tc : Thread nD τ).loc main_arg4) := by
  chain_rfl
theorem entry_cols (c : Dev nD) : entryContents preI m c (Proc.devRef .tc main_v17_1) = m ((c.tc : Thread nD τ).loc main_arg3) := by
  chain_rfl
theorem entry_rows (c : Dev nD) : entryContents preI m c (Proc.devRef .tc main_v17_2) = m ((c.tc : Thread nD τ).loc main_arg2) := by
  chain_rfl
theorem entry_num (c : Dev nD) : entryContents preI m c (Proc.devRef .tc main_v17_4) = constantI S_ 32 0#32 := by
  chain_rfl

set_option maxHeartbeats 1000000 in
theorem post_out : after hostOps0_5 (after condOps V) (Proc.devRef .tc main_v49)
    = outV (actV (dotV (V (Proc.devRef .tc main_v17_5)) (V (Proc.devRef .tc main_arg5))) (V (Proc.devRef .tc main_arg6))) := by
  after_results_simp_entrywise
  rfl

end Cert.Conv1RefIdeal.Hand

end
-- ==== Proof.Conv1RefLoop.lean ====
/- The reference's loop, entry by entry: plane `d` of its stack ends as the Chebyshev term of degree `d`. -/
module

public import proofs.«01_k».proof.Proof.Conv1RefLap
public import proofs.«01_k».proof.Proof.Conv1RefRun

@[expose] public section

set_option maxRecDepth 16384

noncomputable section

open Idealize.ShloMosaic Idealize.ShloMosaic.TcCoe Idealize.ShloMosaic.Tactic Idealize.SL.Sem Idealize.ShloMosaic.StableHlo

namespace Cert.Conv1RefIdeal.Hand

open Cert.Conv1RefIdeal Cert.Conv1RefIdeal.Gen Cert.Conv1RefIdeal.Value Cert.Reals

/-! ## One plane of the stack -/

/-- Plane `k` starts at `k`. -/
theorem planeAt_eq (w : IVec S_ 32) (k : ℕ) (hk : k < 25) (hw : ∀ i, w i = BitVec.ofNat 32 k) (a : Fin 3) : planeAt w a = ((![k, 0, 0] : Fin 3 → ℕ) a : Int) := by
  match a with
  | ⟨0, _⟩ =>
    show (Scalar.select (IntOp.cmpi .slt (w (Shape.Idx.first h_S_)) 0#32) _ (w (Shape.Idx.first h_S_))).toInt = (k : Int)
    rw [Routing.wrap_of_lt _ _ (by rw [hw, WordCmp.toNat_ofNat_of_lt (by omega)]; show _ < 2147483648; omega), hw, WordCmp.toInt_ofNat_of_lt (by omega)]
  | ⟨1, _⟩ => rfl
  | ⟨2, _⟩ => rfl

theorem readK_apply (S : FVec Ideal S25x16384x8 .f32) (w : IVec S_ 32) (k : ℕ) (hk : k < 25) (hw : ∀ i, w i = BitVec.ofNat 32 k) (i : Fin 16384) (a : Fin 8) :
    readK S w (ix2 i a) = S (ix3 ⟨k, hk⟩ i a) := by
  have hs : S25x16384x8.Slices (![k, 0, 0] : Fin 3 → ℕ) S1x16384x8 := ⟨rfl, fun d => by
    match d with
    | ⟨0, _⟩ => show k + 1 ≤ 25; omega
    | ⟨1, _⟩ => show 0 + 16384 ≤ 16384; omega
    | ⟨2, _⟩ => show 0 + 8 ≤ 8; omega⟩
  unfold readK
  rw [WordCmp.dynamicSlice_eq_extract _ _ _ _ (![k, 0, 0] : Fin 3 → ℕ) hs (planeAt_eq w k hk hw)]
  pointwise

theorem writeK_apply (S : FVec Ideal S25x16384x8 .f32) (u : FVec Ideal S16384x8 .f32) (w : IVec S_ 32) (k : ℕ) (hk : k < 25) (hw : ∀ i, w i = BitVec.ofNat 32 k) (d : Fin 25) (i : Fin 16384) (a : Fin 8) :
    writeK S u w (ix3 d i a) = if d.val = k then u (ix2 i a) else S (ix3 d i a) := by
  have hs : S25x16384x8.Slices (![k, 0, 0] : Fin 3 → ℕ) S1x16384x8 := ⟨rfl, fun d => by
    match d with
    | ⟨0, _⟩ => show k + 1 ≤ 25; omega
    | ⟨1, _⟩ => show 0 + 16384 ≤ 16384; omega
    | ⟨2, _⟩ => show 0 + 8 ≤ 8; omega⟩
  unfold writeK
  rw [WordCmp.dynamicUpdateSlice_eq_update _ _ _ _ (![k, 0, 0] : Fin 3 → ℕ) hs (planeAt_eq w k hk hw)]
  unfold updateSlice
  split_ifs with h1 h2 h2
  · pointwise
  · exfalso
    have := h1 0
    have e : k ≤ d.val ∧ d.val < k + 1 := this
    omega
  · exfalso
    refine h1 fun b => ?_
    match b with
    | ⟨0, _⟩ => show k ≤ d.val ∧ d.val < k + 1; omega
    | ⟨1, _⟩ => show 0 ≤ i.val ∧ i.val < 0 + 16384; omega
    | ⟨2, _⟩ => show 0 ≤ a.val ∧ a.val < 0 + 8; omega
  · rfl

/-! ## The stack before the loop -/

/-- Update `(i', a')` of a plane written at `k` lands at `(d, i, a)` exactly when `d` is `k` and the other coordinates agree. -/
theorem lands_plane (idx : IVec S1 32) (k : ℕ) (hk : k < 25) (hidx : idx (ix1 0) = BitVec.ofNat 32 k) (j : S16384x8.Idx) (d : Fin 25) (i : Fin 16384) (a : Fin 8) :
    scatter_S25x16384x8_S1_S16384x8_01_0_0_0.resultIdx? j idx = some (ix3 d i a) ↔ d.val = k ∧ j = ix2 i a := by
  idx_vars j
  have w0 : scatter_S25x16384x8_S1_S16384x8_01_0_0_0.window (ix2 j0 j1) 0 = 0 := rfl
  have w1 : scatter_S25x16384x8_S1_S16384x8_01_0_0_0.window (ix2 j0 j1) 1 = j0.val := rfl
  have w2 : scatter_S25x16384x8_S1_S16384x8_01_0_0_0.window (ix2 j0 j1) 2 = j1.val := rfl
  have s1 : scatter_S25x16384x8_S1_S16384x8_01_0_0_0.start (ix2 j0 j1) idx 1 = 0 := rfl
  have s2 : scatter_S25x16384x8_S1_S16384x8_01_0_0_0.start (ix2 j0 j1) idx 2 = 0 := rfl
  have hs : scatter_S25x16384x8_S1_S16384x8_01_0_0_0.start (ix2 j0 j1) idx 0 = (idx (ix1 0)).toInt := by
    show (idx _).toInt = _
    congr 2
    funext b
    match b with
    | ⟨0, _⟩ => exact Subsingleton.elim (α := Fin 1) _ _
  have s0 : scatter_S25x16384x8_S1_S16384x8_01_0_0_0.start (ix2 j0 j1) idx 0 = (k : Int) := by
    rw [hs, hidx, WordCmp.toInt_ofNat_of_lt (by omega)]
  rw [Routing.resultIdx?_eq_some]
  constructor
  · intro h
    have h0 := h 0; have h1 := h 1; have h2 := h 2
    rw [s0, w0] at h0; rw [s1, w1] at h1; rw [s2, w2] at h2
    have v0 : ((ix3 d i a : S25x16384x8.Idx) 0).val = d.val := rfl
    have v1 : ((ix3 d i a : S25x16384x8.Idx) 1).val = i.val := rfl
    have v2 : ((ix3 d i a : S25x16384x8.Idx) 2).val = a.val := rfl
    exact ⟨by omega, congrArg₂ ix2 (Fin.ext (by omega)) (Fin.ext (by omega))⟩
  · rintro ⟨h, e⟩ b
    obtain ⟨rfl, rfl⟩ := (ix2_inj _ _ _ _).mp e
    match b with
    | ⟨0, _⟩ => show scatter_S25x16384x8_S1_S16384x8_01_0_0_0.start (ix2 j0 j1) idx 0 + ((scatter_S25x16384x8_S1_S16384x8_01_0_0_0.window (ix2 j0 j1) 0 : Nat) : Int) = (d.val : Int)
                rw [s0, w0]; omega
    | ⟨1, _⟩ => show scatter_S25x16384x8_S1_S16384x8_01_0_0_0.start (ix2 j0 j1) idx 1 + ((scatter_S25x16384x8_S1_S16384x8_01_0_0_0.window (ix2 j0 j1) 1 : Nat) : Int) = (j0.val : Int)
                rw [s1, w1]; omega
    | ⟨2, _⟩ => show scatter_S25x16384x8_S1_S16384x8_01_0_0_0.start (ix2 j0 j1) idx 2 + ((scatter_S25x16384x8_S1_S16384x8_01_0_0_0.window (ix2 j0 j1) 2 : Nat) : Int) = (j1.val : Int)
                rw [s2, w2]; omega

/-- A plane written at a literal number. -/
theorem setPlane_apply (S : FVec Ideal S25x16384x8 .f32) (u : FVec Ideal S16384x8 .f32) (idx : IVec S1 32) (k : ℕ) (hk : k < 25) (hidx : idx (ix1 0) = BitVec.ofNat 32 k) (d : Fin 25) (i : Fin 16384) (a : Fin 8) :
    Host.scatter scatter_S25x16384x8_S1_S16384x8_01_0_0_0 (fun _ b => b) S idx u (ix3 d i a) = if d.val = k then u (ix2 i a) else S (ix3 d i a) := by
  by_cases h : d.val = k
  · rw [if_pos h]
    exact Routing.scatter_set_hit _ S idx u _ _ (fun j hj => congrArg u ((lands_plane idx k hk hidx j d i a).mp hj).2) (ix2 i a) ((lands_plane idx k hk hidx _ d i a).mpr ⟨h, rfl⟩)
  · rw [if_neg h]
    exact Routing.scatter_set_miss _ S idx u _ fun j hj => h ((lands_plane idx k hk hidx j d i a).mp hj).1

section Loop

variable (vals : FVec Ideal S129540 .f32) (rows cols : IVec S129540 32)

/-- The edge list and its weights are the grid's. -/
structure OnGrid : Prop where
  row : ∀ e : Fin 129540, rows (ix1 e) = BitVec.ofNat 32 (Grid.rowN 128 e.val)
  col : ∀ e : Fin 129540, cols (ix1 e) = BitVec.ofNat 32 (Grid.colN 128 e.val)
  val : ∀ e : Fin 129540, vals (ix1 e) = ((Grid.wt 128 (Grid.rowN 128 e.val) (Grid.colN 128 e.val) : ℝ) : EReal)

variable {vals rows cols}

/-- The stack's planes up to `k` are the Chebyshev terms of the columns `ξ`. -/
def Filled (ξ : Fin 8 → ℕ → ℝ) (k : ℕ) (S : FVec Ideal S25x16384x8 .f32) : Prop :=
  ∀ (d : Fin 25) (i : Fin 16384) (a : Fin 8), d.val ≤ k → S (ix3 d i a) = ((Grid.cheb 128 (ξ a) d.val i.val : ℝ) : EReal)

theorem stack0_filled (g : OnGrid vals rows cols) (ξ : Fin 8 → ℕ → ℝ) (x : FVec Ideal S16384x8 .f32) (hx : ∀ (i : Fin 16384) (a : Fin 8), x (ix2 i a) = ((ξ a i.val : ℝ) : EReal)) :
    Filled ξ 1 (stack0 x vals rows cols) := by
  intro d i a hd
  unfold stack0
  rw [setPlane_apply _ _ _ 1 (by omega) rfl]
  by_cases h1 : d.val = 1
  · rw [if_pos h1, h1]
    exact spmmV_apply vals rows cols g.row g.col g.val x a (ξ a) (fun i => hx i a) i
  · have h0 : d.val = 0 := by omega
    rw [if_neg h1, setPlane_apply _ _ _ 0 (by omega) rfl, if_pos h0, h0]
    exact hx i a

theorem two_bits : Ideal.ofBits .f32 0x40000000#32 = ((2 : ℝ) : EReal) := by
  simp [Ideal.ofBits, Ideal.ieee]; rw [← EReal.coe_mul]; norm_num

theorem tripV_filled (g : OnGrid vals rows cols) (ξ : Fin 8 → ℕ → ℝ) (S : FVec Ideal S25x16384x8 .f32) (w : IVec S_ 32) (k : ℕ) (hk : k < 23) (hw : ∀ i, w i = BitVec.ofNat 32 k)
    (hS : Filled ξ (k + 1) S) : Filled ξ (k + 2) (tripV S w vals rows cols) := by
  have hw1 : ∀ i, addi w (constantI S_ 32 1#32) i = BitVec.ofNat 32 (k + 1) := fun i => by
    show IntOp.addi (w i) (BitVec.ofNat 32 1) = _
    rw [hw, WordCmp.addi_ofNat]
  have hw2 : ∀ i, addi w (constantI S_ 32 2#32) i = BitVec.ofNat 32 (k + 2) := fun i => by
    show IntOp.addi (w i) (BitVec.ofNat 32 2) = _
    rw [hw, WordCmp.addi_ofNat]
  intro d i a hd
  unfold tripV
  rw [writeK_apply _ _ _ (k + 2) (by omega) hw2]
  by_cases h : d.val = k + 2
  · rw [if_pos h, h]
    have e1 := spmmV_apply vals rows cols g.row g.col g.val (readK S (addi w (constantI S_ 32 1#32))) a (Grid.cheb 128 (ξ a) (k + 1))
      (fun i => by rw [readK_apply S _ (k + 1) (by omega) hw1]; exact hS ⟨k + 1, by omega⟩ i a le_rfl) i
    have e0 : readK S w (ix2 i a) = ((Grid.cheb 128 (ξ a) k i.val : ℝ) : EReal) := by
      rw [readK_apply S _ k (by omega) hw]; exact hS ⟨k, by omega⟩ i a (Nat.le_succ k)
    show Ideal.ofBits .f32 0x40000000#32 * spmmV (readK S (addi w (constantI S_ 32 1#32))) vals rows cols (ix2 i a) - readK S w (ix2 i a) = _
    rw [two_bits, e1, e0, ← EReal.coe_mul, ← EReal.coe_sub]
    rfl
  · rw [if_neg h]
    exact hS d i a (by omega)

end Loop

/-! ## The loop -/

variable (m : (ℓ : Loc nD τ sig) → Buf (Elt Ideal) ℓ) (c : Dev nD)

theorem kept_vals (k : ℕ) : atK m k c (Proc.devRef .tc main_v17_0) = m ((c.tc : Thread nD τ).loc main_arg4) :=
  (Conv1RefFrame.atK_kept m c main_v17_0 (by decide) k).trans (entry_vals m c)
theorem kept_cols (k : ℕ) : atK m k c (Proc.devRef .tc main_v17_1) = m ((c.tc : Thread nD τ).loc main_arg3) :=
  (Conv1RefFrame.atK_kept m c main_v17_1 (by decide) k).trans (entry_cols m c)
theorem kept_rows (k : ℕ) : atK m k c (Proc.devRef .tc main_v17_2) = m ((c.tc : Thread nD τ).loc main_arg2) :=
  (Conv1RefFrame.atK_kept m c main_v17_2 (by decide) k).trans (entry_rows m c)

/-- After `k` trips the counter is `k` and the planes up to `k + 1` are filled. -/
theorem loop (g : OnGrid (m ((c.tc : Thread nD τ).loc main_arg4)) (m ((c.tc : Thread nD τ).loc main_arg2)) (m ((c.tc : Thread nD τ).loc main_arg3))) (ξ : Fin 8 → ℕ → ℝ)
    (hξ : ∀ (r : Fin 8) (k : Fin 16384), permV (flatV (m ((c.tc : Thread nD τ).loc main_arg0))) (m ((c.tc : Thread nD τ).loc main_arg1)) (ix2 r k) = ((ξ r k.val : ℝ) : EReal)) :
    ∀ k, k ≤ 23 → (∀ i, (atK m k c (Proc.devRef .tc main_v17_4) : IVec S_ 32) i = BitVec.ofNat 32 k) ∧ Filled ξ (k + 1) (atK m k c (Proc.devRef .tc main_v17_5))
  | 0, _ => by
    refine ⟨fun i => ?_, ?_⟩
    · rw [show atK m 0 c = entryContents preI m c from rfl, entry_num]; rfl
    · rw [show atK m 0 c = entryContents preI m c from rfl, entry_stack]
      exact stack0_filled g ξ _ fun i a => (x0V_apply _ i a).trans (hξ a i)
  | k + 1, h => by
    obtain ⟨hn, hS⟩ := loop g ξ hξ k (by omega)
    rw [show atK m (k + 1) c = afterL bodyI (after condOps (atK m k c)) from rfl]
    refine ⟨fun i => ?_, ?_⟩
    · rw [trip_num]
      show IntOp.addi ((atK m k c (Proc.devRef .tc main_v17_4) : IVec S_ 32) i) (BitVec.ofNat 32 1) = _
      rw [hn, WordCmp.addi_ofNat]
    · rw [trip_stack, kept_vals, kept_cols, kept_rows]
      exact tripV_filled g ξ _ _ k (by omega) hn hS

end Cert.Conv1RefIdeal.Hand

end
-- ==== Proof.Conv1RefOut.lean ====
/- What the reference makes of the filled stack, entry by entry: sums of terms times weights, the polynomial, and the means. -/
module

public import proofs.«01_k».proof.Proof.Conv1Ref

@[expose] public section

set_option maxRecDepth 16384

noncomputable section

open Idealize.ShloMosaic Idealize.ShloMosaic.TcCoe Idealize.ShloMosaic.Tactic Idealize.SL.Sem Idealize.ShloMosaic.StableHlo

namespace Cert.Conv1RefIdeal.Hand

open Cert.Conv1RefIdeal Cert.Conv1RefIdeal.Gen Cert.Conv1RefIdeal.Value Cert.Reals

/-- The sum at sample `n`, node `i` and feature `f`. -/
theorem dotV_apply (S : FVec Ideal S25x16384x8 .f32) (w : FVec Ideal S25x32 .f32) (n : Fin 8) (i : Fin 16384) (f : Fin 32) :
    dotV S w (ix3 n i f) = ∑ p : Fin 25, S (ix3 p i n) * w (ix2 p f) := by
  pointwise [dotV]

theorem coefV_apply (a : FVec Ideal S4 .f32) (k : Fin 4) (h) (j : S8x16384x32.Idx) : coefV a k.val h j = a (ix1 k) := by
  idx_vars j
  pointwise [coefV]

/-- The polynomial at an entry. -/
theorem actV_apply (z : FVec Ideal S8x16384x32 .f32) (a : FVec Ideal S4 .f32) (j : S8x16384x32.Idx) :
    actV z a j = a (ix1 0) + a (ix1 1) * z j + a (ix1 2) * (z j * z j) + a (ix1 3) * (z j * z j * z j) := by
  have e0 := coefV_apply a 0 slices_S4_S1_0 j
  have e1 := coefV_apply a 1 slices_S4_S1_1 j
  have e2 := coefV_apply a 2 slices_S4_S1_2 j
  have e3 := coefV_apply a 3 slices_S4_S1_3 j
  show coefV a 0 _ j + coefV a 1 _ j * z j + coefV a 2 _ j * (z j * z j) + coefV a 3 _ j * (z j * z j * z j) = _
  rw [← e0, ← e1, ← e2, ← e3]
  rfl

/-- The result's entry `(j, k)`: feature `j / 8` and sample `j % 8`, the mean over the nodes `4 k, …, 4 k + 3`. -/
theorem outV_apply (y : FVec Ideal S8x16384x32 .f32) (j : Fin 256) (k : Fin 4096) :
    outV y (ix2 j k) = Ideal.div (∑ i : Fin 4, y (ix3 ⟨j.val % 8, by omega⟩ ⟨k.val * 4 + i.val, by omega⟩ ⟨j.val / 8, by omega⟩)) (Ideal.ofBits .f32 0x40800000#32) := by
  pointwise [outV]

end Cert.Conv1RefIdeal.Hand

end
-- ==== Proof.Conv1Kernel.lean ====
/- What `Conv1Ideal`'s kernel computes over the reals: its step is the grid's operator, the blocks it stacks are the Chebyshev
   terms, and each quarter of its result is the polynomial of the products with the weights, pooled. -/
module

public import proofs.«01_k».proof.Proof.Conv1Frame
public import proofs.«01_k».proof.Proof.Grid
public import proofs.«01_k».proof.Proof.Reals
public import Idealize.ShloMosaic.Lib.Pointwise

@[expose] public section

set_option maxRecDepth 16384

noncomputable section

open Idealize.ShloMosaic Idealize.ShloMosaic.TcCoe Idealize.ShloMosaic.Tactic Idealize.SL.Sem
open Idealize.ShloMosaic.Pipeline (Dat)

namespace Cert.Conv1Ideal.Hand

open Cert.Conv1Ideal Cert.Conv1Ideal.Gen Cert.Reals

theorem row_apply (p : Vec Ideal S8x16384 .f32) (k : ℕ) (hk : k < 8) (h) (c : Fin 16384) : row p k h (ix2 0 c) = p (ix2 ⟨k, hk⟩ c) := by
  show p _ = p _
  congr 1; funext d; apply Fin.ext
  match d with
  | ⟨0, _⟩ => show k + 1 * 0 = k; omega
  | ⟨1, _⟩ => show 0 + 1 * c.val = c.val; omega

/-! ## The operator -/

/-- A row rolled by `s`: the two pieces are one read at the index modulo the row's length. -/
theorem roll (Z : ℕ → EReal) (n s k : ℕ) (h : s + k = 16384) (hn : n < 16384) :
    (if n < k then Z (s + n) else Z (n - k)) = Z ((n + s) % 16384) := by
  split_ifs with hk
  · congr 1; omega
  · congr 1; omega

/-- A node's value with its two neighbours' along the row, as the kernel computes it. -/
def tjE (y : ℕ → ℝ) (n : ℕ) : EReal :=
  ((y n : ℝ) : EReal) + ((Grid.mR 128 n : ℝ) : EReal) * (if n < 16383 then ((y (1 + n) : ℝ) : EReal) else ((y (n - 16383) : ℝ) : EReal))
    + ((Grid.mL 128 n : ℝ) : EReal) * (if n < 1 then ((y (16383 + n) : ℝ) : EReal) else ((y (n - 1) : ℝ) : EReal))

theorem tjE_eq (y : ℕ → ℝ) (n : ℕ) (hn : n < 16384) : tjE y n = ((Grid.tj 128 y n : ℝ) : EReal) := by
  unfold tjE
  rw [roll (fun n => ((y n : ℝ) : EReal)) n 1 16383 rfl hn, roll (fun n => ((y n : ℝ) : EReal)) n 16383 1 rfl hn]
  simp only [← EReal.coe_mul, ← EReal.coe_add]
  rfl

set_option maxHeartbeats 2000000 in
/-- The sum over a node and its eight neighbours, from rows that hold the factor and the four masks. -/
theorem pay5_apply (x : Vec Ideal S8x16384 .f32) (d a b e f : Vec Ideal S1x16384 .f32) (r : Fin 8) (ξ : ℕ → ℝ)
    (hd : ∀ c : Fin 16384, d (ix2 0 c) = ((Grid.dh 128 c.val : ℝ) : EReal)) (ha : ∀ c : Fin 16384, a (ix2 0 c) = ((Grid.mR 128 c.val : ℝ) : EReal))
    (hb : ∀ c : Fin 16384, b (ix2 0 c) = ((Grid.mL 128 c.val : ℝ) : EReal)) (he : ∀ c : Fin 16384, e (ix2 0 c) = ((Grid.mD 128 c.val : ℝ) : EReal))
    (hf : ∀ c : Fin 16384, f (ix2 0 c) = ((Grid.mU 128 c.val : ℝ) : EReal)) (hx : ∀ c : Fin 16384, x (ix2 r c) = ((ξ c.val : ℝ) : EReal))
    (c : Fin 16384) :
    k0_pay5 x d a b e f (ix2 r c) = ((Grid.tt 128 (fun n => Grid.dh 128 n * ξ n) c.val : ℝ) : EReal) := by
  have hc := c.isLt
  pointwise [k0_pay5, k0_pay3]
  simp only [hd, ha, hb, he, hf, hx, dite_eq_ite, ← EReal.coe_mul]
  generalize hy : (fun n => Grid.dh 128 n * ξ n) = y
  have hy' : ∀ n, Grid.dh 128 n * ξ n = y n := fun n => by rw [← hy]
  simp only [hy']
  show tjE y c.val + ((Grid.mD 128 c.val : ℝ) : EReal) * (if c.val < 16256 then tjE y (128 + c.val) else tjE y (c.val - 16256))
    + ((Grid.mU 128 c.val : ℝ) : EReal) * (if c.val < 128 then tjE y (16256 + c.val) else tjE y (c.val - 128)) = _
  rw [roll (tjE y) c.val 128 16256 rfl hc, roll (tjE y) c.val 16256 128 rfl hc, tjE_eq y _ hc,
    tjE_eq y _ (Nat.mod_lt _ (by norm_num)), tjE_eq y _ (Nat.mod_lt _ (by norm_num))]
  simp only [← EReal.coe_mul, ← EReal.coe_add]
  rfl

/-- A block less a row times another: the combination both steps end with. -/
def mix (x t : Vec Ideal S8x16384 .f32) (u v : Vec Ideal S1x16384 .f32) : Vec Ideal S8x16384 .f32 := k0_pay7 x t (k0_pay6 u) v

theorem mix_apply (x t : Vec Ideal S8x16384 .f32) (u v : Vec Ideal S1x16384 .f32) (r : Fin 8) (c : Fin 16384) :
    mix x t u v (ix2 r c) = u (ix2 0 c) * x (ix2 r c) - v (ix2 0 c) * t (ix2 r c) := by
  pointwise [mix, k0_pay7, k0_pay6]

theorem pay3_eq (x : Vec Ideal S8x16384 .f32) : k0_pay3 x = x := shapeCast_self _ _
theorem pay4_eq (x : Vec Ideal S8x16384 .f32) : k0_pay4 x = x := (shapeCast_self _ _).trans (pay3_eq x)

/-- What the eight static rows hold. -/
structure Planes (p : Vec Ideal S8x16384 .f32) : Prop where
  r0 : ∀ c : Fin 16384, p (ix2 0 c) = ((Grid.dh 128 c.val : ℝ) : EReal)
  r1 : ∀ c : Fin 16384, p (ix2 1 c) = ((Grid.dh 128 c.val * Grid.dh 128 c.val : ℝ) : EReal)
  r2 : ∀ c : Fin 16384, p (ix2 2 c) = ((2 * Grid.dh 128 c.val : ℝ) : EReal)
  r3 : ∀ c : Fin 16384, p (ix2 3 c) = ((2 * (Grid.dh 128 c.val * Grid.dh 128 c.val) : ℝ) : EReal)
  r4 : ∀ c : Fin 16384, p (ix2 4 c) = ((Grid.mR 128 c.val : ℝ) : EReal)
  r5 : ∀ c : Fin 16384, p (ix2 5 c) = ((Grid.mL 128 c.val : ℝ) : EReal)
  r6 : ∀ c : Fin 16384, p (ix2 6 c) = ((Grid.mD 128 c.val : ℝ) : EReal)
  r7 : ∀ c : Fin 16384, p (ix2 7 c) = ((Grid.mU 128 c.val : ℝ) : EReal)

section Steps

variable {p : Vec Ideal S8x16384 .f32} (hp : Planes p) (x y : Vec Ideal S8x16384 .f32) (r : Fin 8) (ξ η : ℕ → ℝ)
  (hx : ∀ c : Fin 16384, x (ix2 r c) = ((ξ c.val : ℝ) : EReal)) (hy : ∀ c : Fin 16384, y (ix2 r c) = ((η c.val : ℝ) : EReal))

/-- The neighbour sum both steps take, from the static rows. -/
def nb (p x : Vec Ideal S8x16384 .f32) : Vec Ideal S8x16384 .f32 :=
  k0_pay5 x (row p 0 inb_S8x16384_S1x16384_0_0) (row p 4 inb_S8x16384_S1x16384_4_0) (row p 5 inb_S8x16384_S1x16384_5_0) (row p 6 inb_S8x16384_S1x16384_6_0) (row p 7 inb_S8x16384_S1x16384_7_0)

include hp hx in
theorem nb_apply (c : Fin 16384) : nb p x (ix2 r c) = ((Grid.tt 128 (fun n => Grid.dh 128 n * ξ n) c.val : ℝ) : EReal) :=
  pay5_apply x _ _ _ _ _ r ξ (fun c => (row_apply p 0 (by omega) _ c).trans (hp.r0 c)) (fun c => (row_apply p 4 (by omega) _ c).trans (hp.r4 c))
    (fun c => (row_apply p 5 (by omega) _ c).trans (hp.r5 c)) (fun c => (row_apply p 6 (by omega) _ c).trans (hp.r6 c)) (fun c => (row_apply p 7 (by omega) _ c).trans (hp.r7 c)) hx c

theorem lap_eq : lap p x = mix x (nb p x) (row p 1 inb_S8x16384_S1x16384_1_0) (row p 0 inb_S8x16384_S1x16384_0_0) := by
  unfold lap mix nb; rw [pay3_eq]

/-- A row as the loop's body reads it is cast to its own shape. -/
theorem twice_eq : twice p x = mix x (nb p x) (row p 3 inb_S8x16384_S1x16384_3_0) (row p 2 inb_S8x16384_S1x16384_2_0) := by
  unfold twice mix nb k0_pay5; rw [pay3_eq]; rfl

include hp hx in
/-- The body's operator is the grid's. -/
theorem lap_apply (c : Fin 16384) : lap p x (ix2 r c) = ((Grid.lap 128 ξ c.val : ℝ) : EReal) := by
  rw [lap_eq, mix_apply, nb_apply hp x r ξ hx, (row_apply p 1 (by omega) _ c).trans (hp.r1 c), (row_apply p 0 (by omega) _ c).trans (hp.r0 c), hx]
  simp only [← EReal.coe_mul, ← EReal.coe_sub]
  rfl

include hp hx in
/-- The loop's step is twice the grid's operator. -/
theorem twice_apply (c : Fin 16384) : twice p x (ix2 r c) = ((2 * Grid.lap 128 ξ c.val : ℝ) : EReal) := by
  rw [twice_eq, mix_apply, nb_apply hp x r ξ hx, (row_apply p 3 (by omega) _ c).trans (hp.r3 c), (row_apply p 2 (by omega) _ c).trans (hp.r2 c), hx]
  simp only [← EReal.coe_mul, ← EReal.coe_sub]
  congr 1; unfold Grid.lap; ring

end Steps

/-! ## The stacked blocks -/

section Blocks

variable {p : Vec Ideal S8x16384 .f32} (hp : Planes p) (x : Vec Ideal S8x16384 .f32) (ξ : Fin 8 → ℕ → ℝ)
  (hx : ∀ (r : Fin 8) (c : Fin 16384), x (ix2 r c) = ((ξ r c.val : ℝ) : EReal))

include hp hx in
/-- The two blocks carried before trip `k` are the Chebyshev terms of degrees `k` and `k + 1`. -/
theorem chain_apply : ∀ (k : ℕ) (r : Fin 8) (c : Fin 16384),
    (chain p (k0_pay3 x, lap p x) k).1 (ix2 r c) = ((Grid.cheb 128 (ξ r) k c.val : ℝ) : EReal)
      ∧ (chain p (k0_pay3 x, lap p x) k).2 (ix2 r c) = ((Grid.cheb 128 (ξ r) (k + 1) c.val : ℝ) : EReal)
  | 0, r, c => ⟨by show k0_pay3 x _ = _; rw [pay3_eq]; exact hx r c, lap_apply hp x r (ξ r) (hx r) c⟩
  | k + 1, r, c => by
    have ih := chain_apply k
    refine ⟨(ih r c).2, ?_⟩
    show k0_pay9 (chain p (k0_pay3 x, lap p x) k).1 (twice p (chain p (k0_pay3 x, lap p x) k).2) (ix2 r c) = _
    generalize chain p (k0_pay3 x, lap p x) k = s at ih ⊢
    show twice p s.2 (ix2 r c) - s.1 (ix2 r c) = _
    rw [twice_apply hp s.2 r (Grid.cheb 128 (ξ r) (k + 1)) (fun c => (ih r c).2), (ih r c).1, ← EReal.coe_sub]
    rfl

include hp hx in
/-- Row `q` of the stack is the term of degree `q / 8` of batch entry `q % 8`. -/
theorem stack_apply (q : Fin 200) (c : Fin 16384) :
    stack p x (ix2 q c) = ((Grid.cheb 128 (ξ ⟨q.val % 8, by omega⟩) (q.val / 8) c.val : ℝ) : EReal) := by
  unfold stack
  show (if q.val < 8 then k0_pay4 x else (chain p (k0_pay3 x, lap p x) (q.val / 8 - 1)).2) (ix2 ⟨q.val % 8, _⟩ c) = _
  by_cases h : q.val < 8
  · rw [if_pos h, pay4_eq, hx, show q.val / 8 = 0 by omega]; rfl
  · rw [if_neg h]
    have := (chain_apply hp x ξ hx (q.val / 8 - 1) ⟨q.val % 8, by omega⟩ c).2
    rw [show q.val / 8 - 1 + 1 = q.val / 8 by omega] at this
    exact this

include hp hx in
/-- The same in a quarter of the columns. -/
theorem quarter_apply (ci : Fin 4) (q : Fin 200) (c : Fin 4096) :
    quarter p x ci (ix2 q c) = ((Grid.cheb 128 (ξ ⟨q.val % 8, by omega⟩) (q.val / 8) (4096 * ci.val + c.val) : ℝ) : EReal) :=
  stack_apply hp x ξ hx q ⟨4096 * ci.val + c.val, by have := ci.isLt; have := c.isLt; omega⟩

end Blocks

/-! ## The sums -/

/-- The cubic by Horner's rule. -/
def hor (a : Vec Ideal S4 .f32) (z : EReal) : EReal :=
  ((coef a 3 inb_S4_S1_3 * z + coef a 2 inb_S4_S1_2) * z + coef a 1 inb_S4_S1_1) * z + coef a 0 inb_S4_S1_0

/-- The polynomial of the products with the weights. -/
theorem pay12_apply (w : Vec Ideal S256x200 .f32) (s : Vec Ideal S200x4096 .f32) (a : Vec Ideal S4 .f32) (j : Fin 256) (c : Fin 4096) :
    k0_pay12 w s (coef a 0 inb_S4_S1_0) (coef a 1 inb_S4_S1_1) (coef a 2 inb_S4_S1_2) (coef a 3 inb_S4_S1_3) (ix2 j c)
      = hor a (∑ q : Fin 200, w (ix2 j q) * s (ix2 q c)) := by
  unfold hor
  generalize coef a 0 _ = a0
  generalize coef a 1 _ = a1
  generalize coef a 2 _ = a2
  generalize coef a 3 _ = a3
  pointwise [k0_pay12, k0_pay11]

theorem term_congr (v : Vec Ideal S256x4096 .f32) (q : Vec Ideal S512x128 .f32) (j : Fin 256) (n n' : Fin 4096) (r : Fin 512) (k k' : Fin 128)
    (h : n.val = n'.val) (h' : k.val = k'.val) : v (ix2 j n) * q (ix2 r k) = v (ix2 j n') * q (ix2 r k') := by
  obtain rfl := Fin.ext h; obtain rfl := Fin.ext h'; rfl

/-- Eight slices of a block against the pooling matrix, side by side. -/
def pooled (v : Vec Ideal S256x4096 .f32) (q : Vec Ideal S512x128 .f32) : Vec Ideal S256x1024 .f32 :=
  k0_pay17 v (k0_pay13 q)
    (matmul dot_S256x512_S512x128_S256x128_1_0_0_1_n_n none (extractStridedSlice S256x512 ![0, 0] v slices_S256x4096_o0_0_S256x512 : FVec Ideal S256x512 .f32) (k0_pay13 q) (constant S256x128 .f32 0x00000000#32))
    (matmul dot_S256x512_S512x128_S256x128_1_0_0_1_n_n none (extractStridedSlice S256x512 ![0, 512] v slices_S256x4096_o0_512_S256x512 : FVec Ideal S256x512 .f32) (k0_pay13 q) (constant S256x128 .f32 0x00000000#32))
    (extractStridedSlice S256x512 ![0, 1024] v slices_S256x4096_o0_1024_S256x512 : FVec Ideal S256x512 .f32) (constant S256x128 .f32 0x00000000#32)

set_option maxHeartbeats 2000000 in
theorem pooled_apply (v : Vec Ideal S256x4096 .f32) (q : Vec Ideal S512x128 .f32) (j : Fin 256) (c : Fin 1024) :
    pooled v q (ix2 j c) = ∑ r : Fin 512, v (ix2 j ⟨c.val / 128 * 512 + r.val, by omega⟩) * q (ix2 r ⟨c.val % 128, by omega⟩) := by
  pointwise [pooled, k0_pay17, k0_pay13]
  have hc := c.isLt
  split_ifs
  all_goals exact Finset.sum_congr rfl fun x _ => term_congr v q j _ _ x _ _ (by dsimp only; omega) (by dsimp only; omega)

/-- A quarter of the result. -/
theorem chunk_apply (w : Vec Ideal S256x200 .f32) (s : Vec Ideal S200x4096 .f32) (a : Vec Ideal S4 .f32) (q : Vec Ideal S512x128 .f32) (j : Fin 256) (c : Fin 1024) :
    chunk w s a q (ix2 j c)
      = ∑ r : Fin 512, hor a (∑ p : Fin 200, w (ix2 j p) * s (ix2 p ⟨c.val / 128 * 512 + r.val, by omega⟩)) * q (ix2 r ⟨c.val % 128, by omega⟩) := by
  refine (pooled_apply (k0_pay12 w s (coef a 0 inb_S4_S1_0) (coef a 1 inb_S4_S1_1) (coef a 2 inb_S4_S1_2) (coef a 3 inb_S4_S1_3)) q j c).trans ?_
  exact Finset.sum_congr rfl fun r _ => by rw [pay12_apply]

end Cert.Conv1Ideal.Hand

end
-- ==== Proof.Conv1Pre.lean ====
/- What the precondition of the first layer says: the edge list and its weights are those of the grid, the
   permutation is in range, and the other float arguments are finite. -/
module

public import proofs.«01_k».proof.Defs
public import proofs.«01_k».proof.Proof.Grid
public import proofs.«01_k».proof.Proof.Reals
public import proofs.«01_k».proof.Proof.Gen.Pre_conv1_pre
public import Idealize.ShloMosaic.Lib.Pointwise
public import Idealize.ShloMosaic.Lib.WordCmp
public import Idealize.ShloMosaic.Lib.Pipeline.Regions
public import Idealize.ShloMosaic.Lib.Pipeline.Value

@[expose] public section

set_option maxRecDepth 16384

noncomputable section

open Idealize.ShloMosaic Idealize.ShloMosaic.TcCoe Idealize.ShloMosaic.Tactic Idealize.SL.Sem

namespace Cert.Conv1Pre

open Cert.Pre_conv1_pre Cert.Pre_conv1_pre.Gen Cert.Grid

/-- An array over the grid laid out along the edges' first nodes. -/
def atRow {α : Type} (A : S128x128.Idx → α) : S129540.Idx → α :=
  concatenate S129540 0
    [⟨S16129, shapeCast S16129 (extractStridedSlice S127x127 ![1, 1] A slices_S128x128_S127x127_1_1) shapeCasts_S127x127_S16129⟩,
     ⟨S16256, shapeCast S16256 (extractStridedSlice S127x128 ![1, 0] A slices_S128x128_S127x128_1_0) shapeCasts_S127x128_S16256⟩,
     ⟨S16129, shapeCast S16129 (extractStridedSlice S127x127 ![1, 0] A slices_S128x128_S127x127_1_0) shapeCasts_S127x127_S16129⟩,
     ⟨S16256, shapeCast S16256 (extractStridedSlice S128x127 ![0, 1] A slices_S128x128_S128x127_0_1) shapeCasts_S128x127_S16256⟩,
     ⟨S16256, shapeCast S16256 (extractStridedSlice S128x127 ![0, 0] A slices_S128x128_S128x127_0_0) shapeCasts_S128x127_S16256⟩,
     ⟨S16129, shapeCast S16129 (extractStridedSlice S127x127 ![0, 1] A slices_S128x128_S127x127_0_1) shapeCasts_S127x127_S16129⟩,
     ⟨S16256, shapeCast S16256 (extractStridedSlice S127x128 ![0, 0] A slices_S128x128_S127x128_0_0) shapeCasts_S127x128_S16256⟩,
     ⟨S16129, shapeCast S16129 (extractStridedSlice S127x127 ![0, 0] A slices_S128x128_S127x127_0_0) shapeCasts_S127x127_S16129⟩]
    concatenates_S16129_S16256_S16129_S16256_S16256_S16129_S16256_S16129_S129540_d0
/-- The same along the edges' second nodes. -/
def atCol {α : Type} (A : S128x128.Idx → α) : S129540.Idx → α :=
  concatenate S129540 0
    [⟨S16129, shapeCast S16129 (extractStridedSlice S127x127 ![0, 0] A slices_S128x128_S127x127_0_0) shapeCasts_S127x127_S16129⟩,
     ⟨S16256, shapeCast S16256 (extractStridedSlice S127x128 ![0, 0] A slices_S128x128_S127x128_0_0) shapeCasts_S127x128_S16256⟩,
     ⟨S16129, shapeCast S16129 (extractStridedSlice S127x127 ![0, 1] A slices_S128x128_S127x127_0_1) shapeCasts_S127x127_S16129⟩,
     ⟨S16256, shapeCast S16256 (extractStridedSlice S128x127 ![0, 0] A slices_S128x128_S128x127_0_0) shapeCasts_S128x127_S16256⟩,
     ⟨S16256, shapeCast S16256 (extractStridedSlice S128x127 ![0, 1] A slices_S128x128_S128x127_0_1) shapeCasts_S128x127_S16256⟩,
     ⟨S16129, shapeCast S16129 (extractStridedSlice S127x127 ![1, 0] A slices_S128x128_S127x127_1_0) shapeCasts_S127x127_S16129⟩,
     ⟨S16256, shapeCast S16256 (extractStridedSlice S127x128 ![1, 0] A slices_S128x128_S127x128_1_0) shapeCasts_S127x128_S16256⟩,
     ⟨S16129, shapeCast S16129 (extractStridedSlice S127x127 ![1, 1] A slices_S128x128_S127x127_1_1) shapeCasts_S127x127_S16129⟩]
    concatenates_S16129_S16256_S16129_S16256_S16256_S16129_S16256_S16129_S129540_d0

/-- The entry of a grid array at node `n`. -/
def node {α : Type} (A : S128x128.Idx → α) (n : ℕ) (h : n < 16384) : α := A (ix2 ⟨n / 128, by omega⟩ ⟨n % 128, by omega⟩)

theorem node_eq {α : Type} (A : S128x128.Idx → α) (n : ℕ) (h : n < 16384) (a b : Fin 128) (ha : a.val = n / 128) (hb : b.val = n % 128) :
    A (ix2 a b) = node A n h := by
  obtain ⟨a, _⟩ := a; obtain ⟨b, _⟩ := b; dsimp only at ha hb; subst ha; subst hb; rfl

/-- A vector's shape. -/
abbrev vec (n : ℕ) : Shape := ⟨1, ![n]⟩

/-- A concatenation of pieces read inside piece `k`, which begins at `pre`. -/
theorem piece_apply {α : Type} (xs : List ((s : Shape) × (s.Idx → α))) (h : Shape.Concatenates (xs.map (·.1)) S129540 0) (e : Fin 129540)
    (k : Nat) (hk : k < xs.length) (n : ℕ) (x : (vec n).Idx → α) (hxk : xs[k] = ⟨vec n, x⟩) (pre : Nat)
    (hpre : (((xs.take k).map (·.1)).map fun s => if h : s.rank = S129540.rank then s.size ((0 : Fin S129540.rank).cast h.symm) else 0).sum = pre)
    (lo : pre ≤ e.val) (hi : e.val - pre < n) :
    concatenate S129540 0 xs h (ix1 e) = x (ix1 ⟨e.val - pre, hi⟩) := by
  refine concatenate_apply_piece 0 xs h (ix1 e) k hk (vec n) x hxk rfl pre hpre _ (fun b hb => ?_) ?_
  · match b with
    | ⟨0, _⟩ => exact absurd rfl hb
  · show pre + (e.val - pre) = e.val; omega

/-- The eight stretches of the edge list. -/
theorem stretches (e : ℕ) : e < 16129 ∨ (16129 ≤ e ∧ e < 32385) ∨ (32385 ≤ e ∧ e < 48514) ∨ (48514 ≤ e ∧ e < 64770)
    ∨ (64770 ≤ e ∧ e < 81026) ∨ (81026 ≤ e ∧ e < 97155) ∨ (97155 ≤ e ∧ e < 113411) ∨ 113411 ≤ e := by omega

theorem node_congr {α : Type} (A : S128x128.Idx → α) {n n' : ℕ} (h : n < 16384) (h' : n' < 16384) (e : n = n') : node A n h = node A n' h' := by
  subst e; rfl

/-- A rectangle of the grid read in order. -/
theorem rect127127 {α : Type} (A : S128x128.Idx → α) (r0 c0 : ℕ) (h : S128x128.Slices ![r0, c0] S127x127) (i : Fin 16129) (hi : cell 128 r0 c0 127 i.val < 16384) (hc : c0 + 127 ≤ 128) :
    shapeCast S16129 (extractStridedSlice S127x127 ![r0, c0] A h) shapeCasts_S127x127_S16129 (ix1 i) = node A (cell 128 r0 c0 127 i.val) hi := by
  have := i.isLt
  pointwise
  exact node_eq A _ _ _ _ (by unfold cell; dsimp only; omega) (by unfold cell; dsimp only; omega)

/-- A rectangle of the grid read in order. -/
theorem rect127128 {α : Type} (A : S128x128.Idx → α) (r0 c0 : ℕ) (h : S128x128.Slices ![r0, c0] S127x128) (i : Fin 16256) (hi : cell 128 r0 c0 128 i.val < 16384) (hc : c0 + 128 ≤ 128) :
    shapeCast S16256 (extractStridedSlice S127x128 ![r0, c0] A h) shapeCasts_S127x128_S16256 (ix1 i) = node A (cell 128 r0 c0 128 i.val) hi := by
  have := i.isLt
  pointwise
  exact node_eq A _ _ _ _ (by unfold cell; dsimp only; omega) (by unfold cell; dsimp only; omega)

/-- A rectangle of the grid read in order. -/
theorem rect128127 {α : Type} (A : S128x128.Idx → α) (r0 c0 : ℕ) (h : S128x128.Slices ![r0, c0] S128x127) (i : Fin 16256) (hi : cell 128 r0 c0 127 i.val < 16384) (hc : c0 + 127 ≤ 128) :
    shapeCast S16256 (extractStridedSlice S128x127 ![r0, c0] A h) shapeCasts_S128x127_S16256 (ix1 i) = node A (cell 128 r0 c0 127 i.val) hi := by
  have := i.isLt
  pointwise
  exact node_eq A _ _ _ _ (by unfold cell; dsimp only; omega) (by unfold cell; dsimp only; omega)

set_option maxHeartbeats 2000000 in
/-- Entry `e` is the array's at the edge's first node. -/
theorem atRow_apply {α : Type} (A : S128x128.Idx → α) (e : Fin 129540) : atRow A (ix1 e) = node A (rowN 128 e.val) (rowN_lt (.inr rfl) e.isLt) := by
  have he := e.isLt
  unfold atRow
  rcases stretches e.val with h | ⟨h, h'⟩ | ⟨h, h'⟩ | ⟨h, h'⟩ | ⟨h, h'⟩ | ⟨h, h'⟩ | ⟨h, h'⟩ | h
  · refine (piece_apply _ _ e 0 (by show 0 < 8; omega) 16129 _ rfl 0 (by chain_rfl) (by omega) (by omega)).trans ?_
    refine (rect127127 A 1 1 _ _ (by unfold cell; dsimp only; omega) (by omega)).trans (node_congr A _ _ ?_)
    unfold rowN dia str; split_ifs <;> first | (exfalso; omega) | rfl
  · refine (piece_apply _ _ e 1 (by show 1 < 8; omega) 16256 _ rfl 16129 (by chain_rfl) (by omega) (by omega)).trans ?_
    refine (rect127128 A 1 0 _ _ (by unfold cell; dsimp only; omega) (by omega)).trans (node_congr A _ _ ?_)
    unfold rowN dia str; split_ifs <;> first | (exfalso; omega) | rfl
  · refine (piece_apply _ _ e 2 (by show 2 < 8; omega) 16129 _ rfl 32385 (by chain_rfl) (by omega) (by omega)).trans ?_
    refine (rect127127 A 1 0 _ _ (by unfold cell; dsimp only; omega) (by omega)).trans (node_congr A _ _ ?_)
    unfold rowN dia str; split_ifs <;> first | (exfalso; omega) | rfl
  · refine (piece_apply _ _ e 3 (by show 3 < 8; omega) 16256 _ rfl 48514 (by chain_rfl) (by omega) (by omega)).trans ?_
    refine (rect128127 A 0 1 _ _ (by unfold cell; dsimp only; omega) (by omega)).trans (node_congr A _ _ ?_)
    unfold rowN dia str; split_ifs <;> first | (exfalso; omega) | rfl
  · refine (piece_apply _ _ e 4 (by show 4 < 8; omega) 16256 _ rfl 64770 (by chain_rfl) (by omega) (by omega)).trans ?_
    refine (rect128127 A 0 0 _ _ (by unfold cell; dsimp only; omega) (by omega)).trans (node_congr A _ _ ?_)
    unfold rowN dia str; split_ifs <;> first | (exfalso; omega) | rfl
  · refine (piece_apply _ _ e 5 (by show 5 < 8; omega) 16129 _ rfl 81026 (by chain_rfl) (by omega) (by omega)).trans ?_
    refine (rect127127 A 0 1 _ _ (by unfold cell; dsimp only; omega) (by omega)).trans (node_congr A _ _ ?_)
    unfold rowN dia str; split_ifs <;> first | (exfalso; omega) | rfl
  · refine (piece_apply _ _ e 6 (by show 6 < 8; omega) 16256 _ rfl 97155 (by chain_rfl) (by omega) (by omega)).trans ?_
    refine (rect127128 A 0 0 _ _ (by unfold cell; dsimp only; omega) (by omega)).trans (node_congr A _ _ ?_)
    unfold rowN dia str; split_ifs <;> first | (exfalso; omega) | rfl
  · refine (piece_apply _ _ e 7 (by show 7 < 8; omega) 16129 _ rfl 113411 (by chain_rfl) (by omega) (by omega)).trans ?_
    refine (rect127127 A 0 0 _ _ (by unfold cell; dsimp only; omega) (by omega)).trans (node_congr A _ _ ?_)
    unfold rowN dia str; split_ifs <;> first | (exfalso; omega) | rfl

set_option maxHeartbeats 2000000 in
/-- Entry `e` is the array's at the edge's second node. -/
theorem atCol_apply {α : Type} (A : S128x128.Idx → α) (e : Fin 129540) : atCol A (ix1 e) = node A (colN 128 e.val) (colN_lt (.inr rfl) e.isLt) := by
  have he := e.isLt
  unfold atCol
  rcases stretches e.val with h | ⟨h, h'⟩ | ⟨h, h'⟩ | ⟨h, h'⟩ | ⟨h, h'⟩ | ⟨h, h'⟩ | ⟨h, h'⟩ | h
  · refine (piece_apply _ _ e 0 (by show 0 < 8; omega) 16129 _ rfl 0 (by chain_rfl) (by omega) (by omega)).trans ?_
    refine (rect127127 A 0 0 _ _ (by unfold cell; dsimp only; omega) (by omega)).trans (node_congr A _ _ ?_)
    unfold colN dia str; split_ifs <;> first | (exfalso; omega) | rfl
  · refine (piece_apply _ _ e 1 (by show 1 < 8; omega) 16256 _ rfl 16129 (by chain_rfl) (by omega) (by omega)).trans ?_
    refine (rect127128 A 0 0 _ _ (by unfold cell; dsimp only; omega) (by omega)).trans (node_congr A _ _ ?_)
    unfold colN dia str; split_ifs <;> first | (exfalso; omega) | rfl
  · refine (piece_apply _ _ e 2 (by show 2 < 8; omega) 16129 _ rfl 32385 (by chain_rfl) (by omega) (by omega)).trans ?_
    refine (rect127127 A 0 1 _ _ (by unfold cell; dsimp only; omega) (by omega)).trans (node_congr A _ _ ?_)
    unfold colN dia str; split_ifs <;> first | (exfalso; omega) | rfl
  · refine (piece_apply _ _ e 3 (by show 3 < 8; omega) 16256 _ rfl 48514 (by chain_rfl) (by omega) (by omega)).trans ?_
    refine (rect128127 A 0 0 _ _ (by unfold cell; dsimp only; omega) (by omega)).trans (node_congr A _ _ ?_)
    unfold colN dia str; split_ifs <;> first | (exfalso; omega) | rfl
  · refine (piece_apply _ _ e 4 (by show 4 < 8; omega) 16256 _ rfl 64770 (by chain_rfl) (by omega) (by omega)).trans ?_
    refine (rect128127 A 0 1 _ _ (by unfold cell; dsimp only; omega) (by omega)).trans (node_congr A _ _ ?_)
    unfold colN dia str; split_ifs <;> first | (exfalso; omega) | rfl
  · refine (piece_apply _ _ e 5 (by show 5 < 8; omega) 16129 _ rfl 81026 (by chain_rfl) (by omega) (by omega)).trans ?_
    refine (rect127127 A 1 0 _ _ (by unfold cell; dsimp only; omega) (by omega)).trans (node_congr A _ _ ?_)
    unfold colN dia str; split_ifs <;> first | (exfalso; omega) | rfl
  · refine (piece_apply _ _ e 6 (by show 6 < 8; omega) 16256 _ rfl 97155 (by chain_rfl) (by omega) (by omega)).trans ?_
    refine (rect127128 A 1 0 _ _ (by unfold cell; dsimp only; omega) (by omega)).trans (node_congr A _ _ ?_)
    unfold colN dia str; split_ifs <;> first | (exfalso; omega) | rfl
  · refine (piece_apply _ _ e 7 (by show 7 < 8; omega) 16129 _ rfl 113411 (by chain_rfl) (by omega) (by omega)).trans ?_
    refine (rect127127 A 1 1 _ _ (by unfold cell; dsimp only; omega) (by omega)).trans (node_congr A _ _ ?_)
    unfold colN dia str; split_ifs <;> first | (exfalso; omega) | rfl

/-- The nodes' numbers. -/
def idxV : IVec S128x128 32 := shapeCast S128x128 (iotaInDim S16384 32 0) shapeCasts_S16384_S128x128

theorem idxV_apply (n : ℕ) (h : n < 16384) : node idxV n h = BitVec.ofNat 32 n := by
  unfold node idxV
  pointwise
  rw [show n / 128 * 128 + n % 128 = n by omega]

/-- The factor of one axis. -/
def axV : FVec Ideal S128 .f32 :=
  fn_where (ori (cmpi .eq (iotaInDim S128 32 0) (broadcastInDim S128 ![] bcast_S_S128 (constantI S_ 32 0#32)))
    (cmpi .eq (iotaInDim S128 32 0) (broadcastInDim S128 ![] bcast_S_S128 (constantI S_ 32 127#32))))
    (constant S_ .f32 0x40000000#32) (constant S_ .f32 0x40400000#32)

theorem axV_apply (i : Fin 128) : axV (ix1 i) = ((ax 128 i.val : ℝ) : EReal) := by
  have e2 : Ideal.ofBits .f32 0x40000000#32 = ((2 : ℝ) : EReal) := by
    simp [Ideal.ofBits, Ideal.ieee]; rw [← EReal.coe_mul]; norm_num
  have e3 : Ideal.ofBits .f32 0x40400000#32 = ((3 : ℝ) : EReal) := by
    simp [Ideal.ofBits, Ideal.ieee]; rw [← EReal.coe_mul]; norm_num
  unfold axV fn_where
  pointwise
  rw [e2, e3]
  unfold ax
  by_cases h0 : i.val = 0
  · rw [h0]; rfl
  by_cases h1 : i.val = 127
  · rw [h1]; rfl
  rw [if_neg (by omega)]
  have n0 : IntOp.cmpi .eq (BitVec.ofNat 32 i.val) 0#32 = 0#1 := (WordCmp.cmpi_eq_ofNat_eq_zero_iff (by omega) (by omega)).mpr h0
  have n1 : IntOp.cmpi .eq (BitVec.ofNat 32 i.val) 127#32 = 0#1 := (WordCmp.cmpi_eq_ofNat_eq_zero_iff (by omega) (by omega)).mpr h1
  rw [n0, n1]; rfl

/-- The number of neighbours. -/
def degV : FVec Ideal S128x128 .f32 :=
  subf (mulf (broadcastInDim S128x128 ![0, 1] bcast_S128x1_S128x128_0_1 (broadcastInDim S128x1 ![0] bcast_S128_S128x1_0 axV))
    (broadcastInDim S128x128 ![0, 1] bcast_S1x128_S128x128_0_1 (broadcastInDim S1x128 ![1] bcast_S128_S1x128_1 axV)))
    (broadcastInDim S128x128 ![] bcast_S_S128x128 (constant S_ .f32 0x3F800000#32))

theorem degV_apply (n : ℕ) (h : n < 16384) : node degV n h = ((deg 128 n : ℝ) : EReal) := by
  unfold node degV
  pointwise
  rw [axV_apply, axV_apply, ← EReal.coe_mul, ← EReal.coe_one, ← EReal.coe_sub]
  rfl

/-- The edge weights. -/
def wtV : FVec Ideal S129540 .f32 :=
  Host.divf (broadcastInDim S129540 ![] bcast_S_S129540 (constant S_ .f32 0xBF800000#32)) (Host.sqrt (mulf (atRow degV) (atCol degV)))

theorem wtV_apply (e : Fin 129540) : wtV (ix1 e) = ((wt 128 (rowN 128 e.val) (colN 128 e.val) : ℝ) : EReal) := by
  have hm : Ideal.ofBits .f32 0xBF800000#32 = ((-1 : ℝ) : EReal) := by
    simp [Ideal.ofBits, Ideal.ieee]; rw [← EReal.coe_mul]; norm_num
  unfold wtV
  pointwise
  rw [hm, atRow_apply, atCol_apply, degV_apply, degV_apply, ← EReal.coe_mul]
  have hp : 0 < deg 128 (rowN 128 e.val) * deg 128 (colN 128 e.val) := mul_pos (deg_pos 128 _) (deg_pos 128 _)
  have hs : Ideal.sqrt ((deg 128 (rowN 128 e.val) * deg 128 (colN 128 e.val) : ℝ) : EReal) = ((Real.sqrt (deg 128 (rowN 128 e.val) * deg 128 (colN 128 e.val)) : ℝ) : EReal) := by
    exact if_neg (not_lt.mpr hp.le)
  show Ideal.div _ (Ideal.sqrt _) = _
  rw [hs, Ideal.div, if_neg (by exact_mod_cast (Real.sqrt_pos.mpr hp).ne'), ← EReal.coe_inv, ← EReal.coe_mul]
  rfl

theorem of_ieq {x y : IVec S129540 32} (h : cmpi .eq x y = fun _ => 1#1) (i : S129540.Idx) : x i = y i := by
  have := congrFun h i
  have e : cmpi .eq x y i = BitVec.ofBool (decide (x i = y i)) := WordCmp.cmpi_eq_eq _ _
  rw [e] at this
  by_contra hn
  rw [decide_eq_false hn] at this
  exact absurd this (by decide)

theorem of_feq {x y : FVec Ideal S129540 .f32} (h : cmpf .oeq x y = fun _ => 1#1) (i : S129540.Idx) : x i = y i := by
  have := congrFun h i
  have e : cmpf .oeq x y i = Ideal.cmp .oeq (x i) (y i) := rfl
  rw [e] at this
  by_contra hn
  simp [Ideal.cmp, hn] at this

theorem fn_eq (a0 : FVec Ideal S8x1x128x128 .f32) (a1 : IVec S16384 32) (a2 a3 : IVec S129540 32) (a4 : FVec Ideal S129540 .f32) (a5 : FVec Ideal S25x32 .f32) (a6 : FVec Ideal S4 .f32) :
    (fn (F := Ideal) a0 a1 a2 a3 a4 a5 a6).2.1 = andi (cmpi .sge a1 (broadcastInDim S16384 ![] bcast_S_S16384 (constantI S_ 32 0#32))) (cmpi .slt a1 (broadcastInDim S16384 ![] bcast_S_S16384 (constantI S_ 32 16384#32))) ∧
    (fn (F := Ideal) a0 a1 a2 a3 a4 a5 a6).2.2.1 = cmpi .eq a2 (atRow idxV) ∧
    (fn (F := Ideal) a0 a1 a2 a3 a4 a5 a6).2.2.2.1 = cmpi .eq a3 (atCol idxV) ∧
    (fn (F := Ideal) a0 a1 a2 a3 a4 a5 a6).2.2.2.2.1 = cmpf .oeq a4 wtV := ⟨rfl, rfl, rfl, rfl⟩

/-- A permutation that passes the test has entries below the number of nodes. -/
theorem of_range (x : IVec S16384 32)
    (h : andi (cmpi .sge x (broadcastInDim S16384 ![] bcast_S_S16384 (constantI S_ 32 0#32))) (cmpi .slt x (broadcastInDim S16384 ![] bcast_S_S16384 (constantI S_ 32 16384#32))) = fun _ => 1#1)
    (i : S16384.Idx) : (x i).toNat < 16384 := by
  have h' : IntOp.andi (IntOp.cmpi .sge (x i) 0#32) (IntOp.cmpi .slt (x i) 16384#32) = 1#1 := congrFun h i
  have h1 : IntOp.cmpi .sge (x i) 0#32 = BitVec.ofBool (BitVec.sle 0#32 (x i)) := rfl
  have h2 : IntOp.cmpi .slt (x i) 16384#32 = BitVec.ofBool (BitVec.slt (x i) 16384#32) := rfl
  rw [h1, h2] at h'
  generalize x i = w at h'
  cases e1 : BitVec.sle 0#32 w <;> cases e2 : BitVec.slt w 16384#32 <;> rw [e1, e2] at h' <;> first | exact absurd h' (by decide) | skip
  rw [BitVec.sle_eq_decide, decide_eq_true_eq] at e1
  rw [BitVec.slt_eq_decide, decide_eq_true_eq] at e2
  have z0 : (0#32 : BitVec 32).toInt = 0 := by decide
  have z1 : (16384#32 : BitVec 32).toInt = 16384 := by decide
  rw [z0] at e1; rw [z1] at e2
  rw [BitVec.toInt_eq_toNat_cond] at e1 e2
  split_ifs at e1 e2 <;> omega

end Cert.Conv1Pre

end
-- ==== Proof.Conv2Frame.lean ====
/- The frame of `Conv2Ideal`: what the three carried buffers hold after every grid point, the body's obligation at a point, and
   the run: @main terminates, its arguments end unchanged, the result array holds what the last point wrote. -/
module

public import proofs.«01_k».proof.Proof.Conv2Body
public import proofs.«01_k».proof.Proof.Gen.Conv2Ideal.Launch
public import proofs.«01_k».proof.Proof.Gen.Conv2Ideal.Skeleton
public import proofs.«01_k».proof.Proof.Gen.Conv2Ideal.Points
public import proofs.«01_k».proof.Proof.Gen.Conv2Ideal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Conv2Ideal.Hand

open Cert.Conv2Ideal Cert.Conv2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried buffers after each point -/

/-- The input, the static rows, the weights of point `t`, the coefficients, the pooling matrix: the blocks a point reads. -/
abbrev bX (c : Dev nD) (t : Fin cfg0.N) : Vec F S256x4096 .f32 := iblk m c 0 t
abbrev bP (c : Dev nD) (t : Fin cfg0.N) : Vec F S8x4096 .f32 := iblk m c 1 t
abbrev bQ (c : Dev nD) (t : Fin cfg0.N) : Vec F S1x512x256 .bf16 := iblk m c 2 t
abbrev bA (c : Dev nD) (t : Fin cfg0.N) : Vec F S4 .f32 := iblk m c 3 t
abbrev bR (c : Dev nD) (t : Fin cfg0.N) : Vec F S512x128 .f32 := iblk m c 4 t

/-- The sums, the odd block and the even block after point `n` (the odd block means nothing after point 0). -/
def st (c : Dev nD) : (n : ℕ) → n < cfg0.N → Vec F S512x4096 .f32 × Vec F S256x4096 .f32 × Vec F S256x4096 .f32
  | 0, h => (k0_pay16 (k0_pay12 (bX m c ⟨0, h⟩)) (bQ m c ⟨0, h⟩), k0_pay12 (bX m c ⟨0, h⟩), k0_pay12 (bX m c ⟨0, h⟩))
  | n + 1, h =>
    let s := st c n (Nat.lt_of_succ_lt h)
    if n = 0 then (k0_pay1 s.1 (lap (bP m c ⟨n + 1, h⟩) s.2.2) (bQ m c ⟨n + 1, h⟩), lap (bP m c ⟨n + 1, h⟩) s.2.2, s.2.2)
    else if (n + 1) % 2 = 0 then
      (k0_pay17 s.1 (stepE (bP m c ⟨n + 1, h⟩) s.2.1 s.2.2) (bQ m c ⟨n + 1, h⟩), s.2.1, stepE (bP m c ⟨n + 1, h⟩) s.2.1 s.2.2)
    else
      (k0_pay1 s.1 (stepO (bP m c ⟨n + 1, h⟩) s.2.2 s.2.1) (bQ m c ⟨n + 1, h⟩), stepO (bP m c ⟨n + 1, h⟩) s.2.2 s.2.1, s.2.2)

theorem st_zero (c : Dev nD) (t : Fin cfg0.N) (ht : t.val = 0) :
    st m c t.val t.isLt = (k0_pay16 (k0_pay12 (bX m c t)) (bQ m c t), k0_pay12 (bX m c t), k0_pay12 (bX m c t)) := by
  obtain ⟨n, hn⟩ := t; subst ht; rfl
theorem st_one (c : Dev nD) (t : Fin cfg0.N) (ht : t.val = 1) (h : t.val - 1 < cfg0.N) :
    st m c t.val t.isLt = (k0_pay1 (st m c (t.val - 1) h).1 (lap (bP m c t) (st m c (t.val - 1) h).2.2) (bQ m c t), lap (bP m c t) (st m c (t.val - 1) h).2.2, (st m c (t.val - 1) h).2.2) := by
  obtain ⟨n, hn⟩ := t; subst ht; rfl
theorem st_even (c : Dev nD) (t : Fin cfg0.N) (ht : 2 ≤ t.val) (hm : t.val % 2 = 0) (h : t.val - 1 < cfg0.N) :
    st m c t.val t.isLt = (k0_pay17 (st m c (t.val - 1) h).1 (stepE (bP m c t) (st m c (t.val - 1) h).2.1 (st m c (t.val - 1) h).2.2) (bQ m c t), (st m c (t.val - 1) h).2.1, stepE (bP m c t) (st m c (t.val - 1) h).2.1 (st m c (t.val - 1) h).2.2) := by
  obtain ⟨n, hn⟩ := t
  cases n with
  | zero => exact absurd ht (by dsimp only; omega)
  | succ n => simp only [st]; rw [if_neg (by dsimp only at ht; omega), if_pos hm]; rfl
theorem st_odd (c : Dev nD) (t : Fin cfg0.N) (ht : 2 ≤ t.val) (hm : t.val % 2 = 1) (h : t.val - 1 < cfg0.N) :
    st m c t.val t.isLt = (k0_pay1 (st m c (t.val - 1) h).1 (stepO (bP m c t) (st m c (t.val - 1) h).2.2 (st m c (t.val - 1) h).2.1) (bQ m c t), stepO (bP m c t) (st m c (t.val - 1) h).2.2 (st m c (t.val - 1) h).2.1, (st m c (t.val - 1) h).2.2) := by
  obtain ⟨n, hn⟩ := t
  cases n with
  | zero => exact absurd ht (by dsimp only; omega)
  | succ n => simp only [st]; rw [if_neg (by dsimp only at ht; omega), if_neg (by dsimp only at hm; omega)]; rfl

/-- The three carried buffers, whole. -/
abbrev scM0 : Memref sig .tc .vmem S512x4096 .f32 := Memref.whole cc0_scratch0
abbrev scM1 : Memref sig .tc .vmem S256x4096 .f32 := Memref.whole cc0_scratch1
abbrev scM2 : Memref sig .tc .vmem S256x4096 .f32 := Memref.whole cc0_scratch2

/-- The carried buffers at some contents: what the launch gives the region and takes back. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The invariant before point `n`: nothing known at first; after the first point the sums and the even block; then all three. -/
def PhiS (c : Dev nD) : (n : ℕ) → n ≤ cfg0.N → sProp 𝕄
  | 0, _ => Pipeline.ΦA spec0 c
  | 1, hn => iprop(iprop(owns (c : Thread nD τ) scM0 fullShare (st m c 0 hn).1 ∗ (∃ d, owns (c : Thread nD τ) scM1 fullShare d) ∗ owns (c : Thread nD τ) scM2 fullShare (st m c 0 hn).2.2) ∗ (∃ r, prngReg c r))
  | n + 2, hn => iprop(iprop(owns (c : Thread nD τ) scM0 fullShare (st m c (n + 1) hn).1 ∗ owns (c : Thread nD τ) scM1 fullShare (st m c (n + 1) hn).2.1 ∗ owns (c : Thread nD τ) scM2 fullShare (st m c (n + 1) hn).2.2) ∗ (∃ r, prngReg c r))

theorem PhiS_zero (c : Dev nD) (n : ℕ) (h : n ≤ cfg0.N) (hz : n = 0) : PhiS m c n h = Pipeline.ΦA spec0 c := by
  subst hz; rfl
theorem PhiS_one (c : Dev nD) (n : ℕ) (h : n ≤ cfg0.N) (hz : n = 1) (h' : n - 1 < cfg0.N) :
    PhiS m c n h = iprop(iprop(owns (c : Thread nD τ) scM0 fullShare (st m c (n - 1) h').1 ∗ (∃ d, owns (c : Thread nD τ) scM1 fullShare d) ∗ owns (c : Thread nD τ) scM2 fullShare (st m c (n - 1) h').2.2) ∗ (∃ r, prngReg c r)) := by
  subst hz; rfl
theorem PhiS_pos (c : Dev nD) (n : ℕ) (h : n ≤ cfg0.N) (hz : 2 ≤ n) (h' : n - 1 < cfg0.N) :
    PhiS m c n h = iprop(iprop(owns (c : Thread nD τ) scM0 fullShare (st m c (n - 1) h').1 ∗ owns (c : Thread nD τ) scM1 fullShare (st m c (n - 1) h').2.1 ∗ owns (c : Thread nD τ) scM2 fullShare (st m c (n - 1) h').2.2) ∗ (∃ r, prngReg c r)) := by
  match n, h, hz, h' with
  | n + 2, _, _, _ => rfl

/-! ## The pipeline's proof data -/

/-- The arrays as the region finds them; after a point each input's buffer at its block, the output's at what the last point
    writes; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fin (st m c t.val t.isLt).1 (bA m c t) (bR m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = fin (st m c t.val t.isLt).1 (bA m c t) (bR m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)

/-- The result's window is idle, and not written back, at every point but the last; at the last it is live. -/
theorem idle5 : ∀ t : Fin cfg0.N, t.val ≠ 24 → cfg0.idle 5 (grid0.coords t) = true := by decide +kernel
theorem noFlush5 : ∀ t : Fin cfg0.N, t.val ≠ 24 → (cfg0.win 5).flush t = false := by decide +kernel
theorem live5 : ∀ t : Fin cfg0.N, t.val = 24 → cfg0.idle 5 (grid0.coords t) = false := by decide +kernel

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the case the point is in gives the run, whose contents are the next state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_castSucc m c t]
  have hN : t.val < 25 := lt_of_lt_of_eq t.isLt (show cfg0.N = 25 from N_0)
  have hp : t.val - 1 < cfg0.N := lt_of_le_of_lt (Nat.sub_le _ _) t.isLt
  rw [show (dats m 0 c).leavesExact 0 t = owns (c : Thread nD τ) (ms0_0 t) fullShare (iblk m c 0 t) from by
    unfold Dat.leavesExact; rw [show cfg0.idle 0 (grid0.coords t) = false from rfl, after0_0]]
  rw [show (dats m 0 c).leavesExact 1 t = owns (c : Thread nD τ) (ms0_1 t) fullShare (iblk m c 1 t) from by
    unfold Dat.leavesExact; rw [show cfg0.idle 1 (grid0.coords t) = false from rfl, after0_1]]
  rw [show (dats m 0 c).leavesExact 2 t = owns (c : Thread nD τ) (ms0_2 t) fullShare (iblk m c 2 t) from by
    unfold Dat.leavesExact; rw [show cfg0.idle 2 (grid0.coords t) = false from rfl, after0_2]]
  rw [show (dats m 0 c).leavesExact 3 t = owns (c : Thread nD τ) (ms0_3 t) fullShare (iblk m c 3 t) from by
    unfold Dat.leavesExact; rw [show cfg0.idle 3 (grid0.coords t) = false from rfl, after0_3]]
  rw [show (dats m 0 c).leavesExact 4 t = owns (c : Thread nD τ) (ms0_4 t) fullShare (iblk m c 4 t) from by
    unfold Dat.leavesExact; rw [show cfg0.idle 4 (grid0.coords t) = false from rfl, after0_4]]
  by_cases hz : t.val = 0
  · rw [Dat.leavesExact_idle (dats m 0 c) 5 t (idle5 t (by omega)) (noFlush5 t (by omega))]
    rw [PhiS_zero m c _ _ hz, PhiA0_eq, PhiS_one m c (t.val + 1) _ (by omega) t.isLt]
    simp only [Nat.add_sub_cancel]
    rw [st_zero m c t hz]
    dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (run0 c (grid0.coords t) _ _ _ _ _ _ _ _ _ _ _ _ _ _ _ _ _ _ ((hc0 t).mpr (by omega)) (fun h => absurd ((hc1 t).mp h) (by omega)) (fun h => absurd ((hcE t).mp h) (by omega)) (fun h => absurd ((hcO t).mp h) (by omega)) (fun h => absurd ((hcP t).mp h) (by omega)) (fun h => absurd ((hcL t).mp h) (by omega)) (bX m c t) (bP m c t) (bQ m c t) (bA m c t) (bR m c t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  by_cases ho : t.val = 1
  · rw [Dat.leavesExact_idle (dats m 0 c) 5 t (idle5 t (by omega)) (noFlush5 t (by omega))]
    rw [PhiS_one m c _ _ (by omega) hp, PhiS_pos m c (t.val + 1) _ (by omega) t.isLt]
    simp only [Nat.add_sub_cancel]
    rw [st_one m c t (by omega) hp]
    dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (run1 c (grid0.coords t) _ _ _ _ _ _ _ _ _ _ _ _ _ _ _ _ _ _ (fun h => absurd ((hc0 t).mp h) (by omega)) ((hc1 t).mpr (by omega)) (fun h => absurd ((hcE t).mp h) (by omega)) (fun h => absurd ((hcO t).mp h) (by omega)) ((hcP t).mpr (by omega)) (fun h => absurd ((hcL t).mp h) (by omega)) (bX m c t) (bP m c t) (bQ m c t) (bA m c t) (bR m c t) _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  by_cases hm : t.val % 2 = 0
  · by_cases hl : t.val = 24
    · rw [show (dats m 0 c).leavesExact 5 t = owns (c : Thread nD τ) (ms0_5 t) fullShare ((dats m 0 c).after 5 t) from by
          unfold Dat.leavesExact; rw [live5 t (by omega)], after0_5]
      rw [PhiS_pos m c _ _ (by omega) hp, PhiS_pos m c (t.val + 1) _ (by omega) t.isLt]
      simp only [Nat.add_sub_cancel]
      rw [st_even m c t (by omega) (by omega) hp]
      dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (runL c (grid0.coords t) _ _ _ _ _ _ _ _ _ _ _ _ _ _ _ _ _ _ (fun h => absurd ((hc0 t).mp h) (by omega)) (fun h => absurd ((hc1 t).mp h) (by omega)) ((hcE t).mpr (by omega)) (fun h => absurd ((hcO t).mp h) (by omega)) (fun h => absurd ((hcP t).mp h) (by omega)) ((hcL t).mpr (by omega)) (bX m c t) (bP m c t) (bQ m c t) (bA m c t) (bR m c t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    rw [Dat.leavesExact_idle (dats m 0 c) 5 t (idle5 t (by omega)) (noFlush5 t (by omega))]
    rw [PhiS_pos m c _ _ (by omega) hp, PhiS_pos m c (t.val + 1) _ (by omega) t.isLt]
    simp only [Nat.add_sub_cancel]
    rw [st_even m c t (by omega) (by omega) hp]
    dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (runE c (grid0.coords t) _ _ _ _ _ _ _ _ _ _ _ _ _ _ _ _ _ _ (fun h => absurd ((hc0 t).mp h) (by omega)) (fun h => absurd ((hc1 t).mp h) (by omega)) ((hcE t).mpr (by omega)) (fun h => absurd ((hcO t).mp h) (by omega)) (fun h => absurd ((hcP t).mp h) (by omega)) (fun h => absurd ((hcL t).mp h) (by omega)) (bX m c t) (bP m c t) (bQ m c t) (bA m c t) (bR m c t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  rw [Dat.leavesExact_idle (dats m 0 c) 5 t (idle5 t (by omega)) (noFlush5 t (by omega))]
  rw [PhiS_pos m c _ _ (by omega) hp, PhiS_pos m c (t.val + 1) _ (by omega) t.isLt]
  simp only [Nat.add_sub_cancel]
  rw [st_odd m c t (by omega) (by omega) hp]
  dsimp only
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (runO c (grid0.coords t) _ _ _ _ _ _ _ _ _ _ _ _ _ _ _ _ _ _ (fun h => absurd ((hc0 t).mp h) (by omega)) (fun h => absurd ((hc1 t).mp h) (by omega)) (fun h => absurd ((hcE t).mp h) (by omega)) ((hcO t).mpr (by omega)) ((hcP t).mpr (by omega)) (fun h => absurd ((hcL t).mp h) (by omega)) (bX m c t) (bP m c t) (bQ m c t) (bA m c t) (bR m c t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 25 := N_0
  rw [show (dats m 0 c).Φ (Fin.last cfg0.N) = PhiS m c (Fin.last cfg0.N).val (Nat.le_of_lt_succ (Fin.last cfg0.N).isLt) from rfl,
    PhiS_pos m c _ _ (by rw [Fin.val_last]; omega) (by rw [Fin.val_last]; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run -/

-- the library's theorem has implicit arguments found by unifying its conclusion with this one
set_option backward.isDefEq.respectTransparency.types false in
/-- Every execution of @main terminates with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: @main terminates, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Conv2Ideal.Hand

end
-- ==== Proof.Conv2Kernel.lean ====
/- What `Conv2Ideal`'s kernel computes over the reals: its step is the grid's operator, its blocks are the Chebyshev rows, and
   its sums are the products of those rows with the weights. -/
module

public import proofs.«01_k».proof.Proof.Conv2Frame
public import proofs.«01_k».proof.Proof.Grid
public import proofs.«01_k».proof.Proof.Reals
public import Idealize.ShloMosaic.Lib.Pointwise

@[expose] public section

set_option maxRecDepth 16384

noncomputable section

open Idealize.ShloMosaic Idealize.ShloMosaic.TcCoe Idealize.ShloMosaic.Tactic Idealize.SL.Sem
open Idealize.ShloMosaic.Pipeline (Dat)

namespace Cert.Conv2Ideal.Hand

open Cert.Conv2Ideal Cert.Conv2Ideal.Gen Cert.Reals

theorem row_apply (p : Vec Ideal S8x4096 .f32) (k : ℕ) (hk : k < 8) (h) (c : Fin 4096) : row p k h (ix2 0 c) = p (ix2 ⟨k, hk⟩ c) := by
  show p _ = p _
  congr 1; funext d; apply Fin.ext
  match d with
  | ⟨0, _⟩ => show k + 1 * 0 = k; omega
  | ⟨1, _⟩ => show 0 + 1 * c.val = c.val; omega

/-! ## The operator -/

/-- A row rolled by `s`: the two pieces are one read at the index modulo the row's length. -/
theorem roll (Z : ℕ → EReal) (n s k : ℕ) (h : s + k = 4096) (hn : n < 4096) :
    (if n < k then Z (s + n) else Z (n - k)) = Z ((n + s) % 4096) := by
  split_ifs with hk
  · congr 1; omega
  · congr 1; omega

/-- A node's value with its two neighbours' along the row, as the kernel computes it. -/
def tjE (y : ℕ → ℝ) (n : ℕ) : EReal :=
  ((y n : ℝ) : EReal) + ((Grid.mR 64 n : ℝ) : EReal) * (if n < 4095 then ((y (1 + n) : ℝ) : EReal) else ((y (n - 4095) : ℝ) : EReal))
    + ((Grid.mL 64 n : ℝ) : EReal) * (if n < 1 then ((y (4095 + n) : ℝ) : EReal) else ((y (n - 1) : ℝ) : EReal))

theorem tjE_eq (y : ℕ → ℝ) (n : ℕ) (hn : n < 4096) : tjE y n = ((Grid.tj 64 y n : ℝ) : EReal) := by
  unfold tjE
  rw [roll (fun n => ((y n : ℝ) : EReal)) n 1 4095 rfl hn, roll (fun n => ((y n : ℝ) : EReal)) n 4095 1 rfl hn]
  simp only [← EReal.coe_mul, ← EReal.coe_add]
  rfl

set_option maxHeartbeats 2000000 in
/-- The sum over a node and its eight neighbours, from rows that hold the factor and the four masks. -/
theorem pay3_apply (x : Vec Ideal S256x4096 .f32) (d a b e f : Vec Ideal S1x4096 .f32) (r : Fin 256) (ξ : ℕ → ℝ)
    (hd : ∀ c : Fin 4096, d (ix2 0 c) = ((Grid.dh 64 c.val : ℝ) : EReal)) (ha : ∀ c : Fin 4096, a (ix2 0 c) = ((Grid.mR 64 c.val : ℝ) : EReal))
    (hb : ∀ c : Fin 4096, b (ix2 0 c) = ((Grid.mL 64 c.val : ℝ) : EReal)) (he : ∀ c : Fin 4096, e (ix2 0 c) = ((Grid.mD 64 c.val : ℝ) : EReal))
    (hf : ∀ c : Fin 4096, f (ix2 0 c) = ((Grid.mU 64 c.val : ℝ) : EReal)) (hx : ∀ c : Fin 4096, x (ix2 r c) = ((ξ c.val : ℝ) : EReal))
    (c : Fin 4096) :
    k0_pay3 x d a b e f (ix2 r c) = ((Grid.tt 64 (fun n => Grid.dh 64 n * ξ n) c.val : ℝ) : EReal) := by
  have hc := c.isLt
  pointwise [k0_pay3]
  simp only [hd, ha, hb, he, hf, hx, dite_eq_ite, ← EReal.coe_mul]
  generalize hy : (fun n => Grid.dh 64 n * ξ n) = y
  have hy' : ∀ n, Grid.dh 64 n * ξ n = y n := fun n => by rw [← hy]
  simp only [hy']
  show tjE y c.val + ((Grid.mD 64 c.val : ℝ) : EReal) * (if c.val < 4032 then tjE y (64 + c.val) else tjE y (c.val - 4032))
    + ((Grid.mU 64 c.val : ℝ) : EReal) * (if c.val < 64 then tjE y (4032 + c.val) else tjE y (c.val - 64)) = _
  rw [roll (tjE y) c.val 64 4032 rfl hc, roll (tjE y) c.val 4032 64 rfl hc, tjE_eq y _ hc,
    tjE_eq y _ (Nat.mod_lt _ (by norm_num)), tjE_eq y _ (Nat.mod_lt _ (by norm_num))]
  simp only [← EReal.coe_mul, ← EReal.coe_add]
  rfl

theorem pay6_eq : @k0_pay6 Ideal _ = k0_pay3 := rfl
theorem pay9_eq : @k0_pay9 Ideal _ = k0_pay3 := rfl

/-- What the eight static rows hold. -/
structure Planes (p : Vec Ideal S8x4096 .f32) : Prop where
  r0 : ∀ c : Fin 4096, p (ix2 0 c) = ((Grid.dh 64 c.val : ℝ) : EReal)
  r1 : ∀ c : Fin 4096, p (ix2 1 c) = ((Grid.dh 64 c.val * Grid.dh 64 c.val : ℝ) : EReal)
  r2 : ∀ c : Fin 4096, p (ix2 2 c) = ((2 * Grid.dh 64 c.val : ℝ) : EReal)
  r3 : ∀ c : Fin 4096, p (ix2 3 c) = ((2 * (Grid.dh 64 c.val * Grid.dh 64 c.val) : ℝ) : EReal)
  r4 : ∀ c : Fin 4096, p (ix2 4 c) = ((Grid.mR 64 c.val : ℝ) : EReal)
  r5 : ∀ c : Fin 4096, p (ix2 5 c) = ((Grid.mL 64 c.val : ℝ) : EReal)
  r6 : ∀ c : Fin 4096, p (ix2 6 c) = ((Grid.mD 64 c.val : ℝ) : EReal)
  r7 : ∀ c : Fin 4096, p (ix2 7 c) = ((Grid.mU 64 c.val : ℝ) : EReal)

section Steps

variable {p : Vec Ideal S8x4096 .f32} (hp : Planes p) (x y : Vec Ideal S256x4096 .f32) (r : Fin 256) (ξ η : ℕ → ℝ)
  (hx : ∀ c : Fin 4096, x (ix2 r c) = ((ξ c.val : ℝ) : EReal)) (hy : ∀ c : Fin 4096, y (ix2 r c) = ((η c.val : ℝ) : EReal))

theorem pay13_apply (t u w : Vec Ideal S256x4096 .f32) (c : Fin 4096) : k0_pay13 (F := Ideal) t u w (ix2 r c) = u (ix2 r c) - w (ix2 r c) * t (ix2 r c) := by
  pointwise [k0_pay13]
theorem pay14_apply (t u w v : Vec Ideal S256x4096 .f32) (c : Fin 4096) : k0_pay14 (F := Ideal) t u w v (ix2 r c) = u (ix2 r c) - w (ix2 r c) * t (ix2 r c) - v (ix2 r c) := by
  pointwise [k0_pay14]
theorem pay15_eq : @k0_pay15 Ideal _ = k0_pay14 := rfl
theorem pay4_apply (d : Vec Ideal S1x4096 .f32) (c : Fin 4096) : k0_pay4 (F := Ideal) x d (ix2 r c) = d (ix2 0 c) * x (ix2 r c) := by
  pointwise [k0_pay4]
theorem pay5_apply (d : Vec Ideal S1x4096 .f32) (c : Fin 4096) : k0_pay5 (F := Ideal) d (ix2 r c) = d (ix2 0 c) := by
  pointwise [k0_pay5]
theorem pay7_eq : @k0_pay7 Ideal _ = k0_pay4 := rfl
theorem pay10_eq : @k0_pay10 Ideal _ = k0_pay4 := rfl
theorem pay8_eq : k0_pay8 (F := Ideal) = k0_pay5 (F := Ideal) := rfl
theorem pay11_eq : k0_pay11 (F := Ideal) = k0_pay5 (F := Ideal) := rfl

include hp hx in
/-- The body's operator is the grid's. -/
theorem lap_apply (c : Fin 4096) : lap p x (ix2 r c) = ((Grid.lap 64 ξ c.val : ℝ) : EReal) := by
  unfold lap
  rw [pay13_apply, pay3_apply x _ _ _ _ _ r ξ (fun c => (row_apply p 0 (by omega) _ c).trans (hp.r0 c)) (fun c => (row_apply p 4 (by omega) _ c).trans (hp.r4 c))
    (fun c => (row_apply p 5 (by omega) _ c).trans (hp.r5 c)) (fun c => (row_apply p 6 (by omega) _ c).trans (hp.r6 c)) (fun c => (row_apply p 7 (by omega) _ c).trans (hp.r7 c)) hx c,
    pay4_apply, pay5_apply, (row_apply p 1 (by omega) _ c).trans (hp.r1 c), (row_apply p 0 (by omega) _ c).trans (hp.r0 c), hx]
  simp only [← EReal.coe_mul, ← EReal.coe_sub]
  rfl

include hp hx hy in
/-- The body's step is twice the grid's operator less the block before. -/
theorem stepE_apply (c : Fin 4096) : stepE p x y (ix2 r c) = ((2 * Grid.lap 64 ξ c.val - η c.val : ℝ) : EReal) := by
  unfold stepE
  rw [pay14_apply, pay6_eq, pay7_eq, pay8_eq, pay3_apply x _ _ _ _ _ r ξ (fun c => (row_apply p 0 (by omega) _ c).trans (hp.r0 c)) (fun c => (row_apply p 4 (by omega) _ c).trans (hp.r4 c))
    (fun c => (row_apply p 5 (by omega) _ c).trans (hp.r5 c)) (fun c => (row_apply p 6 (by omega) _ c).trans (hp.r6 c)) (fun c => (row_apply p 7 (by omega) _ c).trans (hp.r7 c)) hx c,
    pay4_apply, pay5_apply, (row_apply p 3 (by omega) _ c).trans (hp.r3 c), (row_apply p 2 (by omega) _ c).trans (hp.r2 c), hx, hy]
  simp only [← EReal.coe_mul, ← EReal.coe_sub]
  congr 1; unfold Grid.lap; ring

theorem stepO_eq : @stepO Ideal _ = stepE := rfl

end Steps

/-! ## The sums -/

theorem pay12_eq (x : Vec Ideal S256x4096 .f32) (r : Fin 256) (c : Fin 4096) : k0_pay12 x (ix2 r c) = x (ix2 r c) := by
  pointwise [k0_pay12]
theorem pay16_apply (x : Vec Ideal S256x4096 .f32) (w : Vec Ideal S1x512x256 .bf16) (j : Fin 512) (c : Fin 4096) :
    k0_pay16 x w (ix2 j c) = ∑ q : Fin 256, w (ix3 0 j q) * x (ix2 q c) := by
  pointwise [k0_pay16]
theorem pay1_apply (v : Vec Ideal S512x4096 .f32) (x : Vec Ideal S256x4096 .f32) (w : Vec Ideal S1x512x256 .bf16) (j : Fin 512) (c : Fin 4096) :
    k0_pay1 v x w (ix2 j c) = v (ix2 j c) + ∑ q : Fin 256, w (ix3 0 j q) * x (ix2 q c) := by
  pointwise [k0_pay1]
theorem pay17_eq : @k0_pay17 Ideal _ = k0_pay1 := rfl

/-- The cubic by Horner's rule. -/
def hor (a : Vec Ideal S4 .f32) (z : EReal) : EReal :=
  ((coef a 3 inb_S4_S1_3 * z + coef a 2 inb_S4_S1_2) * z + coef a 1 inb_S4_S1_1) * z + coef a 0 inb_S4_S1_0

theorem term_congr (v : Vec Ideal S512x4096 .f32) (q : Vec Ideal S512x128 .f32) (a0 a1 a2 a3 : EReal) (j : Fin 512) (n n' : Fin 4096) (r : Fin 512) (k k' : Fin 128)
    (h : n.val = n'.val) (h' : k.val = k'.val) :
    (((a3 * v (ix2 j n) + a2) * v (ix2 j n) + a1) * v (ix2 j n) + a0) * q (ix2 r k)
      = (((a3 * v (ix2 j n') + a2) * v (ix2 j n') + a1) * v (ix2 j n') + a0) * q (ix2 r k') := by
  obtain rfl := Fin.ext h; obtain rfl := Fin.ext h'; rfl

set_option maxHeartbeats 2000000 in
/-- The last point: each column block's polynomial against the pooling matrix. -/
theorem fin_apply (v : Vec Ideal S512x4096 .f32) (a : Vec Ideal S4 .f32) (q : Vec Ideal S512x128 .f32) (j : Fin 512) (c : Fin 1024) :
    fin v a q (ix2 j c) = ∑ r : Fin 512, hor a (v (ix2 j ⟨c.val / 128 * 512 + r.val, by omega⟩)) * q (ix2 r ⟨c.val % 128, by omega⟩) := by
  unfold fin hor
  generalize coef a 0 _ = a0
  generalize coef a 1 _ = a1
  generalize coef a 2 _ = a2
  generalize coef a 3 _ = a3
  pointwise [k0_pay2]
  have hc := c.isLt
  split_ifs
  all_goals exact Finset.sum_congr rfl fun x _ => term_congr v q a0 a1 a2 a3 j _ _ x _ _ (by dsimp only; omega) (by dsimp only; omega)

end Cert.Conv2Ideal.Hand

end
-- ==== Proof.Conv2Pre.lean ====
/- What the precondition of the second layer says: the edge list and its weights are those of the grid, and the other float
   arguments are finite. -/
module

public import proofs.«01_k».proof.Defs
public import proofs.«01_k».proof.Proof.Grid
public import proofs.«01_k».proof.Proof.Reals
public import proofs.«01_k».proof.Proof.Gen.Pre_conv2_pre
public import Idealize.ShloMosaic.Lib.Pointwise
public import Idealize.ShloMosaic.Lib.WordCmp
public import Idealize.ShloMosaic.Lib.Pipeline.Regions
public import Idealize.ShloMosaic.Lib.Pipeline.Value

@[expose] public section

set_option maxRecDepth 16384

noncomputable section

open Idealize.ShloMosaic Idealize.ShloMosaic.TcCoe Idealize.ShloMosaic.Tactic Idealize.SL.Sem

namespace Cert.Conv2Pre

open Cert.Pre_conv2_pre Cert.Pre_conv2_pre.Gen Cert.Grid

/-- An array over the grid laid out along the edges' first nodes. -/
def atRow {α : Type} (A : S64x64.Idx → α) : S32004.Idx → α :=
  concatenate S32004 0
    [⟨S3969, shapeCast S3969 (extractStridedSlice S63x63 ![1, 1] A slices_S64x64_S63x63_1_1) shapeCasts_S63x63_S3969⟩,
     ⟨S4032, shapeCast S4032 (extractStridedSlice S63x64 ![1, 0] A slices_S64x64_S63x64_1_0) shapeCasts_S63x64_S4032⟩,
     ⟨S3969, shapeCast S3969 (extractStridedSlice S63x63 ![1, 0] A slices_S64x64_S63x63_1_0) shapeCasts_S63x63_S3969⟩,
     ⟨S4032, shapeCast S4032 (extractStridedSlice S64x63 ![0, 1] A slices_S64x64_S64x63_0_1) shapeCasts_S64x63_S4032⟩,
     ⟨S4032, shapeCast S4032 (extractStridedSlice S64x63 ![0, 0] A slices_S64x64_S64x63_0_0) shapeCasts_S64x63_S4032⟩,
     ⟨S3969, shapeCast S3969 (extractStridedSlice S63x63 ![0, 1] A slices_S64x64_S63x63_0_1) shapeCasts_S63x63_S3969⟩,
     ⟨S4032, shapeCast S4032 (extractStridedSlice S63x64 ![0, 0] A slices_S64x64_S63x64_0_0) shapeCasts_S63x64_S4032⟩,
     ⟨S3969, shapeCast S3969 (extractStridedSlice S63x63 ![0, 0] A slices_S64x64_S63x63_0_0) shapeCasts_S63x63_S3969⟩]
    concatenates_S3969_S4032_S3969_S4032_S4032_S3969_S4032_S3969_S32004_d0
/-- The same along the edges' second nodes. -/
def atCol {α : Type} (A : S64x64.Idx → α) : S32004.Idx → α :=
  concatenate S32004 0
    [⟨S3969, shapeCast S3969 (extractStridedSlice S63x63 ![0, 0] A slices_S64x64_S63x63_0_0) shapeCasts_S63x63_S3969⟩,
     ⟨S4032, shapeCast S4032 (extractStridedSlice S63x64 ![0, 0] A slices_S64x64_S63x64_0_0) shapeCasts_S63x64_S4032⟩,
     ⟨S3969, shapeCast S3969 (extractStridedSlice S63x63 ![0, 1] A slices_S64x64_S63x63_0_1) shapeCasts_S63x63_S3969⟩,
     ⟨S4032, shapeCast S4032 (extractStridedSlice S64x63 ![0, 0] A slices_S64x64_S64x63_0_0) shapeCasts_S64x63_S4032⟩,
     ⟨S4032, shapeCast S4032 (extractStridedSlice S64x63 ![0, 1] A slices_S64x64_S64x63_0_1) shapeCasts_S64x63_S4032⟩,
     ⟨S3969, shapeCast S3969 (extractStridedSlice S63x63 ![1, 0] A slices_S64x64_S63x63_1_0) shapeCasts_S63x63_S3969⟩,
     ⟨S4032, shapeCast S4032 (extractStridedSlice S63x64 ![1, 0] A slices_S64x64_S63x64_1_0) shapeCasts_S63x64_S4032⟩,
     ⟨S3969, shapeCast S3969 (extractStridedSlice S63x63 ![1, 1] A slices_S64x64_S63x63_1_1) shapeCasts_S63x63_S3969⟩]
    concatenates_S3969_S4032_S3969_S4032_S4032_S3969_S4032_S3969_S32004_d0

/-- The entry of a grid array at node `n`. -/
def node {α : Type} (A : S64x64.Idx → α) (n : ℕ) (h : n < 4096) : α := A (ix2 ⟨n / 64, by omega⟩ ⟨n % 64, by omega⟩)

theorem node_eq {α : Type} (A : S64x64.Idx → α) (n : ℕ) (h : n < 4096) (a b : Fin 64) (ha : a.val = n / 64) (hb : b.val = n % 64) :
    A (ix2 a b) = node A n h := by
  obtain ⟨a, _⟩ := a; obtain ⟨b, _⟩ := b; dsimp only at ha hb; subst ha; subst hb; rfl

/-- A vector's shape. -/
abbrev vec (n : ℕ) : Shape := ⟨1, ![n]⟩

/-- A concatenation of pieces read inside piece `k`, which begins at `pre`. -/
theorem piece_apply {α : Type} (xs : List ((s : Shape) × (s.Idx → α))) (h : Shape.Concatenates (xs.map (·.1)) S32004 0) (e : Fin 32004)
    (k : Nat) (hk : k < xs.length) (n : ℕ) (x : (vec n).Idx → α) (hxk : xs[k] = ⟨vec n, x⟩) (pre : Nat)
    (hpre : (((xs.take k).map (·.1)).map fun s => if h : s.rank = S32004.rank then s.size ((0 : Fin S32004.rank).cast h.symm) else 0).sum = pre)
    (lo : pre ≤ e.val) (hi : e.val - pre < n) :
    concatenate S32004 0 xs h (ix1 e) = x (ix1 ⟨e.val - pre, hi⟩) := by
  refine concatenate_apply_piece 0 xs h (ix1 e) k hk (vec n) x hxk rfl pre hpre _ (fun b hb => ?_) ?_
  · match b with
    | ⟨0, _⟩ => exact absurd rfl hb
  · show pre + (e.val - pre) = e.val; omega

/-- The eight stretches of the edge list. -/
theorem stretches (e : ℕ) : e < 3969 ∨ (3969 ≤ e ∧ e < 8001) ∨ (8001 ≤ e ∧ e < 11970) ∨ (11970 ≤ e ∧ e < 16002)
    ∨ (16002 ≤ e ∧ e < 20034) ∨ (20034 ≤ e ∧ e < 24003) ∨ (24003 ≤ e ∧ e < 28035) ∨ 28035 ≤ e := by omega

theorem node_congr {α : Type} (A : S64x64.Idx → α) {n n' : ℕ} (h : n < 4096) (h' : n' < 4096) (e : n = n') : node A n h = node A n' h' := by
  subst e; rfl

/-- A rectangle of the grid read in order. -/
theorem rect6363 {α : Type} (A : S64x64.Idx → α) (r0 c0 : ℕ) (h : S64x64.Slices ![r0, c0] S63x63) (i : Fin 3969) (hi : cell 64 r0 c0 63 i.val < 4096) (hc : c0 + 63 ≤ 64) :
    shapeCast S3969 (extractStridedSlice S63x63 ![r0, c0] A h) shapeCasts_S63x63_S3969 (ix1 i) = node A (cell 64 r0 c0 63 i.val) hi := by
  have := i.isLt
  pointwise
  exact node_eq A _ _ _ _ (by unfold cell; dsimp only; omega) (by unfold cell; dsimp only; omega)

/-- A rectangle of the grid read in order. -/
theorem rect6364 {α : Type} (A : S64x64.Idx → α) (r0 c0 : ℕ) (h : S64x64.Slices ![r0, c0] S63x64) (i : Fin 4032) (hi : cell 64 r0 c0 64 i.val < 4096) (hc : c0 + 64 ≤ 64) :
    shapeCast S4032 (extractStridedSlice S63x64 ![r0, c0] A h) shapeCasts_S63x64_S4032 (ix1 i) = node A (cell 64 r0 c0 64 i.val) hi := by
  have := i.isLt
  pointwise
  exact node_eq A _ _ _ _ (by unfold cell; dsimp only; omega) (by unfold cell; dsimp only; omega)

/-- A rectangle of the grid read in order. -/
theorem rect6463 {α : Type} (A : S64x64.Idx → α) (r0 c0 : ℕ) (h : S64x64.Slices ![r0, c0] S64x63) (i : Fin 4032) (hi : cell 64 r0 c0 63 i.val < 4096) (hc : c0 + 63 ≤ 64) :
    shapeCast S4032 (extractStridedSlice S64x63 ![r0, c0] A h) shapeCasts_S64x63_S4032 (ix1 i) = node A (cell 64 r0 c0 63 i.val) hi := by
  have := i.isLt
  pointwise
  exact node_eq A _ _ _ _ (by unfold cell; dsimp only; omega) (by unfold cell; dsimp only; omega)

set_option maxHeartbeats 2000000 in
/-- Entry `e` is the array's at the edge's first node. -/
theorem atRow_apply {α : Type} (A : S64x64.Idx → α) (e : Fin 32004) : atRow A (ix1 e) = node A (rowN 64 e.val) (rowN_lt (.inl rfl) e.isLt) := by
  have he := e.isLt
  unfold atRow
  rcases stretches e.val with h | ⟨h, h'⟩ | ⟨h, h'⟩ | ⟨h, h'⟩ | ⟨h, h'⟩ | ⟨h, h'⟩ | ⟨h, h'⟩ | h
  · refine (piece_apply _ _ e 0 (by show 0 < 8; omega) 3969 _ rfl 0 (by chain_rfl) (by omega) (by omega)).trans ?_
    refine (rect6363 A 1 1 _ _ (by unfold cell; dsimp only; omega) (by omega)).trans (node_congr A _ _ ?_)
    unfold rowN dia str; split_ifs <;> first | (exfalso; omega) | rfl
  · refine (piece_apply _ _ e 1 (by show 1 < 8; omega) 4032 _ rfl 3969 (by chain_rfl) (by omega) (by omega)).trans ?_
    refine (rect6364 A 1 0 _ _ (by unfold cell; dsimp only; omega) (by omega)).trans (node_congr A _ _ ?_)
    unfold rowN dia str; split_ifs <;> first | (exfalso; omega) | rfl
  · refine (piece_apply _ _ e 2 (by show 2 < 8; omega) 3969 _ rfl 8001 (by chain_rfl) (by omega) (by omega)).trans ?_
    refine (rect6363 A 1 0 _ _ (by unfold cell; dsimp only; omega) (by omega)).trans (node_congr A _ _ ?_)
    unfold rowN dia str; split_ifs <;> first | (exfalso; omega) | rfl
  · refine (piece_apply _ _ e 3 (by show 3 < 8; omega) 4032 _ rfl 11970 (by chain_rfl) (by omega) (by omega)).trans ?_
    refine (rect6463 A 0 1 _ _ (by unfold cell; dsimp only; omega) (by omega)).trans (node_congr A _ _ ?_)
    unfold rowN dia str; split_ifs <;> first | (exfalso; omega) | rfl
  · refine (piece_apply _ _ e 4 (by show 4 < 8; omega) 4032 _ rfl 16002 (by chain_rfl) (by omega) (by omega)).trans ?_
    refine (rect6463 A 0 0 _ _ (by unfold cell; dsimp only; omega) (by omega)).trans (node_congr A _ _ ?_)
    unfold rowN dia str; split_ifs <;> first | (exfalso; omega) | rfl
  · refine (piece_apply _ _ e 5 (by show 5 < 8; omega) 3969 _ rfl 20034 (by chain_rfl) (by omega) (by omega)).trans ?_
    refine (rect6363 A 0 1 _ _ (by unfold cell; dsimp only; omega) (by omega)).trans (node_congr A _ _ ?_)
    unfold rowN dia str; split_ifs <;> first | (exfalso; omega) | rfl
  · refine (piece_apply _ _ e 6 (by show 6 < 8; omega) 4032 _ rfl 24003 (by chain_rfl) (by omega) (by omega)).trans ?_
    refine (rect6364 A 0 0 _ _ (by unfold cell; dsimp only; omega) (by omega)).trans (node_congr A _ _ ?_)
    unfold rowN dia str; split_ifs <;> first | (exfalso; omega) | rfl
  · refine (piece_apply _ _ e 7 (by show 7 < 8; omega) 3969 _ rfl 28035 (by chain_rfl) (by omega) (by omega)).trans ?_
    refine (rect6363 A 0 0 _ _ (by unfold cell; dsimp only; omega) (by omega)).trans (node_congr A _ _ ?_)
    unfold rowN dia str; split_ifs <;> first | (exfalso; omega) | rfl

set_option maxHeartbeats 2000000 in
/-- Entry `e` is the array's at the edge's second node. -/
theorem atCol_apply {α : Type} (A : S64x64.Idx → α) (e : Fin 32004) : atCol A (ix1 e) = node A (colN 64 e.val) (colN_lt (.inl rfl) e.isLt) := by
  have he := e.isLt
  unfold atCol
  rcases stretches e.val with h | ⟨h, h'⟩ | ⟨h, h'⟩ | ⟨h, h'⟩ | ⟨h, h'⟩ | ⟨h, h'⟩ | ⟨h, h'⟩ | h
  · refine (piece_apply _ _ e 0 (by show 0 < 8; omega) 3969 _ rfl 0 (by chain_rfl) (by omega) (by omega)).trans ?_
    refine (rect6363 A 0 0 _ _ (by unfold cell; dsimp only; omega) (by omega)).trans (node_congr A _ _ ?_)
    unfold colN dia str; split_ifs <;> first | (exfalso; omega) | rfl
  · refine (piece_apply _ _ e 1 (by show 1 < 8; omega) 4032 _ rfl 3969 (by chain_rfl) (by omega) (by omega)).trans ?_
    refine (rect6364 A 0 0 _ _ (by unfold cell; dsimp only; omega) (by omega)).trans (node_congr A _ _ ?_)
    unfold colN dia str; split_ifs <;> first | (exfalso; omega) | rfl
  · refine (piece_apply _ _ e 2 (by show 2 < 8; omega) 3969 _ rfl 8001 (by chain_rfl) (by omega) (by omega)).trans ?_
    refine (rect6363 A 0 1 _ _ (by unfold cell; dsimp only; omega) (by omega)).trans (node_congr A _ _ ?_)
    unfold colN dia str; split_ifs <;> first | (exfalso; omega) | rfl
  · refine (piece_apply _ _ e 3 (by show 3 < 8; omega) 4032 _ rfl 11970 (by chain_rfl) (by omega) (by omega)).trans ?_
    refine (rect6463 A 0 0 _ _ (by unfold cell; dsimp only; omega) (by omega)).trans (node_congr A _ _ ?_)
    unfold colN dia str; split_ifs <;> first | (exfalso; omega) | rfl
  · refine (piece_apply _ _ e 4 (by show 4 < 8; omega) 4032 _ rfl 16002 (by chain_rfl) (by omega) (by omega)).trans ?_
    refine (rect6463 A 0 1 _ _ (by unfold cell; dsimp only; omega) (by omega)).trans (node_congr A _ _ ?_)
    unfold colN dia str; split_ifs <;> first | (exfalso; omega) | rfl
  · refine (piece_apply _ _ e 5 (by show 5 < 8; omega) 3969 _ rfl 20034 (by chain_rfl) (by omega) (by omega)).trans ?_
    refine (rect6363 A 1 0 _ _ (by unfold cell; dsimp only; omega) (by omega)).trans (node_congr A _ _ ?_)
    unfold colN dia str; split_ifs <;> first | (exfalso; omega) | rfl
  · refine (piece_apply _ _ e 6 (by show 6 < 8; omega) 4032 _ rfl 24003 (by chain_rfl) (by omega) (by omega)).trans ?_
    refine (rect6364 A 1 0 _ _ (by unfold cell; dsimp only; omega) (by omega)).trans (node_congr A _ _ ?_)
    unfold colN dia str; split_ifs <;> first | (exfalso; omega) | rfl
  · refine (piece_apply _ _ e 7 (by show 7 < 8; omega) 3969 _ rfl 28035 (by chain_rfl) (by omega) (by omega)).trans ?_
    refine (rect6363 A 1 1 _ _ (by unfold cell; dsimp only; omega) (by omega)).trans (node_congr A _ _ ?_)
    unfold colN dia str; split_ifs <;> first | (exfalso; omega) | rfl

/-- The nodes' numbers. -/
def idxV : IVec S64x64 32 := shapeCast S64x64 (iotaInDim S4096 32 0) shapeCasts_S4096_S64x64

theorem idxV_apply (n : ℕ) (h : n < 4096) : node idxV n h = BitVec.ofNat 32 n := by
  unfold node idxV
  pointwise
  rw [show n / 64 * 64 + n % 64 = n by omega]

/-- The factor of one axis. -/
def axV : FVec Ideal S64 .f32 :=
  fn_where (ori (cmpi .eq (iotaInDim S64 32 0) (broadcastInDim S64 ![] bcast_S_S64 (constantI S_ 32 0#32)))
    (cmpi .eq (iotaInDim S64 32 0) (broadcastInDim S64 ![] bcast_S_S64 (constantI S_ 32 63#32))))
    (constant S_ .f32 0x40000000#32) (constant S_ .f32 0x40400000#32)

theorem axV_apply (i : Fin 64) : axV (ix1 i) = ((ax 64 i.val : ℝ) : EReal) := by
  have e2 : Ideal.ofBits .f32 0x40000000#32 = ((2 : ℝ) : EReal) := by
    simp [Ideal.ofBits, Ideal.ieee]; rw [← EReal.coe_mul]; norm_num
  have e3 : Ideal.ofBits .f32 0x40400000#32 = ((3 : ℝ) : EReal) := by
    simp [Ideal.ofBits, Ideal.ieee]; rw [← EReal.coe_mul]; norm_num
  unfold axV fn_where
  pointwise
  rw [e2, e3]
  unfold ax
  by_cases h0 : i.val = 0
  · rw [h0]; rfl
  by_cases h1 : i.val = 63
  · rw [h1]; rfl
  rw [if_neg (by omega)]
  have n0 : IntOp.cmpi .eq (BitVec.ofNat 32 i.val) 0#32 = 0#1 := (WordCmp.cmpi_eq_ofNat_eq_zero_iff (by omega) (by omega)).mpr h0
  have n1 : IntOp.cmpi .eq (BitVec.ofNat 32 i.val) 63#32 = 0#1 := (WordCmp.cmpi_eq_ofNat_eq_zero_iff (by omega) (by omega)).mpr h1
  rw [n0, n1]; rfl

/-- The number of neighbours. -/
def degV : FVec Ideal S64x64 .f32 :=
  subf (mulf (broadcastInDim S64x64 ![0, 1] bcast_S64x1_S64x64_0_1 (broadcastInDim S64x1 ![0] bcast_S64_S64x1_0 axV))
    (broadcastInDim S64x64 ![0, 1] bcast_S1x64_S64x64_0_1 (broadcastInDim S1x64 ![1] bcast_S64_S1x64_1 axV)))
    (broadcastInDim S64x64 ![] bcast_S_S64x64 (constant S_ .f32 0x3F800000#32))

theorem degV_apply (n : ℕ) (h : n < 4096) : node degV n h = ((deg 64 n : ℝ) : EReal) := by
  unfold node degV
  pointwise
  rw [axV_apply, axV_apply, ← EReal.coe_mul, ← EReal.coe_one, ← EReal.coe_sub]
  rfl

/-- The edge weights. -/
def wtV : FVec Ideal S32004 .f32 :=
  Host.divf (broadcastInDim S32004 ![] bcast_S_S32004 (constant S_ .f32 0xBF800000#32)) (Host.sqrt (mulf (atRow degV) (atCol degV)))

theorem wtV_apply (e : Fin 32004) : wtV (ix1 e) = ((wt 64 (rowN 64 e.val) (colN 64 e.val) : ℝ) : EReal) := by
  have hm : Ideal.ofBits .f32 0xBF800000#32 = ((-1 : ℝ) : EReal) := by
    simp [Ideal.ofBits, Ideal.ieee]; rw [← EReal.coe_mul]; norm_num
  unfold wtV
  pointwise
  rw [hm, atRow_apply, atCol_apply, degV_apply, degV_apply, ← EReal.coe_mul]
  have hp : 0 < deg 64 (rowN 64 e.val) * deg 64 (colN 64 e.val) := mul_pos (deg_pos 64 _) (deg_pos 64 _)
  have hs : Ideal.sqrt ((deg 64 (rowN 64 e.val) * deg 64 (colN 64 e.val) : ℝ) : EReal) = ((Real.sqrt (deg 64 (rowN 64 e.val) * deg 64 (colN 64 e.val)) : ℝ) : EReal) := by
    exact if_neg (not_lt.mpr hp.le)
  show Ideal.div _ (Ideal.sqrt _) = _
  rw [hs, Ideal.div, if_neg (by exact_mod_cast (Real.sqrt_pos.mpr hp).ne'), ← EReal.coe_inv, ← EReal.coe_mul]
  rfl

theorem of_ieq {x y : IVec S32004 32} (h : cmpi .eq x y = fun _ => 1#1) (i : S32004.Idx) : x i = y i := by
  have := congrFun h i
  have e : cmpi .eq x y i = BitVec.ofBool (decide (x i = y i)) := WordCmp.cmpi_eq_eq _ _
  rw [e] at this
  by_contra hn
  rw [decide_eq_false hn] at this
  exact absurd this (by decide)

theorem of_feq {x y : FVec Ideal S32004 .f32} (h : cmpf .oeq x y = fun _ => 1#1) (i : S32004.Idx) : x i = y i := by
  have := congrFun h i
  have e : cmpf .oeq x y i = Ideal.cmp .oeq (x i) (y i) := rfl
  rw [e] at this
  by_contra hn
  simp [Ideal.cmp, hn] at this

theorem fn_eq (a0 : FVec Ideal S256x4096 .f32) (a1 a2 : IVec S32004 32) (a3 : FVec Ideal S32004 .f32) (a4 : FVec Ideal S800x64 .f32) (a5 : FVec Ideal S4 .f32) :
    (fn (F := Ideal) a0 a1 a2 a3 a4 a5).2.1 = cmpi .eq a1 (atRow idxV) ∧
    (fn (F := Ideal) a0 a1 a2 a3 a4 a5).2.2.1 = cmpi .eq a2 (atCol idxV) ∧
    (fn (F := Ideal) a0 a1 a2 a3 a4 a5).2.2.2.1 = cmpf .oeq a3 wtV := ⟨rfl, rfl, rfl⟩

end Cert.Conv2Pre

end
-- ==== Proof.Conv2Host.lean ====
/- What `Conv2Ideal`'s host operations prepare for the kernel: the eight static rows, the weights laid out with a copy per
   batch entry, and the pooling matrix. -/
module

public import proofs.«01_k».proof.Proof.Conv2Kernel
public import proofs.«01_k».proof.Proof.Conv2Pre
public import Idealize.ShloMosaic.Lib.WordCmp

@[expose] public section

set_option maxRecDepth 16384

noncomputable section

open Idealize.ShloMosaic Idealize.ShloMosaic.TcCoe Idealize.ShloMosaic.Tactic Idealize.SL.Sem
open Idealize.ShloMosaic.Pipeline (Dat)

namespace Cert.Conv2Ideal.Hand

open Cert.Conv2Ideal Cert.Conv2Ideal.Gen Cert.Reals

/-- One over the square root of the number of neighbours. -/
def dhV : FVec Ideal S4096 .f32 :=
  shapeCast S4096 (Host.divf (broadcastInDim S64x64 ![] bcast_S_S64x64 (constant S_ .f32 0x3F800000#32)) (Host.sqrt Conv2Pre.degV) : FVec Ideal S64x64 .f32) shapeCasts_S64x64_S4096

/-- A mask over the nodes, from words over the grid and a test against a word. -/
def maskV (p : CmpIPredicate) (w : BitVec 32) (A : IVec S64x64 32) : FVec Ideal S4096 .f32 :=
  shapeCast S4096 (uitofp .f32 (cmpi p A (broadcastInDim S64x64 ![] bcast_S_S64x64 (constantI S_ 32 w))) : FVec Ideal S64x64 .f32) shapeCasts_S64x64_S4096
/-- The column and the row of a node. -/
def jV : IVec S64x64 32 := broadcastInDim S64x64 ![1] bcast_S64_S64x64_1 (iotaInDim S64 32 0)
def iV : IVec S64x64 32 := broadcastInDim S64x64 ![0] bcast_S64_S64x64_0 (iotaInDim S64 32 0)
/-- A vector doubled. -/
def twoV (x : FVec Ideal S4096 .f32) : FVec Ideal S4096 .f32 := mulf (broadcastInDim S4096 ![] bcast_S_S4096 (constant S_ .f32 0x40000000#32)) x
/-- A vector as one row. -/
def asRow (x : FVec Ideal S4096 .f32) : FVec Ideal S1x4096 .f32 := broadcastInDim S1x4096 ![1] bcast_S4096_S1x4096_1 x

/-- The eight rows, stacked. -/
def planesV : FVec Ideal S8x4096 .f32 :=
  concatenate S8x4096 0 [⟨S1x4096, asRow dhV⟩, ⟨S1x4096, asRow (mulf dhV dhV)⟩, ⟨S1x4096, asRow (twoV dhV)⟩, ⟨S1x4096, asRow (twoV (mulf dhV dhV))⟩,
    ⟨S1x4096, asRow (maskV .slt 63#32 jV)⟩, ⟨S1x4096, asRow (maskV .sgt 0#32 jV)⟩, ⟨S1x4096, asRow (maskV .slt 63#32 iV)⟩, ⟨S1x4096, asRow (maskV .sgt 0#32 iV)⟩]
    concatenates_S1x4096_S1x4096_S1x4096_S1x4096_S1x4096_S1x4096_S1x4096_S1x4096_S8x4096_d0

/-- The weights of every point, one copy per batch entry on the diagonal. -/
def weightsV (w : FVec Ideal S800x64 .f32) : FVec Ideal S25x512x256 .f32 :=
  shapeCast S25x512x256 (mulf
    (broadcastInDim S25x64x8x32x8 ![0, 1, 2, 3, 4] bcast_S25x64x1x32x1_S25x64x8x32x8_0_1_2_3_4 (broadcastInDim S25x64x1x32x1 ![0, 1, 3] bcast_S25x64x32_S25x64x1x32x1_0_1_3
      (transpose S25x64x32 [1, 2, 0] (shapeCast S32x25x64 w shapeCasts_S800x64_S32x25x64) transposes_S32x25x64_S25x64x32_1_2_0)))
    (broadcastInDim S25x64x8x32x8 ![0, 1, 2, 3, 4] bcast_S1x1x8x1x8_S25x64x8x32x8_0_1_2_3_4 (broadcastInDim S1x1x8x1x8 ![2, 4] bcast_S8x8_S1x1x8x1x8_2_4
      (uitofp .f32 (cmpi .eq (addi (iotaInDim S8x8 32 0) (broadcastInDim S8x8 ![] bcast_S_S8x8 (constantI S_ 32 0#32))) (iotaInDim S8x8 32 1)))) : FVec Ideal S25x64x8x32x8 .f32))
    shapeCasts_S25x64x8x32x8_S25x512x256

/-- The pooling matrix: a quarter where four rows share a column. -/
def poolV : FVec Ideal S512x128 .f32 :=
  mulf (shapeCast S512x128 (broadcastInDim S128x4x128 ![0, 2] bcast_S128x128_S128x4x128_0_2
      (uitofp .f32 (cmpi .eq (addi (iotaInDim S128x128 32 0) (broadcastInDim S128x128 ![] bcast_S_S128x128 (constantI S_ 32 0#32))) (iotaInDim S128x128 32 1))) : FVec Ideal S128x4x128 .f32) shapeCasts_S128x4x128_S512x128)
    (broadcastInDim S512x128 ![] bcast_S_S512x128 (constant S_ .f32 0x3E800000#32))

variable (m : (ℓ : Loc nD τ sig) → Buf (Elt Ideal) ℓ)

theorem V_v61 (c : Dev nD) : V m c main_v61 = planesV := by
  chain_rfl
theorem V_v80 (c : Dev nD) : V m c main_v80 = (truncf .bf16 (weightsV (m ((c : Thread nD τ).loc main_arg4))) bitsLt_bf16_f32 : FVec Ideal S25x512x256 .bf16) := by
  chain_rfl
theorem V_v79 (c : Dev nD) : V m c main_v79 = poolV := by
  chain_rfl

/-! ## Their entries -/

/-- A bit as a value. -/
theorem bit_apply (b : Bool) : FloatOps.uitofp (F := Ideal) (w := 1) .f32 (BitVec.ofBool b) = if b = true then ((1 : ℝ) : EReal) else 0 := by
  cases b
  · show ((((BitVec.ofBool false).toNat : ℕ) : ℝ) : EReal) = _
    simp
  · show ((((BitVec.ofBool true).toNat : ℕ) : ℝ) : EReal) = _
    simp

theorem bit_cond (b : Bool) : FloatOps.uitofp (F := Ideal) (w := 1) .f32 (BitVec.ofBool b) = cond b (1 : EReal) 0 := by
  rw [bit_apply]; cases b <;> rfl

theorem one_word : Ideal.ofBits .f32 0x3F800000#32 = ((1 : ℝ) : EReal) := by
  simp [Ideal.ofBits, Ideal.ieee]; rw [← EReal.coe_mul]; norm_num

theorem two_word : Ideal.ofBits .f32 0x40000000#32 = ((2 : ℝ) : EReal) := by
  simp [Ideal.ofBits, Ideal.ieee]; rw [← EReal.coe_mul]; norm_num

theorem quarter_word : Ideal.ofBits .f32 0x3E800000#32 = ((1 / 4 : ℝ) : EReal) := by
  simp [Ideal.ofBits, Ideal.ieee]; rw [← EReal.coe_mul]; norm_num

theorem dhV_apply (n : Fin 4096) : dhV (ix1 n) = ((Grid.dh 64 n.val : ℝ) : EReal) := by
  have h := Conv2Pre.degV_apply n.val n.isLt
  unfold Conv2Pre.node at h
  unfold dhV
  pointwise
  have hp : 0 < Grid.deg 64 n.val := Grid.deg_pos 64 _
  have hs : Ideal.sqrt ((Grid.deg 64 n.val : ℝ) : EReal) = ((Real.sqrt (Grid.deg 64 n.val) : ℝ) : EReal) := by
    exact if_neg (not_lt.mpr hp.le)
  rw [show Conv2Pre.degV (ix2 _ _) = _ from h]
  show Ideal.div _ (Ideal.sqrt _) = _
  rw [hs, Ideal.div, if_neg (by exact_mod_cast (Real.sqrt_pos.mpr hp).ne'), ← EReal.coe_inv]
  unfold Grid.dh
  rw [one_div]
  exact one_mul _

theorem slt_apply (A : IVec S64x64 32) (f : ℕ → ℕ) (n : Fin 4096) (hA : A (ix2 ⟨n.val / 64, by omega⟩ ⟨n.val % 64, by omega⟩) = BitVec.ofNat 32 (f n.val)) (hf : f n.val < 64) :
    maskV .slt 63#32 A (ix1 n) = (((if f n.val < 63 then 1 else 0 : ℝ)) : EReal) := by
  unfold maskV
  pointwise
  rw [show A (ix2 _ _) = _ from hA, WordCmp.cmpi_slt_ofNat (w := 32) (a := f n.val) (b := 63) (by omega) (by omega), bit_apply]
  by_cases h : f n.val < 63 <;> simp [h]

theorem sgt_apply (A : IVec S64x64 32) (f : ℕ → ℕ) (n : Fin 4096) (hA : A (ix2 ⟨n.val / 64, by omega⟩ ⟨n.val % 64, by omega⟩) = BitVec.ofNat 32 (f n.val)) (hf : f n.val < 64) :
    maskV .sgt 0#32 A (ix1 n) = (((if 0 < f n.val then 1 else 0 : ℝ)) : EReal) := by
  unfold maskV
  pointwise
  rw [show A (ix2 _ _) = _ from hA, WordCmp.cmpi_sgt_ofNat (w := 32) (a := f n.val) (b := 0) (by omega) (by omega), bit_apply]
  by_cases h : 0 < f n.val <;> simp [h]

theorem jV_apply (n : Fin 4096) : jV (ix2 ⟨n.val / 64, by omega⟩ ⟨n.val % 64, by omega⟩) = BitVec.ofNat 32 (n.val % 64) := by
  unfold jV; pointwise

theorem iV_apply (n : Fin 4096) : iV (ix2 ⟨n.val / 64, by omega⟩ ⟨n.val % 64, by omega⟩) = BitVec.ofNat 32 (n.val / 64) := by
  unfold iV; pointwise

theorem planesV_ok : Planes planesV := by
  constructor <;> intro c <;> unfold planesV <;> pointwise [asRow]
  · exact dhV_apply c
  · show dhV _ * dhV _ = _
    rw [show dhV _ = _ from dhV_apply c, ← EReal.coe_mul]
  · unfold twoV; pointwise
    rw [two_word, dhV_apply, ← EReal.coe_mul]
  · unfold twoV; pointwise
    rw [two_word, dhV_apply, ← EReal.coe_mul, ← EReal.coe_mul]
  · exact slt_apply jV (fun n => n % 64) c (jV_apply c) (by show c.val % 64 < 64; omega)
  · exact sgt_apply jV (fun n => n % 64) c (jV_apply c) (by show c.val % 64 < 64; omega)
  · exact slt_apply iV (fun n => n / 64) c (iV_apply c) (by show c.val / 64 < 64; omega)
  · exact sgt_apply iV (fun n => n / 64) c (iV_apply c) (by show c.val / 64 < 64; omega)

theorem weightsV_apply (w : FVec Ideal S800x64 .f32) (k : Fin 25) (j : Fin 512) (q : Fin 256) :
    weightsV w (ix3 k j q) = if j.val % 8 = q.val % 8 then w (ix2 ⟨q.val / 8 * 25 + k.val, by omega⟩ ⟨j.val / 8, by omega⟩) else 0 := by
  unfold weightsV
  pointwise
  rw [show IntOp.addi (BitVec.ofNat 32 (j.val % 8)) 0#32 = BitVec.ofNat 32 (j.val % 8) from BitVec.add_zero _, WordCmp.cmpi_eq_eq, bit_cond]
  have hi := WordCmp.ofNat_eq_ofNat_iff (w := 32) (a := j.val % 8) (b := q.val % 8) (by omega) (by omega)
  by_cases h : j.val % 8 = q.val % 8
  · rw [if_pos h, decide_eq_true (hi.2 h)]; exact mul_one _
  · rw [if_neg h, decide_eq_false (fun e => h (hi.1 e))]; exact mul_zero _

theorem poolV_apply (r : Fin 512) (q : Fin 128) : poolV (ix2 r q) = if r.val / 4 = q.val then ((1 / 4 : ℝ) : EReal) else 0 := by
  unfold poolV
  pointwise
  rw [show IntOp.addi (BitVec.ofNat 32 (r.val / 4)) 0#32 = BitVec.ofNat 32 (r.val / 4) from BitVec.add_zero _, WordCmp.cmpi_eq_eq, bit_cond, quarter_word]
  have hi := WordCmp.ofNat_eq_ofNat_iff (w := 32) (a := r.val / 4) (b := q.val) (by omega) (by omega)
  by_cases h : r.val / 4 = q.val
  · rw [if_pos h, decide_eq_true (hi.2 h)]; exact one_mul _
  · rw [if_neg h, decide_eq_false (fun e => h (hi.1 e))]; exact zero_mul _

end Cert.Conv2Ideal.Hand

end
-- ==== Proof.Conv1Host.lean ====
/- What `Conv1Ideal`'s host operations prepare for the kernel: the eight static rows, the weights laid out with a copy per
   batch entry, the pooling matrix, and the pictures in the order of the graph's nodes. -/
module

public import proofs.«01_k».proof.Proof.Conv1Kernel
public import proofs.«01_k».proof.Proof.Conv1Pre
public import proofs.«01_k».proof.Proof.Conv2Host
public import Idealize.ShloMosaic.Lib.Routing.OpsPair
public import Idealize.ShloMosaic.Lib.ReduceAll
public import Idealize.ShloMosaic.Lib.WordCmp

@[expose] public section

set_option maxRecDepth 16384

noncomputable section

open Idealize.ShloMosaic Idealize.ShloMosaic.TcCoe Idealize.ShloMosaic.Tactic Idealize.SL.Sem
open Idealize.ShloMosaic.Pipeline (Dat)

namespace Cert.Conv1Ideal.Hand

open Cert.Conv1Ideal Cert.Conv1Ideal.Gen Cert.Reals
open Cert.Conv2Ideal.Hand (bit_apply bit_cond one_word two_word)

/-- One over the square root of the number of neighbours. -/
def dhV : FVec Ideal S16384 .f32 :=
  shapeCast S16384 (Host.divf (broadcastInDim S128x128 ![] bcast_S_S128x128 (constant S_ .f32 0x3F800000#32)) (Host.sqrt Conv1Pre.degV) : FVec Ideal S128x128 .f32) shapeCasts_S128x128_S16384

/-- A mask over the nodes, from words over the grid and a test against a word. -/
def maskV (p : CmpIPredicate) (w : BitVec 32) (A : IVec S128x128 32) : FVec Ideal S16384 .f32 :=
  shapeCast S16384 (uitofp .f32 (cmpi p A (broadcastInDim S128x128 ![] bcast_S_S128x128 (constantI S_ 32 w))) : FVec Ideal S128x128 .f32) shapeCasts_S128x128_S16384
/-- The column and the row of a node. -/
def jV : IVec S128x128 32 := broadcastInDim S128x128 ![1] bcast_S128_S128x128_1 (iotaInDim S128 32 0)
def iV : IVec S128x128 32 := broadcastInDim S128x128 ![0] bcast_S128_S128x128_0 (iotaInDim S128 32 0)
/-- A vector doubled. -/
def twoV (x : FVec Ideal S16384 .f32) : FVec Ideal S16384 .f32 := mulf (broadcastInDim S16384 ![] bcast_S_S16384 (constant S_ .f32 0x40000000#32)) x
/-- A vector as one row. -/
def asRow (x : FVec Ideal S16384 .f32) : FVec Ideal S1x16384 .f32 := broadcastInDim S1x16384 ![1] bcast_S16384_S1x16384_1 x

/-- The eight rows, stacked. -/
def planesV : FVec Ideal S8x16384 .f32 :=
  concatenate S8x16384 0 [⟨S1x16384, asRow dhV⟩, ⟨S1x16384, asRow (mulf dhV dhV)⟩, ⟨S1x16384, asRow (twoV dhV)⟩, ⟨S1x16384, asRow (twoV (mulf dhV dhV))⟩,
    ⟨S1x16384, asRow (maskV .slt 127#32 jV)⟩, ⟨S1x16384, asRow (maskV .sgt 0#32 jV)⟩, ⟨S1x16384, asRow (maskV .slt 127#32 iV)⟩, ⟨S1x16384, asRow (maskV .sgt 0#32 iV)⟩]
    concatenates_S1x16384_S1x16384_S1x16384_S1x16384_S1x16384_S1x16384_S1x16384_S1x16384_S8x16384_d0

/-- The weights, one copy per batch entry on the diagonal. -/
def weightsV (w : FVec Ideal S25x32 .f32) : FVec Ideal S256x200 .f32 :=
  shapeCast S256x200 (mulf
    (broadcastInDim S32x8x25x8 ![0, 1, 2, 3] bcast_S32x1x25x1_S32x8x25x8_0_1_2_3 (broadcastInDim S32x1x25x1 ![0, 2] bcast_S32x25_S32x1x25x1_0_2
      (transpose S32x25 [1, 0] w transposes_S25x32_S32x25_1_0)))
    (broadcastInDim S32x8x25x8 ![0, 1, 2, 3] bcast_S1x8x1x8_S32x8x25x8_0_1_2_3 (broadcastInDim S1x8x1x8 ![1, 3] bcast_S8x8_S1x8x1x8_1_3
      (uitofp .f32 (cmpi .eq (addi (iotaInDim S8x8 32 0) (broadcastInDim S8x8 ![] bcast_S_S8x8 (constantI S_ 32 0#32))) (iotaInDim S8x8 32 1)))) : FVec Ideal S32x8x25x8 .f32))
    shapeCasts_S32x8x25x8_S256x200

/-- The node of the picture that each node of the graph is, a negative one counted from the end, as a one-column table. -/
def permIx (perm : IVec S16384 32) : IVec S16384x1 32 :=
  broadcastInDim S16384x1 ![0] bcast_S16384_S16384x1_0
    (select (cmpi .slt perm (broadcastInDim S16384 ![] bcast_S_S16384 (constantI S_ 32 0#32))) (addi perm (broadcastInDim S16384 ![] bcast_S_S16384 (constantI S_ 32 16384#32))) perm)

/-- Whether that node lies inside the picture. -/
def permOk (perm : IVec S16384 32) : IVec S16384 1 :=
  Host.reduce IntOp.andi
    (andi (cmpi .sge (permIx perm) (broadcastInDim S16384x1 ![] bcast_S_S16384x1 (constantI S_ 32 0#32)))
      (cmpi .sle (permIx perm) (broadcastInDim S16384x1 ![0, 1] bcast_S1x1_S16384x1_0_1 (broadcastInDim S1x1 ![1] bcast_S1_S1x1_1 (constantI S1 32 16383#32)))))
    (constantI S_ 1 1#1) reducesTo_S16384x1_S16384_d1 h_S_

/-- The pictures' values in the order of the graph's nodes. -/
def permV (x : FVec Ideal S8x16384 .f32) (perm : IVec S16384 32) : FVec Ideal S8x16384 .f32 :=
  select (broadcastInDim S8x16384 ![1] bcast_S16384_S8x16384_1 (permOk perm))
    (Host.gather gather_S8x16384_S16384x1_S8x16384_0_1_n_n_1_1_81 x (permIx perm))
    (broadcastInDim S8x16384 ![] bcast_S_S8x16384 (constant S_ .f32 0x7FC00000#32))

/-- The pictures, one per row. -/
def flatV (X : FVec Ideal S8x1x128x128 .f32) : FVec Ideal S8x16384 .f32 := shapeCast S8x16384 X shapeCasts_S8x1x128x128_S8x16384

variable (m : (ℓ : Loc nD τ sig) → Buf (Elt Ideal) ℓ)

theorem V_v7 (c : Dev nD) : V m c main_v7 = permV (flatV (m ((c : Thread nD τ).loc main_arg0))) (m ((c : Thread nD τ).loc main_arg1)) := by
  chain_rfl
theorem V_v63 (c : Dev nD) : V m c main_v63 = planesV := by
  chain_rfl
theorem V_v70 (c : Dev nD) : V m c main_v70 = weightsV (m ((c : Thread nD τ).loc main_arg5)) := by
  chain_rfl
theorem V_v80 (c : Dev nD) : V m c main_v80 = Cert.Conv2Ideal.Hand.poolV := by
  chain_rfl

/-! ## Their entries -/

theorem dhV_apply (n : Fin 16384) : dhV (ix1 n) = ((Grid.dh 128 n.val : ℝ) : EReal) := by
  have h := Conv1Pre.degV_apply n.val n.isLt
  unfold Conv1Pre.node at h
  unfold dhV
  pointwise
  have hp : 0 < Grid.deg 128 n.val := Grid.deg_pos 128 _
  have hs : Ideal.sqrt ((Grid.deg 128 n.val : ℝ) : EReal) = ((Real.sqrt (Grid.deg 128 n.val) : ℝ) : EReal) := by
    exact if_neg (not_lt.mpr hp.le)
  rw [show Conv1Pre.degV (ix2 _ _) = _ from h]
  show Ideal.div _ (Ideal.sqrt _) = _
  rw [hs, Ideal.div, if_neg (by exact_mod_cast (Real.sqrt_pos.mpr hp).ne'), ← EReal.coe_inv]
  unfold Grid.dh
  rw [one_div]
  exact one_mul _

theorem slt_apply (A : IVec S128x128 32) (f : ℕ → ℕ) (n : Fin 16384) (hA : A (ix2 ⟨n.val / 128, by omega⟩ ⟨n.val % 128, by omega⟩) = BitVec.ofNat 32 (f n.val)) (hf : f n.val < 128) :
    maskV .slt 127#32 A (ix1 n) = (((if f n.val < 127 then 1 else 0 : ℝ)) : EReal) := by
  unfold maskV
  pointwise
  rw [show A (ix2 _ _) = _ from hA, WordCmp.cmpi_slt_ofNat (w := 32) (a := f n.val) (b := 127) (by omega) (by omega), bit_apply]
  by_cases h : f n.val < 127 <;> simp [h]

theorem sgt_apply (A : IVec S128x128 32) (f : ℕ → ℕ) (n : Fin 16384) (hA : A (ix2 ⟨n.val / 128, by omega⟩ ⟨n.val % 128, by omega⟩) = BitVec.ofNat 32 (f n.val)) (hf : f n.val < 128) :
    maskV .sgt 0#32 A (ix1 n) = (((if 0 < f n.val then 1 else 0 : ℝ)) : EReal) := by
  unfold maskV
  pointwise
  rw [show A (ix2 _ _) = _ from hA, WordCmp.cmpi_sgt_ofNat (w := 32) (a := f n.val) (b := 0) (by omega) (by omega), bit_apply]
  by_cases h : 0 < f n.val <;> simp [h]

theorem jV_apply (n : Fin 16384) : jV (ix2 ⟨n.val / 128, by omega⟩ ⟨n.val % 128, by omega⟩) = BitVec.ofNat 32 (n.val % 128) := by
  unfold jV; pointwise

theorem iV_apply (n : Fin 16384) : iV (ix2 ⟨n.val / 128, by omega⟩ ⟨n.val % 128, by omega⟩) = BitVec.ofNat 32 (n.val / 128) := by
  unfold iV; pointwise

theorem planesV_ok : Planes planesV := by
  constructor <;> intro c <;> unfold planesV <;> pointwise [asRow]
  · exact dhV_apply c
  · show dhV _ * dhV _ = _
    rw [show dhV _ = _ from dhV_apply c, ← EReal.coe_mul]
  · unfold twoV; pointwise
    rw [two_word, dhV_apply, ← EReal.coe_mul]
  · unfold twoV; pointwise
    rw [two_word, dhV_apply, ← EReal.coe_mul, ← EReal.coe_mul]
  · exact slt_apply jV (fun n => n % 128) c (jV_apply c) (by show c.val % 128 < 128; omega)
  · exact sgt_apply jV (fun n => n % 128) c (jV_apply c) (by show c.val % 128 < 128; omega)
  · exact slt_apply iV (fun n => n / 128) c (iV_apply c) (by show c.val / 128 < 128; omega)
  · exact sgt_apply iV (fun n => n / 128) c (iV_apply c) (by show c.val / 128 < 128; omega)

/-- The weights' table read at rows and columns swapped. -/
theorem swap_apply (w : FVec Ideal S25x32 .f32) (i : Fin 32) (k : Fin 25) : transpose S32x25 [1, 0] w transposes_S25x32_S32x25_1_0 (ix2 i k) = w (ix2 k i) := by
  pointwise

theorem weightsV_apply (w : FVec Ideal S25x32 .f32) (j : Fin 256) (q : Fin 200) :
    weightsV w (ix2 j q) = if j.val % 8 = q.val % 8 then w (ix2 ⟨q.val / 8, by omega⟩ ⟨j.val / 8, by omega⟩) else 0 := by
  rw [← swap_apply w]
  unfold weightsV
  generalize transpose S32x25 [1, 0] w transposes_S25x32_S32x25_1_0 = T
  pointwise
  rw [show IntOp.addi (BitVec.ofNat 32 (j.val % 8)) 0#32 = BitVec.ofNat 32 (j.val % 8) from BitVec.add_zero _, WordCmp.cmpi_eq_eq, bit_cond]
  have hi := WordCmp.ofNat_eq_ofNat_iff (w := 32) (a := j.val % 8) (b := q.val % 8) (by omega) (by omega)
  by_cases h : j.val % 8 = q.val % 8
  · rw [if_pos h, decide_eq_true (hi.2 h)]; exact mul_one _
  · rw [if_neg h, decide_eq_false (fun e => h (hi.1 e))]; exact mul_zero _

section Perm

variable (perm : IVec S16384 32) (hp : ∀ i, (perm i).toNat < 16384)

include hp in
/-- A node inside the picture is used as it is. -/
theorem permIx_apply (e : Fin 16384) : permIx perm (ix2 e 0) = BitVec.ofNat 32 (perm (ix1 e)).toNat := by
  have hb := hp (ix1 e)
  pointwise [permIx]
  rw [BitVec.ofNat_toNat, BitVec.setWidth_eq]
  exact Routing.wrap_of_lt _ _ (by show _ < 2147483648; omega)

include hp in
theorem permOk_apply (e : Fin 16384) : permOk perm (ix1 e) = 1#1 := by
  unfold permOk
  refine Host.reduce_andi_one _ _ _ _ _ rfl fun i => ?_
  idx_vars i
  obtain rfl : i1 = 0 := Subsingleton.elim _ _
  have hb := hp (ix1 i0)
  show IntOp.andi (IntOp.cmpi .sge (permIx perm (ix2 i0 0)) 0#32) (IntOp.cmpi .sle (permIx perm (ix2 i0 0)) 16383#32) = 1#1
  rw [permIx_apply perm hp, (WordCmp.cmpi_sge_ofNat_eq_one_iff (w := 32) (a := (perm (ix1 i0)).toNat) (b := 0) (by omega) (by omega)).mpr (by omega),
    (WordCmp.cmpi_sle_ofNat_eq_one_iff (w := 32) (a := (perm (ix1 i0)).toNat) (b := 16383) (by omega) (by omega)).mpr (by omega)]
  rfl

include hp in
/-- Finite pictures stay finite in the order of the graph's nodes. -/
theorem permV_fn (X : FVec Ideal S8x1x128x128 .f32) (hX : ∀ i, Fn (X i)) (r : Fin 8) (e : Fin 16384) : Fn (permV (flatV X) perm (ix2 r e)) := by
  have hf : ∀ i, Fn (flatV X i) := fun i => hX _
  unfold permV
  generalize flatV X = x at hf ⊢
  pointwise
  rw [permOk_apply perm hp, WordCmp.select_one]
  exact hf _

end Perm

end Cert.Conv1Ideal.Hand

end
-- ==== Proof.Conv1Value.lean ====
/- What `Conv1Ideal`'s @main leaves in its result array, entry by entry, when the pictures in the order of the graph's nodes are
   real numbers: the polynomial of the sums of the products of weights and Chebyshev terms, pooled. -/
module

public import proofs.«01_k».proof.Proof.Conv1Host
public import proofs.«01_k».proof.Proof.Conv1Frame

@[expose] public section

set_option maxRecDepth 16384

noncomputable section

open Idealize.ShloMosaic Idealize.ShloMosaic.TcCoe Idealize.ShloMosaic.Tactic Idealize.SL.Sem
open Idealize.ShloMosaic.Pipeline (Dat)

namespace Cert.Conv1Ideal.Hand

open Cert.Conv1Ideal Cert.Conv1Ideal.Gen Cert.Reals

variable (m : (ℓ : Loc nD τ sig) → Buf (Elt Ideal) ℓ)

/-! ## The blocks: each window is its whole array -/

/-- The pictures' values the kernel is launched on. -/
def x0 (c : Dev nD) : FVec Ideal S8x16384 .f32 := permV (flatV (m ((c : Thread nD τ).loc main_arg0))) (m ((c : Thread nD τ).loc main_arg1))

theorem bX_eq (c : Dev nD) (t : Fin cfg0.N) : bX m c t = x0 m c := by
  unfold x0; rw [← V_v7 m c]
  exact Memref.read_access_unit_zero (Elt Ideal) main_v7 (funext fun a => Nat.zero_mul _) (fun a => by simp) (V m c main_v7)

theorem bP_eq (c : Dev nD) (t : Fin cfg0.N) : bP m c t = planesV := by
  rw [← V_v63 m c]
  exact Memref.read_access_unit_zero (Elt Ideal) main_v63 (funext fun a => Nat.zero_mul _) (fun a => by simp) (V m c main_v63)

theorem bW_eq (c : Dev nD) (t : Fin cfg0.N) : bW m c t = weightsV (m ((c : Thread nD τ).loc main_arg5)) := by
  rw [← V_v70 m c]
  exact Memref.read_access_unit_zero (Elt Ideal) main_v70 (funext fun a => Nat.zero_mul _) (fun a => by simp) (V m c main_v70)

theorem bA_eq (c : Dev nD) (t : Fin cfg0.N) : bA m c t = m ((c : Thread nD τ).loc main_arg6) := by
  rw [← V_main_arg6 m c]
  exact Memref.read_access_unit_zero (Elt Ideal) main_arg6 (funext fun a => Nat.zero_mul _) (fun a => by simp) (V m c main_arg6)

theorem bR_eq (c : Dev nD) (t : Fin cfg0.N) : bR m c t = Cert.Conv2Ideal.Hand.poolV := by
  rw [← V_v80 m c]
  exact Memref.read_access_unit_zero (Elt Ideal) main_v80 (funext fun a => Nat.zero_mul _) (fun a => by simp) (V m c main_v80)

/-! ## The result array -/

/-- What the one point leaves. -/
def result (c : Dev nD) : Vec Ideal S256x4096 .f32 :=
  out planesV (x0 m c) (weightsV (m ((c : Thread nD τ).loc main_arg5))) (m ((c : Thread nD τ).loc main_arg6)) Cert.Conv2Ideal.Hand.poolV

theorem flushed_eq (c : Dev nD) (t : Fin cfg0.N) (hf : (cfg0.win 5).flush t = true) :
    (dats m 0 c).flushed 5 t = ((cfg0.win 5).blk t).view.read (Elt Ideal) (result m c) := by
  show (cfg0.win 5).cut (grid0.coords t) ((dats m 0 c).after 5 t) = _
  rw [after0_5, bX_eq, bP_eq, bW_eq, bA_eq, bR_eq]
  exact (Memref.read_access_unit_zero (Elt Ideal) main_v81 (funext fun a => Nat.zero_mul _) (fun a => by simp) (result m c)).symm

theorem final_5 (c : Dev nD) : (dats m 0 c).arrAt 5 cfg0.N = result m c :=
  (dats m 0 c).arrAt_eq_of_cover 5 (result m c) (flushed_eq m c) fun i =>
    ⟨t0_0, flush0_5 t0_0, by
      show i ∈ ((View.whole main_v81).slice (win0_5.rect t0_0)).set
      rw [View.set_slice_whole, Rect.mem_set_unit]
      intro a
      match a with
      | ⟨0, _⟩ => show 0 * 256 ≤ (i 0 : Nat) ∧ (i 0 : Nat) < 0 * 256 + 256
                  have h0 : (i 0 : Nat) < 256 := (i 0).isLt
                  omega
      | ⟨1, _⟩ => show 0 * 4096 ≤ (i 1 : Nat) ∧ (i 1 : Nat) < 0 * 4096 + 4096
                  have h1 : (i 1 : Nat) < 4096 := (i 1).isLt
                  omega⟩

/-- The run: the result array holds `result`, the arguments their contents. -/
theorem run_result (ρ : Dev nD → PrngReg) : θ_run defs (onTc (τ := τ) (main (F := Ideal))) ⟨m, fun _ => 0, ρ⟩ (fun r => ∀ c : Dev nD,
      r.2.mem ((c.tc : Thread nD τ).loc main_v81) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 5).trans (final_5 m c), h.2.1 c⟩) (θ_run_and (run_main m ρ) (frame m ρ))

/-- Entry `(j, k)` of the result. -/
theorem result_apply (c : Dev nD) (ξ : Fin 8 → ℕ → ℝ) (hξ : ∀ (r : Fin 8) (k : Fin 16384), x0 m c (ix2 r k) = ((ξ r k.val : ℝ) : EReal)) (j : Fin 256) (k : Fin 4096) :
    result m c (ix2 j k) = ∑ r : Fin 512, hor (m ((c : Thread nD τ).loc main_arg6))
      (∑ q : Fin 200, weightsV (m ((c : Thread nD τ).loc main_arg5)) (ix2 j q) * ((Grid.cheb 128 (ξ ⟨q.val % 8, by omega⟩) (q.val / 8) (k.val / 128 * 512 + r.val) : ℝ) : EReal))
      * Cert.Conv2Ideal.Hand.poolV (ix2 r ⟨k.val % 128, by omega⟩) := by
  have hk := k.isLt
  have ho : result m c (ix2 j k) = _ := out_at planesV (x0 m c) (weightsV (m ((c : Thread nD τ).loc main_arg5))) (m ((c : Thread nD τ).loc main_arg6)) Cert.Conv2Ideal.Hand.poolV
    ⟨k.val / 1024, by omega⟩ (ix2 j ⟨k.val % 1024, by omega⟩) (ix2 j k) rfl (by show k.val = 1024 * (k.val / 1024) + k.val % 1024; omega)
  rw [ho, chunk_apply]
  generalize weightsV (m ((c : Thread nD τ).loc main_arg5)) = w
  generalize m ((c : Thread nD τ).loc main_arg6) = a
  generalize Cert.Conv2Ideal.Hand.poolV = p
  refine Finset.sum_congr rfl fun r _ => ?_
  have hr := r.isLt
  have e1 : 4096 * (k.val / 1024) + (k.val % 1024 / 128 * 512 + r.val) = k.val / 128 * 512 + r.val := by omega
  have e2 : k.val % 1024 % 128 = k.val % 128 := by omega
  have hq : ∀ q : Fin 200, (quarter (F := Ideal) planesV (x0 m c) ⟨k.val / 1024, by omega⟩ (ix2 q ⟨k.val % 1024 / 128 * 512 + r.val, by omega⟩) : EReal)
      = ((Grid.cheb 128 (ξ ⟨q.val % 8, by omega⟩) (q.val / 8) (k.val / 128 * 512 + r.val) : ℝ) : EReal) := fun q =>
    (quarter_apply planesV_ok (x0 m c) ξ hξ ⟨k.val / 1024, by omega⟩ q ⟨k.val % 1024 / 128 * 512 + r.val, by omega⟩).trans
      (congrArg (fun n : ℕ => ((Grid.cheb 128 (ξ ⟨q.val % 8, by omega⟩) (q.val / 8) n : ℝ) : EReal)) e1)
  have hp : p (ix2 r ⟨k.val % 1024 % 128, by omega⟩) = p (ix2 r ⟨k.val % 128, by omega⟩) := congrArg p (congrArg₂ ix2 rfl (Fin.ext e2))
  refine congrArg₂ (fun z q : EReal => hor a z * q) (Finset.sum_congr rfl fun q _ => ?_) hp
  exact congrArg (fun z : EReal => w (ix2 j q) * z) (hq q)

end Cert.Conv1Ideal.Hand

end
-- ==== Proof.RefFrames.lean ====
/- The frames of the two references: every execution ends, the arguments keep their contents, every counter is zero. -/
module

public import proofs.«01_k».proof.Defs
public import proofs.«01_k».proof.Proof.Gen.Conv2RefIdeal.Run
public import proofs.«01_k».proof.Proof.Gen.HeadRefIdeal.Run
public import Idealize.ShloMosaic.Lib.Quiescent

@[expose] public section

noncomputable section

open Idealize.ShloMosaic Idealize.ShloMosaic.TcCoe Idealize.SL.Sem Idealize.ShloMosaic.StableHlo

namespace Cert.RefFrames

/-- The head's reference leaves its arguments as they were, and no counter is left raised. -/
theorem head : Cert.quiescent_HeadRefIdeal := fun m ρ _ =>
  (θ_run Cert.HeadRefIdeal.defs _ _).mono (fun r h => ⟨fun c => (h c).2,
      Idealize.ShloMosaic.sem_eq_zero_of_no_sems (by decide) r.2⟩)
    (Cert.HeadRefIdeal.Value.run (F := Ideal) m ρ)

section Conv2

open Cert.Conv2RefIdeal Cert.Conv2RefIdeal.Gen Cert.Conv2RefIdeal.Value

variable (m : (ℓ : Loc nD τ sig) → Buf (Elt Ideal) ℓ)

/-- What a trip's condition writes. -/
theorem cond_writes : (condOps : List (HloOp τ sig (Elt Ideal))).map HloOp.writes
    = [main_while0c_c_11, main_while0c_v49].map fun w => {Proc.devRef (τ := τ) .tc w} := rfl

/-- A buffer that one trip writes nowhere. -/
abbrev Unwritten (b : Ref sig .tc) : Prop :=
  b ∉ [main_while0c_c_11, main_while0c_v49] ∧ b ∉ while0Ops0_W ∧ b ∉ while0Ops0_1_W ∧ b ∉ while0Ops0_2_W
    ∧ b ∉ while0Ops0_3_W ∧ b ∉ while0Ops0_4_W ∧ b ∉ while0Ops0_5_W ∧ b ∉ while0Ops0_6_W ∧ b ∉ while0Ops0_7_W
    ∧ b ∉ while0Ops0_8_W

/-- A buffer that a trip writes nowhere keeps its contents through every trip. -/
theorem atK_kept (c : Dev nD) (b : Ref sig .tc) (h : Unwritten b) : ∀ k,
    atK m k c (Proc.devRef .tc b) = entryContents preI m c (Proc.devRef .tc b)
  | 0 => rfl
  | k + 1 => by
    obtain ⟨hc, h0, h1, h2, h3, h4, h5, h6, h7, h8⟩ := h
    rw [show atK m (k + 1) c = afterL bodyI (after condOps (atK m k c)) from rfl]
    simp only [afterL_cons, afterL_nil]
    rw [after_of_writes_sub _ _ while0Ops0_8_writes h8, after_of_writes_sub _ _ while0Ops0_7_writes h7,
      after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_unwritten _ cond_writes hc,
      atK_kept c b ⟨hc, h0, h1, h2, h3, h4, h5, h6, h7, h8⟩ k]
    rfl

/-- What the operations after the loop write. -/
abbrev postW : List (Ref sig .tc) := [main_v17, main_v18, main_v19, main_v20, main_v21, main_v22, main_v23, main_v24,
  main_v25, main_v26, main_v27, main_v28, main_v29, main_v30, main_v31, main_v32, main_v33, main_v34, main_v35, main_v36,
  main_v37, main_v38, main_v39, main_v40, main_v41, main_v42, main_v43, main_cst_4, main_v44, main_cst_5, main_v45,
  main_v46, main_v47, main_v48]

theorem post_writes : (hostOps0_3 : List (HloOp τ sig (Elt Ideal))).map HloOp.writes
    = postW.map fun w => {Proc.devRef (τ := τ) .tc w} := rfl

/-- A buffer no operation of the reference writes ends as it began. -/
theorem final_kept (c : Dev nD) (b : Ref sig .tc) (h : Unwritten b) (h0 : b ∉ hostOps0_W) (h1 : b ∉ hostOps0_1_W)
    (h2 : b ∉ hostOps0_2_W) (h3 : b ∉ postW) :
    finalContents condOps preI bodyI postI 23 m c (Proc.devRef .tc b) = m ((c.tc : Thread nD τ).loc b) := by
  have e := atK_kept m c b h 23
  simp only [finalContents, afterL_cons, afterL_nil]
  rw [after_unwritten _ post_writes h3, after_unwritten _ cond_writes h.1]
  refine e.trans ?_
  simp only [entryContents, afterL_cons, afterL_nil]
  rw [after_of_writes_sub _ _ hostOps0_2_writes h2, after_of_writes_sub _ _ hostOps0_1_writes h1,
    after_of_writes_sub _ _ hostOps0_writes h0]

/-- The second layer's reference leaves its arguments as they were, and no counter is left raised. -/
theorem conv2 : Cert.quiescent_Conv2RefIdeal := fun m ρ _ =>
  (θ_run Cert.Conv2RefIdeal.defs _ _).mono (fun r h => ⟨fun c => ⟨
      (h c main_arg0 rfl).trans (final_kept m c main_arg0 (by decide) (by decide) (by decide) (by decide) (by decide)),
      (h c main_arg1 rfl).trans (final_kept m c main_arg1 (by decide) (by decide) (by decide) (by decide) (by decide)),
      (h c main_arg2 rfl).trans (final_kept m c main_arg2 (by decide) (by decide) (by decide) (by decide) (by decide)),
      (h c main_arg3 rfl).trans (final_kept m c main_arg3 (by decide) (by decide) (by decide) (by decide) (by decide)),
      (h c main_arg4 rfl).trans (final_kept m c main_arg4 (by decide) (by decide) (by decide) (by decide) (by decide)),
      (h c main_arg5 rfl).trans (final_kept m c main_arg5 (by decide) (by decide) (by decide) (by decide) (by decide))⟩,
      Idealize.ShloMosaic.sem_eq_zero_of_no_sems (by decide) r.2⟩)
    (Cert.Conv2RefIdeal.Value.run_fold (F := Ideal) m ρ)

end Conv2

end Cert.RefFrames

end
-- ==== Proof.Conv2Ref.lean ====
/- What `Conv2RefIdeal`'s @main leaves in its result array, entry by entry: the stack of Chebyshev terms that its loop fills, and
   what the operations after the loop make of it. -/
module

public import proofs.«01_k».proof.Proof.RefFrames
public import proofs.«01_k».proof.Proof.Grid
public import proofs.«01_k».proof.Proof.Reals
public import Idealize.ShloMosaic.Lib.Pointwise
public import Idealize.ShloMosaic.Lib.WordCmp
public import Idealize.ShloMosaic.Lib.Routing.OpsPair
public import Idealize.ShloMosaic.Lib.Routing.OpsSet
public import Idealize.ShloMosaic.Lib.Routing.Ops
public import Idealize.ShloMosaic.Lib.Pipeline.Regions

@[expose] public section

set_option maxRecDepth 16384

noncomputable section

open Idealize.ShloMosaic Idealize.ShloMosaic.TcCoe Idealize.ShloMosaic.Tactic Idealize.SL.Sem Idealize.ShloMosaic.StableHlo

namespace Cert.Conv2RefIdeal.Hand

open Cert.Conv2RefIdeal Cert.Conv2RefIdeal.Gen Cert.Conv2RefIdeal.Value Cert.Reals

/-! ## The program's terms -/

/-- The input with nodes along the rows. -/
def x0V (h : FVec Ideal S256x4096 .f32) : FVec Ideal S4096x256 .f32 :=
  shapeCast S4096x256 (transpose S4096x32x8 [1, 2, 0] (transpose S8x4096x32 [1, 2, 0] (shapeCast S32x8x4096 h shapeCasts_S256x4096_S32x8x4096) transposes_S32x8x4096_S8x4096x32_1_2_0) transposes_S8x4096x32_S4096x32x8_1_2_0) shapeCasts_S4096x32x8_S4096x256

/-- The column of an edge, a negative one counted from the end, as a one-column table. -/
def colIx (cols : IVec S32004 32) : IVec S32004x1 32 :=
  broadcastInDim S32004x1 ![0] bcast_S32004_S32004x1_0
    (select (cmpi .slt cols (broadcastInDim S32004 ![] bcast_S_S32004 (constantI S_ 32 0#32))) (addi cols (broadcastInDim S32004 ![] bcast_S_S32004 (constantI S_ 32 4096#32))) cols)

/-- Whether the column lies inside the table. -/
def colOk (cols : IVec S32004 32) : IVec S32004 1 :=
  Host.reduce IntOp.andi
    (andi (cmpi .sge (colIx cols) (broadcastInDim S32004x1 ![] bcast_S_S32004x1 (constantI S_ 32 0#32)))
      (cmpi .sle (colIx cols) (broadcastInDim S32004x1 ![0, 1] bcast_S1x1_S32004x1_0_1 (broadcastInDim S1x1 ![1] bcast_S1_S1x1_1 (constantI S1 32 4095#32)))))
    (constantI S_ 1 1#1) reducesTo_S32004x1_S32004_d1 h_S_

/-- The rows of `x` at the columns of the edges. -/
def takeV (x : FVec Ideal S4096x256 .f32) (cols : IVec S32004 32) : FVec Ideal S32004x256 .f32 :=
  select (broadcastInDim S32004x256 ![0] bcast_S32004_S32004x256_0 (colOk cols))
    (Host.gather gather_S4096x256_S32004x1_S32004x256_1_0_n_n_0_1_1256 x (colIx cols))
    (broadcastInDim S32004x256 ![] bcast_S_S32004x256 (constant S_ .f32 0x7FC00000#32))

/-- The operator applied to `x`: weighted rows, added up at the rows of the edges. -/
def spmmV (x : FVec Ideal S4096x256 .f32) (vals : FVec Ideal S32004 .f32) (rows cols : IVec S32004 32) : FVec Ideal S4096x256 .f32 :=
  Host.scatterAdd scatter_S4096x256_S32004x1_S32004x256_1_0_0_1 (broadcastInDim S4096x256 ![] bcast_S_S4096x256 (constant S_ .f32 0x00000000#32))
    (broadcastInDim S32004x1 ![0] bcast_S32004_S32004x1_0 rows)
    (mulf (broadcastInDim S32004x256 ![0, 1] bcast_S32004x1_S32004x256_0_1 (broadcastInDim S32004x1 ![0] bcast_S32004_S32004x1_0 vals)) (takeV x cols))

/-- A plane number, a negative one counted from the end. -/
def wrapV (w : IVec S_ 32) : IVec S_ 32 :=
  select (cmpi .slt w (constantI S_ 32 0#32)) (addi w (constantI S_ 32 25#32)) w

/-- Where plane `w` starts. -/
def planeAt (w : IVec S_ 32) : Fin 3 → Int :=
  fun k => ((![wrapV w, constantI S_ 32 0#32, constantI S_ 32 0#32] : Fin 3 → IVec S_ 32) k (Shape.Idx.first h_S_)).toInt

/-- Plane `w` of the stack. -/
def readK (S : FVec Ideal S25x4096x256 .f32) (w : IVec S_ 32) : FVec Ideal S4096x256 .f32 :=
  shapeCast S4096x256 (Host.dynamicSlice S1x4096x256 S (planeAt w) sliceFits_S25x4096x256_S1x4096x256) shapeCasts_S1x4096x256_S4096x256

/-- The stack with plane `w` replaced. -/
def writeK (S : FVec Ideal S25x4096x256 .f32) (u : FVec Ideal S4096x256 .f32) (w : IVec S_ 32) : FVec Ideal S25x4096x256 .f32 :=
  Host.dynamicUpdateSlice S (broadcastInDim S1x4096x256 ![1, 2] bcast_S4096x256_S1x4096x256_1_2 u) (planeAt w) updateFits_S25x4096x256_S1x4096x256

/-- One trip of the loop on the stack. -/
def tripV (S : FVec Ideal S25x4096x256 .f32) (w : IVec S_ 32) (vals : FVec Ideal S32004 .f32) (rows cols : IVec S32004 32) : FVec Ideal S25x4096x256 .f32 :=
  writeK S (subf (mulf (broadcastInDim S4096x256 ![] bcast_S_S4096x256 (constant S_ .f32 0x40000000#32)) (spmmV (readK S (addi w (constantI S_ 32 1#32))) vals rows cols)) (readK S w))
    (addi w (constantI S_ 32 2#32))

/-- The stack the loop starts from. -/
def stack0 (x : FVec Ideal S4096x256 .f32) (vals : FVec Ideal S32004 .f32) (rows cols : IVec S32004 32) : FVec Ideal S25x4096x256 .f32 :=
  Host.scatter scatter_S25x4096x256_S1_S4096x256_01_0_0_0 (fun _ b => b)
    (Host.scatter scatter_S25x4096x256_S1_S4096x256_01_0_0_0 (fun _ b => b) (broadcastInDim S25x4096x256 ![] bcast_S_S25x4096x256 (constant S_ .f32 0x00000000#32))
      (broadcastInDim S1 ![] bcast_S_S1 (constantI S_ 32 0#32)) x)
    (broadcastInDim S1 ![] bcast_S_S1 (constantI S_ 32 1#32)) (spmmV x vals rows cols)

/-- The sums of the products of terms and weights. -/
def dotV (S : FVec Ideal S25x4096x256 .f32) (w : FVec Ideal S800x64 .f32) : FVec Ideal S8x4096x64 .f32 :=
  shapeCast S8x4096x64 (Host.dotGeneral dot_S32768x800_S800x64_S32768x64_1_0_0_1_n_n none
    (shapeCast S32768x800 (transpose S8x4096x32x25 [3, 1, 2, 0] (shapeCast S25x4096x32x8 S shapeCasts_S25x4096x256_S25x4096x32x8) transposes_S25x4096x32x8_S8x4096x32x25_3_1_2_0) shapeCasts_S8x4096x32x25_S32768x800 : FVec Ideal S32768x800 .f32) w) shapeCasts_S32768x64_S8x4096x64

/-- Coefficient `k`, everywhere. -/
def coefV (a : FVec Ideal S4 .f32) (k : ℕ) (h : S4.Slices ![k] S1) : FVec Ideal S8x4096x64 .f32 :=
  broadcastInDim S8x4096x64 ![] bcast_S_S8x4096x64 (shapeCast S_ (extractStridedSlice S1 ![k] a h) shapeCasts_S1_S_)

/-- The polynomial of a sum. -/
def actV (z : FVec Ideal S8x4096x64 .f32) (a : FVec Ideal S4 .f32) : FVec Ideal S8x4096x64 .f32 :=
  addf (addf (addf (coefV a 0 slices_S4_S1_0) (mulf (coefV a 1 slices_S4_S1_1) z)) (mulf (coefV a 2 slices_S4_S1_2) (mulf z z))) (mulf (coefV a 3 slices_S4_S1_3) (mulf (mulf z z) z))

/-- What is left: the means over groups of four nodes. -/
def outV (y : FVec Ideal S8x4096x64 .f32) : FVec Ideal S512x1024 .f32 :=
  shapeCast S512x1024 (transpose S64x8x1024 [2, 0, 1] (Host.divf (Host.reduceAdd (shapeCast S8x1024x4x64 y shapeCasts_S8x4096x64_S8x1024x4x64) (constant S_ .f32 0x00000000#32) reducesTo_S8x1024x4x64_S8x1024x64_d2 h_S_)
    (broadcastInDim S8x1024x64 ![] bcast_S_S8x1024x64 (constant S_ .f32 0x40800000#32)) : FVec Ideal S8x1024x64 .f32) transposes_S8x1024x64_S64x8x1024_2_0_1) shapeCasts_S64x8x1024_S512x1024

end Cert.Conv2RefIdeal.Hand

end
-- ==== Proof.Conv2RefLap.lean ====
/- The reference's operator on the nodes, entry by entry: with the grid's edge list and weights, weighting the rows at the
   edges' columns and adding them up at the edges' rows is the operator of the grid. -/
module

public import proofs.«01_k».proof.Proof.Conv2Ref
public import Idealize.ShloMosaic.Lib.ReduceAll

@[expose] public section

set_option maxRecDepth 16384

noncomputable section

open Idealize.ShloMosaic Idealize.ShloMosaic.TcCoe Idealize.ShloMosaic.Tactic Idealize.SL.Sem Idealize.ShloMosaic.StableHlo

namespace Cert.Conv2RefIdeal.Hand

open Cert.Conv2RefIdeal Cert.Conv2RefIdeal.Gen Cert.Conv2RefIdeal.Value Cert.Reals

/-- Entry `(c, a)` of the laid-out input is entry `(a, c)` of the input. -/
theorem x0V_apply (h : FVec Ideal S256x4096 .f32) (c : Fin 4096) (a : Fin 256) : x0V h (ix2 c a) = h (ix2 a c) := by
  have := a.isLt
  pointwise [x0V]

section Edges

variable (vals : FVec Ideal S32004 .f32) (rows cols : IVec S32004 32)

/-- A column below the number of nodes is used as it is. -/
theorem colIx_apply (hc : ∀ e : Fin 32004, cols (ix1 e) = BitVec.ofNat 32 (Grid.colN 64 e.val)) (e : Fin 32004) :
    colIx cols (ix2 e 0) = BitVec.ofNat 32 (Grid.colN 64 e.val) := by
  have hb := Grid.colN_lt (.inl rfl) e.isLt
  pointwise [colIx]
  rw [hc]
  exact Routing.wrap_of_lt _ _ (by rw [WordCmp.toNat_ofNat_of_lt (by omega)]; show _ < 2147483648; omega)

/-- Every column lies inside the table. -/
theorem colOk_apply (hc : ∀ e : Fin 32004, cols (ix1 e) = BitVec.ofNat 32 (Grid.colN 64 e.val)) (e : Fin 32004) :
    colOk cols (ix1 e) = 1#1 := by
  unfold colOk
  refine Host.reduce_andi_one _ _ _ _ _ rfl fun i => ?_
  idx_vars i
  obtain rfl : i1 = 0 := Subsingleton.elim _ _
  have hb := Grid.colN_lt (.inl rfl) i0.isLt
  show IntOp.andi (IntOp.cmpi .sge (colIx cols (ix2 i0 0)) 0#32) (IntOp.cmpi .sle (colIx cols (ix2 i0 0)) 4095#32) = 1#1
  rw [colIx_apply cols hc, (WordCmp.cmpi_sge_ofNat_eq_one_iff (w := 32) (a := Grid.colN 64 i0.val) (b := 0) (by omega) (by omega)).mpr (by omega),
    (WordCmp.cmpi_sle_ofNat_eq_one_iff (w := 32) (a := Grid.colN 64 i0.val) (b := 4095) (by omega) (by omega)).mpr (by omega)]
  rfl

/-- Row `e` of what is gathered is the row at the edge's column. -/
theorem takeV_apply (hc : ∀ e : Fin 32004, cols (ix1 e) = BitVec.ofNat 32 (Grid.colN 64 e.val)) (x : FVec Ideal S4096x256 .f32) (e : Fin 32004) (a : Fin 256) :
    takeV x cols (ix2 e a) = x (ix2 ⟨Grid.colN 64 e.val, Grid.colN_lt (.inl rfl) e.isLt⟩ a) := by
  unfold takeV
  pointwise
  rw [colOk_apply cols hc, WordCmp.select_one]
  have := Routing.gather_row gather_S4096x256_S32004x1_S32004x256_1_0_n_n_0_1_1256 rfl rfl rfl rfl rfl x (colIx cols) e a ⟨Grid.colN 64 e.val, Grid.colN_lt (.inl rfl) e.isLt⟩
    (by rw [← ix2_eq_valueIdx]; exact colIx_apply cols hc e) (by norm_num)
  rw [← ix2_eq_valueIdx, ← ix2_eq_valueIdx] at this
  exact this

/-- Update `(e, b)` lands at `(i, a)` exactly when edge `e` starts from node `i` and `b` is `a`. -/
theorem lands_row (idx : IVec S32004x1 32) (hr : ∀ e : Fin 32004, idx (ix2 e 0) = BitVec.ofNat 32 (Grid.rowN 64 e.val)) (e : Fin 32004) (b : Fin 256) (i : Fin 4096) (a : Fin 256) :
    scatter_S4096x256_S32004x1_S32004x256_1_0_0_1.resultIdx? (ix2 e b) idx = some (ix2 i a) ↔ Grid.rowN 64 e.val = i.val ∧ b = a := by
  have hb := Grid.rowN_lt (.inl rfl) e.isLt
  have w0 : scatter_S4096x256_S32004x1_S32004x256_1_0_0_1.window (ix2 e b) 0 = 0 := rfl
  have w1 : scatter_S4096x256_S32004x1_S32004x256_1_0_0_1.window (ix2 e b) 1 = b.val := rfl
  have s1 : scatter_S4096x256_S32004x1_S32004x256_1_0_0_1.start (ix2 e b) idx 1 = 0 := rfl
  have hs : scatter_S4096x256_S32004x1_S32004x256_1_0_0_1.start (ix2 e b) idx 0 = (idx (ix2 e 0)).toInt := by
    show (idx _).toInt = _
    congr 2
    funext d; apply Fin.ext
    match d with
    | ⟨0, _⟩ => rfl
    | ⟨1, _⟩ => rfl
  have s0 : scatter_S4096x256_S32004x1_S32004x256_1_0_0_1.start (ix2 e b) idx 0 = (Grid.rowN 64 e.val : Int) := by
    rw [hs, hr, WordCmp.toInt_ofNat_of_lt (by omega)]
  rw [Routing.resultIdx?_eq_some]
  constructor
  · intro h
    have h0 := h 0; have h1 := h 1
    rw [s0, w0] at h0; rw [s1, w1] at h1
    refine ⟨?_, Fin.ext ?_⟩
    · have : ((ix2 i a : S4096x256.Idx) 0).val = i.val := rfl
      omega
    · have : ((ix2 i a : S4096x256.Idx) 1).val = a.val := rfl
      omega
  · rintro ⟨h, rfl⟩ d
    match d with
    | ⟨0, _⟩ => show scatter_S4096x256_S32004x1_S32004x256_1_0_0_1.start (ix2 e b) idx 0 + ((scatter_S4096x256_S32004x1_S32004x256_1_0_0_1.window (ix2 e b) 0 : Nat) : Int) = (i.val : Int)
                rw [s0, w0]; omega
    | ⟨1, _⟩ => show scatter_S4096x256_S32004x1_S32004x256_1_0_0_1.start (ix2 e b) idx 1 + ((scatter_S4096x256_S32004x1_S32004x256_1_0_0_1.window (ix2 e b) 1 : Nat) : Int) = (b.val : Int)
                rw [s1, w1]; omega

/-- The operator's value at node `i` of column `a`. -/
theorem spmmV_apply (hr : ∀ e : Fin 32004, rows (ix1 e) = BitVec.ofNat 32 (Grid.rowN 64 e.val)) (hc : ∀ e : Fin 32004, cols (ix1 e) = BitVec.ofNat 32 (Grid.colN 64 e.val))
    (hv : ∀ e : Fin 32004, vals (ix1 e) = ((Grid.wt 64 (Grid.rowN 64 e.val) (Grid.colN 64 e.val) : ℝ) : EReal))
    (x : FVec Ideal S4096x256 .f32) (a : Fin 256) (ξ : ℕ → ℝ) (hx : ∀ i : Fin 4096, x (ix2 i a) = ((ξ i.val : ℝ) : EReal)) (i : Fin 4096) :
    spmmV x vals rows cols (ix2 i a) = ((Grid.lap 64 ξ i.val : ℝ) : EReal) := by
  have hidx : ∀ e : Fin 32004, broadcastInDim S32004x1 ![0] bcast_S32004_S32004x1_0 rows (ix2 e 0) = BitVec.ofNat 32 (Grid.rowN 64 e.val) := fun e => by
    pointwise; exact hr e
  have hupd : ∀ e : Fin 32004, (mulf (broadcastInDim S32004x256 ![0, 1] bcast_S32004x1_S32004x256_0_1 (broadcastInDim S32004x1 ![0] bcast_S32004_S32004x1_0 vals)) (takeV x cols) : FVec Ideal S32004x256 .f32) (ix2 e a)
      = ((Grid.wt 64 (Grid.rowN 64 e.val) (Grid.colN 64 e.val) * ξ (Grid.colN 64 e.val) : ℝ) : EReal) := fun e => by
    pointwise
    rw [takeV_apply cols hc, hv, hx, EReal.coe_mul]
  unfold spmmV
  generalize (mulf (broadcastInDim S32004x256 ![0, 1] bcast_S32004x1_S32004x256_0_1 (broadcastInDim S32004x1 ![0] bcast_S32004_S32004x1_0 vals)) (takeV x cols) : FVec Ideal S32004x256 .f32) = U at hupd ⊢
  generalize broadcastInDim S32004x1 ![0] bcast_S32004_S32004x1_0 rows = idx at hidx ⊢
  show Ideal.ofBits .f32 0x00000000#32 + ∑ j ∈ Finset.univ.filter (fun j => scatter_S4096x256_S32004x1_S32004x256_1_0_0_1.resultIdx? j idx = some (ix2 i a)), U j = _
  have hz : Ideal.ofBits .f32 0x00000000#32 = 0 := by simp [Ideal.ofBits, Ideal.ieee]
  rw [hz, zero_add, Finset.sum_filter, sum_idx2 (n0 := 32004) (n1 := 256)]
  have inner : ∀ e : Fin 32004, (∑ b : Fin 256, if scatter_S4096x256_S32004x1_S32004x256_1_0_0_1.resultIdx? (ix2 e b) idx = some (ix2 i a) then U (ix2 e b) else 0)
      = (((if Grid.rowN 64 e.val = i.val then Grid.wt 64 i.val (Grid.colN 64 e.val) * ξ (Grid.colN 64 e.val) else 0 : ℝ)) : EReal) := fun e => by
    by_cases h : Grid.rowN 64 e.val = i.val
    · rw [if_pos h, Finset.sum_eq_single a, if_pos ((lands_row idx hidx e a i a).mpr ⟨h, rfl⟩), hupd, h]
      · intro b _ hb
        rw [if_neg fun hl => hb ((lands_row idx hidx e b i a).mp hl).2]
      · intro hn; exact absurd (Finset.mem_univ _) hn
    · rw [if_neg h]
      exact Finset.sum_eq_zero fun b _ => if_neg fun hl => h ((lands_row idx hidx e b i a).mp hl).1
  rw [Finset.sum_congr rfl fun e _ => inner e]
  have key := Grid.spmm (.inl rfl) ξ i.val i.isLt
  rw [show Grid.num 64 = 32004 from rfl] at key
  rw [← key, ← Fin.sum_univ_eq_sum_range (fun e => if Grid.rowN 64 e = i.val then Grid.wt 64 i.val (Grid.colN 64 e) * ξ (Grid.colN 64 e) else 0) 32004]
  exact (map_sum (⟨⟨Real.toEReal, EReal.coe_zero⟩, EReal.coe_add⟩ : ℝ →+ EReal) _ _).symm

end Edges

end Cert.Conv2RefIdeal.Hand

end
-- ==== Proof.Conv2RefRun.lean ====
/- `Conv2RefIdeal`'s run read off its operations: the stack before the loop, what one trip makes of it, and the result. -/
module

public import proofs.«01_k».proof.Proof.RefFrames
public import proofs.«01_k».proof.Proof.Conv2Ref
public import proofs.«01_k».proof.Proof.Grid
public import proofs.«01_k».proof.Proof.Reals
public import Idealize.ShloMosaic.Lib.Pointwise
public import Idealize.ShloMosaic.Lib.WordCmp
public import Idealize.ShloMosaic.Lib.Routing.OpsPair
public import Idealize.ShloMosaic.Lib.Routing.OpsSet
public import Idealize.ShloMosaic.Lib.Routing.Ops
public import Idealize.ShloMosaic.Lib.Pipeline.Regions
public import Idealize.ShloMosaic.Lib.StableHlo.RunClose

@[expose] public section

set_option maxRecDepth 16384

noncomputable section

open Idealize.ShloMosaic Idealize.ShloMosaic.TcCoe Idealize.ShloMosaic.Tactic Idealize.SL.Sem Idealize.ShloMosaic.StableHlo

namespace Cert.Conv2RefIdeal.Hand

open Cert.Conv2RefIdeal Cert.Conv2RefIdeal.Gen Cert.Conv2RefIdeal.Value Cert.Reals

variable (m : (ℓ : Loc nD τ sig) → Buf (Elt Ideal) ℓ) (V : Valuation τ sig (Elt Ideal))

/-! ## One stretch of operations at a time, from any contents -/

theorem s1 : after while0Ops0_1 V (Proc.devRef .tc main_while0b_v50) = readK (V (Proc.devRef .tc main_v16_5)) (V (Proc.devRef .tc main_v16_4)) := by
  after_results_simp_entrywise
  rfl
theorem s3 : after while0Ops0_3 V (Proc.devRef .tc main_while0b_v52) = readK (V (Proc.devRef .tc main_v16_5)) (V (Proc.devRef .tc main_while0b_v51)) := by
  after_results_simp_entrywise
  rfl
theorem s7 : after while0Ops0_7 V (Proc.devRef .tc main_while0b_v64) = writeK (V (Proc.devRef .tc main_v16_5)) (V (Proc.devRef .tc main_while0b_v62)) (V (Proc.devRef .tc main_while0b_v63)) := by
  after_results_simp_entrywise
  rfl
theorem s6 : after while0Ops0_6 V (Proc.devRef .tc main_while0b_v62)
    = (subf (mulf (broadcastInDim S4096x256 ![] bcast_S_S4096x256 (constant S_ .f32 0x40000000#32))
        (Host.scatterAdd scatter_S4096x256_S32004x1_S32004x256_1_0_0_1 (broadcastInDim S4096x256 ![] bcast_S_S4096x256 (constant S_ .f32 0x00000000#32))
          (broadcastInDim S32004x1 ![0] bcast_S32004_S32004x1_0 (V (Proc.devRef .tc main_v16_2) : IVec S32004 32))
          (mulf (broadcastInDim S32004x256 ![0, 1] bcast_S32004x1_S32004x256_0_1 (V (Proc.devRef .tc main_while0b_v53) : FVec Ideal S32004x1 .f32)) (V (Proc.devRef .tc main_while0b_v54) : FVec Ideal S32004x256 .f32))))
        (V (Proc.devRef .tc main_while0b_v50) : FVec Ideal S4096x256 .f32) : FVec Ideal S4096x256 .f32) := by
  chain_rfl
theorem s6n : after while0Ops0_6 V (Proc.devRef .tc main_while0b_v63) = addi (V (Proc.devRef .tc main_v16_4) : IVec S_ 32) (constantI S_ 32 2#32) := by
  chain_rfl

theorem s0 : after while0Ops0 V (Proc.devRef .tc main_while0b_v49) = addi (V (Proc.devRef .tc main_v16_4) : IVec S_ 32) (constantI S_ 32 1#32) := by
  chain_rfl
theorem s2 : after while0Ops0_2 V (Proc.devRef .tc main_while0b_v51) = addi (V (Proc.devRef .tc main_v16_4) : IVec S_ 32) (constantI S_ 32 1#32) := by
  chain_rfl
theorem s4 : after while0Ops0_4 V (Proc.devRef .tc main_while0b_v53) = broadcastInDim S32004x1 ![0] bcast_S32004_S32004x1_0 (V (Proc.devRef .tc main_v16_0) : FVec Ideal S32004 .f32) := by
  chain_rfl
theorem s5 : after while0Ops0_5 V (Proc.devRef .tc main_while0b_v54) = takeV (V (Proc.devRef .tc main_while0b_v52)) (V (Proc.devRef .tc main_v16_1)) := by
  after_results_simp_entrywise
  simp only [TRef.toBuf, TRef.ofBuf, cast_cast, cast_eq]
  unfold takeV colOk colIx
  with_reducible rfl
theorem s8n : after while0Ops0_8 V (Proc.devRef .tc main_v16_4) = V (Proc.devRef .tc main_while0b_v49) := by
  chain_rfl
theorem s8 : after while0Ops0_8 V (Proc.devRef .tc main_v16_5) = V (Proc.devRef .tc main_while0b_v64) := by
  chain_rfl
theorem h0 : after hostOps0 V (Proc.devRef .tc main_v3) = x0V (V (Proc.devRef .tc main_arg0)) := by
  chain_rfl
theorem h0v : after hostOps0 V (Proc.devRef .tc main_v4) = broadcastInDim S32004x1 ![0] bcast_S32004_S32004x1_0 (V (Proc.devRef .tc main_arg3) : FVec Ideal S32004 .f32) := by
  chain_rfl
theorem h1 : after hostOps0_1 V (Proc.devRef .tc main_v5) = takeV (V (Proc.devRef .tc main_v3)) (V (Proc.devRef .tc main_arg2)) := by
  after_results_simp_entrywise
  simp only [TRef.toBuf, TRef.ofBuf, cast_cast, cast_eq]
  unfold takeV colOk colIx
  with_reducible rfl
theorem h2 : after hostOps0_2 V (Proc.devRef .tc main_v16_5)
    = Host.scatter scatter_S25x4096x256_S1_S4096x256_01_0_0_0 (fun _ b => b)
      (Host.scatter scatter_S25x4096x256_S1_S4096x256_01_0_0_0 (fun _ b => b) (broadcastInDim S25x4096x256 ![] bcast_S_S25x4096x256 (constant S_ .f32 0x00000000#32 : FVec Ideal S_ .f32))
        (broadcastInDim S1 ![] bcast_S_S1 (constantI S_ 32 0#32)) (V (Proc.devRef .tc main_v3) : FVec Ideal S4096x256 .f32))
      (broadcastInDim S1 ![] bcast_S_S1 (constantI S_ 32 1#32))
      (Host.scatterAdd scatter_S4096x256_S32004x1_S32004x256_1_0_0_1 (broadcastInDim S4096x256 ![] bcast_S_S4096x256 (constant S_ .f32 0x00000000#32))
          (broadcastInDim S32004x1 ![0] bcast_S32004_S32004x1_0 (V (Proc.devRef .tc main_arg1) : IVec S32004 32))
          (mulf (broadcastInDim S32004x256 ![0, 1] bcast_S32004x1_S32004x256_0_1 (V (Proc.devRef .tc main_v4) : FVec Ideal S32004x1 .f32)) (V (Proc.devRef .tc main_v5) : FVec Ideal S32004x256 .f32))) := by
  after_results_simp_entrywise
  rw [id_eq]

/-! ## What a stretch leaves alone -/

theorem k0 (b : Ref sig .tc) (h : b ∉ hostOps0_W) : after hostOps0 V (Proc.devRef .tc b) = V (Proc.devRef .tc b) := after_of_writes_sub _ _ hostOps0_writes h
theorem k1 (b : Ref sig .tc) (h : b ∉ hostOps0_1_W) : after hostOps0_1 V (Proc.devRef .tc b) = V (Proc.devRef .tc b) := after_of_writes_sub _ _ hostOps0_1_writes h
theorem w0 (b : Ref sig .tc) (h : b ∉ while0Ops0_W) : after while0Ops0 V (Proc.devRef .tc b) = V (Proc.devRef .tc b) := after_of_writes_sub _ _ while0Ops0_writes h
theorem w1 (b : Ref sig .tc) (h : b ∉ while0Ops0_1_W) : after while0Ops0_1 V (Proc.devRef .tc b) = V (Proc.devRef .tc b) := after_of_writes_sub _ _ while0Ops0_1_writes h
theorem w2 (b : Ref sig .tc) (h : b ∉ while0Ops0_2_W) : after while0Ops0_2 V (Proc.devRef .tc b) = V (Proc.devRef .tc b) := after_of_writes_sub _ _ while0Ops0_2_writes h
theorem w3 (b : Ref sig .tc) (h : b ∉ while0Ops0_3_W) : after while0Ops0_3 V (Proc.devRef .tc b) = V (Proc.devRef .tc b) := after_of_writes_sub _ _ while0Ops0_3_writes h
theorem w4 (b : Ref sig .tc) (h : b ∉ while0Ops0_4_W) : after while0Ops0_4 V (Proc.devRef .tc b) = V (Proc.devRef .tc b) := after_of_writes_sub _ _ while0Ops0_4_writes h
theorem w5 (b : Ref sig .tc) (h : b ∉ while0Ops0_5_W) : after while0Ops0_5 V (Proc.devRef .tc b) = V (Proc.devRef .tc b) := after_of_writes_sub _ _ while0Ops0_5_writes h
theorem w6 (b : Ref sig .tc) (h : b ∉ while0Ops0_6_W) : after while0Ops0_6 V (Proc.devRef .tc b) = V (Proc.devRef .tc b) := after_of_writes_sub _ _ while0Ops0_6_writes h
theorem w7 (b : Ref sig .tc) (h : b ∉ while0Ops0_7_W) : after while0Ops0_7 V (Proc.devRef .tc b) = V (Proc.devRef .tc b) := after_of_writes_sub _ _ while0Ops0_7_writes h
theorem wc (b : Ref sig .tc) (h : b ∉ [main_while0c_c_11, main_while0c_v49]) : after condOps V (Proc.devRef .tc b) = V (Proc.devRef .tc b) := after_unwritten _ RefFrames.cond_writes h V

/-! ## One trip, and the operations before and after the loop -/

theorem trip_num : afterL bodyI (after condOps V) (Proc.devRef .tc main_v16_4)
    = addi (V (Proc.devRef .tc main_v16_4) : IVec S_ 32) (constantI S_ 32 1#32) := by
  simp only [afterL_cons, afterL_nil]
  rw [s8n, w7 _ _ (by decide), w6 _ _ (by decide), w5 _ _ (by decide), w4 _ _ (by decide), w3 _ _ (by decide), w2 _ _ (by decide), w1 _ _ (by decide), s0, wc _ _ (by decide)]

/-- What the stretches before the last two leave in a buffer. -/
theorem upto6 (b : Ref sig .tc) (hc : b ∉ [main_while0c_c_11, main_while0c_v49]) (h0 : b ∉ while0Ops0_W) (h1 : b ∉ while0Ops0_1_W) (h2 : b ∉ while0Ops0_2_W) (h3 : b ∉ while0Ops0_3_W)
    (h4 : b ∉ while0Ops0_4_W) (h5 : b ∉ while0Ops0_5_W) :
    after while0Ops0_5 (after while0Ops0_4 (after while0Ops0_3 (after while0Ops0_2 (after while0Ops0_1 (after while0Ops0 (after condOps V)))))) (Proc.devRef .tc b) = V (Proc.devRef .tc b) := by
  rw [w5 _ _ h5, w4 _ _ h4, w3 _ _ h3, w2 _ _ h2, w1 _ _ h1, w0 _ _ h0, wc _ _ hc]

theorem trip_stack : afterL bodyI (after condOps V) (Proc.devRef .tc main_v16_5)
    = tripV (V (Proc.devRef .tc main_v16_5)) (V (Proc.devRef .tc main_v16_4)) (V (Proc.devRef .tc main_v16_0)) (V (Proc.devRef .tc main_v16_2)) (V (Proc.devRef .tc main_v16_1)) := by
  simp only [afterL_cons, afterL_nil]
  rw [s8, s7, w6 _ main_v16_5 (by decide), upto6 V main_v16_5 (by decide) (by decide) (by decide) (by decide) (by decide) (by decide) (by decide), s6, s6n,
    upto6 V main_v16_4 (by decide) (by decide) (by decide) (by decide) (by decide) (by decide) (by decide),
    upto6 V main_v16_2 (by decide) (by decide) (by decide) (by decide) (by decide) (by decide) (by decide), s5,
    w5 _ main_while0b_v53 (by decide), s4, w3 _ main_v16_0 (by decide), w2 _ main_v16_0 (by decide), w1 _ main_v16_0 (by decide), w0 _ main_v16_0 (by decide), wc _ main_v16_0 (by decide),
    w4 _ main_while0b_v52 (by decide), s3, w2 _ main_v16_5 (by decide), w1 _ main_v16_5 (by decide), w0 _ main_v16_5 (by decide), wc _ main_v16_5 (by decide),
    s2, w1 _ main_v16_4 (by decide), w0 _ main_v16_4 (by decide), wc _ main_v16_4 (by decide),
    w4 _ main_v16_1 (by decide), w3 _ main_v16_1 (by decide), w2 _ main_v16_1 (by decide), w1 _ main_v16_1 (by decide), w0 _ main_v16_1 (by decide), wc _ main_v16_1 (by decide),
    w5 _ main_while0b_v50 (by decide), w4 _ main_while0b_v50 (by decide), w3 _ main_while0b_v50 (by decide), w2 _ main_while0b_v50 (by decide), s1,
    w0 _ main_v16_5 (by decide), wc _ main_v16_5 (by decide), w0 _ main_v16_4 (by decide), wc _ main_v16_4 (by decide)]
  rfl

theorem entry_stack (c : Dev nD) : entryContents preI m c (Proc.devRef .tc main_v16_5)
    = stack0 (x0V (m ((c.tc : Thread nD τ).loc main_arg0))) (m ((c.tc : Thread nD τ).loc main_arg3)) (m ((c.tc : Thread nD τ).loc main_arg1)) (m ((c.tc : Thread nD τ).loc main_arg2)) := by
  simp only [entryContents, afterL_cons, afterL_nil]
  rw [h2, k1 _ main_v3 (by decide), h0, k1 _ main_arg1 (by decide), k0 _ main_arg1 (by decide), k1 _ main_v4 (by decide), h0v, h1, h0, k0 _ main_arg2 (by decide)]
  rfl
theorem entry_vals (c : Dev nD) : entryContents preI m c (Proc.devRef .tc main_v16_0) = m ((c.tc : Thread nD τ).loc main_arg3) := by
  chain_rfl
theorem entry_cols (c : Dev nD) : entryContents preI m c (Proc.devRef .tc main_v16_1) = m ((c.tc : Thread nD τ).loc main_arg2) := by
  chain_rfl
theorem entry_rows (c : Dev nD) : entryContents preI m c (Proc.devRef .tc main_v16_2) = m ((c.tc : Thread nD τ).loc main_arg1) := by
  chain_rfl
theorem entry_num (c : Dev nD) : entryContents preI m c (Proc.devRef .tc main_v16_4) = constantI S_ 32 0#32 := by
  chain_rfl

set_option maxHeartbeats 1000000 in
theorem post_out : after hostOps0_3 (after condOps V) (Proc.devRef .tc main_v48)
    = outV (actV (dotV (V (Proc.devRef .tc main_v16_5)) (V (Proc.devRef .tc main_arg4))) (V (Proc.devRef .tc main_arg5))) := by
  after_results_simp_entrywise
  rfl

end Cert.Conv2RefIdeal.Hand

end
-- ==== Proof.Conv2RefLoop.lean ====
/- The reference's loop, entry by entry: plane `d` of its stack ends as the Chebyshev term of degree `d`. -/
module

public import proofs.«01_k».proof.Proof.Conv2RefLap
public import proofs.«01_k».proof.Proof.Conv2RefRun

@[expose] public section

set_option maxRecDepth 16384

noncomputable section

open Idealize.ShloMosaic Idealize.ShloMosaic.TcCoe Idealize.ShloMosaic.Tactic Idealize.SL.Sem Idealize.ShloMosaic.StableHlo

namespace Cert.Conv2RefIdeal.Hand

open Cert.Conv2RefIdeal Cert.Conv2RefIdeal.Gen Cert.Conv2RefIdeal.Value Cert.Reals

/-! ## One plane of the stack -/

/-- Plane `k` starts at `k`. -/
theorem planeAt_eq (w : IVec S_ 32) (k : ℕ) (hk : k < 25) (hw : ∀ i, w i = BitVec.ofNat 32 k) (a : Fin 3) : planeAt w a = ((![k, 0, 0] : Fin 3 → ℕ) a : Int) := by
  match a with
  | ⟨0, _⟩ =>
    show (Scalar.select (IntOp.cmpi .slt (w (Shape.Idx.first h_S_)) 0#32) _ (w (Shape.Idx.first h_S_))).toInt = (k : Int)
    rw [Routing.wrap_of_lt _ _ (by rw [hw, WordCmp.toNat_ofNat_of_lt (by omega)]; show _ < 2147483648; omega), hw, WordCmp.toInt_ofNat_of_lt (by omega)]
  | ⟨1, _⟩ => rfl
  | ⟨2, _⟩ => rfl

theorem readK_apply (S : FVec Ideal S25x4096x256 .f32) (w : IVec S_ 32) (k : ℕ) (hk : k < 25) (hw : ∀ i, w i = BitVec.ofNat 32 k) (i : Fin 4096) (a : Fin 256) :
    readK S w (ix2 i a) = S (ix3 ⟨k, hk⟩ i a) := by
  have hs : S25x4096x256.Slices (![k, 0, 0] : Fin 3 → ℕ) S1x4096x256 := ⟨rfl, fun d => by
    match d with
    | ⟨0, _⟩ => show k + 1 ≤ 25; omega
    | ⟨1, _⟩ => show 0 + 4096 ≤ 4096; omega
    | ⟨2, _⟩ => show 0 + 256 ≤ 256; omega⟩
  unfold readK
  rw [WordCmp.dynamicSlice_eq_extract _ _ _ _ (![k, 0, 0] : Fin 3 → ℕ) hs (planeAt_eq w k hk hw)]
  pointwise

theorem writeK_apply (S : FVec Ideal S25x4096x256 .f32) (u : FVec Ideal S4096x256 .f32) (w : IVec S_ 32) (k : ℕ) (hk : k < 25) (hw : ∀ i, w i = BitVec.ofNat 32 k) (d : Fin 25) (i : Fin 4096) (a : Fin 256) :
    writeK S u w (ix3 d i a) = if d.val = k then u (ix2 i a) else S (ix3 d i a) := by
  have hs : S25x4096x256.Slices (![k, 0, 0] : Fin 3 → ℕ) S1x4096x256 := ⟨rfl, fun d => by
    match d with
    | ⟨0, _⟩ => show k + 1 ≤ 25; omega
    | ⟨1, _⟩ => show 0 + 4096 ≤ 4096; omega
    | ⟨2, _⟩ => show 0 + 256 ≤ 256; omega⟩
  unfold writeK
  rw [WordCmp.dynamicUpdateSlice_eq_update _ _ _ _ (![k, 0, 0] : Fin 3 → ℕ) hs (planeAt_eq w k hk hw)]
  unfold updateSlice
  split_ifs with h1 h2 h2
  · pointwise
  · exfalso
    have := h1 0
    have e : k ≤ d.val ∧ d.val < k + 1 := this
    omega
  · exfalso
    refine h1 fun b => ?_
    match b with
    | ⟨0, _⟩ => show k ≤ d.val ∧ d.val < k + 1; omega
    | ⟨1, _⟩ => show 0 ≤ i.val ∧ i.val < 0 + 4096; omega
    | ⟨2, _⟩ => show 0 ≤ a.val ∧ a.val < 0 + 256; omega
  · rfl

/-! ## The stack before the loop -/

/-- Update `(i', a')` of a plane written at `k` lands at `(d, i, a)` exactly when `d` is `k` and the other coordinates agree. -/
theorem lands_plane (idx : IVec S1 32) (k : ℕ) (hk : k < 25) (hidx : idx (ix1 0) = BitVec.ofNat 32 k) (j : S4096x256.Idx) (d : Fin 25) (i : Fin 4096) (a : Fin 256) :
    scatter_S25x4096x256_S1_S4096x256_01_0_0_0.resultIdx? j idx = some (ix3 d i a) ↔ d.val = k ∧ j = ix2 i a := by
  idx_vars j
  have w0 : scatter_S25x4096x256_S1_S4096x256_01_0_0_0.window (ix2 j0 j1) 0 = 0 := rfl
  have w1 : scatter_S25x4096x256_S1_S4096x256_01_0_0_0.window (ix2 j0 j1) 1 = j0.val := rfl
  have w2 : scatter_S25x4096x256_S1_S4096x256_01_0_0_0.window (ix2 j0 j1) 2 = j1.val := rfl
  have s1 : scatter_S25x4096x256_S1_S4096x256_01_0_0_0.start (ix2 j0 j1) idx 1 = 0 := rfl
  have s2 : scatter_S25x4096x256_S1_S4096x256_01_0_0_0.start (ix2 j0 j1) idx 2 = 0 := rfl
  have hs : scatter_S25x4096x256_S1_S4096x256_01_0_0_0.start (ix2 j0 j1) idx 0 = (idx (ix1 0)).toInt := by
    show (idx _).toInt = _
    congr 2
    funext b
    match b with
    | ⟨0, _⟩ => exact Subsingleton.elim (α := Fin 1) _ _
  have s0 : scatter_S25x4096x256_S1_S4096x256_01_0_0_0.start (ix2 j0 j1) idx 0 = (k : Int) := by
    rw [hs, hidx, WordCmp.toInt_ofNat_of_lt (by omega)]
  rw [Routing.resultIdx?_eq_some]
  constructor
  · intro h
    have h0 := h 0; have h1 := h 1; have h2 := h 2
    rw [s0, w0] at h0; rw [s1, w1] at h1; rw [s2, w2] at h2
    have v0 : ((ix3 d i a : S25x4096x256.Idx) 0).val = d.val := rfl
    have v1 : ((ix3 d i a : S25x4096x256.Idx) 1).val = i.val := rfl
    have v2 : ((ix3 d i a : S25x4096x256.Idx) 2).val = a.val := rfl
    exact ⟨by omega, congrArg₂ ix2 (Fin.ext (by omega)) (Fin.ext (by omega))⟩
  · rintro ⟨h, e⟩ b
    obtain ⟨rfl, rfl⟩ := (ix2_inj _ _ _ _).mp e
    match b with
    | ⟨0, _⟩ => show scatter_S25x4096x256_S1_S4096x256_01_0_0_0.start (ix2 j0 j1) idx 0 + ((scatter_S25x4096x256_S1_S4096x256_01_0_0_0.window (ix2 j0 j1) 0 : Nat) : Int) = (d.val : Int)
                rw [s0, w0]; omega
    | ⟨1, _⟩ => show scatter_S25x4096x256_S1_S4096x256_01_0_0_0.start (ix2 j0 j1) idx 1 + ((scatter_S25x4096x256_S1_S4096x256_01_0_0_0.window (ix2 j0 j1) 1 : Nat) : Int) = (j0.val : Int)
                rw [s1, w1]; omega
    | ⟨2, _⟩ => show scatter_S25x4096x256_S1_S4096x256_01_0_0_0.start (ix2 j0 j1) idx 2 + ((scatter_S25x4096x256_S1_S4096x256_01_0_0_0.window (ix2 j0 j1) 2 : Nat) : Int) = (j1.val : Int)
                rw [s2, w2]; omega

/-- A plane written at a literal number. -/
theorem setPlane_apply (S : FVec Ideal S25x4096x256 .f32) (u : FVec Ideal S4096x256 .f32) (idx : IVec S1 32) (k : ℕ) (hk : k < 25) (hidx : idx (ix1 0) = BitVec.ofNat 32 k) (d : Fin 25) (i : Fin 4096) (a : Fin 256) :
    Host.scatter scatter_S25x4096x256_S1_S4096x256_01_0_0_0 (fun _ b => b) S idx u (ix3 d i a) = if d.val = k then u (ix2 i a) else S (ix3 d i a) := by
  by_cases h : d.val = k
  · rw [if_pos h]
    exact Routing.scatter_set_hit _ S idx u _ _ (fun j hj => congrArg u ((lands_plane idx k hk hidx j d i a).mp hj).2) (ix2 i a) ((lands_plane idx k hk hidx _ d i a).mpr ⟨h, rfl⟩)
  · rw [if_neg h]
    exact Routing.scatter_set_miss _ S idx u _ fun j hj => h ((lands_plane idx k hk hidx j d i a).mp hj).1

section Loop

variable (vals : FVec Ideal S32004 .f32) (rows cols : IVec S32004 32)

/-- The edge list and its weights are the grid's. -/
structure OnGrid : Prop where
  row : ∀ e : Fin 32004, rows (ix1 e) = BitVec.ofNat 32 (Grid.rowN 64 e.val)
  col : ∀ e : Fin 32004, cols (ix1 e) = BitVec.ofNat 32 (Grid.colN 64 e.val)
  val : ∀ e : Fin 32004, vals (ix1 e) = ((Grid.wt 64 (Grid.rowN 64 e.val) (Grid.colN 64 e.val) : ℝ) : EReal)

variable {vals rows cols}

/-- The stack's planes up to `k` are the Chebyshev terms of the columns `ξ`. -/
def Filled (ξ : Fin 256 → ℕ → ℝ) (k : ℕ) (S : FVec Ideal S25x4096x256 .f32) : Prop :=
  ∀ (d : Fin 25) (i : Fin 4096) (a : Fin 256), d.val ≤ k → S (ix3 d i a) = ((Grid.cheb 64 (ξ a) d.val i.val : ℝ) : EReal)

theorem stack0_filled (g : OnGrid vals rows cols) (ξ : Fin 256 → ℕ → ℝ) (x : FVec Ideal S4096x256 .f32) (hx : ∀ (i : Fin 4096) (a : Fin 256), x (ix2 i a) = ((ξ a i.val : ℝ) : EReal)) :
    Filled ξ 1 (stack0 x vals rows cols) := by
  intro d i a hd
  unfold stack0
  rw [setPlane_apply _ _ _ 1 (by omega) rfl]
  by_cases h1 : d.val = 1
  · rw [if_pos h1, h1]
    exact spmmV_apply vals rows cols g.row g.col g.val x a (ξ a) (fun i => hx i a) i
  · have h0 : d.val = 0 := by omega
    rw [if_neg h1, setPlane_apply _ _ _ 0 (by omega) rfl, if_pos h0, h0]
    exact hx i a

theorem two_bits : Ideal.ofBits .f32 0x40000000#32 = ((2 : ℝ) : EReal) := by
  simp [Ideal.ofBits, Ideal.ieee]; rw [← EReal.coe_mul]; norm_num

theorem tripV_filled (g : OnGrid vals rows cols) (ξ : Fin 256 → ℕ → ℝ) (S : FVec Ideal S25x4096x256 .f32) (w : IVec S_ 32) (k : ℕ) (hk : k < 23) (hw : ∀ i, w i = BitVec.ofNat 32 k)
    (hS : Filled ξ (k + 1) S) : Filled ξ (k + 2) (tripV S w vals rows cols) := by
  have hw1 : ∀ i, addi w (constantI S_ 32 1#32) i = BitVec.ofNat 32 (k + 1) := fun i => by
    show IntOp.addi (w i) (BitVec.ofNat 32 1) = _
    rw [hw, WordCmp.addi_ofNat]
  have hw2 : ∀ i, addi w (constantI S_ 32 2#32) i = BitVec.ofNat 32 (k + 2) := fun i => by
    show IntOp.addi (w i) (BitVec.ofNat 32 2) = _
    rw [hw, WordCmp.addi_ofNat]
  intro d i a hd
  unfold tripV
  rw [writeK_apply _ _ _ (k + 2) (by omega) hw2]
  by_cases h : d.val = k + 2
  · rw [if_pos h, h]
    have e1 := spmmV_apply vals rows cols g.row g.col g.val (readK S (addi w (constantI S_ 32 1#32))) a (Grid.cheb 64 (ξ a) (k + 1))
      (fun i => by rw [readK_apply S _ (k + 1) (by omega) hw1]; exact hS ⟨k + 1, by omega⟩ i a le_rfl) i
    have e0 : readK S w (ix2 i a) = ((Grid.cheb 64 (ξ a) k i.val : ℝ) : EReal) := by
      rw [readK_apply S _ k (by omega) hw]; exact hS ⟨k, by omega⟩ i a (Nat.le_succ k)
    show Ideal.ofBits .f32 0x40000000#32 * spmmV (readK S (addi w (constantI S_ 32 1#32))) vals rows cols (ix2 i a) - readK S w (ix2 i a) = _
    rw [two_bits, e1, e0, ← EReal.coe_mul, ← EReal.coe_sub]
    rfl
  · rw [if_neg h]
    exact hS d i a (by omega)

end Loop

/-! ## The loop -/

variable (m : (ℓ : Loc nD τ sig) → Buf (Elt Ideal) ℓ) (c : Dev nD)

theorem kept_vals (k : ℕ) : atK m k c (Proc.devRef .tc main_v16_0) = m ((c.tc : Thread nD τ).loc main_arg3) :=
  (RefFrames.atK_kept m c main_v16_0 (by decide) k).trans (entry_vals m c)
theorem kept_cols (k : ℕ) : atK m k c (Proc.devRef .tc main_v16_1) = m ((c.tc : Thread nD τ).loc main_arg2) :=
  (RefFrames.atK_kept m c main_v16_1 (by decide) k).trans (entry_cols m c)
theorem kept_rows (k : ℕ) : atK m k c (Proc.devRef .tc main_v16_2) = m ((c.tc : Thread nD τ).loc main_arg1) :=
  (RefFrames.atK_kept m c main_v16_2 (by decide) k).trans (entry_rows m c)

/-- After `k` trips the counter is `k` and the planes up to `k + 1` are filled. -/
theorem loop (g : OnGrid (m ((c.tc : Thread nD τ).loc main_arg3)) (m ((c.tc : Thread nD τ).loc main_arg1)) (m ((c.tc : Thread nD τ).loc main_arg2))) (ξ : Fin 256 → ℕ → ℝ)
    (hξ : ∀ (r : Fin 256) (k : Fin 4096), (m ((c.tc : Thread nD τ).loc main_arg0) : FVec Ideal S256x4096 .f32) (ix2 r k) = ((ξ r k.val : ℝ) : EReal)) :
    ∀ k, k ≤ 23 → (∀ i, (atK m k c (Proc.devRef .tc main_v16_4) : IVec S_ 32) i = BitVec.ofNat 32 k) ∧ Filled ξ (k + 1) (atK m k c (Proc.devRef .tc main_v16_5))
  | 0, _ => by
    refine ⟨fun i => ?_, ?_⟩
    · rw [show atK m 0 c = entryContents preI m c from rfl, entry_num]; rfl
    · rw [show atK m 0 c = entryContents preI m c from rfl, entry_stack]
      exact stack0_filled g ξ _ fun i a => (x0V_apply _ i a).trans (hξ a i)
  | k + 1, h => by
    obtain ⟨hn, hS⟩ := loop g ξ hξ k (by omega)
    rw [show atK m (k + 1) c = afterL bodyI (after condOps (atK m k c)) from rfl]
    refine ⟨fun i => ?_, ?_⟩
    · rw [trip_num]
      show IntOp.addi ((atK m k c (Proc.devRef .tc main_v16_4) : IVec S_ 32) i) (BitVec.ofNat 32 1) = _
      rw [hn, WordCmp.addi_ofNat]
    · rw [trip_stack, kept_vals, kept_cols, kept_rows]
      exact tripV_filled g ξ _ _ k (by omega) hn hS

end Cert.Conv2RefIdeal.Hand

end
-- ==== Proof.Conv2RefOut.lean ====
/- What the reference makes of the filled stack, entry by entry: sums of terms times weights, the polynomial, and the means. -/
module

public import proofs.«01_k».proof.Proof.Conv2Ref

@[expose] public section

set_option maxRecDepth 16384

noncomputable section

open Idealize.ShloMosaic Idealize.ShloMosaic.TcCoe Idealize.ShloMosaic.Tactic Idealize.SL.Sem Idealize.ShloMosaic.StableHlo

namespace Cert.Conv2RefIdeal.Hand

open Cert.Conv2RefIdeal Cert.Conv2RefIdeal.Gen Cert.Conv2RefIdeal.Value Cert.Reals

/-- The sum at sample `n`, node `i` and feature `f`. -/
theorem dotV_apply (S : FVec Ideal S25x4096x256 .f32) (w : FVec Ideal S800x64 .f32) (n : Fin 8) (i : Fin 4096) (f : Fin 64) :
    dotV S w (ix3 n i f) = ∑ p : Fin 800, S (ix3 ⟨p.val % 25, by omega⟩ i ⟨p.val / 25 * 8 + n.val, by omega⟩) * w (ix2 p f) := by
  pointwise [dotV]

theorem coefV_apply (a : FVec Ideal S4 .f32) (k : Fin 4) (h) (j : S8x4096x64.Idx) : coefV a k.val h j = a (ix1 k) := by
  idx_vars j
  pointwise [coefV]

/-- The polynomial at an entry. -/
theorem actV_apply (z : FVec Ideal S8x4096x64 .f32) (a : FVec Ideal S4 .f32) (j : S8x4096x64.Idx) :
    actV z a j = a (ix1 0) + a (ix1 1) * z j + a (ix1 2) * (z j * z j) + a (ix1 3) * (z j * z j * z j) := by
  have e0 := coefV_apply a 0 slices_S4_S1_0 j
  have e1 := coefV_apply a 1 slices_S4_S1_1 j
  have e2 := coefV_apply a 2 slices_S4_S1_2 j
  have e3 := coefV_apply a 3 slices_S4_S1_3 j
  show coefV a 0 _ j + coefV a 1 _ j * z j + coefV a 2 _ j * (z j * z j) + coefV a 3 _ j * (z j * z j * z j) = _
  rw [← e0, ← e1, ← e2, ← e3]
  rfl

/-- The result's entry `(j, k)`: feature `j / 8` and sample `j % 8`, the mean over the nodes `4 k, …, 4 k + 3`. -/
theorem outV_apply (y : FVec Ideal S8x4096x64 .f32) (j : Fin 512) (k : Fin 1024) :
    outV y (ix2 j k) = Ideal.div (∑ i : Fin 4, y (ix3 ⟨j.val % 8, by omega⟩ ⟨k.val * 4 + i.val, by omega⟩ ⟨j.val / 8, by omega⟩)) (Ideal.ofBits .f32 0x40800000#32) := by
  pointwise [outV]

end Cert.Conv2RefIdeal.Hand

end
-- ==== Proof.Conv2Value.lean ====
/- What `Conv2Ideal`'s @main leaves in its result array, entry by entry, when every argument is finite and the weights of the
   edges are the grid's: the polynomial of the sums of the products of weights and Chebyshev terms, pooled. -/
module

public import proofs.«01_k».proof.Proof.Conv2Host
public import proofs.«01_k».proof.Proof.Conv2Frame

@[expose] public section

set_option maxRecDepth 16384

noncomputable section

open Idealize.ShloMosaic Idealize.ShloMosaic.TcCoe Idealize.ShloMosaic.Tactic Idealize.SL.Sem
open Idealize.ShloMosaic.Pipeline (Dat)

namespace Cert.Conv2Ideal.Hand

open Cert.Conv2Ideal Cert.Conv2Ideal.Gen Cert.Reals

variable (m : (ℓ : Loc nD τ sig) → Buf (Elt Ideal) ℓ)

/-! ## The blocks -/

theorem bX_eq (c : Dev nD) (t : Fin cfg0.N) : bX m c t = m ((c : Thread nD τ).loc main_arg0) := by
  have hi : ∀ t : Fin cfg0.N, win0_0.index t 0 = 0 ∧ win0_0.index t 1 = 0 := by decide +kernel
  funext j; unfold bX iblk; rw [View.read_apply]
  show V m c main_arg0 _ = _
  rw [V_main_arg0]
  congr 1; funext d; apply Fin.ext
  match d with
  | ⟨0, _⟩ => show win0_0.index t 0 * 256 + 1 * (j 0).val = (j 0).val; rw [(hi t).1]; omega
  | ⟨1, _⟩ => show win0_0.index t 1 * 4096 + 1 * (j 1).val = (j 1).val; rw [(hi t).2]; omega

theorem bP_eq (c : Dev nD) (t : Fin cfg0.N) : bP m c t = planesV := by
  have hi : ∀ t : Fin cfg0.N, win0_1.index t 0 = 0 ∧ win0_1.index t 1 = 0 := by decide +kernel
  rw [← V_v61 m c]
  funext j; unfold bP iblk; rw [View.read_apply]
  show V m c main_v61 _ = V m c main_v61 _
  congr 1; funext d; apply Fin.ext
  match d with
  | ⟨0, _⟩ => show win0_1.index t 0 * 8 + 1 * (j 0).val = (j 0).val; rw [(hi t).1]; omega
  | ⟨1, _⟩ => show win0_1.index t 1 * 4096 + 1 * (j 1).val = (j 1).val; rw [(hi t).2]; omega

theorem bA_eq (c : Dev nD) (t : Fin cfg0.N) : bA m c t = m ((c : Thread nD τ).loc main_arg5) := by
  have hi : ∀ t : Fin cfg0.N, win0_3.index t 0 = 0 := by decide +kernel
  funext j; unfold bA iblk; rw [View.read_apply]
  show V m c main_arg5 _ = _
  rw [V_main_arg5]
  congr 1; funext d; apply Fin.ext
  match d with
  | ⟨0, _⟩ => show win0_3.index t 0 * 4 + 1 * (j 0).val = (j 0).val; rw [hi t]; omega

theorem bR_eq (c : Dev nD) (t : Fin cfg0.N) : bR m c t = poolV := by
  have hi : ∀ t : Fin cfg0.N, win0_4.index t 0 = 0 ∧ win0_4.index t 1 = 0 := by decide +kernel
  rw [← V_v79 m c]
  funext j; unfold bR iblk; rw [View.read_apply]
  show V m c main_v79 _ = V m c main_v79 _
  congr 1; funext d; apply Fin.ext
  match d with
  | ⟨0, _⟩ => show win0_4.index t 0 * 512 + 1 * (j 0).val = (j 0).val; rw [(hi t).1]; omega
  | ⟨1, _⟩ => show win0_4.index t 1 * 128 + 1 * (j 1).val = (j 1).val; rw [(hi t).2]; omega

/-- The weights of point `t`. -/
theorem bQ_apply (c : Dev nD) (t : Fin cfg0.N) (ht : t.val < 25) (j : Fin 512) (q : Fin 256) :
    bQ m c t (ix3 0 j q) = weightsV (m ((c : Thread nD τ).loc main_arg4)) (ix3 ⟨t.val, ht⟩ j q) := by
  have hi : ∀ t : Fin cfg0.N, win0_2.index t 0 = t.val ∧ win0_2.index t 1 = 0 ∧ win0_2.index t 2 = 0 := by decide +kernel
  have hV : V m c main_v80 (ix3 ⟨t.val, ht⟩ j q) = weightsV (m ((c : Thread nD τ).loc main_arg4)) (ix3 ⟨t.val, ht⟩ j q) := by
    rw [V_v80]; rfl
  rw [← hV]
  unfold bQ iblk; rw [View.read_apply]
  show V m c main_v80 _ = V m c main_v80 _
  congr 1; funext d; apply Fin.ext
  match d with
  | ⟨0, _⟩ => show win0_2.index t 0 * 1 + 1 * 0 = t.val; rw [(hi t).1]; omega
  | ⟨1, _⟩ => show win0_2.index t 1 * 512 + 1 * j.val = j.val; rw [(hi t).2.1]; omega
  | ⟨2, _⟩ => show win0_2.index t 2 * 256 + 1 * q.val = q.val; rw [(hi t).2.2]; omega

/-! ## The carried buffers -/

/-- Weight `k` at `(j, q)`, nothing from `25` on. -/
def wq (w : FVec Ideal S800x64 .f32) (k : ℕ) (j : Fin 512) (q : Fin 256) : EReal :=
  if h : k < 25 then weightsV w (ix3 ⟨k, h⟩ j q) else 0

theorem bQ_wq (c : Dev nD) (t : Fin cfg0.N) (j : Fin 512) (q : Fin 256) :
    bQ m c t (ix3 0 j q) = wq (m ((c : Thread nD τ).loc main_arg4)) t.val j q := by
  have ht : t.val < 25 := lt_of_lt_of_eq t.isLt N_0
  unfold wq; rw [dif_pos ht]; exact bQ_apply m c t ht j q

/-- The newest and the older carried block after point `n`. -/
def newest (n : ℕ) (s : Vec Ideal S512x4096 .f32 × Vec Ideal S256x4096 .f32 × Vec Ideal S256x4096 .f32) : Vec Ideal S256x4096 .f32 := if n % 2 = 0 then s.2.2 else s.2.1
def older (n : ℕ) (s : Vec Ideal S512x4096 .f32 × Vec Ideal S256x4096 .f32 × Vec Ideal S256x4096 .f32) : Vec Ideal S256x4096 .f32 := if n % 2 = 0 then s.2.1 else s.2.2

/-- After point `n` the newest block holds the Chebyshev terms of degree `n`, the older one those of degree `n - 1`, and the sums
    run over the degrees up to `n`. -/
structure Inv (ξ : Fin 256 → ℕ → ℝ) (Q : ℕ → Fin 512 → Fin 256 → EReal) (n : ℕ)
    (s : Vec Ideal S512x4096 .f32 × Vec Ideal S256x4096 .f32 × Vec Ideal S256x4096 .f32) : Prop where
  new : ∀ r c, newest n s (ix2 r c) = ((Grid.cheb 64 (ξ r) n c.val : ℝ) : EReal)
  old : 1 ≤ n → ∀ r c, older n s (ix2 r c) = ((Grid.cheb 64 (ξ r) (n - 1) c.val : ℝ) : EReal)
  sum : ∀ j c, s.1 (ix2 j c) = ∑ k ∈ Finset.range (n + 1), ∑ q : Fin 256, Q k j q * ((Grid.cheb 64 (ξ q) k c.val : ℝ) : EReal)

variable (ξ : Fin 256 → ℕ → ℝ)

/-- A product added to the sums takes them one degree further. -/
theorem sum_step (Q : ℕ → Fin 512 → Fin 256 → EReal) (n : ℕ) (v : Vec Ideal S512x4096 .f32) (x : Vec Ideal S256x4096 .f32) (w : Vec Ideal S1x512x256 .bf16)
    (hv : ∀ j c, v (ix2 j c) = ∑ k ∈ Finset.range (n + 1), ∑ q : Fin 256, Q k j q * ((Grid.cheb 64 (ξ q) k c.val : ℝ) : EReal))
    (hx : ∀ r c, x (ix2 r c) = ((Grid.cheb 64 (ξ r) (n + 1) c.val : ℝ) : EReal)) (hw : ∀ j q, w (ix3 0 j q) = Q (n + 1) j q) (j : Fin 512) (c : Fin 4096) :
    k0_pay1 v x w (ix2 j c) = ∑ k ∈ Finset.range (n + 1 + 1), ∑ q : Fin 256, Q k j q * ((Grid.cheb 64 (ξ q) k c.val : ℝ) : EReal) := by
  rw [pay1_apply, Finset.sum_range_succ _ (n + 1), hv]
  congr 1
  exact Finset.sum_congr rfl fun q _ => by rw [hw, hx]

theorem Inv.one {Q : ℕ → Fin 512 → Fin 256 → EReal} {p : Vec Ideal S8x4096 .f32} (hp : Planes p) {w : Vec Ideal S1x512x256 .bf16}
    {s : Vec Ideal S512x4096 .f32 × Vec Ideal S256x4096 .f32 × Vec Ideal S256x4096 .f32} (hw : ∀ j q, w (ix3 0 j q) = Q 1 j q) (ih : Inv ξ Q 0 s) :
    Inv ξ Q 1 (k0_pay1 s.1 (lap p s.2.2) w, lap p s.2.2, s.2.2) := by
  have hx : ∀ (r : Fin 256) (k : Fin 4096), lap p s.2.2 (ix2 r k) = ((Grid.cheb 64 (ξ r) 1 k.val : ℝ) : EReal) := fun r k =>
    lap_apply hp _ r (ξ r) (fun k => ih.new r k) k
  exact ⟨fun r k => hx r k, fun _ r k => ih.new r k, fun j k => sum_step ξ Q 0 _ _ _ ih.sum hx hw j k⟩

theorem Inv.even {Q : ℕ → Fin 512 → Fin 256 → EReal} {p : Vec Ideal S8x4096 .f32} (hp : Planes p) {w : Vec Ideal S1x512x256 .bf16}
    {s : Vec Ideal S512x4096 .f32 × Vec Ideal S256x4096 .f32 × Vec Ideal S256x4096 .f32} (n : ℕ) (hm : (n + 2) % 2 = 0) (hw : ∀ j q, w (ix3 0 j q) = Q (n + 2) j q) (ih : Inv ξ Q (n + 1) s) :
    Inv ξ Q (n + 2) (k0_pay17 s.1 (stepE p s.2.1 s.2.2) w, s.2.1, stepE p s.2.1 s.2.2) := by
  have hm' : ¬ (n + 1) % 2 = 0 := by omega
  have e1 := ih.new
  have e0 := ih.old (by omega)
  unfold newest at e1; unfold older at e0
  rw [if_neg hm'] at e1 e0
  have hx : ∀ (r : Fin 256) (k : Fin 4096), stepE p s.2.1 s.2.2 (ix2 r k) = ((Grid.cheb 64 (ξ r) (n + 2) k.val : ℝ) : EReal) := fun r k =>
    stepE_apply hp _ _ r (Grid.cheb 64 (ξ r) (n + 1)) (Grid.cheb 64 (ξ r) n) (e1 r) (e0 r) k
  refine ⟨fun r k => ?_, fun _ r k => ?_, fun j k => ?_⟩
  · unfold newest; rw [if_pos hm]; exact hx r k
  · unfold older; rw [if_pos hm]; exact e1 r k
  · rw [pay17_eq]; exact sum_step ξ Q (n + 1) _ _ _ ih.sum hx hw j k

theorem Inv.odd {Q : ℕ → Fin 512 → Fin 256 → EReal} {p : Vec Ideal S8x4096 .f32} (hp : Planes p) {w : Vec Ideal S1x512x256 .bf16}
    {s : Vec Ideal S512x4096 .f32 × Vec Ideal S256x4096 .f32 × Vec Ideal S256x4096 .f32} (n : ℕ) (hm : ¬ (n + 2) % 2 = 0) (hw : ∀ j q, w (ix3 0 j q) = Q (n + 2) j q) (ih : Inv ξ Q (n + 1) s) :
    Inv ξ Q (n + 2) (k0_pay1 s.1 (stepO p s.2.2 s.2.1) w, stepO p s.2.2 s.2.1, s.2.2) := by
  have hm' : (n + 1) % 2 = 0 := by omega
  have e1 := ih.new
  have e0 := ih.old (by omega)
  unfold newest at e1; unfold older at e0
  rw [if_pos hm'] at e1 e0
  rw [stepO_eq]
  have hx : ∀ (r : Fin 256) (k : Fin 4096), stepE p s.2.2 s.2.1 (ix2 r k) = ((Grid.cheb 64 (ξ r) (n + 2) k.val : ℝ) : EReal) := fun r k =>
    stepE_apply hp _ _ r (Grid.cheb 64 (ξ r) (n + 1)) (Grid.cheb 64 (ξ r) n) (e1 r) (e0 r) k
  refine ⟨fun r k => ?_, fun _ r k => ?_, fun j k => ?_⟩
  · unfold newest; rw [if_neg hm]; exact hx r k
  · unfold older; rw [if_neg hm]; exact e1 r k
  · exact sum_step ξ Q (n + 1) _ _ _ ih.sum hx hw j k

theorem Inv.zero {Q : ℕ → Fin 512 → Fin 256 → EReal} {x : Vec Ideal S256x4096 .f32} {w : Vec Ideal S1x512x256 .bf16}
    (hx : ∀ (r : Fin 256) (k : Fin 4096), x (ix2 r k) = ((ξ r k.val : ℝ) : EReal)) (hw : ∀ j q, w (ix3 0 j q) = Q 0 j q) :
    Inv ξ Q 0 (k0_pay16 (k0_pay12 x) w, k0_pay12 x, k0_pay12 x) := by
  have hx' : ∀ (r : Fin 256) (k : Fin 4096), k0_pay12 x (ix2 r k) = ((ξ r k.val : ℝ) : EReal) := fun r k => by rw [pay12_eq, hx]
  refine ⟨fun r k => hx' r k, fun h1 => absurd h1 (by omega), fun j k => ?_⟩
  show k0_pay16 (k0_pay12 x) w (ix2 j k) = _
  rw [pay16_apply, Finset.sum_range_succ, Finset.sum_range_zero, zero_add]
  exact Finset.sum_congr rfl fun q _ => by rw [hx', hw]; rfl

theorem inv (c : Dev nD) (hξ : ∀ (r : Fin 256) (k : Fin 4096), m ((c : Thread nD τ).loc main_arg0) (ix2 r k) = ((ξ r k.val : ℝ) : EReal)) :
    ∀ (n : ℕ) (h : n < cfg0.N), Inv ξ (wq (m ((c : Thread nD τ).loc main_arg4))) n (st m c n h)
  | 0, h => by
    have e := st_zero m c ⟨0, h⟩ rfl
    dsimp only at e
    rw [e]
    exact Inv.zero ξ (fun r k => by rw [bX_eq]; exact hξ r k) (bQ_wq m c ⟨0, h⟩)
  | 1, h => by
    have h' : 0 < cfg0.N := Nat.lt_of_succ_lt h
    have e := st_one m c ⟨1, h⟩ rfl h'
    dsimp only at e
    rw [e, bP_eq]
    exact Inv.one ξ planesV_ok (bQ_wq m c ⟨1, h⟩) (inv c hξ 0 h')
  | n + 2, h => by
    have h' : n + 1 < cfg0.N := Nat.lt_of_succ_lt h
    by_cases hm : (n + 2) % 2 = 0
    · have e := st_even m c ⟨n + 2, h⟩ (by show 2 ≤ n + 2; omega) hm h'
      dsimp only at e
      rw [e, bP_eq]
      exact Inv.even ξ planesV_ok n hm (bQ_wq m c ⟨n + 2, h⟩) (inv c hξ (n + 1) h')
    · have e := st_odd m c ⟨n + 2, h⟩ (by show 2 ≤ n + 2; omega) (by show (n + 2) % 2 = 1; omega) h'
      dsimp only at e
      rw [e, bP_eq]
      exact Inv.odd ξ planesV_ok n hm (bQ_wq m c ⟨n + 2, h⟩) (inv c hξ (n + 1) h')

/-! ## The result array -/

/-- The last point. -/
abbrev t24 : Fin cfg0.N := ⟨24, lt_of_lt_of_eq (by decide) N_0.symm⟩

/-- What the last point leaves. -/
def result (c : Dev nD) : Vec Ideal S512x1024 .f32 :=
  fin (st m c 24 (lt_of_lt_of_eq (by decide) N_0.symm)).1 (m ((c : Thread nD τ).loc main_arg5)) poolV

theorem flushed_eq (c : Dev nD) (t : Fin cfg0.N) (hf : (cfg0.win 5).flush t = true) :
    (dats m 0 c).flushed 5 t = ((cfg0.win 5).blk t).view.read (Elt Ideal) (result m c) := by
  have hN : cfg0.N = 25 := N_0
  have h24 : t.val = 24 := by have := (flush0_5 t).mp hf; have := t.isLt; omega
  have hi : ∀ t : Fin cfg0.N, win0_5.index t 0 = 0 ∧ win0_5.index t 1 = 0 := by decide +kernel
  obtain rfl : t = t24 := Fin.ext h24
  show (cfg0.win 5).cut (grid0.coords t24) ((dats m 0 c).after 5 t24) = _
  rw [after0_5, bA_eq, bR_eq]
  have hz' : (fun a => win0_5.index t24 a * main_v81.ty.shape.size a) = fun _ => 0 := funext fun a => by
    match a with
    | ⟨0, _⟩ => show win0_5.index t24 0 * 512 = 0; rw [(hi _).1]
    | ⟨1, _⟩ => show win0_5.index t24 1 * 1024 = 0; rw [(hi _).2]
  exact (Memref.read_access_unit_zero (Elt Ideal) main_v81 hz' (fun a => by rw [congrFun hz' a]; simp) (result m c)).symm

theorem final_5 (c : Dev nD) : (dats m 0 c).arrAt 5 cfg0.N = result m c :=
  (dats m 0 c).arrAt_eq_of_cover 5 (result m c) (flushed_eq m c) fun i =>
    ⟨t24, (flush0_5 t24).mpr rfl, by
      have hi : ∀ t : Fin cfg0.N, (win0_5.index t 0 = 0 ∧ win0_5.index t 1 = 0) ∧ win0_5.xsize (grid0.coords t) 0 = 512 ∧ win0_5.xsize (grid0.coords t) 1 = 1024 := by decide +kernel
      show i ∈ ((View.whole main_v81).slice (win0_5.rect t24)).set
      rw [View.set_slice_whole, Rect.mem_set_unit]
      intro a
      have h0 : (i 0 : Nat) < 512 := (i 0).isLt
      have h1 : (i 1 : Nat) < 1024 := (i 1).isLt
      match a with
      | ⟨0, _⟩ => show win0_5.index t24 0 * win0_5.size 0 ≤ (i 0 : Nat) ∧ (i 0 : Nat) < win0_5.index t24 0 * win0_5.size 0 + win0_5.xsize (grid0.coords t24) 0
                  rw [(hi t24).1.1, (hi t24).2.1]; omega
      | ⟨1, _⟩ => show win0_5.index t24 1 * win0_5.size 1 ≤ (i 1 : Nat) ∧ (i 1 : Nat) < win0_5.index t24 1 * win0_5.size 1 + win0_5.xsize (grid0.coords t24) 1
                  rw [(hi t24).1.2, (hi t24).2.2]; omega⟩

/-- The run: the result array holds `result`, the arguments their contents. -/
theorem run (ρ : Dev nD → PrngReg) : θ_run defs (onTc (τ := τ) (main (F := Ideal))) ⟨m, fun _ => 0, ρ⟩ (fun r => ∀ c : Dev nD,
      r.2.mem ((c.tc : Thread nD τ).loc main_v81) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans (final_5 m c), h.2.1 c⟩) (θ_run_and (run_main m ρ) (frame m ρ))

/-- Entry `(j, c)` of the result. -/
theorem result_apply (c : Dev nD) (hξ : ∀ (r : Fin 256) (k : Fin 4096), m ((c : Thread nD τ).loc main_arg0) (ix2 r k) = ((ξ r k.val : ℝ) : EReal)) (j : Fin 512) (k : Fin 1024) :
    result m c (ix2 j k) = ∑ r : Fin 512, hor (m ((c : Thread nD τ).loc main_arg5))
      (∑ d ∈ Finset.range 25, ∑ q : Fin 256, wq (m ((c : Thread nD τ).loc main_arg4)) d j q * ((Grid.cheb 64 (ξ q) d (k.val / 128 * 512 + r.val) : ℝ) : EReal))
      * poolV (ix2 r ⟨k.val % 128, by omega⟩) := by
  unfold result
  rw [fin_apply]
  refine Finset.sum_congr rfl fun r _ => ?_
  rw [(inv m ξ c hξ 24 (lt_of_lt_of_eq (by decide) N_0.symm)).sum]

end Cert.Conv2Ideal.Hand

end
-- ==== Proof.Conv2Claim.lean ====
/- The value claim of `Conv2`: from the grid's edge list and weights and finite arguments, kernel and reference end with
   equal results. -/
module

public import proofs.«01_k».proof.Proof.Conv2RefLoop
public import proofs.«01_k».proof.Proof.Conv2RefOut
public import proofs.«01_k».proof.Proof.Conv2Value
public import proofs.«01_k».proof.Proof.Conv2Pre
public import proofs.«01_k».proof.Proof.HeadClaim

@[expose] public section

set_option maxRecDepth 16384

noncomputable section

open Idealize.ShloMosaic Idealize.ShloMosaic.TcCoe Idealize.ShloMosaic.Tactic Idealize.SL.Sem Idealize.ShloMosaic.StableHlo

/-! ## The reference's result -/

namespace Cert.Conv2RefIdeal.Hand

open Cert.Conv2RefIdeal Cert.Conv2RefIdeal.Gen Cert.Conv2RefIdeal.Value Cert.Reals

variable (m : (ℓ : Loc nD τ sig) → Buf (Elt Ideal) ℓ) (c : Dev nD)

/-- A buffer that nothing before the loop's end writes. -/
theorem kept_arg (b : Ref sig .tc) (h : RefFrames.Unwritten b) (h0 : b ∉ hostOps0_W) (h1 : b ∉ hostOps0_1_W) (h2 : b ∉ hostOps0_2_W) (k : ℕ) :
    atK m k c (Proc.devRef .tc b) = m ((c.tc : Thread nD τ).loc b) := by
  rw [RefFrames.atK_kept m c b h k]
  simp only [entryContents, afterL_cons, afterL_nil]
  rw [after_of_writes_sub _ _ hostOps0_2_writes h2, after_of_writes_sub _ _ hostOps0_1_writes h1, after_of_writes_sub _ _ hostOps0_writes h0]

/-- The result, from the stack the loop leaves. -/
theorem final_out : finalContents condOps preI bodyI postI 23 m c (Proc.devRef .tc main_v48)
    = outV (actV (dotV (atK m 23 c (Proc.devRef .tc main_v16_5)) (m ((c.tc : Thread nD τ).loc main_arg4))) (m ((c.tc : Thread nD τ).loc main_arg5))) := by
  rw [← kept_arg m c main_arg4 (by decide) (by decide) (by decide) (by decide) 23, ← kept_arg m c main_arg5 (by decide) (by decide) (by decide) (by decide) 23]
  exact post_out (atK m 23 c)

/-- Where the loop leaves the stack filled, the sum at a sample, node and feature. -/
theorem dot_filled (ξ : Fin 256 → ℕ → ℝ) (S : FVec Ideal S25x4096x256 .f32) (hS : Filled ξ 24 S) (w : FVec Ideal S800x64 .f32) (n : Fin 8) (i : Fin 4096) (f : Fin 64) :
    dotV S w (ix3 n i f) = ∑ p : Fin 800, ((Grid.cheb 64 (ξ ⟨p.val / 25 * 8 + n.val, by omega⟩) (p.val % 25) i.val : ℝ) : EReal) * w (ix2 p f) := by
  rw [dotV_apply]
  exact Finset.sum_congr rfl fun p _ => by rw [hS _ _ _ (by show p.val % 25 ≤ 24; omega)]

end Cert.Conv2RefIdeal.Hand

namespace Cert.Conv2Claim

open Cert.Reals Cert.Conv2Ideal.Hand

/-! ## Sums, re-blocked -/

theorem sum256 (f : Fin 256 → EReal) : ∑ q, f q = ∑ l : Fin 32, ∑ n : Fin 8, f ⟨n.val + 8 * l.val, by omega⟩ := by
  rw [← Fintype.sum_prod_type' (f := fun (l : Fin 32) (n : Fin 8) => f ⟨n.val + 8 * l.val, by omega⟩)]
  exact (Fintype.sum_equiv (finProdFinEquiv : Fin 32 × Fin 8 ≃ Fin (32 * 8)) _ f fun _ => rfl).symm
theorem sum800 (f : Fin 800 → EReal) : ∑ p, f p = ∑ l : Fin 32, ∑ d : Fin 25, f ⟨d.val + 25 * l.val, by omega⟩ := by
  rw [← Fintype.sum_prod_type' (f := fun (l : Fin 32) (d : Fin 25) => f ⟨d.val + 25 * l.val, by omega⟩)]
  exact (Fintype.sum_equiv (finProdFinEquiv : Fin 32 × Fin 25 ≃ Fin (32 * 25)) _ f fun _ => rfl).symm
theorem sum512 (f : Fin 512 → EReal) : ∑ r, f r = ∑ q : Fin 128, ∑ i : Fin 4, f ⟨i.val + 4 * q.val, by omega⟩ := by
  rw [← Fintype.sum_prod_type' (f := fun (q : Fin 128) (i : Fin 4) => f ⟨i.val + 4 * q.val, by omega⟩)]
  exact (Fintype.sum_equiv (finProdFinEquiv : Fin 128 × Fin 4 ≃ Fin (128 * 4)) _ f fun _ => rfl).symm

/-- The kernel's sums over degrees and rows are the reference's over the rows of the weights. -/
theorem sums_eq (w : FVec Ideal Cert.Conv2Ideal.S800x64 .f32) (j : Fin 512) (T : ℕ → Fin 256 → EReal) :
    (∑ d ∈ Finset.range 25, ∑ q : Fin 256, wq w d j q * T d q)
      = ∑ p : Fin 800, T (p.val % 25) ⟨p.val / 25 * 8 + j.val % 8, by omega⟩ * w (ix2 p ⟨j.val / 8, by omega⟩) := by
  have inner : ∀ d : Fin 25, (∑ q : Fin 256, wq w d.val j q * T d.val q)
      = ∑ l : Fin 32, T d.val ⟨l.val * 8 + j.val % 8, by omega⟩ * w (ix2 ⟨l.val * 25 + d.val, by omega⟩ ⟨j.val / 8, by omega⟩) := fun d => by
    rw [sum256]
    refine Finset.sum_congr rfl fun l _ => ?_
    rw [Finset.sum_eq_single (⟨j.val % 8, by omega⟩ : Fin 8)]
    · unfold wq
      rw [dif_pos d.isLt, weightsV_apply, if_pos (by show j.val % 8 = (j.val % 8 + 8 * l.val) % 8; omega), mul_comm]
      refine congrArg₂ (fun x y : EReal => x * y) (congrArg (T d.val) (Fin.ext ?_)) (congrArg w (congrArg₂ ix2 (Fin.ext ?_) rfl))
      · show j.val % 8 + 8 * l.val = l.val * 8 + j.val % 8; omega
      · show (j.val % 8 + 8 * l.val) / 8 * 25 + d.val = l.val * 25 + d.val; omega
    · intro n _ hn
      unfold wq
      rw [dif_pos d.isLt, weightsV_apply, if_neg, zero_mul]
      intro h
      have h' : j.val % 8 = (n.val + 8 * l.val) % 8 := h
      exact hn (Fin.ext (by show n.val = j.val % 8; omega))
    · intro h; exact absurd (Finset.mem_univ _) h
  rw [← Fin.sum_univ_eq_sum_range (fun d => ∑ q : Fin 256, wq w d j q * T d q) 25, Finset.sum_congr rfl fun d _ => inner d, Finset.sum_comm, sum800]
  refine Finset.sum_congr rfl fun l _ => Finset.sum_congr rfl fun d _ => ?_
  have hd := d.isLt
  have e1 : (d.val + 25 * l.val) % 25 = d.val := by omega
  have e2 : (d.val + 25 * l.val) / 25 = l.val := by omega
  refine congrArg₂ (fun x y : EReal => x * y) ?_ (congrArg w (congrArg₂ ix2 (Fin.ext ?_) rfl))
  · exact congrArg₂ T e1.symm (Fin.ext (by show l.val * 8 + j.val % 8 = (d.val + 25 * l.val) / 25 * 8 + j.val % 8; rw [e2]))
  · show l.val * 25 + d.val = d.val + 25 * l.val; omega

theorem four_bits : Ideal.ofBits .f32 0x40800000#32 = ((4 : ℝ) : EReal) := by
  simp [Ideal.ofBits, Ideal.ieee]; rw [← EReal.coe_mul]; norm_num

/-- Pooling by the table of quarters is the mean over four nodes. -/
theorem pool_eq (g : ℕ → EReal) (hg : ∀ n, Fn (g n)) (k : Fin 1024) :
    (∑ r : Fin 512, g (k.val / 128 * 512 + r.val) * poolV (ix2 r ⟨k.val % 128, by omega⟩))
      = Ideal.div (∑ i : Fin 4, g (k.val * 4 + i.val)) (Ideal.ofBits .f32 0x40800000#32) := by
  rw [sum512, Finset.sum_eq_single (⟨k.val % 128, by omega⟩ : Fin 128)]
  · have e : ∀ i : Fin 4, g (k.val / 128 * 512 + (i.val + 4 * (k.val % 128))) * poolV (ix2 ⟨i.val + 4 * (k.val % 128), by omega⟩ ⟨k.val % 128, by omega⟩)
        = g (k.val * 4 + i.val) * ((1 / 4 : ℝ) : EReal) := fun i => by
      rw [poolV_apply, if_pos (by show (i.val + 4 * (k.val % 128)) / 4 = k.val % 128; omega)]
      rw [show k.val / 128 * 512 + (i.val + 4 * (k.val % 128)) = k.val * 4 + i.val by omega]
    rw [Finset.sum_congr rfl fun i _ => e i, four_bits, Ideal.div, if_neg (by norm_num)]
    choose f hf using hg
    simp only [hf, Fin.sum_univ_four]
    rw [← EReal.coe_inv]
    simp only [← EReal.coe_add, ← EReal.coe_mul]
    congr 1; ring
  · intro q _ hq
    refine Finset.sum_eq_zero fun i _ => ?_
    rw [poolV_apply, if_neg, mul_zero]
    intro h
    have h' : (i.val + 4 * q.val) / 4 = k.val % 128 := h
    exact hq (Fin.ext (by show q.val = k.val % 128; omega))
  · intro h; exact absurd (Finset.mem_univ _) h

open Cert.Conv2Ideal Cert.Conv2Ideal.Gen in
/-- Coefficient `k` is entry `k`. -/
theorem coef2_apply (a : Vec Ideal S4 .f32) (k : Fin 4) (h) : coef (F := Ideal) a k.val h = a (ix1 k) := by
  show a _ = a _
  congr 1; funext d; apply Fin.ext
  match d with
  | ⟨0, _⟩ => show k.val + 1 * 0 = k.val; omega

open Cert.Conv2Ideal Cert.Conv2Ideal.Gen in
/-- Horner's rule on the coefficients is the sum of the four terms. -/
theorem hor_eq (a : Vec Ideal S4 .f32) (ha : ∀ i, Fn (a i)) (z : EReal) (hz : Fn z) :
    hor a z = a (ix1 0) + a (ix1 1) * z + a (ix1 2) * (z * z) + a (ix1 3) * (z * z * z) := by
  unfold hor
  have h0 : coef (F := Ideal) a 0 inb_S4_S1_0 = a (ix1 0) := coef2_apply a 0 _
  have h1 : coef (F := Ideal) a 1 inb_S4_S1_1 = a (ix1 1) := coef2_apply a 1 _
  have h2 : coef (F := Ideal) a 2 inb_S4_S1_2 = a (ix1 2) := coef2_apply a 2 _
  have h3 : coef (F := Ideal) a 3 inb_S4_S1_3 = a (ix1 3) := coef2_apply a 3 _
  rw [h0, h1, h2, h3]
  exact horner (ha _) (ha _) (ha _) (ha _) hz

/-- Entry by entry the two results are equal. -/
theorem entry_eq (m : (ℓ : Loc Cert.Conv2Ideal.nD Cert.Conv2Ideal.τ Cert.Conv2Ideal.sig) → Buf (Elt Ideal) ℓ) (c : Dev Cert.Conv2Ideal.nD) (ξ : Fin 256 → ℕ → ℝ)
    (h : FVec Ideal Cert.Conv2Ideal.S256x4096 .f32) (hh : h = m ((c.tc : Thread Cert.Conv2Ideal.nD Cert.Conv2Ideal.τ).loc Cert.Conv2Ideal.main_arg0))
    (w : FVec Ideal Cert.Conv2Ideal.S800x64 .f32) (hw : w = m ((c.tc : Thread Cert.Conv2Ideal.nD Cert.Conv2Ideal.τ).loc Cert.Conv2Ideal.main_arg4))
    (a : FVec Ideal Cert.Conv2Ideal.S4 .f32) (ha : a = m ((c.tc : Thread Cert.Conv2Ideal.nD Cert.Conv2Ideal.τ).loc Cert.Conv2Ideal.main_arg5))
    (hξ : ∀ (r : Fin 256) (k : Fin 4096), h (ix2 r k) = ((ξ r k.val : ℝ) : EReal)) (fw : ∀ i, Fn (w i)) (fa : ∀ i, Fn (a i))
    (S : FVec Ideal Cert.Conv2RefIdeal.S25x4096x256 .f32) (hS : Cert.Conv2RefIdeal.Hand.Filled ξ 24 S) (j : Fin 512) (k : Fin 1024) :
    Cert.Conv2RefIdeal.Hand.outV (Cert.Conv2RefIdeal.Hand.actV (Cert.Conv2RefIdeal.Hand.dotV S w) a) (ix2 j k) = result m c (ix2 j k) := by
  have hk := k.isLt
  have hj := j.isLt
  rw [result_apply m ξ c (fun r k => (congrFun hh.symm _).trans (hξ r k)) j k, ← hw, ← ha, Cert.Conv2RefIdeal.Hand.outV_apply]
  let z : ℕ → EReal := fun n => ∑ p : Fin 800, ((Grid.cheb 64 (ξ ⟨p.val / 25 * 8 + j.val % 8, by omega⟩) (p.val % 25) n : ℝ) : EReal) * w (ix2 p ⟨j.val / 8, by omega⟩)
  have fz : ∀ n, Fn (z n) := fun n => Fn.sum _ _ fun p _ => (Fn.coe _).mul (fw _)
  have ez : ∀ n : ℕ, (∑ d ∈ Finset.range 25, ∑ q : Fin 256, wq w d j q * ((Grid.cheb 64 (ξ q) d n : ℝ) : EReal)) = z n := fun n =>
    sums_eq w j fun d q => ((Grid.cheb 64 (ξ q) d n : ℝ) : EReal)
  have fh : ∀ n, Fn (hor a (z n)) := fun n => by
    rw [hor_eq a fa _ (fz n)]
    exact (((fa _).add ((fa _).mul (fz n))).add ((fa _).mul ((fz n).mul (fz n)))).add ((fa _).mul (((fz n).mul (fz n)).mul (fz n)))
  have e := (Finset.sum_congr (rfl : (Finset.univ : Finset (Fin 512)) = _) fun r _ =>
    congrArg (fun x : EReal => hor a x * poolV (ix2 r ⟨k.val % 128, by omega⟩)) (ez (k.val / 128 * 512 + r.val))).trans (pool_eq (fun n => hor a (z n)) fh k)
  refine Eq.trans ?_ e.symm
  refine congrArg (fun s : EReal => Ideal.div s (Ideal.ofBits .f32 0x40800000#32)) (Finset.sum_congr rfl fun i _ => ?_)
  rw [Cert.Conv2RefIdeal.Hand.actV_apply, Cert.Conv2RefIdeal.Hand.dot_filled ξ S hS]
  exact (hor_eq a fa _ (fz _)).symm

/-- From the grid's edge list and weights and finite arguments the kernel and the reference end with equal results. -/
theorem claim : Cert.algebraic_Conv2Ideal_Conv2RefIdeal_pre_conv2_pre := by
  intro m g m' g' hpre hargs
  refine ⟨fun c => result m c, run m g, (θ_run Cert.Conv2RefIdeal.defs _ _).mono (fun r h c => ⟨(h c Cert.Conv2RefIdeal.main_v48 rfl).trans ?_,
      (h c Cert.Conv2RefIdeal.main_arg0 rfl).trans (RefFrames.final_kept m' c Cert.Conv2RefIdeal.main_arg0 (by decide) (by decide) (by decide) (by decide) (by decide)),
      (h c Cert.Conv2RefIdeal.main_arg1 rfl).trans (RefFrames.final_kept m' c Cert.Conv2RefIdeal.main_arg1 (by decide) (by decide) (by decide) (by decide) (by decide)),
      (h c Cert.Conv2RefIdeal.main_arg2 rfl).trans (RefFrames.final_kept m' c Cert.Conv2RefIdeal.main_arg2 (by decide) (by decide) (by decide) (by decide) (by decide)),
      (h c Cert.Conv2RefIdeal.main_arg3 rfl).trans (RefFrames.final_kept m' c Cert.Conv2RefIdeal.main_arg3 (by decide) (by decide) (by decide) (by decide) (by decide)),
      (h c Cert.Conv2RefIdeal.main_arg4 rfl).trans (RefFrames.final_kept m' c Cert.Conv2RefIdeal.main_arg4 (by decide) (by decide) (by decide) (by decide) (by decide)),
      (h c Cert.Conv2RefIdeal.main_arg5 rfl).trans (RefFrames.final_kept m' c Cert.Conv2RefIdeal.main_arg5 (by decide) (by decide) (by decide) (by decide) (by decide))⟩)
    (Cert.Conv2RefIdeal.Value.run_fold (F := Ideal) m' g')⟩
  obtain ⟨e0, e1, e2, e3, e4, e5⟩ := hargs c
  obtain ⟨p0, p1, p2, p3, p4, p5⟩ := hpre c
  obtain ⟨q1, q2, q3⟩ := Conv2Pre.fn_eq (m ((c.tc : Thread Cert.Conv2Ideal.nD Cert.Conv2Ideal.τ).loc Cert.Conv2Ideal.main_arg0)) (m ((c.tc : Thread Cert.Conv2Ideal.nD Cert.Conv2Ideal.τ).loc Cert.Conv2Ideal.main_arg1))
    (m ((c.tc : Thread Cert.Conv2Ideal.nD Cert.Conv2Ideal.τ).loc Cert.Conv2Ideal.main_arg2)) (m ((c.tc : Thread Cert.Conv2Ideal.nD Cert.Conv2Ideal.τ).loc Cert.Conv2Ideal.main_arg3))
    (m ((c.tc : Thread Cert.Conv2Ideal.nD Cert.Conv2Ideal.τ).loc Cert.Conv2Ideal.main_arg4)) (m ((c.tc : Thread Cert.Conv2Ideal.nD Cert.Conv2Ideal.τ).loc Cert.Conv2Ideal.main_arg5))
  have r1 := Conv2Pre.of_ieq (q1.symm.trans p1)
  have r2 := Conv2Pre.of_ieq (q2.symm.trans p2)
  have r3 := Conv2Pre.of_feq (q3.symm.trans p3)
  have f0 := Cert.HeadIdeal.Body.fn_arg (S := Cert.Conv2Ideal.S256x4096) (m ((c.tc : Thread Cert.Conv2Ideal.nD Cert.Conv2Ideal.τ).loc Cert.Conv2Ideal.main_arg0)) _ p0 (fun _ => rfl)
  have f4 := Cert.HeadIdeal.Body.fn_arg (S := Cert.Conv2Ideal.S800x64) (m ((c.tc : Thread Cert.Conv2Ideal.nD Cert.Conv2Ideal.τ).loc Cert.Conv2Ideal.main_arg4)) _ p4 (fun _ => rfl)
  have f5 := Cert.HeadIdeal.Body.fn_arg (S := Cert.Conv2Ideal.S4) (m ((c.tc : Thread Cert.Conv2Ideal.nD Cert.Conv2Ideal.τ).loc Cert.Conv2Ideal.main_arg5)) _ p5 (fun _ => rfl)
  clear q1 q2 q3 p0 p1 p2 p3 p4 p5 hpre hargs
  choose ρ hρ using fun (r : Fin 256) (k : Fin 4096) => f0 (ix2 r k)
  let ξ : Fin 256 → ℕ → ℝ := fun r n => if h : n < 4096 then ρ r ⟨n, h⟩ else 0
  have hξ : ∀ (r : Fin 256) (k : Fin 4096), (m ((c.tc : Thread Cert.Conv2Ideal.nD Cert.Conv2Ideal.τ).loc Cert.Conv2Ideal.main_arg0) : FVec Ideal Cert.Conv2Ideal.S256x4096 .f32) (ix2 r k) = ((ξ r k.val : ℝ) : EReal) := fun r k => by
    rw [hρ r k, show ξ r k.val = ρ r k from dif_pos k.isLt]
  have grid : Cert.Conv2RefIdeal.Hand.OnGrid (m' ((c.tc : Thread Cert.Conv2RefIdeal.nD Cert.Conv2RefIdeal.τ).loc Cert.Conv2RefIdeal.main_arg3)) (m' ((c.tc : Thread Cert.Conv2RefIdeal.nD Cert.Conv2RefIdeal.τ).loc Cert.Conv2RefIdeal.main_arg1))
      (m' ((c.tc : Thread Cert.Conv2RefIdeal.nD Cert.Conv2RefIdeal.τ).loc Cert.Conv2RefIdeal.main_arg2)) := by
    rw [e1, e2, e3]
    exact ⟨fun e => (r1 (ix1 e)).trans ((Conv2Pre.atRow_apply _ e).trans (Conv2Pre.idxV_apply _ _)),
      fun e => (r2 (ix1 e)).trans ((Conv2Pre.atCol_apply _ e).trans (Conv2Pre.idxV_apply _ _)),
      fun e => (r3 (ix1 e)).trans (Conv2Pre.wtV_apply e)⟩
  obtain ⟨-, hS⟩ := Cert.Conv2RefIdeal.Hand.loop m' c grid ξ (fun r k => by rw [e0]; exact hξ r k) 23 le_rfl
  rw [Cert.Conv2RefIdeal.Hand.final_out, e4, e5]
  funext j
  idx_vars j
  exact entry_eq m c ξ _ rfl _ rfl _ rfl hξ f4 f5 _ hS j0 j1

end Cert.Conv2Claim

end
-- ==== Proof.Conv1Claim.lean ====
/- The value claim of `Conv1`: from the grid's edge list and weights, an order of the nodes that stays inside the picture and
   finite arguments, kernel and reference end with equal results. -/
module

public import proofs.«01_k».proof.Proof.Conv1RefLoop
public import proofs.«01_k».proof.Proof.Conv1RefOut
public import proofs.«01_k».proof.Proof.Conv1Value
public import proofs.«01_k».proof.Proof.Conv1Pre
public import proofs.«01_k».proof.Proof.Conv2Claim

@[expose] public section

set_option maxRecDepth 16384

noncomputable section

open Idealize.ShloMosaic Idealize.ShloMosaic.TcCoe Idealize.ShloMosaic.Tactic Idealize.SL.Sem Idealize.ShloMosaic.StableHlo

/-! ## The reference's result -/

namespace Cert.Conv1RefIdeal.Hand

open Cert.Conv1RefIdeal Cert.Conv1RefIdeal.Gen Cert.Conv1RefIdeal.Value Cert.Reals

variable (m : (ℓ : Loc nD τ sig) → Buf (Elt Ideal) ℓ) (c : Dev nD)

/-- A buffer that nothing before the loop's end writes. -/
theorem kept_arg (b : Ref sig .tc) (h : Conv1RefFrame.Unwritten b) (h0 : b ∉ hostOps0_W) (h1 : b ∉ hostOps0_1_W) (h2 : b ∉ hostOps0_2_W)
    (h3 : b ∉ hostOps0_3_W) (h4 : b ∉ hostOps0_4_W) (k : ℕ) :
    atK m k c (Proc.devRef .tc b) = m ((c.tc : Thread nD τ).loc b) := by
  rw [Conv1RefFrame.atK_kept m c b h k]
  simp only [entryContents, afterL_cons, afterL_nil]
  rw [after_of_writes_sub _ _ hostOps0_4_writes h4, after_of_writes_sub _ _ hostOps0_3_writes h3,
    after_of_writes_sub _ _ hostOps0_2_writes h2, after_of_writes_sub _ _ hostOps0_1_writes h1, after_of_writes_sub _ _ hostOps0_writes h0]

/-- The result, from the stack the loop leaves. -/
theorem final_out : finalContents condOps preI bodyI postI 23 m c (Proc.devRef .tc main_v49)
    = outV (actV (dotV (atK m 23 c (Proc.devRef .tc main_v17_5)) (m ((c.tc : Thread nD τ).loc main_arg5))) (m ((c.tc : Thread nD τ).loc main_arg6))) := by
  rw [← kept_arg m c main_arg5 (by decide) (by decide) (by decide) (by decide) (by decide) (by decide) 23,
    ← kept_arg m c main_arg6 (by decide) (by decide) (by decide) (by decide) (by decide) (by decide) 23]
  exact post_out (atK m 23 c)

/-- Where the loop leaves the stack filled, the sum at a sample, node and feature. -/
theorem dot_filled (ξ : Fin 8 → ℕ → ℝ) (S : FVec Ideal S25x16384x8 .f32) (hS : Filled ξ 24 S) (w : FVec Ideal S25x32 .f32) (n : Fin 8) (i : Fin 16384) (f : Fin 32) :
    dotV S w (ix3 n i f) = ∑ p : Fin 25, ((Grid.cheb 128 (ξ n) p.val i.val : ℝ) : EReal) * w (ix2 p f) := by
  rw [dotV_apply]
  exact Finset.sum_congr rfl fun p _ => by rw [hS _ _ _ (by have := p.isLt; omega)]

end Cert.Conv1RefIdeal.Hand

namespace Cert.Conv1Claim

open Cert.Reals Cert.Conv1Ideal.Hand

/-! ## Sums, re-blocked -/

theorem sum200 (f : Fin 200 → EReal) : ∑ q, f q = ∑ d : Fin 25, ∑ n : Fin 8, f ⟨n.val + 8 * d.val, by omega⟩ := by
  rw [← Fintype.sum_prod_type' (f := fun (d : Fin 25) (n : Fin 8) => f ⟨n.val + 8 * d.val, by omega⟩)]
  exact (Fintype.sum_equiv (finProdFinEquiv : Fin 25 × Fin 8 ≃ Fin (25 * 8)) _ f fun _ => rfl).symm

/-- The kernel's sums over degrees and batch entries are the reference's over degrees: the weights are zero off the diagonal. -/
theorem sums_eq (w : FVec Ideal Cert.Conv1Ideal.S25x32 .f32) (j : Fin 256) (T : ℕ → Fin 8 → EReal) :
    (∑ q : Fin 200, weightsV w (ix2 j q) * T (q.val / 8) ⟨q.val % 8, by omega⟩)
      = ∑ d : Fin 25, T d.val ⟨j.val % 8, by omega⟩ * w (ix2 d ⟨j.val / 8, by omega⟩) := by
  rw [sum200]
  refine Finset.sum_congr rfl fun d _ => ?_
  have hd := d.isLt
  rw [Finset.sum_eq_single (⟨j.val % 8, by omega⟩ : Fin 8)]
  · have e1 : (j.val % 8 + 8 * d.val) / 8 = d.val := by omega
    have e2 : (j.val % 8 + 8 * d.val) % 8 = j.val % 8 := by omega
    rw [weightsV_apply, if_pos (by show j.val % 8 = (j.val % 8 + 8 * d.val) % 8; omega), mul_comm]
    exact congrArg₂ (fun x y : EReal => x * y) (congrArg₂ T e1 (Fin.ext e2)) (congrArg w (congrArg₂ ix2 (Fin.ext e1) rfl))
  · intro n _ hn
    rw [weightsV_apply, if_neg, zero_mul]
    intro h
    have h' : j.val % 8 = (n.val + 8 * d.val) % 8 := h
    exact hn (Fin.ext (by show n.val = j.val % 8; omega))
  · intro h; exact absurd (Finset.mem_univ _) h

/-- Pooling by the table of quarters is the mean over four nodes. -/
theorem pool_eq (g : ℕ → EReal) (hg : ∀ n, Fn (g n)) (k : Fin 4096) :
    (∑ r : Fin 512, g (k.val / 128 * 512 + r.val) * Cert.Conv2Ideal.Hand.poolV (ix2 r ⟨k.val % 128, by omega⟩))
      = Ideal.div (∑ i : Fin 4, g (k.val * 4 + i.val)) (Ideal.ofBits .f32 0x40800000#32) := by
  rw [Cert.Conv2Claim.sum512, Finset.sum_eq_single (⟨k.val % 128, by omega⟩ : Fin 128)]
  · have e : ∀ i : Fin 4, g (k.val / 128 * 512 + (i.val + 4 * (k.val % 128))) * Cert.Conv2Ideal.Hand.poolV (ix2 ⟨i.val + 4 * (k.val % 128), by omega⟩ ⟨k.val % 128, by omega⟩)
        = g (k.val * 4 + i.val) * ((1 / 4 : ℝ) : EReal) := fun i => by
      rw [Cert.Conv2Ideal.Hand.poolV_apply, if_pos (by show (i.val + 4 * (k.val % 128)) / 4 = k.val % 128; omega)]
      rw [show k.val / 128 * 512 + (i.val + 4 * (k.val % 128)) = k.val * 4 + i.val by omega]
    rw [Finset.sum_congr rfl fun i _ => e i, Cert.Conv2Claim.four_bits, Ideal.div, if_neg (by norm_num)]
    choose f hf using hg
    simp only [hf, Fin.sum_univ_four]
    rw [← EReal.coe_inv]
    simp only [← EReal.coe_add, ← EReal.coe_mul]
    congr 1; ring
  · intro q _ hq
    refine Finset.sum_eq_zero fun i _ => ?_
    rw [Cert.Conv2Ideal.Hand.poolV_apply, if_neg, mul_zero]
    intro h
    have h' : (i.val + 4 * q.val) / 4 = k.val % 128 := h
    exact hq (Fin.ext (by show q.val = k.val % 128; omega))
  · intro h; exact absurd (Finset.mem_univ _) h

open Cert.Conv1Ideal Cert.Conv1Ideal.Gen in
/-- Coefficient `k` is entry `k`. -/
theorem coef1_apply (a : Vec Ideal S4 .f32) (k : Fin 4) (h) : coef (F := Ideal) a k.val h = a (ix1 k) := by
  show a _ = a _
  congr 1; funext d; apply Fin.ext
  match d with
  | ⟨0, _⟩ => show k.val + 1 * 0 = k.val; omega

open Cert.Conv1Ideal Cert.Conv1Ideal.Gen in
/-- Horner's rule on the coefficients is the sum of the four terms. -/
theorem hor_eq (a : Vec Ideal S4 .f32) (ha : ∀ i, Fn (a i)) (z : EReal) (hz : Fn z) :
    hor a z = a (ix1 0) + a (ix1 1) * z + a (ix1 2) * (z * z) + a (ix1 3) * (z * z * z) := by
  unfold hor
  have h0 : coef (F := Ideal) a 0 inb_S4_S1_0 = a (ix1 0) := coef1_apply a 0 _
  have h1 : coef (F := Ideal) a 1 inb_S4_S1_1 = a (ix1 1) := coef1_apply a 1 _
  have h2 : coef (F := Ideal) a 2 inb_S4_S1_2 = a (ix1 2) := coef1_apply a 2 _
  have h3 : coef (F := Ideal) a 3 inb_S4_S1_3 = a (ix1 3) := coef1_apply a 3 _
  rw [h0, h1, h2, h3]
  exact horner (ha _) (ha _) (ha _) (ha _) hz

/-- Entry by entry the two results are equal. -/
theorem entry_eq (m : (ℓ : Loc Cert.Conv1Ideal.nD Cert.Conv1Ideal.τ Cert.Conv1Ideal.sig) → Buf (Elt Ideal) ℓ) (c : Dev Cert.Conv1Ideal.nD) (ξ : Fin 8 → ℕ → ℝ)
    (w : FVec Ideal Cert.Conv1Ideal.S25x32 .f32) (hw : w = m ((c.tc : Thread Cert.Conv1Ideal.nD Cert.Conv1Ideal.τ).loc Cert.Conv1Ideal.main_arg5))
    (a : FVec Ideal Cert.Conv1Ideal.S4 .f32) (ha : a = m ((c.tc : Thread Cert.Conv1Ideal.nD Cert.Conv1Ideal.τ).loc Cert.Conv1Ideal.main_arg6))
    (hξ : ∀ (r : Fin 8) (k : Fin 16384), x0 m c (ix2 r k) = ((ξ r k.val : ℝ) : EReal)) (fw : ∀ i, Fn (w i)) (fa : ∀ i, Fn (a i))
    (S : FVec Ideal Cert.Conv1RefIdeal.S25x16384x8 .f32) (hS : Cert.Conv1RefIdeal.Hand.Filled ξ 24 S) (j : Fin 256) (k : Fin 4096) :
    Cert.Conv1RefIdeal.Hand.outV (Cert.Conv1RefIdeal.Hand.actV (Cert.Conv1RefIdeal.Hand.dotV S w) a) (ix2 j k) = result m c (ix2 j k) := by
  have hk := k.isLt
  have hj := j.isLt
  rw [result_apply m c ξ hξ j k, ← hw, ← ha, Cert.Conv1RefIdeal.Hand.outV_apply]
  let z : ℕ → EReal := fun n => ∑ d : Fin 25, ((Grid.cheb 128 (ξ ⟨j.val % 8, by omega⟩) d.val n : ℝ) : EReal) * w (ix2 d ⟨j.val / 8, by omega⟩)
  have fz : ∀ n, Fn (z n) := fun n => Fn.sum _ _ fun p _ => (Fn.coe _).mul (fw _)
  have ez : ∀ n : ℕ, (∑ q : Fin 200, weightsV w (ix2 j q) * ((Grid.cheb 128 (ξ ⟨q.val % 8, by omega⟩) (q.val / 8) n : ℝ) : EReal)) = z n := fun n =>
    sums_eq w j fun d q => ((Grid.cheb 128 (ξ q) d n : ℝ) : EReal)
  have fh : ∀ n, Fn (hor a (z n)) := fun n => by
    rw [hor_eq a fa _ (fz n)]
    exact (((fa _).add ((fa _).mul (fz n))).add ((fa _).mul ((fz n).mul (fz n)))).add ((fa _).mul (((fz n).mul (fz n)).mul (fz n)))
  have e := (Finset.sum_congr (rfl : (Finset.univ : Finset (Fin 512)) = _) fun r _ =>
    congrArg (fun x : EReal => hor a x * Cert.Conv2Ideal.Hand.poolV (ix2 r ⟨k.val % 128, by omega⟩)) (ez (k.val / 128 * 512 + r.val))).trans (pool_eq (fun n => hor a (z n)) fh k)
  refine Eq.trans ?_ e.symm
  refine congrArg (fun s : EReal => Ideal.div s (Ideal.ofBits .f32 0x40800000#32)) (Finset.sum_congr rfl fun i _ => ?_)
  rw [Cert.Conv1RefIdeal.Hand.actV_apply, Cert.Conv1RefIdeal.Hand.dot_filled ξ S hS]
  exact (hor_eq a fa _ (fz _)).symm

section Result

open Cert.Conv1RefIdeal Cert.Conv1RefIdeal.Gen Cert.Conv1RefIdeal.Value

/-- An argument of the reference ends as it began. -/
theorem arg_kept (m' : (ℓ : Loc nD τ sig) → Buf (Elt Ideal) ℓ) (c : Dev nD) (b : Ref sig .tc) (h : Conv1RefFrame.Unwritten b)
    (h0 : b ∉ hostOps0_W ∧ b ∉ hostOps0_1_W ∧ b ∉ hostOps0_2_W ∧ b ∉ hostOps0_3_W ∧ b ∉ hostOps0_4_W ∧ b ∉ Conv1RefFrame.postW) :
    finalContents condOps preI bodyI postI 23 m' c (Proc.devRef .tc b) = m' ((c.tc : Thread nD τ).loc b) :=
  Conv1RefFrame.final_kept m' c b h h0.1 h0.2.1 h0.2.2.1 h0.2.2.2.1 h0.2.2.2.2.1 h0.2.2.2.2.2

end Result

/-- From the grid's edge list and weights, an order of the nodes inside the picture and finite arguments, the kernel and the
    reference end with equal results. -/
theorem claim : Cert.algebraic_Conv1Ideal_Conv1RefIdeal_pre_conv1_pre := by
  intro m g m' g' hpre hargs
  refine ⟨fun c => result m c, run_result m g, (θ_run Cert.Conv1RefIdeal.defs _ _).mono (fun r h c => ⟨(h c Cert.Conv1RefIdeal.main_v49 rfl).trans ?_,
      (h c Cert.Conv1RefIdeal.main_arg0 rfl).trans (arg_kept m' c Cert.Conv1RefIdeal.main_arg0 (by decide) (by decide)),
      (h c Cert.Conv1RefIdeal.main_arg1 rfl).trans (arg_kept m' c Cert.Conv1RefIdeal.main_arg1 (by decide) (by decide)),
      (h c Cert.Conv1RefIdeal.main_arg2 rfl).trans (arg_kept m' c Cert.Conv1RefIdeal.main_arg2 (by decide) (by decide)),
      (h c Cert.Conv1RefIdeal.main_arg3 rfl).trans (arg_kept m' c Cert.Conv1RefIdeal.main_arg3 (by decide) (by decide)),
      (h c Cert.Conv1RefIdeal.main_arg4 rfl).trans (arg_kept m' c Cert.Conv1RefIdeal.main_arg4 (by decide) (by decide)),
      (h c Cert.Conv1RefIdeal.main_arg5 rfl).trans (arg_kept m' c Cert.Conv1RefIdeal.main_arg5 (by decide) (by decide)),
      (h c Cert.Conv1RefIdeal.main_arg6 rfl).trans (arg_kept m' c Cert.Conv1RefIdeal.main_arg6 (by decide) (by decide))⟩)
    (Cert.Conv1RefIdeal.Value.run_fold (F := Ideal) m' g')⟩
  obtain ⟨e0, e1, e2, e3, e4, e5, e6⟩ := hargs c
  obtain ⟨p0, p1, p2, p3, p4, p5, p6⟩ := hpre c
  obtain ⟨q1, q2, q3, q4⟩ := Conv1Pre.fn_eq (m ((c.tc : Thread Cert.Conv1Ideal.nD Cert.Conv1Ideal.τ).loc Cert.Conv1Ideal.main_arg0)) (m ((c.tc : Thread Cert.Conv1Ideal.nD Cert.Conv1Ideal.τ).loc Cert.Conv1Ideal.main_arg1)) (m ((c.tc : Thread Cert.Conv1Ideal.nD Cert.Conv1Ideal.τ).loc Cert.Conv1Ideal.main_arg2)) (m ((c.tc : Thread Cert.Conv1Ideal.nD Cert.Conv1Ideal.τ).loc Cert.Conv1Ideal.main_arg3)) (m ((c.tc : Thread Cert.Conv1Ideal.nD Cert.Conv1Ideal.τ).loc Cert.Conv1Ideal.main_arg4)) (m ((c.tc : Thread Cert.Conv1Ideal.nD Cert.Conv1Ideal.τ).loc Cert.Conv1Ideal.main_arg5)) (m ((c.tc : Thread Cert.Conv1Ideal.nD Cert.Conv1Ideal.τ).loc Cert.Conv1Ideal.main_arg6))
  have r1 := Conv1Pre.of_range _ (q1.symm.trans p1)
  have r2 := Conv1Pre.of_ieq (q2.symm.trans p2)
  have r3 := Conv1Pre.of_ieq (q3.symm.trans p3)
  have r4 := Conv1Pre.of_feq (q4.symm.trans p4)
  have f0 := Cert.HeadIdeal.Body.fn_arg (S := Cert.Conv1Ideal.S8x1x128x128) (m ((c.tc : Thread Cert.Conv1Ideal.nD Cert.Conv1Ideal.τ).loc Cert.Conv1Ideal.main_arg0)) _ p0 (fun _ => rfl)
  have f5 := Cert.HeadIdeal.Body.fn_arg (S := Cert.Conv1Ideal.S25x32) (m ((c.tc : Thread Cert.Conv1Ideal.nD Cert.Conv1Ideal.τ).loc Cert.Conv1Ideal.main_arg5)) _ p5 (fun _ => rfl)
  have f6 := Cert.HeadIdeal.Body.fn_arg (S := Cert.Conv1Ideal.S4) (m ((c.tc : Thread Cert.Conv1Ideal.nD Cert.Conv1Ideal.τ).loc Cert.Conv1Ideal.main_arg6)) _ p6 (fun _ => rfl)
  clear q1 q2 q3 q4 p0 p1 p2 p3 p4 p5 p6 hpre hargs
  choose ρ hρ using fun (r : Fin 8) (k : Fin 16384) => permV_fn (m ((c.tc : Thread Cert.Conv1Ideal.nD Cert.Conv1Ideal.τ).loc Cert.Conv1Ideal.main_arg1)) r1 (m ((c.tc : Thread Cert.Conv1Ideal.nD Cert.Conv1Ideal.τ).loc Cert.Conv1Ideal.main_arg0)) f0 r k
  let ξ : Fin 8 → ℕ → ℝ := fun r n => if h : n < 16384 then ρ r ⟨n, h⟩ else 0
  have hξ : ∀ (r : Fin 8) (k : Fin 16384), x0 m c (ix2 r k) = ((ξ r k.val : ℝ) : EReal) := fun r k => by
    rw [show ξ r k.val = ρ r k from dif_pos k.isLt]
    exact hρ r k
  have grid : Cert.Conv1RefIdeal.Hand.OnGrid (m' ((c.tc : Thread Cert.Conv1RefIdeal.nD Cert.Conv1RefIdeal.τ).loc Cert.Conv1RefIdeal.main_arg4)) (m' ((c.tc : Thread Cert.Conv1RefIdeal.nD Cert.Conv1RefIdeal.τ).loc Cert.Conv1RefIdeal.main_arg2))
      (m' ((c.tc : Thread Cert.Conv1RefIdeal.nD Cert.Conv1RefIdeal.τ).loc Cert.Conv1RefIdeal.main_arg3)) := by
    rw [e2, e3, e4]
    exact ⟨fun e => (r2 (ix1 e)).trans ((Conv1Pre.atRow_apply _ e).trans (Conv1Pre.idxV_apply _ _)),
      fun e => (r3 (ix1 e)).trans ((Conv1Pre.atCol_apply _ e).trans (Conv1Pre.idxV_apply _ _)),
      fun e => (r4 (ix1 e)).trans (Conv1Pre.wtV_apply e)⟩
  obtain ⟨-, hS⟩ := Cert.Conv1RefIdeal.Hand.loop m' c grid ξ (fun r k => by rw [e0, e1]; exact hξ r k) 23 le_rfl
  rw [Cert.Conv1RefIdeal.Hand.final_out, e5, e6]
  funext j
  idx_vars j
  exact entry_eq m c ξ _ rfl _ rfl hξ f5 f6 _ hS j0 j1

end Cert.Conv1Claim

end
-- ==== Proof.Conv2Same.lean ====
/- `Conv2` and `Conv2Ideal` are the same program over any scalars, so the frame proved of the second is the frame of the first. -/
module

public import proofs.«01_k».proof.Proof.Conv2Frame
public import proofs.«01_k».proof.Proof.Gen.Conv2
public import proofs.«01_k».proof.Defs
public import Idealize.ShloMosaic.Lib.Pipeline.Regions

@[expose] public section

set_option maxRecDepth 65536

noncomputable section

namespace Cert.Conv2Same

open Idealize.ShloMosaic Idealize.ShloMosaic.TcCoe Idealize.SL.Sem

variable {F : FTy → Type} [FloatOps F]

/-- The frames of the two programs are one statement. -/
theorem same : Cert.quiescent_Conv2 = (∀ m ρ, Cert.Pre_Conv2 m → θ_run (Cert.Conv2Ideal.defs (F := Bits)) (onTc (τ := Cert.Conv2Ideal.τ) (Cert.Conv2Ideal.main (F := Bits))) ⟨m, fun _ => 0, ρ⟩ (fun r => (∀ c : Dev Cert.Conv2Ideal.nD,
      r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
      ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
      ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2)
      ∧ r.2.mem ((c.tc : Thread Cert.Conv2Ideal.nD Cert.Conv2Ideal.τ).loc Cert.Conv2Ideal.main_arg3) = m ((c.tc : Thread Cert.Conv2Ideal.nD Cert.Conv2Ideal.τ).loc Cert.Conv2Ideal.main_arg3)
      ∧ r.2.mem ((c.tc : Thread Cert.Conv2Ideal.nD Cert.Conv2Ideal.τ).loc Cert.Conv2Ideal.main_arg4) = m ((c.tc : Thread Cert.Conv2Ideal.nD Cert.Conv2Ideal.τ).loc Cert.Conv2Ideal.main_arg4)
      ∧ r.2.mem ((c.tc : Thread Cert.Conv2Ideal.nD Cert.Conv2Ideal.τ).loc Cert.Conv2Ideal.main_arg5) = m ((c.tc : Thread Cert.Conv2Ideal.nD Cert.Conv2Ideal.τ).loc Cert.Conv2Ideal.main_arg5))
      ∧ r.2.sem = fun _ => 0)) := by chain_rfl

/-- The frame of `Conv2`. -/
theorem frame : Cert.quiescent_Conv2 := same.mpr fun m ρ _ => Cert.Conv2Ideal.Hand.frame (F := Bits) m ρ

end Cert.Conv2Same

end
-- ==== Proof.lean ====
/-
The proof of `Cert.Claim`. The frames and the values of the calls are proved in the modules imported
below: `Conv1Same`, `Conv1Frame`, `Conv1RefFrame`, `Conv2Same`, `Conv2Frame` and `RefFrames` say that the programs run and end cleanly, `Conv1Claim`,
`Conv2Claim` and `HeadClaim` that over the reals each call returns what its reference returns.
-/
module

public import proofs.«01_k».proof.Defs
public import proofs.«01_k».proof.Proof.Gen.Conv1
public import proofs.«01_k».proof.Proof.Gen.Conv1.Skeleton
public import proofs.«01_k».proof.Proof.Gen.Conv1.Launch
public import proofs.«01_k».proof.Proof.Gen.Conv1.Points
public import proofs.«01_k».proof.Proof.Gen.Conv1.Frame
public import proofs.«01_k».proof.Proof.Gen.Conv1Ideal
public import proofs.«01_k».proof.Proof.Gen.Conv1Ideal.Skeleton
public import proofs.«01_k».proof.Proof.Gen.Conv1Ideal.Launch
public import proofs.«01_k».proof.Proof.Gen.Conv1Ideal.Loops
public import proofs.«01_k».proof.Proof.Gen.Conv1Ideal.Points
public import proofs.«01_k».proof.Proof.Gen.Conv1Ideal.Frame
public import proofs.«01_k».proof.Proof.Gen.Conv1RefIdeal
public import proofs.«01_k».proof.Proof.Gen.Conv1RefIdeal.Run
public import proofs.«01_k».proof.Proof.Gen.Conv2
public import proofs.«01_k».proof.Proof.Gen.Conv2.Skeleton
public import proofs.«01_k».proof.Proof.Gen.Conv2.Launch
public import proofs.«01_k».proof.Proof.Gen.Conv2.Points
public import proofs.«01_k».proof.Proof.Gen.Conv2.Frame
public import proofs.«01_k».proof.Proof.Gen.Conv2Ideal
public import proofs.«01_k».proof.Proof.Gen.Conv2Ideal.Skeleton
public import proofs.«01_k».proof.Proof.Gen.Conv2Ideal.Launch
public import proofs.«01_k».proof.Proof.Gen.Conv2Ideal.Points
public import proofs.«01_k».proof.Proof.Gen.Conv2Ideal.Frame
public import proofs.«01_k».proof.Proof.Gen.Conv2RefIdeal
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.Pre_head_pre
public import proofs.«01_k».proof.Proof.Gen.Pre_conv1_pre
public import proofs.«01_k».proof.Proof.Gen.Pre_conv2_pre
public import proofs.«01_k».proof.Proof.Gen.HeadIdeal.Value
public import proofs.«01_k».proof.Proof.Gen.HeadRefIdeal.Run
public import proofs.«01_k».proof.Proof.Gen.Conv2RefIdeal.Run
public import proofs.«01_k».proof.Proof.Conv1Frame
public import proofs.«01_k».proof.Proof.Conv1Same
public import proofs.«01_k».proof.Proof.Conv1RefFrame
public import proofs.«01_k».proof.Proof.HeadClaim
public import proofs.«01_k».proof.Proof.Conv1Claim
public import proofs.«01_k».proof.Proof.Conv2Claim
public import proofs.«01_k».proof.Proof.Conv2Frame
public import proofs.«01_k».proof.Proof.Conv2Same
public import proofs.«01_k».proof.Proof.RefFrames
public import Idealize.ShloMosaic.Adequacy
public import Idealize.ShloMosaic.Init

@[expose] public section

noncomputable section

namespace Cert.Proof

open Idealize.ShloMosaic Idealize.SL.Sem Cert.Conv2

/-- Every claim stated about the two layers and the head. -/
theorem claim : Cert.Claim := ⟨Cert.Conv1.Gen.facts, Cert.Conv1Ideal.Gen.facts, Cert.Conv1RefIdeal.Gen.facts, Cert.Conv2.Gen.facts, Cert.Conv2Ideal.Gen.facts, Cert.Conv2RefIdeal.Gen.facts, Cert.Head.Gen.facts, Cert.HeadIdeal.Gen.facts, Cert.HeadRefIdeal.Gen.facts, Cert.Pre_conv1_pre.Gen.facts, Cert.Pre_conv2_pre.Gen.facts, Cert.Pre_head_pre.Gen.facts,
  Cert.Conv1Same.frame, fun m ρ _ => Cert.Conv1Ideal.Hand.frame m ρ, fun m ρ _ => Cert.Conv1Ideal.Hand.frame m ρ,
  Cert.Conv1RefFrame.conv1, fun m ρ _ => Cert.Conv1RefFrame.conv1 m ρ trivial,
  Cert.Conv2Same.frame, fun m ρ _ => Cert.Conv2Ideal.Hand.frame m ρ, fun m ρ _ => Cert.Conv2Ideal.Hand.frame m ρ,
  Cert.RefFrames.conv2, fun m ρ _ => Cert.RefFrames.conv2 m ρ trivial,
  fun m ρ _ => Cert.Head.Gen.frame m ρ, fun m ρ _ => Cert.HeadIdeal.Gen.frame m ρ,
  fun m ρ _ => Cert.HeadIdeal.Gen.frame m ρ, Cert.RefFrames.head, fun m ρ _ => Cert.RefFrames.head m ρ trivial,
  trivial, Cert.Conv1Claim.claim, trivial, Cert.Conv2Claim.claim, trivial, Cert.HeadIdeal.Body.claim⟩

end Cert.Proof

end
